-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decided [hPre_decided : Cert.Pre_decided.Facts] (m : (ℓ : Loc Cert.KernelIdeal.nD Cert.KernelIdeal.τ Cert.KernelIdeal.sig) → Buf (Elt Ideal) ℓ) : Prop :=
  ∀ c : Dev Cert.KernelIdeal.nD,
    (Cert.Pre_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decided [hPre_decided : Cert.Pre_decided.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_decided_middle [hPre_decided_middle : Cert.Pre_decided_middle.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_decided_middle.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_decided_middle [hPre_decided_middle : Cert.Pre_decided_middle.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_decided_middle.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_decided_first [hPre_decided_first : Cert.Pre_decided_first.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_decided_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_decided_first [hPre_decided_first : Cert.Pre_decided_first.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_decided_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_decided [hKernelIdeal : Cert.KernelIdeal.Facts] [hPre_decided : Cert.Pre_decided.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decided m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_decided [hReferenceIdeal : Cert.ReferenceIdeal.Facts] [hPre_decided : Cert.Pre_decided.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decided m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_decided_middle [hKernel2Ideal : Cert.Kernel2Ideal.Facts] [hPre_decided_middle : Cert.Pre_decided_middle.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_decided_middle m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_decided_middle [hReference2Ideal : Cert.Reference2Ideal.Facts] [hPre_decided_middle : Cert.Pre_decided_middle.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_decided_middle m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_decided_first [hKernel3Ideal : Cert.Kernel3Ideal.Facts] [hPre_decided_first : Cert.Pre_decided_first.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_decided_first m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_decided_first [hReference3Ideal : Cert.Reference3Ideal.Facts] [hPre_decided_first : Cert.Pre_decided_first.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_decided_first m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "below" .f32 0xEFA18F08#32 ⊥
  ∧ IdealRules.named_const.Statement Cert.KernelIdeal.κ "pos" .f32 0x7149F2CA#32 ⊤
  ∧ IdealRules.named_const.Statement Cert.KernelIdeal.κ "above" .f32 0x6FA18F08#32 ⊤

def algebraic_KernelIdeal_ReferenceIdeal_pre_decided [hKernelIdeal : Cert.KernelIdeal.Facts] [hReferenceIdeal : Cert.ReferenceIdeal.Facts] [hPre_decided : Cert.Pre_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decided m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "neg" .f32 0xF149F2CA#32 ⊥
  ∧ IdealRules.named_const.Statement Cert.Kernel2Ideal.κ "below" .f32 0xEFA18F08#32 ⊥
  ∧ IdealRules.named_const.Statement Cert.Kernel2Ideal.κ "pos" .f32 0x7149F2CA#32 ⊤
  ∧ IdealRules.named_const.Statement Cert.Kernel2Ideal.κ "above" .f32 0x6FA18F08#32 ⊤

def algebraic_Kernel2Ideal_Reference2Ideal_pre_decided_middle [hKernel2Ideal : Cert.Kernel2Ideal.Facts] [hReference2Ideal : Cert.Reference2Ideal.Facts] [hPre_decided_middle : Cert.Pre_decided_middle.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_decided_middle m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v134) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "neg" .f32 0xF149F2CA#32 ⊥
  ∧ IdealRules.named_const.Statement Cert.Kernel3Ideal.κ "below" .f32 0xEFA18F08#32 ⊥
  ∧ IdealRules.named_const.Statement Cert.Kernel3Ideal.κ "pos" .f32 0x7149F2CA#32 ⊤
  ∧ IdealRules.named_const.Statement Cert.Kernel3Ideal.κ "above" .f32 0x6FA18F08#32 ⊤

def algebraic_Kernel3Ideal_Reference3Ideal_pre_decided_first [hKernel3Ideal : Cert.Kernel3Ideal.Facts] [hReference3Ideal : Cert.Reference3Ideal.Facts] [hPre_decided_first : Cert.Pre_decided_first.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_decided_first m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v134) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_decided : Cert.Pre_decided.Facts) (hPre_decided_middle : Cert.Pre_decided_middle.Facts) (hPre_decided_first : Cert.Pre_decided_first.Facts),
    quiescent_Kernel (hKernel := hKernel)
    ∧ quiescent_KernelIdeal (hKernelIdeal := hKernelIdeal)
    ∧ quiescent_KernelIdeal_pre_decided (hKernelIdeal := hKernelIdeal) (hPre_decided := hPre_decided)
    ∧ quiescent_ReferenceIdeal (hReferenceIdeal := hReferenceIdeal)
    ∧ quiescent_ReferenceIdeal_pre_decided (hReferenceIdeal := hReferenceIdeal) (hPre_decided := hPre_decided)
    ∧ quiescent_Kernel2 (hKernel2 := hKernel2)
    ∧ quiescent_Kernel2Ideal (hKernel2Ideal := hKernel2Ideal)
    ∧ quiescent_Kernel2Ideal_pre_decided_middle (hKernel2Ideal := hKernel2Ideal) (hPre_decided_middle := hPre_decided_middle)
    ∧ quiescent_Reference2Ideal (hReference2Ideal := hReference2Ideal)
    ∧ quiescent_Reference2Ideal_pre_decided_middle (hReference2Ideal := hReference2Ideal) (hPre_decided_middle := hPre_decided_middle)
    ∧ quiescent_Kernel3 (hKernel3 := hKernel3)
    ∧ quiescent_Kernel3Ideal (hKernel3Ideal := hKernel3Ideal)
    ∧ quiescent_Kernel3Ideal_pre_decided_first (hKernel3Ideal := hKernel3Ideal) (hPre_decided_first := hPre_decided_first)
    ∧ quiescent_Reference3Ideal (hReference3Ideal := hReference3Ideal)
    ∧ quiescent_Reference3Ideal_pre_decided_first (hReference3Ideal := hReference3Ideal) (hPre_decided_first := hPre_decided_first)
    ∧ preserves_Kernel_KernelIdeal
    ∧ algebraic_KernelIdeal_ReferenceIdeal_pre_decided (hKernelIdeal := hKernelIdeal) (hReferenceIdeal := hReferenceIdeal) (hPre_decided := hPre_decided)
    ∧ preserves_Kernel2_Kernel2Ideal
    ∧ algebraic_Kernel2Ideal_Reference2Ideal_pre_decided_middle (hKernel2Ideal := hKernel2Ideal) (hReference2Ideal := hReference2Ideal) (hPre_decided_middle := hPre_decided_middle)
    ∧ preserves_Kernel3_Kernel3Ideal
    ∧ algebraic_Kernel3Ideal_Reference3Ideal_pre_decided_first (hKernel3Ideal := hKernel3Ideal) (hReference3Ideal := hReference3Ideal) (hPre_decided_first := hPre_decided_first)
-- ==== Pre_decided.lean ====
abbrev S4 : Shape := ⟨1, ![4]⟩
abbrev S1x768 : Shape := ⟨2, ![1, 768]⟩
abbrev S4x1x2048 : Shape := ⟨3, ![4, 1, 2048]⟩
abbrev S4x2048x768 : Shape := ⟨3, ![4, 2048, 768]⟩
abbrev S_ : Shape := ⟨0, ![]⟩
abbrev S4x2048 : Shape := ⟨2, ![4, 2048]⟩
abbrev S4x2048x1 : Shape := ⟨3, ![4, 2048, 1]⟩
abbrev S4x768x2048 : Shape := ⟨3, ![4, 768, 2048]⟩
abbrev S4x2048x2048 : Shape := ⟨3, ![4, 2048, 2048]⟩
abbrev S4x2048x17 : Shape := ⟨3, ![4, 2048, 17]⟩
abbrev S4x2048x16 : Shape := ⟨3, ![4, 2048, 16]⟩
abbrev S4x2048x9 : Shape := ⟨3, ![4, 2048, 9]⟩
abbrev S4x2048x8 : Shape := ⟨3, ![4, 2048, 8]⟩

class Facts : Prop where
  reducesTo_S4x2048x768_S4x2048_d2 : S4x2048x768.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x768_0_1_2 : S4x2048x1.BroadcastsInDim S4x2048x768 (![0, 1, 2] : Fin 3 → Fin S4x2048x768.rank)
  transposes_S4x2048x768_S4x768x2048_0_2_1 : S4x2048x768.Transposes [0, 2, 1] S4x768x2048
  bcast_S_S4x2048x2048 : S_.BroadcastsInDim S4x2048x2048 (![] : Fin 0 → Fin S4x2048x2048.rank)
  bcast_S_S4x2048x768 : S_.BroadcastsInDim S4x2048x768 (![] : Fin 0 → Fin S4x2048x768.rank)
  shapeCasts_S4x1x2048_S4x2048 : S4x1x2048.ShapeCasts S4x2048
  shapeCasts_S4x2048x1_S4x2048 : S4x2048x1.ShapeCasts S4x2048
  bcast_S_S4x2048 : S_.BroadcastsInDim S4x2048 (![] : Fin 0 → Fin S4x2048.rank)
  bitsLt_bf16_f32 : FTy.bits .bf16 < FTy.bits .f32
  sliceFits_S4x2048x2048_S4x2048x17 : S4x2048x2048.Slices (fun _ => 0) S4x2048x17
  slices_S4x2048x17_S4x2048x16_0_0_1 : S4x2048x17.Slices ![0, 0, 1] S4x2048x16
  slices_S4x2048x17_S4x2048x16_0_0_0 : S4x2048x17.Slices ![0, 0, 0] S4x2048x16
  bcast_S_S4x2048x16 : S_.BroadcastsInDim S4x2048x16 (![] : Fin 0 → Fin S4x2048x16.rank)
  slices_S4x2048x17_S4x2048x1_0_0_15 : S4x2048x17.Slices ![0, 0, 15] S4x2048x1
  bcast_S4x2048x1_S4x2048x2048_0_1_2 : S4x2048x1.BroadcastsInDim S4x2048x2048 (![0, 1, 2] : Fin 3 → Fin S4x2048x2048.rank)
  sliceFits_S4x2048x2048_S4x2048x9 : S4x2048x2048.Slices (fun _ => 0) S4x2048x9
  slices_S4x2048x9_S4x2048x8_0_0_1 : S4x2048x9.Slices ![0, 0, 1] S4x2048x8
  slices_S4x2048x9_S4x2048x8_0_0_0 : S4x2048x9.Slices ![0, 0, 0] S4x2048x8
  bcast_S_S4x2048x8 : S_.BroadcastsInDim S4x2048x8 (![] : Fin 0 → Fin S4x2048x8.rank)
  reducesTo_S4x2048x768_S_d0_1_2 : S4x2048x768.ReducesTo [0, 1, 2] S_
  reducesTo_S4x2048_S_d0_1 : S4x2048.ReducesTo [0, 1] S_
  reducesTo_S4x2048x16_S_d0_1_2 : S4x2048x16.ReducesTo [0, 1, 2] S_
  reducesTo_S4x2048x8_S_d0_1_2 : S4x2048x8.ReducesTo [0, 1, 2] S_
  dot_S4x2048x768_S4x768x2048_S4x2048x2048_2_1_1_2_0_0_wf : DotDims.WF S4x2048x768 S4x768x2048 S4x2048x2048 [2] [1] [1] [2] [0] [0]

variable [Facts]

def dot_S4x2048x768_S4x768x2048_S4x2048x2048_2_1_1_2_0_0 : DotDims S4x2048x768 S4x768x2048 S4x2048x2048 where
  lhsContracting := [2]
  rhsContracting := [1]
  lhsNonContracting := [1]
  rhsNonContracting := [2]
  lhsBatch := [0]
  rhsBatch := [0]
  wf := dot_S4x2048x768_S4x768x2048_S4x2048x2048_2_1_1_2_0_0_wf
def fn_part3 {F : FTy → Type} [FloatOps F] (main_v50 : IVec S_ 1) (main_v51 : IVec S_ 1) (main_v54 : IVec S_ 1) : IVec S_ 1 :=
  let main_v55 : IVec S_ 1 := andi main_v51 main_v54
  let main_v56 : IVec S_ 1 := andi main_v50 main_v55
  main_v56

def fn_part2 {F : FTy → Type} [FloatOps F] (main_v14 : FVec F S4x2048x2048 .f32) (main_v17 : IVec S4x2048x768 1) (main_v22 : IVec S4x2048 1) (main_v26 : IVec S4x2048x768 1) (main_v33 : IVec S4x2048x16 1) (main_v37 : IVec S4x2048x2048 1) (main_v38 : FVec F S4x2048x2048 .f32) : IVec S_ 1 :=
  let main_v39 : FVec F S4x2048x2048 .f32 := select main_v37 main_v38 main_v14
  let main_v40 : FVec F S4x2048x2048 .f32 := Host.negf main_v39
  let main_values_6 : FVec F S4x2048x9 .f32 := (fun x => (Host.topK S4x2048x9 2 (FloatOps.cmpfTotal .gt) x sliceFits_S4x2048x2048_S4x2048x9).1) main_v40
  let main_indices_7 : IVec S4x2048x9 32 := (fun x => (Host.topK S4x2048x9 2 (FloatOps.cmpfTotal .gt) x sliceFits_S4x2048x2048_S4x2048x9).2) main_v40
  let main_v41 : FVec F S4x2048x8 .f32 := (extractStridedSlice S4x2048x8 ![0, 0, 1] · slices_S4x2048x9_S4x2048x8_0_0_1) main_values_6
  let main_v42 : FVec F S4x2048x8 .f32 := (extractStridedSlice S4x2048x8 ![0, 0, 0] · slices_S4x2048x9_S4x2048x8_0_0_0) main_values_6
  let main_v43 : IVec S4x2048x8 1 := cmpf .olt main_v41 main_v42
  let main_v44 : FVec F S4x2048x8 .f32 := (extractStridedSlice S4x2048x8 ![0, 0, 0] · slices_S4x2048x9_S4x2048x8_0_0_0) main_values_6
  let main_cst_8 : FVec F S_ .f32 := constant S_ .f32 0x4E6E6B28#32
  let main_v45 : FVec F S4x2048x8 .f32 := broadcastInDim S4x2048x8 ![] bcast_S_S4x2048x8 main_cst_8
  let main_v46 : IVec S4x2048x8 1 := cmpf .oge main_v44 main_v45
  let main_v47 : IVec S4x2048x8 1 := ori main_v43 main_v46
  let main_c : IVec S_ 1 := constantI S_ 1 1#1
  let main_v48 : IVec S_ 1 := (fun x v => Host.reduce IntOp.andi x v reducesTo_S4x2048x768_S_d0_1_2 h_S_) main_v17 main_c
  let main_c_9 : IVec S_ 1 := constantI S_ 1 1#1
  let main_v49 : IVec S_ 1 := (fun x v => Host.reduce IntOp.andi x v reducesTo_S4x2048x768_S_d0_1_2 h_S_) main_v26 main_c_9
  let main_v50 : IVec S_ 1 := andi main_v48 main_v49
  let main_c_10 : IVec S_ 1 := constantI S_ 1 1#1
  let main_v51 : IVec S_ 1 := (fun x v => Host.reduce IntOp.andi x v reducesTo_S4x2048_S_d0_1 h_S_) main_v22 main_c_10
  let main_c_11 : IVec S_ 1 := constantI S_ 1 1#1
  let main_v52 : IVec S_ 1 := (fun x v => Host.reduce IntOp.andi x v reducesTo_S4x2048x16_S_d0_1_2 h_S_) main_v33 main_c_11
  let main_c_12 : IVec S_ 1 := constantI S_ 1 1#1
  let main_v53 : IVec S_ 1 := (fun x v => Host.reduce IntOp.andi x v reducesTo_S4x2048x8_S_d0_1_2 h_S_) main_v47 main_c_12
  let main_v54 : IVec S_ 1 := andi main_v52 main_v53
  fn_part3 (F := F) main_v50 main_v51 main_v54

def fn_part1 {F : FTy → Type} [FloatOps F] (main_arg4 : FVec F S4x2048x768 .f32) (main_arg5 : FVec F S4x2048x768 .bf16) (main_arg6 : FVec F S4x2048x768 .bf16) (main_v12 : IVec S4x2048x2048 1) (main_v14 : FVec F S4x2048x2048 .f32) (main_v17 : IVec S4x2048x768 1) (main_v18 : FVec F S4x2048 .f32) (main_v19 : FVec F S4x2048 .f32) : IVec S_ 1 :=
  let main_cst_3 : FVec F S_ .f32 := constant S_ .f32 0x3F800000#32
  let main_v20 : FVec F S4x2048 .f32 := broadcastInDim S4x2048 ![] bcast_S_S4x2048 main_cst_3
  let main_v21 : FVec F S4x2048 .f32 := Host.divf main_v20 main_v19
  let main_v22 : IVec S4x2048 1 := cmpf .oeq main_v18 main_v21
  let main_v23 : FVec F S4x2048x768 .f32 := (extf .f32 · bitsLt_bf16_f32) main_arg5
  let main_v24 : FVec F S4x2048x768 .f32 := (extf .f32 · bitsLt_bf16_f32) main_arg6
  let main_v25 : FVec F S4x2048x768 .f32 := addf main_v23 main_v24
  let main_v26 : IVec S4x2048x768 1 := cmpf .oeq main_v25 main_arg4
  let main_values : FVec F S4x2048x17 .f32 := (fun x => (Host.topK S4x2048x17 2 (FloatOps.cmpfTotal .gt) x sliceFits_S4x2048x2048_S4x2048x17).1) main_v14
  let main_indices : IVec S4x2048x17 32 := (fun x => (Host.topK S4x2048x17 2 (FloatOps.cmpfTotal .gt) x sliceFits_S4x2048x2048_S4x2048x17).2) main_v14
  let main_v27 : FVec F S4x2048x16 .f32 := (extractStridedSlice S4x2048x16 ![0, 0, 1] · slices_S4x2048x17_S4x2048x16_0_0_1) main_values
  let main_v28 : FVec F S4x2048x16 .f32 := (extractStridedSlice S4x2048x16 ![0, 0, 0] · slices_S4x2048x17_S4x2048x16_0_0_0) main_values
  let main_v29 : IVec S4x2048x16 1 := cmpf .olt main_v27 main_v28
  let main_v30 : FVec F S4x2048x16 .f32 := (extractStridedSlice S4x2048x16 ![0, 0, 0] · slices_S4x2048x17_S4x2048x16_0_0_0) main_values
  let main_cst_4 : FVec F S_ .f32 := constant S_ .f32 0xCE6E6B28#32
  let main_v31 : FVec F S4x2048x16 .f32 := broadcastInDim S4x2048x16 ![] bcast_S_S4x2048x16 main_cst_4
  let main_v32 : IVec S4x2048x16 1 := cmpf .ole main_v30 main_v31
  let main_v33 : IVec S4x2048x16 1 := ori main_v29 main_v32
  let main_v34 : FVec F S4x2048x1 .f32 := (extractStridedSlice S4x2048x1 ![0, 0, 15] · slices_S4x2048x17_S4x2048x1_0_0_15) main_values
  let main_v35 : FVec F S4x2048x2048 .f32 := broadcastInDim S4x2048x2048 ![0, 1, 2] bcast_S4x2048x1_S4x2048x2048_0_1_2 main_v34
  let main_v36 : IVec S4x2048x2048 1 := cmpf .oge main_v14 main_v35
  let main_v37 : IVec S4x2048x2048 1 := andi main_v12 main_v36
  let main_cst_5 : FVec F S_ .f32 := constant S_ .f32 0x4E6E6B28#32
  let main_v38 : FVec F S4x2048x2048 .f32 := broadcastInDim S4x2048x2048 ![] bcast_S_S4x2048x2048 main_cst_5
  fn_part2 (F := F) main_v14 main_v17 main_v22 main_v26 main_v33 main_v37 main_v38

def fn {F : FTy → Type} [FloatOps F] (main_arg0 : FVec F S4 .f32) (main_arg1 : FVec F S1x768 .f32) (main_arg2 : FVec F S1x768 .f32) (main_arg3 : FVec F S4x1x2048 .f32) (main_arg4 : FVec F S4x2048x768 .f32) (main_arg5 : FVec F S4x2048x768 .bf16) (main_arg6 : FVec F S4x2048x768 .bf16) (main_arg7 : FVec F S4x2048x768 .f32) : IVec S_ 1 :=
  let main_v0 : FVec F S4x2048x768 .f32 := mulf main_arg4 main_arg4
  let main_cst : FVec F S_ .f32 := constant S_ .f32 0x00000000#32
  let main_v1 : FVec F S4x2048 .f32 := (fun x v => Host.reduceAdd x v reducesTo_S4x2048x768_S4x2048_d2 h_S_) main_v0 main_cst
  let main_v2 : FVec F S4x2048x1 .f32 := broadcastInDim S4x2048x1 ![0, 1] bcast_S4x2048_S4x2048x1_0_1 main_v1
  let main_v3 : FVec F S4x2048x1 .f32 := Host.sqrt main_v2
  let main_cst_0 : FVec F S_ .f32 := constant S_ .f32 0x2B8CBCCC#32
  let main_v4 : FVec F S4x2048x1 .f32 := broadcastInDim S4x2048x1 ![] bcast_S_S4x2048x1 main_cst_0
  let main_v5 : FVec F S4x2048x1 .f32 := maximumf main_v3 main_v4
  let main_v6 : FVec F S4x2048x768 .f32 := broadcastInDim S4x2048x768 ![0, 1, 2] bcast_S4x2048x1_S4x2048x768_0_1_2 main_v5
  let main_v7 : FVec F S4x2048x768 .f32 := Host.divf main_arg4 main_v6
  let main_v8 : FVec F S4x768x2048 .f32 := (transpose S4x768x2048 [0, 2, 1] · transposes_S4x2048x768_S4x768x2048_0_2_1) main_v7
  let main_v9 : FVec F S4x2048x2048 .f32 := (fun l r => Host.dotGeneral dot_S4x2048x768_S4x768x2048_S4x2048x2048_2_1_1_2_0_0 none l r) main_v7 main_v8
  let main_v10 : IVec S4x2048x2048 32 := iotaInDim S4x2048x2048 32 2
  let main_v11 : IVec S4x2048x2048 32 := iotaInDim S4x2048x2048 32 1
  let main_v12 : IVec S4x2048x2048 1 := cmpi .slt main_v10 main_v11
  let main_cst_1 : FVec F S_ .f32 := constant S_ .f32 0xCE6E6B28#32
  let main_v13 : FVec F S4x2048x2048 .f32 := broadcastInDim S4x2048x2048 ![] bcast_S_S4x2048x2048 main_cst_1
  let main_v14 : FVec F S4x2048x2048 .f32 := select main_v12 main_v9 main_v13
  let main_v15 : FVec F S4x2048x768 .f32 := Host.absf main_arg4
  let main_cst_2 : FVec F S_ .f32 := constant S_ .f32 0x7F800000#32
  let main_v16 : FVec F S4x2048x768 .f32 := broadcastInDim S4x2048x768 ![] bcast_S_S4x2048x768 main_cst_2
  let main_v17 : IVec S4x2048x768 1 := cmpf .olt main_v15 main_v16
  let main_v18 : FVec F S4x2048 .f32 := shapeCast S4x2048 main_arg3 shapeCasts_S4x1x2048_S4x2048
  let main_v19 : FVec F S4x2048 .f32 := shapeCast S4x2048 main_v5 shapeCasts_S4x2048x1_S4x2048
  fn_part1 (F := F) main_arg4 main_arg5 main_arg6 main_v12 main_v14 main_v17 main_v18 main_v19
-- ==== Pre_decided_first.lean ====
abbrev S4 : Shape := ⟨1, ![4]⟩
abbrev S1x768 : Shape := ⟨2, ![1, 768]⟩
abbrev S4x1x2048 : Shape := ⟨3, ![4, 1, 2048]⟩
abbrev S4x2048x768 : Shape := ⟨3, ![4, 2048, 768]⟩
abbrev S_ : Shape := ⟨0, ![]⟩
abbrev S4x2048 : Shape := ⟨2, ![4, 2048]⟩
abbrev S4x2048x1 : Shape := ⟨3, ![4, 2048, 1]⟩
abbrev S4x768x2048 : Shape := ⟨3, ![4, 768, 2048]⟩
abbrev S4x2048x2048 : Shape := ⟨3, ![4, 2048, 2048]⟩
abbrev S4x2048x5 : Shape := ⟨3, ![4, 2048, 5]⟩
abbrev S4x2048x4 : Shape := ⟨3, ![4, 2048, 4]⟩
abbrev S4x2048x3 : Shape := ⟨3, ![4, 2048, 3]⟩
abbrev S4x2048x2 : Shape := ⟨3, ![4, 2048, 2]⟩

class Facts : Prop where
  reducesTo_S4x2048x768_S4x2048_d2 : S4x2048x768.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x768_0_1_2 : S4x2048x1.BroadcastsInDim S4x2048x768 (![0, 1, 2] : Fin 3 → Fin S4x2048x768.rank)
  transposes_S4x2048x768_S4x768x2048_0_2_1 : S4x2048x768.Transposes [0, 2, 1] S4x768x2048
  bcast_S_S4x2048x2048 : S_.BroadcastsInDim S4x2048x2048 (![] : Fin 0 → Fin S4x2048x2048.rank)
  bcast_S_S4x2048x768 : S_.BroadcastsInDim S4x2048x768 (![] : Fin 0 → Fin S4x2048x768.rank)
  shapeCasts_S4x1x2048_S4x2048 : S4x1x2048.ShapeCasts S4x2048
  shapeCasts_S4x2048x1_S4x2048 : S4x2048x1.ShapeCasts S4x2048
  bcast_S_S4x2048 : S_.BroadcastsInDim S4x2048 (![] : Fin 0 → Fin S4x2048.rank)
  bitsLt_bf16_f32 : FTy.bits .bf16 < FTy.bits .f32
  sliceFits_S4x2048x2048_S4x2048x5 : S4x2048x2048.Slices (fun _ => 0) S4x2048x5
  slices_S4x2048x5_S4x2048x4_0_0_1 : S4x2048x5.Slices ![0, 0, 1] S4x2048x4
  slices_S4x2048x5_S4x2048x4_0_0_0 : S4x2048x5.Slices ![0, 0, 0] S4x2048x4
  bcast_S_S4x2048x4 : S_.BroadcastsInDim S4x2048x4 (![] : Fin 0 → Fin S4x2048x4.rank)
  slices_S4x2048x5_S4x2048x1_0_0_3 : S4x2048x5.Slices ![0, 0, 3] S4x2048x1
  bcast_S4x2048x1_S4x2048x2048_0_1_2 : S4x2048x1.BroadcastsInDim S4x2048x2048 (![0, 1, 2] : Fin 3 → Fin S4x2048x2048.rank)
  sliceFits_S4x2048x2048_S4x2048x3 : S4x2048x2048.Slices (fun _ => 0) S4x2048x3
  slices_S4x2048x3_S4x2048x2_0_0_1 : S4x2048x3.Slices ![0, 0, 1] S4x2048x2
  slices_S4x2048x3_S4x2048x2_0_0_0 : S4x2048x3.Slices ![0, 0, 0] S4x2048x2
  bcast_S_S4x2048x2 : S_.BroadcastsInDim S4x2048x2 (![] : Fin 0 → Fin S4x2048x2.rank)
  reducesTo_S4x2048x768_S_d0_1_2 : S4x2048x768.ReducesTo [0, 1, 2] S_
  reducesTo_S4x2048_S_d0_1 : S4x2048.ReducesTo [0, 1] S_
  reducesTo_S4x2048x4_S_d0_1_2 : S4x2048x4.ReducesTo [0, 1, 2] S_
  reducesTo_S4x2048x2_S_d0_1_2 : S4x2048x2.ReducesTo [0, 1, 2] S_
  dot_S4x2048x768_S4x768x2048_S4x2048x2048_2_1_1_2_0_0_wf : DotDims.WF S4x2048x768 S4x768x2048 S4x2048x2048 [2] [1] [1] [2] [0] [0]

variable [Facts]

def dot_S4x2048x768_S4x768x2048_S4x2048x2048_2_1_1_2_0_0 : DotDims S4x2048x768 S4x768x2048 S4x2048x2048 where
  lhsContracting := [2]
  rhsContracting := [1]
  lhsNonContracting := [1]
  rhsNonContracting := [2]
  lhsBatch := [0]
  rhsBatch := [0]
  wf := dot_S4x2048x768_S4x768x2048_S4x2048x2048_2_1_1_2_0_0_wf
def fn_part3 {F : FTy → Type} [FloatOps F] (main_v50 : IVec S_ 1) (main_v51 : IVec S_ 1) (main_v54 : IVec S_ 1) : IVec S_ 1 :=
  let main_v55 : IVec S_ 1 := andi main_v51 main_v54
  let main_v56 : IVec S_ 1 := andi main_v50 main_v55
  main_v56

def fn_part2 {F : FTy → Type} [FloatOps F] (main_v14 : FVec F S4x2048x2048 .f32) (main_v17 : IVec S4x2048x768 1) (main_v22 : IVec S4x2048 1) (main_v26 : IVec S4x2048x768 1) (main_v33 : IVec S4x2048x4 1) (main_v37 : IVec S4x2048x2048 1) (main_v38 : FVec F S4x2048x2048 .f32) : IVec S_ 1 :=
  let main_v39 : FVec F S4x2048x2048 .f32 := select main_v37 main_v38 main_v14
  let main_v40 : FVec F S4x2048x2048 .f32 := Host.negf main_v39
  let main_values_6 : FVec F S4x2048x3 .f32 := (fun x => (Host.topK S4x2048x3 2 (FloatOps.cmpfTotal .gt) x sliceFits_S4x2048x2048_S4x2048x3).1) main_v40
  let main_indices_7 : IVec S4x2048x3 32 := (fun x => (Host.topK S4x2048x3 2 (FloatOps.cmpfTotal .gt) x sliceFits_S4x2048x2048_S4x2048x3).2) main_v40
  let main_v41 : FVec F S4x2048x2 .f32 := (extractStridedSlice S4x2048x2 ![0, 0, 1] · slices_S4x2048x3_S4x2048x2_0_0_1) main_values_6
  let main_v42 : FVec F S4x2048x2 .f32 := (extractStridedSlice S4x2048x2 ![0, 0, 0] · slices_S4x2048x3_S4x2048x2_0_0_0) main_values_6
  let main_v43 : IVec S4x2048x2 1 := cmpf .olt main_v41 main_v42
  let main_v44 : FVec F S4x2048x2 .f32 := (extractStridedSlice S4x2048x2 ![0, 0, 0] · slices_S4x2048x3_S4x2048x2_0_0_0) main_values_6
  let main_cst_8 : FVec F S_ .f32 := constant S_ .f32 0x4E6E6B28#32
  let main_v45 : FVec F S4x2048x2 .f32 := broadcastInDim S4x2048x2 ![] bcast_S_S4x2048x2 main_cst_8
  let main_v46 : IVec S4x2048x2 1 := cmpf .oge main_v44 main_v45
  let main_v47 : IVec S4x2048x2 1 := ori main_v43 main_v46
  let main_c : IVec S_ 1 := constantI S_ 1 1#1
  let main_v48 : IVec S_ 1 := (fun x v => Host.reduce IntOp.andi x v reducesTo_S4x2048x768_S_d0_1_2 h_S_) main_v17 main_c
  let main_c_9 : IVec S_ 1 := constantI S_ 1 1#1
  let main_v49 : IVec S_ 1 := (fun x v => Host.reduce IntOp.andi x v reducesTo_S4x2048x768_S_d0_1_2 h_S_) main_v26 main_c_9
  let main_v50 : IVec S_ 1 := andi main_v48 main_v49
  let main_c_10 : IVec S_ 1 := constantI S_ 1 1#1
  let main_v51 : IVec S_ 1 := (fun x v => Host.reduce IntOp.andi x v reducesTo_S4x2048_S_d0_1 h_S_) main_v22 main_c_10
  let main_c_11 : IVec S_ 1 := constantI S_ 1 1#1
  let main_v52 : IVec S_ 1 := (fun x v => Host.reduce IntOp.andi x v reducesTo_S4x2048x4_S_d0_1_2 h_S_) main_v33 main_c_11
  let main_c_12 : IVec S_ 1 := constantI S_ 1 1#1
  let main_v53 : IVec S_ 1 := (fun x v => Host.reduce IntOp.andi x v reducesTo_S4x2048x2_S_d0_1_2 h_S_) main_v47 main_c_12
  let main_v54 : IVec S_ 1 := andi main_v52 main_v53
  fn_part3 (F := F) main_v50 main_v51 main_v54

def fn_part1 {F : FTy → Type} [FloatOps F] (main_arg4 : FVec F S4x2048x768 .f32) (main_arg5 : FVec F S4x2048x768 .bf16) (main_arg6 : FVec F S4x2048x768 .bf16) (main_v12 : IVec S4x2048x2048 1) (main_v14 : FVec F S4x2048x2048 .f32) (main_v17 : IVec S4x2048x768 1) (main_v18 : FVec F S4x2048 .f32) (main_v19 : FVec F S4x2048 .f32) : IVec S_ 1 :=
  let main_cst_3 : FVec F S_ .f32 := constant S_ .f32 0x3F800000#32
  let main_v20 : FVec F S4x2048 .f32 := broadcastInDim S4x2048 ![] bcast_S_S4x2048 main_cst_3
  let main_v21 : FVec F S4x2048 .f32 := Host.divf main_v20 main_v19
  let main_v22 : IVec S4x2048 1 := cmpf .oeq main_v18 main_v21
  let main_v23 : FVec F S4x2048x768 .f32 := (extf .f32 · bitsLt_bf16_f32) main_arg5
  let main_v24 : FVec F S4x2048x768 .f32 := (extf .f32 · bitsLt_bf16_f32) main_arg6
  let main_v25 : FVec F S4x2048x768 .f32 := addf main_v23 main_v24
  let main_v26 : IVec S4x2048x768 1 := cmpf .oeq main_v25 main_arg4
  let main_values : FVec F S4x2048x5 .f32 := (fun x => (Host.topK S4x2048x5 2 (FloatOps.cmpfTotal .gt) x sliceFits_S4x2048x2048_S4x2048x5).1) main_v14
  let main_indices : IVec S4x2048x5 32 := (fun x => (Host.topK S4x2048x5 2 (FloatOps.cmpfTotal .gt) x sliceFits_S4x2048x2048_S4x2048x5).2) main_v14
  let main_v27 : FVec F S4x2048x4 .f32 := (extractStridedSlice S4x2048x4 ![0, 0, 1] · slices_S4x2048x5_S4x2048x4_0_0_1) main_values
  let main_v28 : FVec F S4x2048x4 .f32 := (extractStridedSlice S4x2048x4 ![0, 0, 0] · slices_S4x2048x5_S4x2048x4_0_0_0) main_values
  let main_v29 : IVec S4x2048x4 1 := cmpf .olt main_v27 main_v28
  let main_v30 : FVec F S4x2048x4 .f32 := (extractStridedSlice S4x2048x4 ![0, 0, 0] · slices_S4x2048x5_S4x2048x4_0_0_0) main_values
  let main_cst_4 : FVec F S_ .f32 := constant S_ .f32 0xCE6E6B28#32
  let main_v31 : FVec F S4x2048x4 .f32 := broadcastInDim S4x2048x4 ![] bcast_S_S4x2048x4 main_cst_4
  let main_v32 : IVec S4x2048x4 1 := cmpf .ole main_v30 main_v31
  let main_v33 : IVec S4x2048x4 1 := ori main_v29 main_v32
  let main_v34 : FVec F S4x2048x1 .f32 := (extractStridedSlice S4x2048x1 ![0, 0, 3] · slices_S4x2048x5_S4x2048x1_0_0_3) main_values
  let main_v35 : FVec F S4x2048x2048 .f32 := broadcastInDim S4x2048x2048 ![0, 1, 2] bcast_S4x2048x1_S4x2048x2048_0_1_2 main_v34
  let main_v36 : IVec S4x2048x2048 1 := cmpf .oge main_v14 main_v35
  let main_v37 : IVec S4x2048x2048 1 := andi main_v12 main_v36
  let main_cst_5 : FVec F S_ .f32 := constant S_ .f32 0x4E6E6B28#32
  let main_v38 : FVec F S4x2048x2048 .f32 := broadcastInDim S4x2048x2048 ![] bcast_S_S4x2048x2048 main_cst_5
  fn_part2 (F := F) main_v14 main_v17 main_v22 main_v26 main_v33 main_v37 main_v38

def fn {F : FTy → Type} [FloatOps F] (main_arg0 : FVec F S4 .f32) (main_arg1 : FVec F S1x768 .f32) (main_arg2 : FVec F S1x768 .f32) (main_arg3 : FVec F S4x1x2048 .f32) (main_arg4 : FVec F S4x2048x768 .f32) (main_arg5 : FVec F S4x2048x768 .bf16) (main_arg6 : FVec F S4x2048x768 .bf16) : IVec S_ 1 :=
  let main_v0 : FVec F S4x2048x768 .f32 := mulf main_arg4 main_arg4
  let main_cst : FVec F S_ .f32 := constant S_ .f32 0x00000000#32
  let main_v1 : FVec F S4x2048 .f32 := (fun x v => Host.reduceAdd x v reducesTo_S4x2048x768_S4x2048_d2 h_S_) main_v0 main_cst
  let main_v2 : FVec F S4x2048x1 .f32 := broadcastInDim S4x2048x1 ![0, 1] bcast_S4x2048_S4x2048x1_0_1 main_v1
  let main_v3 : FVec F S4x2048x1 .f32 := Host.sqrt main_v2
  let main_cst_0 : FVec F S_ .f32 := constant S_ .f32 0x2B8CBCCC#32
  let main_v4 : FVec F S4x2048x1 .f32 := broadcastInDim S4x2048x1 ![] bcast_S_S4x2048x1 main_cst_0
  let main_v5 : FVec F S4x2048x1 .f32 := maximumf main_v3 main_v4
  let main_v6 : FVec F S4x2048x768 .f32 := broadcastInDim S4x2048x768 ![0, 1, 2] bcast_S4x2048x1_S4x2048x768_0_1_2 main_v5
  let main_v7 : FVec F S4x2048x768 .f32 := Host.divf main_arg4 main_v6
  let main_v8 : FVec F S4x768x2048 .f32 := (transpose S4x768x2048 [0, 2, 1] · transposes_S4x2048x768_S4x768x2048_0_2_1) main_v7
  let main_v9 : FVec F S4x2048x2048 .f32 := (fun l r => Host.dotGeneral dot_S4x2048x768_S4x768x2048_S4x2048x2048_2_1_1_2_0_0 none l r) main_v7 main_v8
  let main_v10 : IVec S4x2048x2048 32 := iotaInDim S4x2048x2048 32 2
  let main_v11 : IVec S4x2048x2048 32 := iotaInDim S4x2048x2048 32 1
  let main_v12 : IVec S4x2048x2048 1 := cmpi .slt main_v10 main_v11
  let main_cst_1 : FVec F S_ .f32 := constant S_ .f32 0xCE6E6B28#32
  let main_v13 : FVec F S4x2048x2048 .f32 := broadcastInDim S4x2048x2048 ![] bcast_S_S4x2048x2048 main_cst_1
  let main_v14 : FVec F S4x2048x2048 .f32 := select main_v12 main_v9 main_v13
  let main_v15 : FVec F S4x2048x768 .f32 := Host.absf main_arg4
  let main_cst_2 : FVec F S_ .f32 := constant S_ .f32 0x7F800000#32
  let main_v16 : FVec F S4x2048x768 .f32 := broadcastInDim S4x2048x768 ![] bcast_S_S4x2048x768 main_cst_2
  let main_v17 : IVec S4x2048x768 1 := cmpf .olt main_v15 main_v16
  let main_v18 : FVec F S4x2048 .f32 := shapeCast S4x2048 main_arg3 shapeCasts_S4x1x2048_S4x2048
  let main_v19 : FVec F S4x2048 .f32 := shapeCast S4x2048 main_v5 shapeCasts_S4x2048x1_S4x2048
  fn_part1 (F := F) main_arg4 main_arg5 main_arg6 main_v12 main_v14 main_v17 main_v18 main_v19
-- ==== Pre_decided_middle.lean ====
abbrev S4 : Shape := ⟨1, ![4]⟩
abbrev S1x768 : Shape := ⟨2, ![1, 768]⟩
abbrev S4x1x2048 : Shape := ⟨3, ![4, 1, 2048]⟩
abbrev S4x2048x768 : Shape := ⟨3, ![4, 2048, 768]⟩
abbrev S_ : Shape := ⟨0, ![]⟩
abbrev S4x2048 : Shape := ⟨2, ![4, 2048]⟩
abbrev S4x2048x1 : Shape := ⟨3, ![4, 2048, 1]⟩
abbrev S4x768x2048 : Shape := ⟨3, ![4, 768, 2048]⟩
abbrev S4x2048x2048 : Shape := ⟨3, ![4, 2048, 2048]⟩
abbrev S4x2048x9 : Shape := ⟨3, ![4, 2048, 9]⟩
abbrev S4x2048x8 : Shape := ⟨3, ![4, 2048, 8]⟩
abbrev S4x2048x5 : Shape := ⟨3, ![4, 2048, 5]⟩
abbrev S4x2048x4 : Shape := ⟨3, ![4, 2048, 4]⟩

class Facts : Prop where
  reducesTo_S4x2048x768_S4x2048_d2 : S4x2048x768.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x768_0_1_2 : S4x2048x1.BroadcastsInDim S4x2048x768 (![0, 1, 2] : Fin 3 → Fin S4x2048x768.rank)
  transposes_S4x2048x768_S4x768x2048_0_2_1 : S4x2048x768.Transposes [0, 2, 1] S4x768x2048
  bcast_S_S4x2048x2048 : S_.BroadcastsInDim S4x2048x2048 (![] : Fin 0 → Fin S4x2048x2048.rank)
  bcast_S_S4x2048x768 : S_.BroadcastsInDim S4x2048x768 (![] : Fin 0 → Fin S4x2048x768.rank)
  shapeCasts_S4x1x2048_S4x2048 : S4x1x2048.ShapeCasts S4x2048
  shapeCasts_S4x2048x1_S4x2048 : S4x2048x1.ShapeCasts S4x2048
  bcast_S_S4x2048 : S_.BroadcastsInDim S4x2048 (![] : Fin 0 → Fin S4x2048.rank)
  bitsLt_bf16_f32 : FTy.bits .bf16 < FTy.bits .f32
  sliceFits_S4x2048x2048_S4x2048x9 : S4x2048x2048.Slices (fun _ => 0) S4x2048x9
  slices_S4x2048x9_S4x2048x8_0_0_1 : S4x2048x9.Slices ![0, 0, 1] S4x2048x8
  slices_S4x2048x9_S4x2048x8_0_0_0 : S4x2048x9.Slices ![0, 0, 0] S4x2048x8
  bcast_S_S4x2048x8 : S_.BroadcastsInDim S4x2048x8 (![] : Fin 0 → Fin S4x2048x8.rank)
  slices_S4x2048x9_S4x2048x1_0_0_7 : S4x2048x9.Slices ![0, 0, 7] S4x2048x1
  bcast_S4x2048x1_S4x2048x2048_0_1_2 : S4x2048x1.BroadcastsInDim S4x2048x2048 (![0, 1, 2] : Fin 3 → Fin S4x2048x2048.rank)
  sliceFits_S4x2048x2048_S4x2048x5 : S4x2048x2048.Slices (fun _ => 0) S4x2048x5
  slices_S4x2048x5_S4x2048x4_0_0_1 : S4x2048x5.Slices ![0, 0, 1] S4x2048x4
  slices_S4x2048x5_S4x2048x4_0_0_0 : S4x2048x5.Slices ![0, 0, 0] S4x2048x4
  bcast_S_S4x2048x4 : S_.BroadcastsInDim S4x2048x4 (![] : Fin 0 → Fin S4x2048x4.rank)
  reducesTo_S4x2048x768_S_d0_1_2 : S4x2048x768.ReducesTo [0, 1, 2] S_
  reducesTo_S4x2048_S_d0_1 : S4x2048.ReducesTo [0, 1] S_
  reducesTo_S4x2048x8_S_d0_1_2 : S4x2048x8.ReducesTo [0, 1, 2] S_
  reducesTo_S4x2048x4_S_d0_1_2 : S4x2048x4.ReducesTo [0, 1, 2] S_
  dot_S4x2048x768_S4x768x2048_S4x2048x2048_2_1_1_2_0_0_wf : DotDims.WF S4x2048x768 S4x768x2048 S4x2048x2048 [2] [1] [1] [2] [0] [0]

variable [Facts]

def dot_S4x2048x768_S4x768x2048_S4x2048x2048_2_1_1_2_0_0 : DotDims S4x2048x768 S4x768x2048 S4x2048x2048 where
  lhsContracting := [2]
  rhsContracting := [1]
  lhsNonContracting := [1]
  rhsNonContracting := [2]
  lhsBatch := [0]
  rhsBatch := [0]
  wf := dot_S4x2048x768_S4x768x2048_S4x2048x2048_2_1_1_2_0_0_wf
def fn_part3 {F : FTy → Type} [FloatOps F] (main_v50 : IVec S_ 1) (main_v51 : IVec S_ 1) (main_v54 : IVec S_ 1) : IVec S_ 1 :=
  let main_v55 : IVec S_ 1 := andi main_v51 main_v54
  let main_v56 : IVec S_ 1 := andi main_v50 main_v55
  main_v56

def fn_part2 {F : FTy → Type} [FloatOps F] (main_v14 : FVec F S4x2048x2048 .f32) (main_v17 : IVec S4x2048x768 1) (main_v22 : IVec S4x2048 1) (main_v26 : IVec S4x2048x768 1) (main_v33 : IVec S4x2048x8 1) (main_v37 : IVec S4x2048x2048 1) (main_v38 : FVec F S4x2048x2048 .f32) : IVec S_ 1 :=
  let main_v39 : FVec F S4x2048x2048 .f32 := select main_v37 main_v38 main_v14
  let main_v40 : FVec F S4x2048x2048 .f32 := Host.negf main_v39
  let main_values_6 : FVec F S4x2048x5 .f32 := (fun x => (Host.topK S4x2048x5 2 (FloatOps.cmpfTotal .gt) x sliceFits_S4x2048x2048_S4x2048x5).1) main_v40
  let main_indices_7 : IVec S4x2048x5 32 := (fun x => (Host.topK S4x2048x5 2 (FloatOps.cmpfTotal .gt) x sliceFits_S4x2048x2048_S4x2048x5).2) main_v40
  let main_v41 : FVec F S4x2048x4 .f32 := (extractStridedSlice S4x2048x4 ![0, 0, 1] · slices_S4x2048x5_S4x2048x4_0_0_1) main_values_6
  let main_v42 : FVec F S4x2048x4 .f32 := (extractStridedSlice S4x2048x4 ![0, 0, 0] · slices_S4x2048x5_S4x2048x4_0_0_0) main_values_6
  let main_v43 : IVec S4x2048x4 1 := cmpf .olt main_v41 main_v42
  let main_v44 : FVec F S4x2048x4 .f32 := (extractStridedSlice S4x2048x4 ![0, 0, 0] · slices_S4x2048x5_S4x2048x4_0_0_0) main_values_6
  let main_cst_8 : FVec F S_ .f32 := constant S_ .f32 0x4E6E6B28#32
  let main_v45 : FVec F S4x2048x4 .f32 := broadcastInDim S4x2048x4 ![] bcast_S_S4x2048x4 main_cst_8
  let main_v46 : IVec S4x2048x4 1 := cmpf .oge main_v44 main_v45
  let main_v47 : IVec S4x2048x4 1 := ori main_v43 main_v46
  let main_c : IVec S_ 1 := constantI S_ 1 1#1
  let main_v48 : IVec S_ 1 := (fun x v => Host.reduce IntOp.andi x v reducesTo_S4x2048x768_S_d0_1_2 h_S_) main_v17 main_c
  let main_c_9 : IVec S_ 1 := constantI S_ 1 1#1
  let main_v49 : IVec S_ 1 := (fun x v => Host.reduce IntOp.andi x v reducesTo_S4x2048x768_S_d0_1_2 h_S_) main_v26 main_c_9
  let main_v50 : IVec S_ 1 := andi main_v48 main_v49
  let main_c_10 : IVec S_ 1 := constantI S_ 1 1#1
  let main_v51 : IVec S_ 1 := (fun x v => Host.reduce IntOp.andi x v reducesTo_S4x2048_S_d0_1 h_S_) main_v22 main_c_10
  let main_c_11 : IVec S_ 1 := constantI S_ 1 1#1
  let main_v52 : IVec S_ 1 := (fun x v => Host.reduce IntOp.andi x v reducesTo_S4x2048x8_S_d0_1_2 h_S_) main_v33 main_c_11
  let main_c_12 : IVec S_ 1 := constantI S_ 1 1#1
  let main_v53 : IVec S_ 1 := (fun x v => Host.reduce IntOp.andi x v reducesTo_S4x2048x4_S_d0_1_2 h_S_) main_v47 main_c_12
  let main_v54 : IVec S_ 1 := andi main_v52 main_v53
  fn_part3 (F := F) main_v50 main_v51 main_v54

def fn_part1 {F : FTy → Type} [FloatOps F] (main_arg4 : FVec F S4x2048x768 .f32) (main_arg5 : FVec F S4x2048x768 .bf16) (main_arg6 : FVec F S4x2048x768 .bf16) (main_v12 : IVec S4x2048x2048 1) (main_v14 : FVec F S4x2048x2048 .f32) (main_v17 : IVec S4x2048x768 1) (main_v18 : FVec F S4x2048 .f32) (main_v19 : FVec F S4x2048 .f32) : IVec S_ 1 :=
  let main_cst_3 : FVec F S_ .f32 := constant S_ .f32 0x3F800000#32
  let main_v20 : FVec F S4x2048 .f32 := broadcastInDim S4x2048 ![] bcast_S_S4x2048 main_cst_3
  let main_v21 : FVec F S4x2048 .f32 := Host.divf main_v20 main_v19
  let main_v22 : IVec S4x2048 1 := cmpf .oeq main_v18 main_v21
  let main_v23 : FVec F S4x2048x768 .f32 := (extf .f32 · bitsLt_bf16_f32) main_arg5
  let main_v24 : FVec F S4x2048x768 .f32 := (extf .f32 · bitsLt_bf16_f32) main_arg6
  let main_v25 : FVec F S4x2048x768 .f32 := addf main_v23 main_v24
  let main_v26 : IVec S4x2048x768 1 := cmpf .oeq main_v25 main_arg4
  let main_values : FVec F S4x2048x9 .f32 := (fun x => (Host.topK S4x2048x9 2 (FloatOps.cmpfTotal .gt) x sliceFits_S4x2048x2048_S4x2048x9).1) main_v14
  let main_indices : IVec S4x2048x9 32 := (fun x => (Host.topK S4x2048x9 2 (FloatOps.cmpfTotal .gt) x sliceFits_S4x2048x2048_S4x2048x9).2) main_v14
  let main_v27 : FVec F S4x2048x8 .f32 := (extractStridedSlice S4x2048x8 ![0, 0, 1] · slices_S4x2048x9_S4x2048x8_0_0_1) main_values
  let main_v28 : FVec F S4x2048x8 .f32 := (extractStridedSlice S4x2048x8 ![0, 0, 0] · slices_S4x2048x9_S4x2048x8_0_0_0) main_values
  let main_v29 : IVec S4x2048x8 1 := cmpf .olt main_v27 main_v28
  let main_v30 : FVec F S4x2048x8 .f32 := (extractStridedSlice S4x2048x8 ![0, 0, 0] · slices_S4x2048x9_S4x2048x8_0_0_0) main_values
  let main_cst_4 : FVec F S_ .f32 := constant S_ .f32 0xCE6E6B28#32
  let main_v31 : FVec F S4x2048x8 .f32 := broadcastInDim S4x2048x8 ![] bcast_S_S4x2048x8 main_cst_4
  let main_v32 : IVec S4x2048x8 1 := cmpf .ole main_v30 main_v31
  let main_v33 : IVec S4x2048x8 1 := ori main_v29 main_v32
  let main_v34 : FVec F S4x2048x1 .f32 := (extractStridedSlice S4x2048x1 ![0, 0, 7] · slices_S4x2048x9_S4x2048x1_0_0_7) main_values
  let main_v35 : FVec F S4x2048x2048 .f32 := broadcastInDim S4x2048x2048 ![0, 1, 2] bcast_S4x2048x1_S4x2048x2048_0_1_2 main_v34
  let main_v36 : IVec S4x2048x2048 1 := cmpf .oge main_v14 main_v35
  let main_v37 : IVec S4x2048x2048 1 := andi main_v12 main_v36
  let main_cst_5 : FVec F S_ .f32 := constant S_ .f32 0x4E6E6B28#32
  let main_v38 : FVec F S4x2048x2048 .f32 := broadcastInDim S4x2048x2048 ![] bcast_S_S4x2048x2048 main_cst_5
  fn_part2 (F := F) main_v14 main_v17 main_v22 main_v26 main_v33 main_v37 main_v38

def fn {F : FTy → Type} [FloatOps F] (main_arg0 : FVec F S4 .f32) (main_arg1 : FVec F S1x768 .f32) (main_arg2 : FVec F S1x768 .f32) (main_arg3 : FVec F S4x1x2048 .f32) (main_arg4 : FVec F S4x2048x768 .f32) (main_arg5 : FVec F S4x2048x768 .bf16) (main_arg6 : FVec F S4x2048x768 .bf16) : IVec S_ 1 :=
  let main_v0 : FVec F S4x2048x768 .f32 := mulf main_arg4 main_arg4
  let main_cst : FVec F S_ .f32 := constant S_ .f32 0x00000000#32
  let main_v1 : FVec F S4x2048 .f32 := (fun x v => Host.reduceAdd x v reducesTo_S4x2048x768_S4x2048_d2 h_S_) main_v0 main_cst
  let main_v2 : FVec F S4x2048x1 .f32 := broadcastInDim S4x2048x1 ![0, 1] bcast_S4x2048_S4x2048x1_0_1 main_v1
  let main_v3 : FVec F S4x2048x1 .f32 := Host.sqrt main_v2
  let main_cst_0 : FVec F S_ .f32 := constant S_ .f32 0x2B8CBCCC#32
  let main_v4 : FVec F S4x2048x1 .f32 := broadcastInDim S4x2048x1 ![] bcast_S_S4x2048x1 main_cst_0
  let main_v5 : FVec F S4x2048x1 .f32 := maximumf main_v3 main_v4
  let main_v6 : FVec F S4x2048x768 .f32 := broadcastInDim S4x2048x768 ![0, 1, 2] bcast_S4x2048x1_S4x2048x768_0_1_2 main_v5
  let main_v7 : FVec F S4x2048x768 .f32 := Host.divf main_arg4 main_v6
  let main_v8 : FVec F S4x768x2048 .f32 := (transpose S4x768x2048 [0, 2, 1] · transposes_S4x2048x768_S4x768x2048_0_2_1) main_v7
  let main_v9 : FVec F S4x2048x2048 .f32 := (fun l r => Host.dotGeneral dot_S4x2048x768_S4x768x2048_S4x2048x2048_2_1_1_2_0_0 none l r) main_v7 main_v8
  let main_v10 : IVec S4x2048x2048 32 := iotaInDim S4x2048x2048 32 2
  let main_v11 : IVec S4x2048x2048 32 := iotaInDim S4x2048x2048 32 1
  let main_v12 : IVec S4x2048x2048 1 := cmpi .slt main_v10 main_v11
  let main_cst_1 : FVec F S_ .f32 := constant S_ .f32 0xCE6E6B28#32
  let main_v13 : FVec F S4x2048x2048 .f32 := broadcastInDim S4x2048x2048 ![] bcast_S_S4x2048x2048 main_cst_1
  let main_v14 : FVec F S4x2048x2048 .f32 := select main_v12 main_v9 main_v13
  let main_v15 : FVec F S4x2048x768 .f32 := Host.absf main_arg4
  let main_cst_2 : FVec F S_ .f32 := constant S_ .f32 0x7F800000#32
  let main_v16 : FVec F S4x2048x768 .f32 := broadcastInDim S4x2048x768 ![] bcast_S_S4x2048x768 main_cst_2
  let main_v17 : IVec S4x2048x768 1 := cmpf .olt main_v15 main_v16
  let main_v18 : FVec F S4x2048 .f32 := shapeCast S4x2048 main_arg3 shapeCasts_S4x1x2048_S4x2048
  let main_v19 : FVec F S4x2048 .f32 := shapeCast S4x2048 main_v5 shapeCasts_S4x2048x1_S4x2048
  fn_part1 (F := F) main_arg4 main_arg5 main_arg6 main_v12 main_v14 main_v17 main_v18 main_v19
-- ==== Kernel.lean ====
abbrev S4 : Shape := ⟨1, ![4]⟩
abbrev S1x768 : Shape := ⟨2, ![1, 768]⟩
abbrev S4x1x2048 : Shape := ⟨3, ![4, 1, 2048]⟩
abbrev S4x2048x768 : Shape := ⟨3, ![4, 2048, 768]⟩
abbrev S1x1x2048 : Shape := ⟨3, ![1, 1, 2048]⟩
abbrev S1x2048x768 : Shape := ⟨3, ![1, 2048, 768]⟩
abbrev S1x256x768 : Shape := ⟨3, ![1, 256, 768]⟩
abbrev S256x2048 : Shape := ⟨2, ![256, 2048]⟩
abbrev S256x768 : Shape := ⟨2, ![256, 768]⟩
abbrev S2048x768 : Shape := ⟨2, ![2048, 768]⟩
abbrev S256x256 : Shape := ⟨2, ![256, 256]⟩
abbrev S1x1x256 : Shape := ⟨3, ![1, 1, 256]⟩
abbrev S1x256 : Shape := ⟨2, ![1, 256]⟩
abbrev S256x1 : Shape := ⟨2, ![256, 1]⟩
abbrev S256x512 : Shape := ⟨2, ![256, 512]⟩
abbrev S256 : Shape := ⟨1, ![256]⟩
abbrev S1x512x768 : Shape := ⟨3, ![1, 512, 768]⟩
abbrev S512x768 : Shape := ⟨2, ![512, 768]⟩
abbrev S256x1024 : Shape := ⟨2, ![256, 1024]⟩
abbrev S1x1024x768 : Shape := ⟨3, ![1, 1024, 768]⟩
abbrev S1024x768 : Shape := ⟨2, ![1024, 768]⟩
abbrev S256x1536 : Shape := ⟨2, ![256, 1536]⟩
abbrev S1x1536x768 : Shape := ⟨3, ![1, 1536, 768]⟩
abbrev S1536x768 : Shape := ⟨2, ![1536, 768]⟩
abbrev S1 : Shape := ⟨1, ![1]⟩

abbrev nBuf : Space → Nat
  | .hbm => 9
  | .vmem => 19
  | .smem => 1
  | _ => 0

abbrev bufTy : (tb : Table) → Fin (tcTables nBuf tb) → BufTy
  | .hbm, ⟨0, _⟩ => ⟨S4, .f32⟩
  | .hbm, ⟨1, _⟩ => ⟨S1x768, .f32⟩
  | .hbm, ⟨2, _⟩ => ⟨S1x768, .f32⟩
  | .hbm, ⟨3, _⟩ => ⟨S4x1x2048, .f32⟩
  | .hbm, ⟨4, _⟩ => ⟨S4x2048x768, .f32⟩
  | .hbm, ⟨5, _⟩ => ⟨S4x2048x768, .bf16⟩
  | .hbm, ⟨6, _⟩ => ⟨S4x2048x768, .bf16⟩
  | .hbm, ⟨7, _⟩ => ⟨S4x2048x768, .f32⟩
  | .hbm, ⟨8, _⟩ => ⟨S4x2048x768, .f32⟩
  | .local _ .vmem, ⟨0, _⟩ => ⟨S1x768, .f32⟩
  | .local _ .vmem, ⟨1, _⟩ => ⟨S1x768, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x768, .f32⟩
  | .local _ .vmem, ⟨5, _⟩ => ⟨S1x2048x768, .f32⟩
  | .local _ .vmem, ⟨6, _⟩ => ⟨S1x2048x768, .bf16⟩
  | .local _ .vmem, ⟨7, _⟩ => ⟨S1x2048x768, .bf16⟩
  | .local _ .vmem, ⟨8, _⟩ => ⟨S1x2048x768, .bf16⟩
  | .local _ .vmem, ⟨9, _⟩ => ⟨S1x2048x768, .bf16⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S256x2048, .f32⟩
  | .local _ .vmem, ⟨17, _⟩ => ⟨S256x768, .f32⟩
  | .local _ .vmem, ⟨18, _⟩ => ⟨S256x768, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_7 : BitVec 32 := 1#32
  ⟨c0_i32_5, v10, c1_i32_7⟩
def k0_mult1 (i : grid0.Coords) (k0_t1 : Fin (k0_t1_loop i).trips) : BitVec 32 :=
  let c0_i32_5 : BitVec 32 := 0#32
  let c1_i32_7 : BitVec 32 := 1#32
  let arg15 : BitVec 32 := Scf.iv c0_i32_5 c1_i32_7 k0_t1
  let c256_i32_41 : BitVec 32 := 256#32
  let v89 : BitVec 32 := Scalar.muli arg15 c256_i32_41
  v89
def k0_off1 (i : grid0.Coords) (k0_t1 : Fin (k0_t1_loop i).trips) : Fin 3 → Nat :=
  let c0_42 : Index := 0#32
  let c0_i32_5 : BitVec 32 := 0#32
  let c1_i32_7 : BitVec 32 := 1#32
  let arg15 : BitVec 32 := Scf.iv c0_i32_5 c1_i32_7 k0_t1
  let c256_i32_41 : BitVec 32 := 256#32
  let v89 : BitVec 32 := Scalar.muli arg15 c256_i32_41
  let v90 : BitVec 32 := v89
  let v91 : Index := Scalar.indexCast v90
  let c0_43 : Index := 0#32
  ![0, v91.toNat, 0]
def k0_off2 (i : grid0.Coords) (k0_t1 : Fin (k0_t1_loop i).trips) : Fin 3 → Nat :=
  let c0_45 : Index := 0#32
  let c0_46 : Index := 0#32
  let c0_i32_5 : BitVec 32 := 0#32
  let c1_i32_7 : BitVec 32 := 1#32
  let arg15 : BitVec 32 := Scf.iv c0_i32_5 c1_i32_7 k0_t1
  let c256_i32_41 : BitVec 32 := 256#32
  let v89 : BitVec 32 := Scalar.muli arg15 c256_i32_41
  let v90 : BitVec 32 := v89
  let v95 : Index := Scalar.indexCast v90
  ![0, 0, v95.toNat]
def k0_off3 (i : grid0.Coords) (k0_t1 : Fin (k0_t1_loop i).trips) : Fin 2 → Nat :=
  let c0_48 : Index := 0#32
  let c0_i32_5 : BitVec 32 := 0#32
  let c1_i32_7 : BitVec 32 := 1#32
  let arg15 : BitVec 32 := Scf.iv c0_i32_5 c1_i32_7 k0_t1
  let c256_i32_41 : BitVec 32 := 256#32
  let v89 : BitVec 32 := Scalar.muli arg15 c256_i32_41
  let v90 : BitVec 32 := v89
  let v109 : Index := Scalar.indexCast v90
  ![0, v109.toNat]
@[reducible] def k0_t2_loop (i : grid0.Coords) : Scf.Loop 32 :=
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let v7 : BitVec 32 := Scalar.addi c0_i32_5 v6
  let c1_i32_8 : BitVec 32 := 1#32
  ⟨v10, v7, c1_i32_8⟩
def k0_mult2 (i : grid0.Coords) (k0_t2 : Fin (k0_t2_loop i).trips) : BitVec 32 :=
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg15 : BitVec 32 := Scf.iv v10 c1_i32_8 k0_t2
  let c256_i32_41 : BitVec 32 := 256#32
  let v89 : BitVec 32 := Scalar.muli arg15 c256_i32_41
  v89
def k0_off4 (i : grid0.Coords) (k0_t2 : Fin (k0_t2_loop i).trips) : Fin 3 → Nat :=
  let c0_42 : Index := 0#32
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg15 : BitVec 32 := Scf.iv v10 c1_i32_8 k0_t2
  let c256_i32_41 : BitVec 32 := 256#32
  let v89 : BitVec 32 := Scalar.muli arg15 c256_i32_41
  let v90 : BitVec 32 := v89
  let v91 : Index := Scalar.indexCast v90
  let c0_43 : Index := 0#32
  ![0, v91.toNat, 0]
def k0_off5 (i : grid0.Coords) (k0_t2 : Fin (k0_t2_loop i).trips) : Fin 3 → Nat :=
  let c0_45 : Index := 0#32
  let c0_46 : Index := 0#32
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg15 : BitVec 32 := Scf.iv v10 c1_i32_8 k0_t2
  let c256_i32_41 : BitVec 32 := 256#32
  let v89 : BitVec 32 := Scalar.muli arg15 c256_i32_41
  let v90 : BitVec 32 := v89
  let v95 : Index := Scalar.indexCast v90
  ![0, 0, v95.toNat]
def k0_off6 (i : grid0.Coords) (k0_t2 : Fin (k0_t2_loop i).trips) : Fin 2 → Nat :=
  let c0_48 : Index := 0#32
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg15 : BitVec 32 := Scf.iv v10 c1_i32_8 k0_t2
  let c256_i32_41 : BitVec 32 := 256#32
  let v89 : BitVec 32 := Scalar.muli arg15 c256_i32_41
  let v90 : BitVec 32 := v89
  let v109 : Index := Scalar.indexCast v90
  ![0, v109.toNat]
def k0_cond1 (i : grid0.Coords) : BitVec 1 :=
  let arg1 : BitVec 32 := BitVec.ofNat 32 (i 1).val
  let c0_i32_12 : BitVec 32 := 0#32
  let v23 : BitVec 1 := Scalar.cmpi .sge arg1 c0_i32_12
  let c2_i32 : BitVec 32 := 2#32
  let v24 : BitVec 1 := Scalar.cmpi .slt arg1 c2_i32
  let v25 : BitVec 1 := Scalar.andi v23 v24
  let v26 : BitVec 32 := Scalar.extui v25
  let c0_i32_13 : BitVec 32 := 0#32
  let v27 : BitVec 1 := Scalar.cmpi .ne v26 c0_i32_13
  v27

@[reducible] def k0_t3_loop (i : grid0.Coords) : Scf.Loop 32 :=
  let arg1 : BitVec 32 := BitVec.ofNat 32 (i 1).val
  let c1_i32_41 : BitVec 32 := 1#32
  let v89 : BitVec 32 := Scalar.addi arg1 c1_i32_41
  let c2_i32_43 : BitVec 32 := 2#32
  let v90 : BitVec 32 := Scalar.subi c2_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_45 : BitVec 32 := 1#32
  ⟨v89, v94, c1_i32_45⟩
def k0_mult3 (i : grid0.Coords) (k0_t3 : Fin (k0_t3_loop i).trips) : BitVec 32 :=
  let arg1 : BitVec 32 := BitVec.ofNat 32 (i 1).val
  let c1_i32_41 : BitVec 32 := 1#32
  let v89 : BitVec 32 := Scalar.addi arg1 c1_i32_41
  let c1_i32_45 : BitVec 32 := 1#32
  let arg15 : BitVec 32 := Scf.iv v89 c1_i32_45 k0_t3
  let c256_i32_94 : BitVec 32 := 256#32
  let v216 : BitVec 32 := Scalar.muli arg15 c256_i32_94
  v216
def k0_off7 (i : grid0.Coords) (k0_t3 : Fin (k0_t3_loop i).trips) : Fin 2 → Nat :=
  let c0_96 : Index := 0#32
  let arg1 : BitVec 32 := BitVec.ofNat 32 (i 1).val
  let c1_i32_41 : BitVec 32 := 1#32
  let v89 : BitVec 32 := Scalar.addi arg1 c1_i32_41
  let c1_i32_45 : BitVec 32 := 1#32
  let arg15 : BitVec 32 := Scf.iv v89 c1_i32_45 k0_t3
  let c256_i32_94 : BitVec 32 := 256#32
  let v216 : BitVec 32 := Scalar.muli arg15 c256_i32_94
  let v217 : BitVec 32 := v216
  let v219 : Index := Scalar.indexCast v217
  ![0, v219.toNat]
@[reducible] def k0_t4_loop (i : grid0.Coords) : Scf.Loop 32 :=
  let arg1 : BitVec 32 := BitVec.ofNat 32 (i 1).val
  let c1_i32_41 : BitVec 32 := 1#32
  let v89 : BitVec 32 := Scalar.addi arg1 c1_i32_41
  let c2_i32_43 : BitVec 32 := 2#32
  let v90 : BitVec 32 := Scalar.subi c2_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let v91 : BitVec 32 := Scalar.addi v89 v90
  let c1_i32_46 : BitVec 32 := 1#32
  ⟨v94, v91, c1_i32_46⟩
def k0_mult4 (i : grid0.Coords) (k0_t4 : Fin (k0_t4_loop i).trips) : BitVec 32 :=
  let arg1 : BitVec 32 := BitVec.ofNat 32 (i 1).val
  let c1_i32_41 : BitVec 32 := 1#32
  let v89 : BitVec 32 := Scalar.addi arg1 c1_i32_41
  let c2_i32_43 : BitVec 32 := 2#32
  let v90 : BitVec 32 := Scalar.subi c2_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_46 : BitVec 32 := 1#32
  let arg15 : BitVec 32 := Scf.iv v94 c1_i32_46 k0_t4
  let c256_i32_94 : BitVec 32 := 256#32
  let v216 : BitVec 32 := Scalar.muli arg15 c256_i32_94
  v216
def k0_off8 (i : grid0.Coords) (k0_t4 : Fin (k0_t4_loop i).trips) : Fin 2 → Nat :=
  let c0_96 : Index := 0#32
  let arg1 : BitVec 32 := BitVec.ofNat 32 (i 1).val
  let c1_i32_41 : BitVec 32 := 1#32
  let v89 : BitVec 32 := Scalar.addi arg1 c1_i32_41
  let c2_i32_43 : BitVec 32 := 2#32
  let v90 : BitVec 32 := Scalar.subi c2_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_46 : BitVec 32 := 1#32
  let arg15 : BitVec 32 := Scf.iv v94 c1_i32_46 k0_t4
  let c256_i32_94 : BitVec 32 := 256#32
  let v216 : BitVec 32 := Scalar.muli arg15 c256_i32_94
  let v217 : BitVec 32 := v216
  let v219 : Index := Scalar.indexCast v217
  ![0, v219.toNat]
def k0_cond2 (i : grid0.Coords) : BitVec 1 :=
  let arg1 : BitVec 32 := BitVec.ofNat 32 (i 1).val
  let c2_i32_14 : BitVec 32 := 2#32
  let v28 : BitVec 1 := Scalar.cmpi .sge arg1 c2_i32_14
  let c4_i32 : BitVec 32 := 4#32
  let v29 : BitVec 1 := Scalar.cmpi .slt arg1 c4_i32
  let v30 : BitVec 1 := Scalar.andi v28 v29
  let v31 : BitVec 32 := Scalar.extui v30
  let c0_i32_15 : BitVec 32 := 0#32
  let v32 : BitVec 1 := Scalar.cmpi .ne v31 c0_i32_15
  v32

@[reducible] def k0_t5_loop (i : grid0.Coords) : Scf.Loop 32 :=
  let arg1 : BitVec 32 := BitVec.ofNat 32 (i 1).val
  let c1_i32_41 : BitVec 32 := 1#32
  let v89 : BitVec 32 := Scalar.addi arg1 c1_i32_41
  let c4_i32_43 : BitVec 32 := 4#32
  let v90 : BitVec 32 := Scalar.subi c4_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_45 : BitVec 32 := 1#32
  ⟨v89, v94, c1_i32_45⟩
def k0_mult5 (i : grid0.Coords) (k0_t5 : Fin (k0_t5_loop i).trips) : BitVec 32 :=
  let arg1 : BitVec 32 := BitVec.ofNat 32 (i 1).val
  let c1_i32_41 : BitVec 32 := 1#32
  let v89 : BitVec 32 := Scalar.addi arg1 c1_i32_41
  let c1_i32_45 : BitVec 32 := 1#32
  let arg15 : BitVec 32 := Scf.iv v89 c1_i32_45 k0_t5
  let c256_i32_94 : BitVec 32 := 256#32
  let v216 : BitVec 32 := Scalar.muli arg15 c256_i32_94
  v216
def k0_off9 (i : grid0.Coords) (k0_t5 : Fin (k0_t5_loop i).trips) : Fin 2 → Nat :=
  let c0_96 : Index := 0#32
  let arg1 : BitVec 32 := BitVec.ofNat 32 (i 1).val
  let c1_i32_41 : BitVec 32 := 1#32
  let v89 : BitVec 32 := Scalar.addi arg1 c1_i32_41
  let c1_i32_45 : BitVec 32 := 1#32
  let arg15 : BitVec 32 := Scf.iv v89 c1_i32_45 k0_t5
  let c256_i32_94 : BitVec 32 := 256#32
  let v216 : BitVec 32 := Scalar.muli arg15 c256_i32_94
  let v217 : BitVec 32 := v216
  let v219 : Index := Scalar.indexCast v217
  ![0, v219.toNat]
@[reducible] def k0_t6_loop (i : grid0.Coords) : Scf.Loop 32 :=
  let arg1 : BitVec 32 := BitVec.ofNat 32 (i 1).val
  let c1_i32_41 : BitVec 32 := 1#32
  let v89 : BitVec 32 := Scalar.addi arg1 c1_i32_41
  let c4_i32_43 : BitVec 32 := 4#32
  let v90 : BitVec 32 := Scalar.subi c4_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let v91 : BitVec 32 := Scalar.addi v89 v90
  let c1_i32_46 : BitVec 32 := 1#32
  ⟨v94, v91, c1_i32_46⟩
def k0_mult6 (i : grid0.Coords) (k0_t6 : Fin (k0_t6_loop i).trips) : BitVec 32 :=
  let arg1 : BitVec 32 := BitVec.ofNat 32 (i 1).val
  let c1_i32_41 : BitVec 32 := 1#32
  let v89 : BitVec 32 := Scalar.addi arg1 c1_i32_41
  let c4_i32_43 : BitVec 32 := 4#32
  let v90 : BitVec 32 := Scalar.subi c4_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_46 : BitVec 32 := 1#32
  let arg15 : BitVec 32 := Scf.iv v94 c1_i32_46 k0_t6
  let c256_i32_94 : BitVec 32 := 256#32
  let v216 : BitVec 32 := Scalar.muli arg15 c256_i32_94
  v216
def k0_off10 (i : grid0.Coords) (k0_t6 : Fin (k0_t6_loop i).trips) : Fin 2 → Nat :=
  let c0_96 : Index := 0#32
  let arg1 : BitVec 32 := BitVec.ofNat 32 (i 1).val
  let c1_i32_41 : BitVec 32 := 1#32
  let v89 : BitVec 32 := Scalar.addi arg1 c1_i32_41
  let c4_i32_43 : BitVec 32 := 4#32
  let v90 : BitVec 32 := Scalar.subi c4_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_46 : BitVec 32 := 1#32
  let arg15 : BitVec 32 := Scf.iv v94 c1_i32_46 k0_t6
  let c256_i32_94 : BitVec 32 := 256#32
  let v216 : BitVec 32 := Scalar.muli arg15 c256_i32_94
  let v217 : BitVec 32 := v216
  let v219 : Index := Scalar.indexCast v217
  ![0, v219.toNat]
def k0_cond3 (i : grid0.Coords) : BitVec 1 :=
  let arg1 : BitVec 32 := BitVec.ofNat 32 (i 1).val
  let c4_i32_16 : BitVec 32 := 4#32
  let v33 : BitVec 1 := Scalar.cmpi .sge arg1 c4_i32_16
  let c6_i32 : BitVec 32 := 6#32
  let v34 : BitVec 1 := Scalar.cmpi .slt arg1 c6_i32
  let v35 : BitVec 1 := Scalar.andi v33 v34
  let v36 : BitVec 32 := Scalar.extui v35
  let c0_i32_17 : BitVec 32 := 0#32
  let v37 : BitVec 1 := Scalar.cmpi .ne v36 c0_i32_17
  v37

@[reducible] def k0_t7_loop (i : grid0.Coords) : Scf.Loop 32 :=
  let arg1 : BitVec 32 := BitVec.ofNat 32 (i 1).val
  let c1_i32_41 : BitVec 32 := 1#32
  let v89 : BitVec 32 := Scalar.addi arg1 c1_i32_41
  let c6_i32_43 : BitVec 32 := 6#32
  let v90 : BitVec 32 := Scalar.subi c6_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_45 : BitVec 32 := 1#32
  ⟨v89, v94, c1_i32_45⟩
def k0_mult7 (i : grid0.Coords) (k0_t7 : Fin (k0_t7_loop i).trips) : BitVec 32 :=
  let arg1 : BitVec 32 := BitVec.ofNat 32 (i 1).val
  let c1_i32_41 : BitVec 32 := 1#32
  let v89 : BitVec 32 := Scalar.addi arg1 c1_i32_41
  let c1_i32_45 : BitVec 32 := 1#32
  let arg15 : BitVec 32 := Scf.iv v89 c1_i32_45 k0_t7
  let c256_i32_94 : BitVec 32 := 256#32
  let v216 : BitVec 32 := Scalar.muli arg15 c256_i32_94
  v216
def k0_off11 (i : grid0.Coords) (k0_t7 : Fin (k0_t7_loop i).trips) : Fin 2 → Nat :=
  let c0_96 : Index := 0#32
  let arg1 : BitVec 32 := BitVec.ofNat 32 (i 1).val
  let c1_i32_41 : BitVec 32 := 1#32
  let v89 : BitVec 32 := Scalar.addi arg1 c1_i32_41
  let c1_i32_45 : BitVec 32 := 1#32
  let arg15 : BitVec 32 := Scf.iv v89 c1_i32_45 k0_t7
  let c256_i32_94 : BitVec 32 := 256#32
  let v216 : BitVec 32 := Scalar.muli arg15 c256_i32_94
  let v217 : BitVec 32 := v216
  let v219 : Index := Scalar.indexCast v217
  ![0, v219.toNat]
@[reducible] def k0_t8_loop (i : grid0.Coords) : Scf.Loop 32 :=
  let arg1 : BitVec 32 := BitVec.ofNat 32 (i 1).val
  let c1_i32_41 : BitVec 32 := 1#32
  let v89 : BitVec 32 := Scalar.addi arg1 c1_i32_41
  let c6_i32_43 : BitVec 32 := 6#32
  let v90 : BitVec 32 := Scalar.subi c6_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let v91 : BitVec 32 := Scalar.addi v89 v90
  let c1_i32_46 : BitVec 32 := 1#32
  ⟨v94, v91, c1_i32_46⟩
def k0_mult8 (i : grid0.Coords) (k0_t8 : Fin (k0_t8_loop i).trips) : BitVec 32 :=
  let arg1 : BitVec 32 := BitVec.ofNat 32 (i 1).val
  let c1_i32_41 : BitVec 32 := 1#32
  let v89 : BitVec 32 := Scalar.addi arg1 c1_i32_41
  let c6_i32_43 : BitVec 32 := 6#32
  let v90 : BitVec 32 := Scalar.subi c6_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_46 : BitVec 32 := 1#32
  let arg15 : BitVec 32 := Scf.iv v94 c1_i32_46 k0_t8
  let c256_i32_94 : BitVec 32 := 256#32
  let v216 : BitVec 32 := Scalar.muli arg15 c256_i32_94
  v216
def k0_off12 (i : grid0.Coords) (k0_t8 : Fin (k0_t8_loop i).trips) : Fin 2 → Nat :=
  let c0_96 : Index := 0#32
  let arg1 : BitVec 32 := BitVec.ofNat 32 (i 1).val
  let c1_i32_41 : BitVec 32 := 1#32
  let v89 : BitVec 32 := Scalar.addi arg1 c1_i32_41
  let c6_i32_43 : BitVec 32 := 6#32
  let v90 : BitVec 32 := Scalar.subi c6_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_46 : BitVec 32 := 1#32
  let arg15 : BitVec 32 := Scf.iv v94 c1_i32_46 k0_t8
  let c256_i32_94 : BitVec 32 := 256#32
  let v216 : BitVec 32 := Scalar.muli arg15 c256_i32_94
  let v217 : BitVec 32 := v216
  let v219 : Index := Scalar.indexCast v217
  ![0, v219.toNat]
def k0_cond4 (i : grid0.Coords) : BitVec 1 :=
  let arg1 : BitVec 32 := BitVec.ofNat 32 (i 1).val
  let c6_i32_18 : BitVec 32 := 6#32
  let v38 : BitVec 1 := Scalar.cmpi .sge arg1 c6_i32_18
  let c8_i32 : BitVec 32 := 8#32
  let v39 : BitVec 1 := Scalar.cmpi .slt arg1 c8_i32
  let v40 : BitVec 1 := Scalar.andi v38 v39
  let v41 : BitVec 32 := Scalar.extui v40
  let c0_i32_19 : BitVec 32 := 0#32
  let v42 : BitVec 1 := Scalar.cmpi .ne v41 c0_i32_19
  v42

@[reducible] def k0_t9_loop (i : grid0.Coords) : Scf.Loop 32 :=
  let arg1 : BitVec 32 := BitVec.ofNat 32 (i 1).val
  let c1_i32_41 : BitVec 32 := 1#32
  let v89 : BitVec 32 := Scalar.addi arg1 c1_i32_41
  let c8_i32_43 : BitVec 32 := 8#32
  let v90 : BitVec 32 := Scalar.subi c8_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_45 : BitVec 32 := 1#32
  ⟨v89, v94, c1_i32_45⟩
def k0_mult9 (i : grid0.Coords) (k0_t9 : Fin (k0_t9_loop i).trips) : BitVec 32 :=
  let arg1 : BitVec 32 := BitVec.ofNat 32 (i 1).val
  let c1_i32_41 : BitVec 32 := 1#32
  let v89 : BitVec 32 := Scalar.addi arg1 c1_i32_41
  let c1_i32_45 : BitVec 32 := 1#32
  let arg15 : BitVec 32 := Scf.iv v89 c1_i32_45 k0_t9
  let c256_i32_95 : BitVec 32 := 256#32
  let v219 : BitVec 32 := Scalar.muli arg15 c256_i32_95
  v219
def k0_off13 (i : grid0.Coords) (k0_t9 : Fin (k0_t9_loop i).trips) : Fin 2 → Nat :=
  let c0_97 : Index := 0#32
  let arg1 : BitVec 32 := BitVec.ofNat 32 (i 1).val
  let c1_i32_41 : BitVec 32 := 1#32
  let v89 : BitVec 32 := Scalar.addi arg1 c1_i32_41
  let c1_i32_45 : BitVec 32 := 1#32
  let arg15 : BitVec 32 := Scf.iv v89 c1_i32_45 k0_t9
  let c256_i32_95 : BitVec 32 := 256#32
  let v219 : BitVec 32 := Scalar.muli arg15 c256_i32_95
  let v220 : BitVec 32 := v219
  let v222 : Index := Scalar.indexCast v220
  ![0, v222.toNat]
@[reducible] def k0_t10_loop (i : grid0.Coords) : Scf.Loop 32 :=
  let arg1 : BitVec 32 := BitVec.ofNat 32 (i 1).val
  let c1_i32_41 : BitVec 32 := 1#32
  let v89 : BitVec 32 := Scalar.addi arg1 c1_i32_41
  let c8_i32_43 : BitVec 32 := 8#32
  let v90 : BitVec 32 := Scalar.subi c8_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let v91 : BitVec 32 := Scalar.addi v89 v90
  let c1_i32_46 : BitVec 32 := 1#32
  ⟨v94, v91, c1_i32_46⟩
def k0_mult10 (i : grid0.Coords) (k0_t10 : Fin (k0_t10_loop i).trips) : BitVec 32 :=
  let arg1 : BitVec 32 := BitVec.ofNat 32 (i 1).val
  let c1_i32_41 : BitVec 32 := 1#32
  let v89 : BitVec 32 := Scalar.addi arg1 c1_i32_41
  let c8_i32_43 : BitVec 32 := 8#32
  let v90 : BitVec 32 := Scalar.subi c8_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_46 : BitVec 32 := 1#32
  let arg15 : BitVec 32 := Scf.iv v94 c1_i32_46 k0_t10
  let c256_i32_95 : BitVec 32 := 256#32
  let v219 : BitVec 32 := Scalar.muli arg15 c256_i32_95
  v219
def k0_off14 (i : grid0.Coords) (k0_t10 : Fin (k0_t10_loop i).trips) : Fin 2 → Nat :=
  let c0_97 : Index := 0#32
  let arg1 : BitVec 32 := BitVec.ofNat 32 (i 1).val
  let c1_i32_41 : BitVec 32 := 1#32
  let v89 : BitVec 32 := Scalar.addi arg1 c1_i32_41
  let c8_i32_43 : BitVec 32 := 8#32
  let v90 : BitVec 32 := Scalar.subi c8_i32_43 v89
  let c1_i32_44 : BitVec 32 := 1#32
  let v92 : BitVec 32 := Scalar.divsi v90 c1_i32_44
  let v93 : BitVec 32 := Scalar.muli v92 c1_i32_44
  let v94 : BitVec 32 := Scalar.addi v89 v93
  let c1_i32_46 : BitVec 32 := 1#32
  let arg15 : BitVec 32 := Scf.iv v94 c1_i32_46 k0_t10
  let c256_i32_95 : BitVec 32 := 256#32
  let v219 : BitVec 32 := Scalar.muli arg15 c256_i32_95
  let v220 : BitVec 32 := v219
  let v222 : Index := Scalar.indexCast v220
  ![0, v222.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "above" => some ⊤
  | "below" => some ⊥
  | "neg" => some ⊥
  | "pos" => some ⊤
  | _ => none
-- ==== ReferenceIdeal.lean ====
abbrev S4 : Shape := ⟨1, ![4]⟩
abbrev S1x768 : Shape := ⟨2, ![1, 768]⟩
abbrev S4x1x2048 : Shape := ⟨3, ![4, 1, 2048]⟩
abbrev S4x2048x768 : Shape := ⟨3, ![4, 2048, 768]⟩
abbrev S1 : Shape := ⟨1, ![1]⟩
abbrev S_ : Shape := ⟨0, ![]⟩
abbrev S4x2048 : Shape := ⟨2, ![4, 2048]⟩
abbrev S4x2048x1 : Shape := ⟨3, ![4, 2048, 1]⟩
abbrev S4x768x2048 : Shape := ⟨3, ![4, 768, 2048]⟩
abbrev S4x2048x2048 : Shape := ⟨3, ![4, 2048, 2048]⟩
abbrev S2048x2048 : Shape := ⟨2, ![2048, 2048]⟩
abbrev S1x2048x2048 : Shape := ⟨3, ![1, 2048, 2048]⟩
abbrev S4x1x1 : Shape := ⟨3, ![4, 1, 1]⟩
abbrev S2048 : Shape := ⟨1, ![2048]⟩
abbrev S1x2048x1 : Shape := ⟨3, ![1, 2048, 1]⟩
abbrev S4x2048x16 : Shape := ⟨3, ![4, 2048, 16]⟩
abbrev S4x2048x16x1 : Shape := ⟨4, ![4, 2048, 16, 1]⟩
abbrev S4x2048x16x3 : Shape := ⟨4, ![4, 2048, 16, 3]⟩
abbrev S4x2048x8 : Shape := ⟨3, ![4, 2048, 8]⟩
abbrev S4x2048x8x1 : Shape := ⟨4, ![4, 2048, 8, 1]⟩
abbrev S4x2048x8x3 : Shape := ⟨4, ![4, 2048, 8, 3]⟩
abbrev S768 : Shape := ⟨1, ![768]⟩
abbrev S1x1x768 : Shape := ⟨3, ![1, 1, 768]⟩

abbrev nBuf : Space → Nat
  | .hbm => 202
  | .vmem => 0
  | .smem => 0
  | _ => 0

abbrev hbmTy0_0 (i : Nat) : BufTy := match i % 128 with
  | 0 => ⟨S4, .f32⟩
  | 1 => ⟨S1x768, .f32⟩
  | 2 => ⟨S1x768, .f32⟩
  | 3 => ⟨S4x1x2048, .f32⟩
  | 4 => ⟨S4x2048x768, .f32⟩
  | 5 => ⟨S4x2048x768, .bf16⟩
  | 6 => ⟨S4x2048x768, .bf16⟩
  | 7 => ⟨S4x2048x768, .f32⟩
  | 8 => ⟨S1, .f32⟩
  | 9 => ⟨S_, .f32⟩
  | 10 => ⟨S1, .f32⟩
  | 11 => ⟨S_, .f32⟩
  | 12 => ⟨S1, .f32⟩
  | 13 => ⟨S_, .f32⟩
  | 14 => ⟨S1, .f32⟩
  | 15 => ⟨S_, .f32⟩
  | 16 => ⟨S4x2048x768, .f32⟩
  | 17 => ⟨S_, .f32⟩
  | 18 => ⟨S4x2048, .f32⟩
  | 19 => ⟨S4x2048x1, .f32⟩
  | 20 => ⟨S4x2048x1, .f32⟩
  | 21 => ⟨S_, .f32⟩
  | 22 => ⟨S4x2048x1, .f32⟩
  | 23 => ⟨S4x2048x1, .f32⟩
  | 24 => ⟨S4x2048x768, .f32⟩
  | 25 => ⟨S4x2048x768, .f32⟩
  | 26 => ⟨S4x768x2048, .f32⟩
  | 27 => ⟨S4x2048x2048, .f32⟩
  | 28 => ⟨S_, .f32⟩
  | 29 => ⟨S2048x2048, .f32⟩
  | 30 => ⟨S2048x2048, .i32⟩
  | 31 => ⟨S_, .i32⟩
  | 32 => ⟨S2048x2048, .i32⟩
  | 33 => ⟨S2048x2048, .i32⟩
  | 34 => ⟨S2048x2048, .i32⟩
  | 35 => ⟨S2048x2048, .i1⟩
  | 36 => ⟨S_, .f32⟩
  | 37 => ⟨S2048x2048, .f32⟩
  | 38 => ⟨S2048x2048, .f32⟩
  | 39 => ⟨S1x2048x2048, .f32⟩
  | 40 => ⟨S4x2048x2048, .f32⟩
  | 41 => ⟨S4x2048x2048, .f32⟩
  | 42 => ⟨S_, .f32⟩
  | 43 => ⟨S2048x2048, .f32⟩
  | 44 => ⟨S2048x2048, .f32⟩
  | 45 => ⟨S_, .f32⟩
  | 46 => ⟨S2048x2048, .f32⟩
  | 47 => ⟨S2048x2048, .f32⟩
  | 48 => ⟨S1x2048x2048, .f32⟩
  | 49 => ⟨S4x2048x2048, .f32⟩
  | 50 => ⟨S4x2048x2048, .f32⟩
  | 51 => ⟨S_, .f32⟩
  | 52 => ⟨S4x2048x2048, .f32⟩
  | 53 => ⟨S_, .f32⟩
  | 54 => ⟨S4x2048x2048, .f32⟩
  | 55 => ⟨S4, .i32⟩
  | 56 => ⟨S4x1x1, .i32⟩
  | 57 => ⟨S2048, .i32⟩
  | 58 => ⟨S1x2048x1, .i32⟩
  | 59 => ⟨S4x2048x16, .f32⟩
  | 60 => ⟨S4x2048x16, .i32⟩
  | 61 => ⟨S_, .i32⟩
  | 62 => ⟨S4x1x1, .i32⟩
  | 63 => ⟨S4x1x1, .i1⟩
  | 64 => ⟨S_, .i32⟩
  | 65 => ⟨S4x1x1, .i32⟩
  | 66 => ⟨S4x1x1, .i32⟩
  | 67 => ⟨S4x1x1, .i32⟩
  | 68 => ⟨S_, .i32⟩
  | 69 => ⟨S1x2048x1, .i32⟩
  | 70 => ⟨S1x2048x1, .i1⟩
  | 71 => ⟨S_, .i32⟩
  | 72 => ⟨S1x2048x1, .i32⟩
  | 73 => ⟨S1x2048x1, .i32⟩
  | 74 => ⟨S1x2048x1, .i32⟩
  | 75 => ⟨S_, .i32⟩
  | 76 => ⟨S4x2048x16, .i32⟩
  | 77 => ⟨S4x2048x16, .i1⟩
  | 78 => ⟨S_, .i32⟩
  | 79 => ⟨S4x2048x16, .i32⟩
  | 80 => ⟨S4x2048x16, .i32⟩
  | 81 => ⟨S4x2048x16, .i32⟩
  | 82 => ⟨S4x2048x16, .i32⟩
  | 83 => ⟨S4x2048x16, .i32⟩
  | 84 => ⟨S4x2048x16x1, .i32⟩
  | 85 => ⟨S4x2048x16x1, .i32⟩
  | 86 => ⟨S4x2048x16x1, .i32⟩
  | 87 => ⟨S4x2048x16x3, .i32⟩
  | 88 => ⟨S_, .f32⟩
  | 89 => ⟨S4x2048x16, .f32⟩
  | 90 => ⟨S4x2048x2048, .f32⟩
  | 91 => ⟨S1x2048x2048, .f32⟩
  | 92 => ⟨S4x2048x2048, .f32⟩
  | 93 => ⟨S4x2048x2048, .f32⟩
  | 94 => ⟨S_, .f32⟩
  | 95 => ⟨S4x2048x2048, .f32⟩
  | 96 => ⟨S4x2048x2048, .i1⟩
  | 97 => ⟨S_, .f32⟩
  | 98 => ⟨S_, .f32⟩
  | 99 => ⟨S4x2048x2048, .f32⟩
  | 100 => ⟨S4x2048x2048, .f32⟩
  | 101 => ⟨S4x2048x2048, .f32⟩
  | 102 => ⟨S4x2048x8, .f32⟩
  | 103 => ⟨S4x2048x8, .i32⟩
  | 104 => ⟨S_, .i32⟩
  | 105 => ⟨S4x1x1, .i32⟩
  | 106 => ⟨S4x1x1, .i1⟩
  | 107 => ⟨S_, .i32⟩
  | 108 => ⟨S4x1x1, .i32⟩
  | 109 => ⟨S4x1x1, .i32⟩
  | 110 => ⟨S4x1x1, .i32⟩
  | 111 => ⟨S_, .i32⟩
  | 112 => ⟨S1x2048x1, .i32⟩
  | 113 => ⟨S1x2048x1, .i1⟩
  | 114 => ⟨S_, .i32⟩
  | 115 => ⟨S1x2048x1, .i32⟩
  | 116 => ⟨S1x2048x1, .i32⟩
  | 117 => ⟨S1x2048x1, .i32⟩
  | 118 => ⟨S_, .i32⟩
  | 119 => ⟨S4x2048x8, .i32⟩
  | 120 => ⟨S4x2048x8, .i1⟩
  | 121 => ⟨S_, .i32⟩
  | 122 => ⟨S4x2048x8, .i32⟩
  | 123 => ⟨S4x2048x8, .i32⟩
  | 124 => ⟨S4x2048x8, .i32⟩
  | 125 => ⟨S4x2048x8, .i32⟩
  | 126 => ⟨S4x2048x8, .i32⟩
  | 127 => ⟨S4x2048x8x1, .i32⟩
  | _ => ⟨S4, .f32⟩

abbrev hbmTy0_1 (i : Nat) : BufTy := match i % 128 with
  | 0 => ⟨S4x2048x8x1, .i32⟩
  | 1 => ⟨S4x2048x8x1, .i32⟩
  | 2 => ⟨S4x2048x8x3, .i32⟩
  | 3 => ⟨S_, .f32⟩
  | 4 => ⟨S4x2048x8, .f32⟩
  | 5 => ⟨S4x2048x2048, .f32⟩
  | 6 => ⟨S1x2048x2048, .f32⟩
  | 7 => ⟨S4x2048x2048, .f32⟩
  | 8 => ⟨S4x2048x2048, .f32⟩
  | 9 => ⟨S_, .f32⟩
  | 10 => ⟨S4x2048x2048, .f32⟩
  | 11 => ⟨S4x2048x2048, .f32⟩
  | 12 => ⟨S4x2048x2048, .f32⟩
  | 13 => ⟨S_, .f32⟩
  | 14 => ⟨S4x2048, .f32⟩
  | 15 => ⟨S4x2048x1, .f32⟩
  | 16 => ⟨S_, .f32⟩
  | 17 => ⟨S_, .f32⟩
  | 18 => ⟨S4x2048x1, .f32⟩
  | 19 => ⟨S4x2048x1, .f32⟩
  | 20 => ⟨S4x2048x768, .f32⟩
  | 21 => ⟨S4x2048x768, .f32⟩
  | 22 => ⟨S4x2048x768, .f32⟩
  | 23 => ⟨S_, .f32⟩
  | 24 => ⟨S4x2048, .f32⟩
  | 25 => ⟨S4x2048x1, .f32⟩
  | 26 => ⟨S_, .f32⟩
  | 27 => ⟨S_, .f32⟩
  | 28 => ⟨S4x2048x1, .f32⟩
  | 29 => ⟨S4x2048x1, .f32⟩
  | 30 => ⟨S4x2048x768, .f32⟩
  | 31 => ⟨S4x2048x768, .f32⟩
  | 32 => ⟨S4x2048x768, .f32⟩
  | 33 => ⟨S4x2048x768, .f32⟩
  | 34 => ⟨S4x2048x768, .f32⟩
  | 35 => ⟨S_, .f32⟩
  | 36 => ⟨S_, .f32⟩
  | 37 => ⟨S4x2048x768, .f32⟩
  | 38 => ⟨S4x2048x768, .f32⟩
  | 39 => ⟨S4x2048x768, .f32⟩
  | 40 => ⟨S4x2048x768, .f32⟩
  | 41 => ⟨S4x2048x768, .f32⟩
  | 42 => ⟨S_, .f32⟩
  | 43 => ⟨S_, .f32⟩
  | 44 => ⟨S4x2048x768, .f32⟩
  | 45 => ⟨S4x2048x768, .f32⟩
  | 46 => ⟨S4x2048x768, .f32⟩
  | 47 => ⟨S768, .f32⟩
  | 48 => ⟨S1x1x768, .f32⟩
  | 49 => ⟨S4x2048x768, .f32⟩
  | 50 => ⟨S4x2048x768, .f32⟩
  | 51 => ⟨S768, .f32⟩
  | 52 => ⟨S1x1x768, .f32⟩
  | 53 => ⟨S4x2048x768, .f32⟩
  | 54 => ⟨S4x2048x768, .f32⟩
  | 55 => ⟨S_, .f32⟩
  | 56 => ⟨S4x2048x768, .f32⟩
  | 57 => ⟨S4x2048x768, .f32⟩
  | 58 => ⟨S4x2048x768, .f32⟩
  | 59 => ⟨S_, .f32⟩
  | 60 => ⟨S4x2048x768, .f32⟩
  | 61 => ⟨S4x2048x768, .f32⟩
  | 62 => ⟨S4x2048x768, .f32⟩
  | 63 => ⟨S4x2048x768, .f32⟩
  | 64 => ⟨S4x2048x768, .f32⟩
  | 65 => ⟨S4x2048x768, .f32⟩
  | 66 => ⟨S_, .f32⟩
  | 67 => ⟨S_, .f32⟩
  | 68 => ⟨S4x2048x768, .f32⟩
  | 69 => ⟨S4x2048x768, .f32⟩
  | 70 => ⟨S4x2048x768, .f32⟩
  | 71 => ⟨S4x2048x768, .f32⟩
  | 72 => ⟨S4x2048x768, .f32⟩
  | 73 => ⟨S4x2048x768, .f32⟩
  | _ => ⟨S4, .f32⟩

abbrev hbmTy (i : Nat) : BufTy := match i / 128 with
  | 0 => hbmTy0_0 i
  | 1 => hbmTy0_1 i
  | _ => ⟨S4, .f32⟩

abbrev bufTy : (tb : Table) → Fin (tcTables nBuf tb) → BufTy
  | .hbm, ⟨i, _⟩ => hbmTy i
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_cst : Ref sig .tc := ⟨.hbm, 36, rfl⟩
abbrev main_call1_v5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_values : Ref sig .tc := ⟨.hbm, 59, rfl⟩
abbrev main_indices : Ref sig .tc := ⟨.hbm, 60, rfl⟩
abbrev main_c : Ref sig .tc := ⟨.hbm, 61, rfl⟩
abbrev main_v33 : Ref sig .tc := ⟨.hbm, 62, rfl⟩
abbrev main_v34 : Ref sig .tc := ⟨.hbm, 63, rfl⟩
abbrev main_c_5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_6 : Ref sig .tc := ⟨.hbm, 68, rfl⟩
abbrev main_v38 : Ref sig .tc := ⟨.hbm, 69, rfl⟩
abbrev main_v39 : Ref sig .tc := ⟨.hbm, 70, rfl⟩
abbrev main_c_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_8 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_call2_v0 : Ref sig .tc := ⟨.hbm, 98, rfl⟩
abbrev main_call2_v1 : Ref sig .tc := ⟨.hbm, 99, rfl⟩
abbrev main_v61 : Ref sig .tc := ⟨.hbm, 100, rfl⟩
abbrev main_v62 : Ref sig .tc := ⟨.hbm, 101, rfl⟩
abbrev main_values_13 : Ref sig .tc := ⟨.hbm, 102, rfl⟩
abbrev main_indices_14 : Ref sig .tc := ⟨.hbm, 103, rfl⟩
abbrev main_c_15 : Ref sig .tc := ⟨.hbm, 104, rfl⟩
abbrev main_v63 : Ref sig .tc := ⟨.hbm, 105, rfl⟩
abbrev main_v64 : Ref sig .tc := ⟨.hbm, 106, rfl⟩
abbrev main_c_16 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_17 : Ref sig .tc := ⟨.hbm, 111, rfl⟩
abbrev main_v68 : Ref sig .tc := ⟨.hbm, 112, rfl⟩
abbrev main_v69 : Ref sig .tc := ⟨.hbm, 113, rfl⟩
abbrev main_c_18 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c_19 : Ref sig .tc := ⟨.hbm, 118, rfl⟩
abbrev main_v73 : Ref sig .tc := ⟨.hbm, 119, rfl⟩
abbrev main_v74 : Ref sig .tc := ⟨.hbm, 120, rfl⟩
abbrev main_c_20 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_21 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_22 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_23 : Ref sig .tc := ⟨.hbm, 141, rfl⟩
abbrev main_v92 : Ref sig .tc := ⟨.hbm, 142, rfl⟩
abbrev main_v93 : Ref sig .tc := ⟨.hbm, 143, rfl⟩
abbrev main_cst_24 : Ref sig .tc := ⟨.hbm, 144, rfl⟩
abbrev main_call3_v0 : Ref sig .tc := ⟨.hbm, 145, rfl⟩
abbrev main_call3_v1 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_25 : Ref sig .tc := ⟨.hbm, 151, rfl⟩
abbrev main_v98 : Ref sig .tc := ⟨.hbm, 152, rfl⟩
abbrev main_v99 : Ref sig .tc := ⟨.hbm, 153, rfl⟩
abbrev main_cst_26 : Ref sig .tc := ⟨.hbm, 154, rfl⟩
abbrev main_call4_v0 : Ref sig .tc := ⟨.hbm, 155, rfl⟩
abbrev main_call4_v1 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_27 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_28 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_29 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_30 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_31 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩

abbrev nD : Nat := 1
abbrev τ : Topo := Topo.v7x

variable {F : FTy → Type} [FloatOps F]
-- ==== Kernel2.lean ====
abbrev S4 : Shape := ⟨1, ![4]⟩
abbrev S1x768 : Shape := ⟨2, ![1, 768]⟩
abbrev S4x1x2048 : Shape := ⟨3, ![4, 1, 2048]⟩
abbrev S4x2048x768 : Shape := ⟨3, ![4, 2048, 768]⟩
abbrev S1x1x2048 : Shape := ⟨3, ![1, 1, 2048]⟩
abbrev S1x2048x768 : Shape := ⟨3, ![1, 2048, 768]⟩
abbrev S1x256x768 : Shape := ⟨3, ![1, 256, 768]⟩
abbrev S1x1x256 : Shape := ⟨3, ![1, 1, 256]⟩
abbrev S256x2048 : Shape := ⟨2, ![256, 2048]⟩
abbrev S256x768 : Shape := ⟨2, ![256, 768]⟩
abbrev S2048x768 : Shape := ⟨2, ![2048, 768]⟩
abbrev S256x256 : Shape := ⟨2, ![256, 256]⟩
abbrev S1x256 : Shape := ⟨2, ![1, 256]⟩
abbrev S256x1 : Shape := ⟨2, ![256, 1]⟩
abbrev S256x512 : Shape := ⟨2, ![256, 512]⟩
abbrev S256 : Shape := ⟨1, ![256]⟩
abbrev S1x512x768 : Shape := ⟨3, ![1, 512, 768]⟩
abbrev S512x768 : Shape := ⟨2, ![512, 768]⟩
abbrev S256x1024 : Shape := ⟨2, ![256, 1024]⟩
abbrev S1x1024x768 : Shape := ⟨3, ![1, 1024, 768]⟩
abbrev S1024x768 : Shape := ⟨2, ![1024, 768]⟩
abbrev S256x1536 : Shape := ⟨2, ![256, 1536]⟩
abbrev S1x1536x768 : Shape := ⟨3, ![1, 1536, 768]⟩
abbrev S1536x768 : Shape := ⟨2, ![1536, 768]⟩
abbrev S1 : Shape := ⟨1, ![1]⟩

abbrev nBuf : Space → Nat
  | .hbm => 11
  | .vmem => 23
  | .smem => 1
  | _ => 0

abbrev bufTy : (tb : Table) → Fin (tcTables nBuf tb) → BufTy
  | .hbm, ⟨0, _⟩ => ⟨S4, .f32⟩
  | .hbm, ⟨1, _⟩ => ⟨S1x768, .f32⟩
  | .hbm, ⟨2, _⟩ => ⟨S1x768, .f32⟩
  | .hbm, ⟨3, _⟩ => ⟨S4x1x2048, .f32⟩
  | .hbm, ⟨4, _⟩ => ⟨S4x2048x768, .f32⟩
  | .hbm, ⟨5, _⟩ => ⟨S4x2048x768, .bf16⟩
  | .hbm, ⟨6, _⟩ => ⟨S4x2048x768, .bf16⟩
  | .hbm, ⟨7, _⟩ => ⟨S4x2048x768, .f32⟩
  | .hbm, ⟨8, _⟩ => ⟨S4x2048x768, .bf16⟩
  | .hbm, ⟨9, _⟩ => ⟨S4x2048x768, .bf16⟩
  | .hbm, ⟨10, _⟩ => ⟨S4x1x2048, .f32⟩
  | .local _ .vmem, ⟨0, _⟩ => ⟨S1x768, .f32⟩
  | .local _ .vmem, ⟨1, _⟩ => ⟨S1x768, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x768, .f32⟩
  | .local _ .vmem, ⟨5, _⟩ => ⟨S1x2048x768, .f32⟩
  | .local _ .vmem, ⟨6, _⟩ => ⟨S1x2048x768, .bf16⟩
  | .local _ .vmem, ⟨7, _⟩ => ⟨S1x2048x768, .bf16⟩
  | .local _ .vmem, ⟨8, _⟩ => ⟨S1x2048x768, .bf16⟩
  | .local _ .vmem, ⟨9, _⟩ => ⟨S1x2048x768, .bf16⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .bf16⟩
  | .local _ .vmem, ⟨15, _⟩ => ⟨S1x256x768, .bf16⟩
  | .local _ .vmem, ⟨16, _⟩ => ⟨S1x256x768, .bf16⟩
  | .local _ .vmem, ⟨17, _⟩ => ⟨S1x256x768, .bf16⟩
  | .local _ .vmem, ⟨18, _⟩ => ⟨S1x1x256, .f32⟩
  | .local _ .vmem, ⟨19, _⟩ => ⟨S1x1x256, .f32⟩
  | .local _ .vmem, ⟨20, _⟩ => ⟨S256x2048, .f32⟩
  | .local _ .vmem, ⟨21, _⟩ => ⟨S256x768, .f32⟩
  | .local _ .vmem, ⟨22, _⟩ => ⟨S256x768, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_7 : BitVec 32 := 1#32
  ⟨c0_i32_5, v10, c1_i32_7⟩
def k0_mult1 (i : grid0.Coords) (k0_t1 : Fin (k0_t1_loop i).trips) : BitVec 32 :=
  let c0_i32_5 : BitVec 32 := 0#32
  let c1_i32_7 : BitVec 32 := 1#32
  let arg17 : BitVec 32 := Scf.iv c0_i32_5 c1_i32_7 k0_t1
  let c256_i32_52 : BitVec 32 := 256#32
  let v104 : BitVec 32 := Scalar.muli arg17 c256_i32_52
  v104
def k0_off1 (i : grid0.Coords) (k0_t1 : Fin (k0_t1_loop i).trips) : Fin 3 → Nat :=
  let c0_53 : Index := 0#32
  let c0_i32_5 : BitVec 32 := 0#32
  let c1_i32_7 : BitVec 32 := 1#32
  let arg17 : BitVec 32 := Scf.iv c0_i32_5 c1_i32_7 k0_t1
  let c256_i32_52 : BitVec 32 := 256#32
  let v104 : BitVec 32 := Scalar.muli arg17 c256_i32_52
  let v105 : BitVec 32 := v104
  let v106 : Index := Scalar.indexCast v105
  let c0_54 : Index := 0#32
  ![0, v106.toNat, 0]
def k0_off2 (i : grid0.Coords) (k0_t1 : Fin (k0_t1_loop i).trips) : Fin 3 → Nat :=
  let c0_56 : Index := 0#32
  let c0_57 : Index := 0#32
  let c0_i32_5 : BitVec 32 := 0#32
  let c1_i32_7 : BitVec 32 := 1#32
  let arg17 : BitVec 32 := Scf.iv c0_i32_5 c1_i32_7 k0_t1
  let c256_i32_52 : BitVec 32 := 256#32
  let v104 : BitVec 32 := Scalar.muli arg17 c256_i32_52
  let v105 : BitVec 32 := v104
  let v110 : Index := Scalar.indexCast v105
  ![0, 0, v110.toNat]
def k0_off3 (i : grid0.Coords) (k0_t1 : Fin (k0_t1_loop i).trips) : Fin 2 → Nat :=
  let c0_59 : Index := 0#32
  let c0_i32_5 : BitVec 32 := 0#32
  let c1_i32_7 : BitVec 32 := 1#32
  let arg17 : BitVec 32 := Scf.iv c0_i32_5 c1_i32_7 k0_t1
  let c256_i32_52 : BitVec 32 := 256#32
  let v104 : BitVec 32 := Scalar.muli arg17 c256_i32_52
  let v105 : BitVec 32 := v104
  let v124 : Index := Scalar.indexCast v105
  ![0, v124.toNat]
@[reducible] def k0_t2_loop (i : grid0.Coords) : Scf.Loop 32 :=
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let v7 : BitVec 32 := Scalar.addi c0_i32_5 v6
  let c1_i32_8 : BitVec 32 := 1#32
  ⟨v10, v7, c1_i32_8⟩
def k0_mult2 (i : grid0.Coords) (k0_t2 : Fin (k0_t2_loop i).trips) : BitVec 32 :=
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg17 : BitVec 32 := Scf.iv v10 c1_i32_8 k0_t2
  let c256_i32_52 : BitVec 32 := 256#32
  let v104 : BitVec 32 := Scalar.muli arg17 c256_i32_52
  v104
def k0_off4 (i : grid0.Coords) (k0_t2 : Fin (k0_t2_loop i).trips) : Fin 3 → Nat :=
  let c0_53 : Index := 0#32
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg17 : BitVec 32 := Scf.iv v10 c1_i32_8 k0_t2
  let c256_i32_52 : BitVec 32 := 256#32
  let v104 : BitVec 32 := Scalar.muli arg17 c256_i32_52
  let v105 : BitVec 32 := v104
  let v106 : Index := Scalar.indexCast v105
  let c0_54 : Index := 0#32
  ![0, v106.toNat, 0]
def k0_off5 (i : grid0.Coords) (k0_t2 : Fin (k0_t2_loop i).trips) : Fin 3 → Nat :=
  let c0_56 : Index := 0#32
  let c0_57 : Index := 0#32
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg17 : BitVec 32 := Scf.iv v10 c1_i32_8 k0_t2
  let c256_i32_52 : BitVec 32 := 256#32
  let v104 : BitVec 32 := Scalar.muli arg17 c256_i32_52
  let v105 : BitVec 32 := v104
  let v110 : Index := Scalar.indexCast v105
  ![0, 0, v110.toNat]
def k0_off6 (i : grid0.Coords) (k0_t2 : Fin (k0_t2_loop i).trips) : Fin 2 → Nat :=
  let c0_59 : Index := 0#32
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg17 : BitVec 32 := Scf.iv v10 c1_i32_8 k0_t2
  let c256_i32_52 : BitVec 32 := 256#32
  let v104 : BitVec 32 := Scalar.muli arg17 c256_i32_52
  let v105 : BitVec 32 := v104
  let v124 : Index := Scalar.indexCast v105
  ![0, v124.toNat]
def k0_cond1 (i : grid0.Coords) : BitVec 1 :=
  let arg1 : BitVec 32 := BitVec.ofNat 32 (i 1).val
  let c0_i32_12 : BitVec 32 := 0#32
  let v23 : BitVec 1 := Scalar.cmpi .sge arg1 c0_i32_12
  let c2_i32 : BitVec 32 := 2#32
  let v24 : BitVec 1 := Scalar.cmpi .slt arg1 c2_i32
  let v25 : BitVec 1 := Scalar.andi v23 v24
  let v26 : BitVec 32 := Scalar.extui v25
  let c0_i32_13 : BitVec 32 := 0#32
  let v27 : BitVec 1 := Scalar.cmpi .ne v26 c0_i32_13
  v27

@[reducible] def k0_t3_loop (i : grid0.Coords) : Scf.Loop 32 :=
  let arg1 : BitVec 32 := BitVec.ofNat 32 (i 1).val
  let c1_i32_52 : BitVec 32 := 1#32
  let v104 : BitVec 32 := Scalar.addi arg1 c1_i32_52
  let c2_i32_54 : BitVec 32 := 2#32
  let v105 : BitVec 32 := Scalar.subi c2_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_56 : BitVec 32 := 1#32
  ⟨v104, v109, c1_i32_56⟩
def k0_mult3 (i : grid0.Coords) (k0_t3 : Fin (k0_t3_loop i).trips) : BitVec 32 :=
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t3
  let c256_i32_89 : BitVec 32 := 256#32
  let v183 : BitVec 32 := Scalar.muli arg17 c256_i32_89
  v183
def k0_off7 (i : grid0.Coords) (k0_t3 : Fin (k0_t3_loop i).trips) : Fin 2 → Nat :=
  let c0_91 : Index := 0#32
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t3
  let c256_i32_89 : BitVec 32 := 256#32
  let v183 : BitVec 32 := Scalar.muli arg17 c256_i32_89
  let v184 : BitVec 32 := v183
  let v186 : Index := Scalar.indexCast v184
  ![0, v186.toNat]
@[reducible] def k0_t4_loop (i : grid0.Coords) : Scf.Loop 32 :=
  let arg1 : BitVec 32 := BitVec.ofNat 32 (i 1).val
  let c1_i32_52 : BitVec 32 := 1#32
  let v104 : BitVec 32 := Scalar.addi arg1 c1_i32_52
  let c2_i32_54 : BitVec 32 := 2#32
  let v105 : BitVec 32 := Scalar.subi c2_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let v106 : BitVec 32 := Scalar.addi v104 v105
  let c1_i32_57 : BitVec 32 := 1#32
  ⟨v109, v106, c1_i32_57⟩
def k0_mult4 (i : grid0.Coords) (k0_t4 : Fin (k0_t4_loop i).trips) : BitVec 32 :=
  let arg1 : BitVec 32 := BitVec.ofNat 32 (i 1).val
  let c1_i32_52 : BitVec 32 := 1#32
  let v104 : BitVec 32 := Scalar.addi arg1 c1_i32_52
  let c2_i32_54 : BitVec 32 := 2#32
  let v105 : BitVec 32 := Scalar.subi c2_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t4
  let c256_i32_89 : BitVec 32 := 256#32
  let v183 : BitVec 32 := Scalar.muli arg17 c256_i32_89
  v183
def k0_off8 (i : grid0.Coords) (k0_t4 : Fin (k0_t4_loop i).trips) : Fin 2 → Nat :=
  let c0_91 : Index := 0#32
  let arg1 : BitVec 32 := BitVec.ofNat 32 (i 1).val
  let c1_i32_52 : BitVec 32 := 1#32
  let v104 : BitVec 32 := Scalar.addi arg1 c1_i32_52
  let c2_i32_54 : BitVec 32 := 2#32
  let v105 : BitVec 32 := Scalar.subi c2_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t4
  let c256_i32_89 : BitVec 32 := 256#32
  let v183 : BitVec 32 := Scalar.muli arg17 c256_i32_89
  let v184 : BitVec 32 := v183
  let v186 : Index := Scalar.indexCast v184
  ![0, v186.toNat]
def k0_cond2 (i : grid0.Coords) : BitVec 1 :=
  let arg1 : BitVec 32 := BitVec.ofNat 32 (i 1).val
  let c2_i32_14 : BitVec 32 := 2#32
  let v28 : BitVec 1 := Scalar.cmpi .sge arg1 c2_i32_14
  let c4_i32 : BitVec 32 := 4#32
  let v29 : BitVec 1 := Scalar.cmpi .slt arg1 c4_i32
  let v30 : BitVec 1 := Scalar.andi v28 v29
  let v31 : BitVec 32 := Scalar.extui v30
  let c0_i32_15 : BitVec 32 := 0#32
  let v32 : BitVec 1 := Scalar.cmpi .ne v31 c0_i32_15
  v32

@[reducible] def k0_t5_loop (i : grid0.Coords) : Scf.Loop 32 :=
  let arg1 : BitVec 32 := BitVec.ofNat 32 (i 1).val
  let c1_i32_52 : BitVec 32 := 1#32
  let v104 : BitVec 32 := Scalar.addi arg1 c1_i32_52
  let c4_i32_54 : BitVec 32 := 4#32
  let v105 : BitVec 32 := Scalar.subi c4_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_56 : BitVec 32 := 1#32
  ⟨v104, v109, c1_i32_56⟩
def k0_mult5 (i : grid0.Coords) (k0_t5 : Fin (k0_t5_loop i).trips) : BitVec 32 :=
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t5
  let c256_i32_89 : BitVec 32 := 256#32
  let v183 : BitVec 32 := Scalar.muli arg17 c256_i32_89
  v183
def k0_off9 (i : grid0.Coords) (k0_t5 : Fin (k0_t5_loop i).trips) : Fin 2 → Nat :=
  let c0_91 : Index := 0#32
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t5
  let c256_i32_89 : BitVec 32 := 256#32
  let v183 : BitVec 32 := Scalar.muli arg17 c256_i32_89
  let v184 : BitVec 32 := v183
  let v186 : Index := Scalar.indexCast v184
  ![0, v186.toNat]
@[reducible] def k0_t6_loop (i : grid0.Coords) : Scf.Loop 32 :=
  let arg1 : BitVec 32 := BitVec.ofNat 32 (i 1).val
  let c1_i32_52 : BitVec 32 := 1#32
  let v104 : BitVec 32 := Scalar.addi arg1 c1_i32_52
  let c4_i32_54 : BitVec 32 := 4#32
  let v105 : BitVec 32 := Scalar.subi c4_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let v106 : BitVec 32 := Scalar.addi v104 v105
  let c1_i32_57 : BitVec 32 := 1#32
  ⟨v109, v106, c1_i32_57⟩
def k0_mult6 (i : grid0.Coords) (k0_t6 : Fin (k0_t6_loop i).trips) : BitVec 32 :=
  let arg1 : BitVec 32 := BitVec.ofNat 32 (i 1).val
  let c1_i32_52 : BitVec 32 := 1#32
  let v104 : BitVec 32 := Scalar.addi arg1 c1_i32_52
  let c4_i32_54 : BitVec 32 := 4#32
  let v105 : BitVec 32 := Scalar.subi c4_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t6
  let c256_i32_89 : BitVec 32 := 256#32
  let v183 : BitVec 32 := Scalar.muli arg17 c256_i32_89
  v183
def k0_off10 (i : grid0.Coords) (k0_t6 : Fin (k0_t6_loop i).trips) : Fin 2 → Nat :=
  let c0_91 : Index := 0#32
  let arg1 : BitVec 32 := BitVec.ofNat 32 (i 1).val
  let c1_i32_52 : BitVec 32 := 1#32
  let v104 : BitVec 32 := Scalar.addi arg1 c1_i32_52
  let c4_i32_54 : BitVec 32 := 4#32
  let v105 : BitVec 32 := Scalar.subi c4_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t6
  let c256_i32_89 : BitVec 32 := 256#32
  let v183 : BitVec 32 := Scalar.muli arg17 c256_i32_89
  let v184 : BitVec 32 := v183
  let v186 : Index := Scalar.indexCast v184
  ![0, v186.toNat]
def k0_cond3 (i : grid0.Coords) : BitVec 1 :=
  let arg1 : BitVec 32 := BitVec.ofNat 32 (i 1).val
  let c4_i32_16 : BitVec 32 := 4#32
  let v33 : BitVec 1 := Scalar.cmpi .sge arg1 c4_i32_16
  let c6_i32 : BitVec 32 := 6#32
  let v34 : BitVec 1 := Scalar.cmpi .slt arg1 c6_i32
  let v35 : BitVec 1 := Scalar.andi v33 v34
  let v36 : BitVec 32 := Scalar.extui v35
  let c0_i32_17 : BitVec 32 := 0#32
  let v37 : BitVec 1 := Scalar.cmpi .ne v36 c0_i32_17
  v37

@[reducible] def k0_t7_loop (i : grid0.Coords) : Scf.Loop 32 :=
  let arg1 : BitVec 32 := BitVec.ofNat 32 (i 1).val
  let c1_i32_52 : BitVec 32 := 1#32
  let v104 : BitVec 32 := Scalar.addi arg1 c1_i32_52
  let c6_i32_54 : BitVec 32 := 6#32
  let v105 : BitVec 32 := Scalar.subi c6_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_56 : BitVec 32 := 1#32
  ⟨v104, v109, c1_i32_56⟩
def k0_mult7 (i : grid0.Coords) (k0_t7 : Fin (k0_t7_loop i).trips) : BitVec 32 :=
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t7
  let c256_i32_89 : BitVec 32 := 256#32
  let v183 : BitVec 32 := Scalar.muli arg17 c256_i32_89
  v183
def k0_off11 (i : grid0.Coords) (k0_t7 : Fin (k0_t7_loop i).trips) : Fin 2 → Nat :=
  let c0_91 : Index := 0#32
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t7
  let c256_i32_89 : BitVec 32 := 256#32
  let v183 : BitVec 32 := Scalar.muli arg17 c256_i32_89
  let v184 : BitVec 32 := v183
  let v186 : Index := Scalar.indexCast v184
  ![0, v186.toNat]
@[reducible] def k0_t8_loop (i : grid0.Coords) : Scf.Loop 32 :=
  let arg1 : BitVec 32 := BitVec.ofNat 32 (i 1).val
  let c1_i32_52 : BitVec 32 := 1#32
  let v104 : BitVec 32 := Scalar.addi arg1 c1_i32_52
  let c6_i32_54 : BitVec 32 := 6#32
  let v105 : BitVec 32 := Scalar.subi c6_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let v106 : BitVec 32 := Scalar.addi v104 v105
  let c1_i32_57 : BitVec 32 := 1#32
  ⟨v109, v106, c1_i32_57⟩
def k0_mult8 (i : grid0.Coords) (k0_t8 : Fin (k0_t8_loop i).trips) : BitVec 32 :=
  let arg1 : BitVec 32 := BitVec.ofNat 32 (i 1).val
  let c1_i32_52 : BitVec 32 := 1#32
  let v104 : BitVec 32 := Scalar.addi arg1 c1_i32_52
  let c6_i32_54 : BitVec 32 := 6#32
  let v105 : BitVec 32 := Scalar.subi c6_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t8
  let c256_i32_89 : BitVec 32 := 256#32
  let v183 : BitVec 32 := Scalar.muli arg17 c256_i32_89
  v183
def k0_off12 (i : grid0.Coords) (k0_t8 : Fin (k0_t8_loop i).trips) : Fin 2 → Nat :=
  let c0_91 : Index := 0#32
  let arg1 : BitVec 32 := BitVec.ofNat 32 (i 1).val
  let c1_i32_52 : BitVec 32 := 1#32
  let v104 : BitVec 32 := Scalar.addi arg1 c1_i32_52
  let c6_i32_54 : BitVec 32 := 6#32
  let v105 : BitVec 32 := Scalar.subi c6_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t8
  let c256_i32_89 : BitVec 32 := 256#32
  let v183 : BitVec 32 := Scalar.muli arg17 c256_i32_89
  let v184 : BitVec 32 := v183
  let v186 : Index := Scalar.indexCast v184
  ![0, v186.toNat]
def k0_cond4 (i : grid0.Coords) : BitVec 1 :=
  let arg1 : BitVec 32 := BitVec.ofNat 32 (i 1).val
  let c6_i32_18 : BitVec 32 := 6#32
  let v38 : BitVec 1 := Scalar.cmpi .sge arg1 c6_i32_18
  let c8_i32_19 : BitVec 32 := 8#32
  let v39 : BitVec 1 := Scalar.cmpi .slt arg1 c8_i32_19
  let v40 : BitVec 1 := Scalar.andi v38 v39
  let v41 : BitVec 32 := Scalar.extui v40
  let c0_i32_20 : BitVec 32 := 0#32
  let v42 : BitVec 1 := Scalar.cmpi .ne v41 c0_i32_20
  v42

@[reducible] def k0_t9_loop (i : grid0.Coords) : Scf.Loop 32 :=
  let arg1 : BitVec 32 := BitVec.ofNat 32 (i 1).val
  let c1_i32_52 : BitVec 32 := 1#32
  let v104 : BitVec 32 := Scalar.addi arg1 c1_i32_52
  let c8_i32_54 : BitVec 32 := 8#32
  let v105 : BitVec 32 := Scalar.subi c8_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_56 : BitVec 32 := 1#32
  ⟨v104, v109, c1_i32_56⟩
def k0_mult9 (i : grid0.Coords) (k0_t9 : Fin (k0_t9_loop i).trips) : BitVec 32 :=
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t9
  let c256_i32_90 : BitVec 32 := 256#32
  let v186 : BitVec 32 := Scalar.muli arg17 c256_i32_90
  v186
def k0_off13 (i : grid0.Coords) (k0_t9 : Fin (k0_t9_loop i).trips) : Fin 2 → Nat :=
  let c0_92 : Index := 0#32
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t9
  let c256_i32_90 : BitVec 32 := 256#32
  let v186 : BitVec 32 := Scalar.muli arg17 c256_i32_90
  let v187 : BitVec 32 := v186
  let v189 : Index := Scalar.indexCast v187
  ![0, v189.toNat]
@[reducible] def k0_t10_loop (i : grid0.Coords) : Scf.Loop 32 :=
  let arg1 : BitVec 32 := BitVec.ofNat 32 (i 1).val
  let c1_i32_52 : BitVec 32 := 1#32
  let v104 : BitVec 32 := Scalar.addi arg1 c1_i32_52
  let c8_i32_54 : BitVec 32 := 8#32
  let v105 : BitVec 32 := Scalar.subi c8_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let v106 : BitVec 32 := Scalar.addi v104 v105
  let c1_i32_57 : BitVec 32 := 1#32
  ⟨v109, v106, c1_i32_57⟩
def k0_mult10 (i : grid0.Coords) (k0_t10 : Fin (k0_t10_loop i).trips) : BitVec 32 :=
  let arg1 : BitVec 32 := BitVec.ofNat 32 (i 1).val
  let c1_i32_52 : BitVec 32 := 1#32
  let v104 : BitVec 32 := Scalar.addi arg1 c1_i32_52
  let c8_i32_54 : BitVec 32 := 8#32
  let v105 : BitVec 32 := Scalar.subi c8_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t10
  let c256_i32_90 : BitVec 32 := 256#32
  let v186 : BitVec 32 := Scalar.muli arg17 c256_i32_90
  v186
def k0_off14 (i : grid0.Coords) (k0_t10 : Fin (k0_t10_loop i).trips) : Fin 2 → Nat :=
  let c0_92 : Index := 0#32
  let arg1 : BitVec 32 := BitVec.ofNat 32 (i 1).val
  let c1_i32_52 : BitVec 32 := 1#32
  let v104 : BitVec 32 := Scalar.addi arg1 c1_i32_52
  let c8_i32_54 : BitVec 32 := 8#32
  let v105 : BitVec 32 := Scalar.subi c8_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t10
  let c256_i32_90 : BitVec 32 := 256#32
  let v186 : BitVec 32 := Scalar.muli arg17 c256_i32_90
  let v187 : BitVec 32 := v186
  let v189 : Index := Scalar.indexCast v187
  ![0, v189.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel2Ideal.lean ====
variable {F : FTy → Type} [FloatOps F] [Named F]
def κ : String → Option EReal := fun
  | "above" => some ⊤
  | "below" => some ⊥
  | "neg" => some ⊥
  | "pos" => some ⊤
  | _ => none
-- ==== Reference2Ideal.lean ====
abbrev S4 : Shape := ⟨1, ![4]⟩
abbrev S1x768 : Shape := ⟨2, ![1, 768]⟩
abbrev S4x1x2048 : Shape := ⟨3, ![4, 1, 2048]⟩
abbrev S4x2048x768 : Shape := ⟨3, ![4, 2048, 768]⟩
abbrev S1 : Shape := ⟨1, ![1]⟩
abbrev S_ : Shape := ⟨0, ![]⟩
abbrev S4x2048 : Shape := ⟨2, ![4, 2048]⟩
abbrev S4x2048x1 : Shape := ⟨3, ![4, 2048, 1]⟩
abbrev S4x768x2048 : Shape := ⟨3, ![4, 768, 2048]⟩
abbrev S4x2048x2048 : Shape := ⟨3, ![4, 2048, 2048]⟩
abbrev S2048x2048 : Shape := ⟨2, ![2048, 2048]⟩
abbrev S1x2048x2048 : Shape := ⟨3, ![1, 2048, 2048]⟩
abbrev S4x1x1 : Shape := ⟨3, ![4, 1, 1]⟩
abbrev S2048 : Shape := ⟨1, ![2048]⟩
abbrev S1x2048x1 : Shape := ⟨3, ![1, 2048, 1]⟩
abbrev S4x2048x8 : Shape := ⟨3, ![4, 2048, 8]⟩
abbrev S4x2048x8x1 : Shape := ⟨4, ![4, 2048, 8, 1]⟩
abbrev S4x2048x8x3 : Shape := ⟨4, ![4, 2048, 8, 3]⟩
abbrev S4x2048x4 : Shape := ⟨3, ![4, 2048, 4]⟩
abbrev S4x2048x4x1 : Shape := ⟨4, ![4, 2048, 4, 1]⟩
abbrev S4x2048x4x3 : Shape := ⟨4, ![4, 2048, 4, 3]⟩
abbrev S768 : Shape := ⟨1, ![768]⟩
abbrev S1x1x768 : Shape := ⟨3, ![1, 1, 768]⟩

abbrev nBuf : Space → Nat
  | .hbm => 196
  | .vmem => 0
  | .smem => 0
  | _ => 0

abbrev hbmTy0_0 (i : Nat) : BufTy := match i % 128 with
  | 0 => ⟨S4, .f32⟩
  | 1 => ⟨S1x768, .f32⟩
  | 2 => ⟨S1x768, .f32⟩
  | 3 => ⟨S4x1x2048, .f32⟩
  | 4 => ⟨S4x2048x768, .f32⟩
  | 5 => ⟨S4x2048x768, .bf16⟩
  | 6 => ⟨S4x2048x768, .bf16⟩
  | 7 => ⟨S1, .f32⟩
  | 8 => ⟨S_, .f32⟩
  | 9 => ⟨S1, .f32⟩
  | 10 => ⟨S_, .f32⟩
  | 11 => ⟨S1, .f32⟩
  | 12 => ⟨S_, .f32⟩
  | 13 => ⟨S4x2048x768, .f32⟩
  | 14 => ⟨S_, .f32⟩
  | 15 => ⟨S4x2048, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x768, .f32⟩
  | 22 => ⟨S4x2048x768, .f32⟩
  | 23 => ⟨S4x768x2048, .f32⟩
  | 24 => ⟨S4x2048x2048, .f32⟩
  | 25 => ⟨S_, .f32⟩
  | 26 => ⟨S2048x2048, .f32⟩
  | 27 => ⟨S2048x2048, .i32⟩
  | 28 => ⟨S_, .i32⟩
  | 29 => ⟨S2048x2048, .i32⟩
  | 30 => ⟨S2048x2048, .i32⟩
  | 31 => ⟨S2048x2048, .i32⟩
  | 32 => ⟨S2048x2048, .i1⟩
  | 33 => ⟨S_, .f32⟩
  | 34 => ⟨S2048x2048, .f32⟩
  | 35 => ⟨S2048x2048, .f32⟩
  | 36 => ⟨S1x2048x2048, .f32⟩
  | 37 => ⟨S4x2048x2048, .f32⟩
  | 38 => ⟨S4x2048x2048, .f32⟩
  | 39 => ⟨S_, .f32⟩
  | 40 => ⟨S2048x2048, .f32⟩
  | 41 => ⟨S2048x2048, .f32⟩
  | 42 => ⟨S_, .f32⟩
  | 43 => ⟨S2048x2048, .f32⟩
  | 44 => ⟨S2048x2048, .f32⟩
  | 45 => ⟨S1x2048x2048, .f32⟩
  | 46 => ⟨S4x2048x2048, .f32⟩
  | 47 => ⟨S4x2048x2048, .f32⟩
  | 48 => ⟨S_, .f32⟩
  | 49 => ⟨S4x2048x2048, .f32⟩
  | 50 => ⟨S_, .f32⟩
  | 51 => ⟨S4x2048x2048, .f32⟩
  | 52 => ⟨S4, .i32⟩
  | 53 => ⟨S4x1x1, .i32⟩
  | 54 => ⟨S2048, .i32⟩
  | 55 => ⟨S1x2048x1, .i32⟩
  | 56 => ⟨S4x2048x8, .f32⟩
  | 57 => ⟨S4x2048x8, .i32⟩
  | 58 => ⟨S_, .i32⟩
  | 59 => ⟨S4x1x1, .i32⟩
  | 60 => ⟨S4x1x1, .i1⟩
  | 61 => ⟨S_, .i32⟩
  | 62 => ⟨S4x1x1, .i32⟩
  | 63 => ⟨S4x1x1, .i32⟩
  | 64 => ⟨S4x1x1, .i32⟩
  | 65 => ⟨S_, .i32⟩
  | 66 => ⟨S1x2048x1, .i32⟩
  | 67 => ⟨S1x2048x1, .i1⟩
  | 68 => ⟨S_, .i32⟩
  | 69 => ⟨S1x2048x1, .i32⟩
  | 70 => ⟨S1x2048x1, .i32⟩
  | 71 => ⟨S1x2048x1, .i32⟩
  | 72 => ⟨S_, .i32⟩
  | 73 => ⟨S4x2048x8, .i32⟩
  | 74 => ⟨S4x2048x8, .i1⟩
  | 75 => ⟨S_, .i32⟩
  | 76 => ⟨S4x2048x8, .i32⟩
  | 77 => ⟨S4x2048x8, .i32⟩
  | 78 => ⟨S4x2048x8, .i32⟩
  | 79 => ⟨S4x2048x8, .i32⟩
  | 80 => ⟨S4x2048x8, .i32⟩
  | 81 => ⟨S4x2048x8x1, .i32⟩
  | 82 => ⟨S4x2048x8x1, .i32⟩
  | 83 => ⟨S4x2048x8x1, .i32⟩
  | 84 => ⟨S4x2048x8x3, .i32⟩
  | 85 => ⟨S_, .f32⟩
  | 86 => ⟨S4x2048x8, .f32⟩
  | 87 => ⟨S4x2048x2048, .f32⟩
  | 88 => ⟨S1x2048x2048, .f32⟩
  | 89 => ⟨S4x2048x2048, .f32⟩
  | 90 => ⟨S4x2048x2048, .f32⟩
  | 91 => ⟨S_, .f32⟩
  | 92 => ⟨S4x2048x2048, .f32⟩
  | 93 => ⟨S4x2048x2048, .i1⟩
  | 94 => ⟨S_, .f32⟩
  | 95 => ⟨S_, .f32⟩
  | 96 => ⟨S4x2048x2048, .f32⟩
  | 97 => ⟨S4x2048x2048, .f32⟩
  | 98 => ⟨S4x2048x2048, .f32⟩
  | 99 => ⟨S4x2048x4, .f32⟩
  | 100 => ⟨S4x2048x4, .i32⟩
  | 101 => ⟨S_, .i32⟩
  | 102 => ⟨S4x1x1, .i32⟩
  | 103 => ⟨S4x1x1, .i1⟩
  | 104 => ⟨S_, .i32⟩
  | 105 => ⟨S4x1x1, .i32⟩
  | 106 => ⟨S4x1x1, .i32⟩
  | 107 => ⟨S4x1x1, .i32⟩
  | 108 => ⟨S_, .i32⟩
  | 109 => ⟨S1x2048x1, .i32⟩
  | 110 => ⟨S1x2048x1, .i1⟩
  | 111 => ⟨S_, .i32⟩
  | 112 => ⟨S1x2048x1, .i32⟩
  | 113 => ⟨S1x2048x1, .i32⟩
  | 114 => ⟨S1x2048x1, .i32⟩
  | 115 => ⟨S_, .i32⟩
  | 116 => ⟨S4x2048x4, .i32⟩
  | 117 => ⟨S4x2048x4, .i1⟩
  | 118 => ⟨S_, .i32⟩
  | 119 => ⟨S4x2048x4, .i32⟩
  | 120 => ⟨S4x2048x4, .i32⟩
  | 121 => ⟨S4x2048x4, .i32⟩
  | 122 => ⟨S4x2048x4, .i32⟩
  | 123 => ⟨S4x2048x4, .i32⟩
  | 124 => ⟨S4x2048x4x1, .i32⟩
  | 125 => ⟨S4x2048x4x1, .i32⟩
  | 126 => ⟨S4x2048x4x1, .i32⟩
  | 127 => ⟨S4x2048x4x3, .i32⟩
  | _ => ⟨S4, .f32⟩

abbrev hbmTy0_1 (i : Nat) : BufTy := match i % 128 with
  | 0 => ⟨S_, .f32⟩
  | 1 => ⟨S4x2048x4, .f32⟩
  | 2 => ⟨S4x2048x2048, .f32⟩
  | 3 => ⟨S1x2048x2048, .f32⟩
  | 4 => ⟨S4x2048x2048, .f32⟩
  | 5 => ⟨S4x2048x2048, .f32⟩
  | 6 => ⟨S_, .f32⟩
  | 7 => ⟨S4x2048x2048, .f32⟩
  | 8 => ⟨S4x2048x2048, .f32⟩
  | 9 => ⟨S4x2048x2048, .f32⟩
  | 10 => ⟨S_, .f32⟩
  | 11 => ⟨S4x2048, .f32⟩
  | 12 => ⟨S4x2048x1, .f32⟩
  | 13 => ⟨S_, .f32⟩
  | 14 => ⟨S_, .f32⟩
  | 15 => ⟨S4x2048x1, .f32⟩
  | 16 => ⟨S4x2048x1, .f32⟩
  | 17 => ⟨S4x2048x768, .f32⟩
  | 18 => ⟨S4x2048x768, .f32⟩
  | 19 => ⟨S4x2048x768, .f32⟩
  | 20 => ⟨S_, .f32⟩
  | 21 => ⟨S4x2048, .f32⟩
  | 22 => ⟨S4x2048x1, .f32⟩
  | 23 => ⟨S_, .f32⟩
  | 24 => ⟨S_, .f32⟩
  | 25 => ⟨S4x2048x1, .f32⟩
  | 26 => ⟨S4x2048x1, .f32⟩
  | 27 => ⟨S4x2048x768, .f32⟩
  | 28 => ⟨S4x2048x768, .f32⟩
  | 29 => ⟨S4x2048x768, .f32⟩
  | 30 => ⟨S4x2048x768, .f32⟩
  | 31 => ⟨S4x2048x768, .f32⟩
  | 32 => ⟨S_, .f32⟩
  | 33 => ⟨S_, .f32⟩
  | 34 => ⟨S4x2048x768, .f32⟩
  | 35 => ⟨S4x2048x768, .f32⟩
  | 36 => ⟨S4x2048x768, .f32⟩
  | 37 => ⟨S4x2048x768, .f32⟩
  | 38 => ⟨S4x2048x768, .f32⟩
  | 39 => ⟨S_, .f32⟩
  | 40 => ⟨S_, .f32⟩
  | 41 => ⟨S4x2048x768, .f32⟩
  | 42 => ⟨S4x2048x768, .f32⟩
  | 43 => ⟨S4x2048x768, .f32⟩
  | 44 => ⟨S768, .f32⟩
  | 45 => ⟨S1x1x768, .f32⟩
  | 46 => ⟨S4x2048x768, .f32⟩
  | 47 => ⟨S4x2048x768, .f32⟩
  | 48 => ⟨S768, .f32⟩
  | 49 => ⟨S1x1x768, .f32⟩
  | 50 => ⟨S4x2048x768, .f32⟩
  | 51 => ⟨S4x2048x768, .f32⟩
  | 52 => ⟨S_, .f32⟩
  | 53 => ⟨S4x2048x768, .f32⟩
  | 54 => ⟨S4x2048x768, .f32⟩
  | 55 => ⟨S4x2048x768, .f32⟩
  | 56 => ⟨S_, .f32⟩
  | 57 => ⟨S4x2048x768, .f32⟩
  | 58 => ⟨S4x2048x768, .f32⟩
  | 59 => ⟨S4x2048x768, .f32⟩
  | 60 => ⟨S4x2048x768, .f32⟩
  | 61 => ⟨S4x2048x768, .f32⟩
  | 62 => ⟨S4x2048x768, .f32⟩
  | 63 => ⟨S_, .f32⟩
  | 64 => ⟨S_, .f32⟩
  | 65 => ⟨S4x2048x768, .f32⟩
  | 66 => ⟨S4x2048x768, .f32⟩
  | 67 => ⟨S4x2048x768, .f32⟩
  | _ => ⟨S4, .f32⟩

abbrev hbmTy (i : Nat) : BufTy := match i / 128 with
  | 0 => hbmTy0_0 i
  | 1 => hbmTy0_1 i
  | _ => ⟨S4, .f32⟩

abbrev bufTy : (tb : Table) → Fin (tcTables nBuf tb) → BufTy
  | .hbm, ⟨i, _⟩ => hbmTy i
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_cst : Ref sig .tc := ⟨.hbm, 33, rfl⟩
abbrev main_call1_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_values : Ref sig .tc := ⟨.hbm, 56, rfl⟩
abbrev main_indices : Ref sig .tc := ⟨.hbm, 57, rfl⟩
abbrev main_c : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_c_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_8 : Ref sig .tc := ⟨.hbm, 72, rfl⟩
abbrev main_v41 : Ref sig .tc := ⟨.hbm, 73, rfl⟩
abbrev main_v42 : Ref sig .tc := ⟨.hbm, 74, rfl⟩
abbrev main_c_9 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_11 : Ref sig .tc := ⟨.hbm, 91, rfl⟩
abbrev main_v57 : Ref sig .tc := ⟨.hbm, 92, rfl⟩
abbrev main_v58 : Ref sig .tc := ⟨.hbm, 93, rfl⟩
abbrev main_cst_12 : Ref sig .tc := ⟨.hbm, 94, rfl⟩
abbrev main_call2_v0 : Ref sig .tc := ⟨.hbm, 95, rfl⟩
abbrev main_call2_v1 : Ref sig .tc := ⟨.hbm, 96, rfl⟩
abbrev main_v59 : Ref sig .tc := ⟨.hbm, 97, rfl⟩
abbrev main_v60 : Ref sig .tc := ⟨.hbm, 98, rfl⟩
abbrev main_values_13 : Ref sig .tc := ⟨.hbm, 99, rfl⟩
abbrev main_indices_14 : Ref sig .tc := ⟨.hbm, 100, rfl⟩
abbrev main_c_15 : Ref sig .tc := ⟨.hbm, 101, rfl⟩
abbrev main_v61 : Ref sig .tc := ⟨.hbm, 102, rfl⟩
abbrev main_v62 : Ref sig .tc := ⟨.hbm, 103, rfl⟩
abbrev main_c_16 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_17 : Ref sig .tc := ⟨.hbm, 108, rfl⟩
abbrev main_v66 : Ref sig .tc := ⟨.hbm, 109, rfl⟩
abbrev main_v67 : Ref sig .tc := ⟨.hbm, 110, rfl⟩
abbrev main_c_18 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_19 : Ref sig .tc := ⟨.hbm, 115, rfl⟩
abbrev main_v71 : Ref sig .tc := ⟨.hbm, 116, rfl⟩
abbrev main_v72 : Ref sig .tc := ⟨.hbm, 117, rfl⟩
abbrev main_c_20 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_21 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_22 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_23 : Ref sig .tc := ⟨.hbm, 138, rfl⟩
abbrev main_v90 : Ref sig .tc := ⟨.hbm, 139, rfl⟩
abbrev main_v91 : Ref sig .tc := ⟨.hbm, 140, rfl⟩
abbrev main_cst_24 : Ref sig .tc := ⟨.hbm, 141, rfl⟩
abbrev main_call3_v0 : Ref sig .tc := ⟨.hbm, 142, rfl⟩
abbrev main_call3_v1 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_25 : Ref sig .tc := ⟨.hbm, 148, rfl⟩
abbrev main_v96 : Ref sig .tc := ⟨.hbm, 149, rfl⟩
abbrev main_v97 : Ref sig .tc := ⟨.hbm, 150, rfl⟩
abbrev main_cst_26 : Ref sig .tc := ⟨.hbm, 151, rfl⟩
abbrev main_call4_v0 : Ref sig .tc := ⟨.hbm, 152, rfl⟩
abbrev main_call4_v1 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_27 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_28 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_cst_29 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_30 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_31 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩

abbrev nD : Nat := 1
abbrev τ : Topo := Topo.v7x

variable {F : FTy → Type} [FloatOps F]
-- ==== Kernel3.lean ====
abbrev S4 : Shape := ⟨1, ![4]⟩
abbrev S1x768 : Shape := ⟨2, ![1, 768]⟩
abbrev S4x1x2048 : Shape := ⟨3, ![4, 1, 2048]⟩
abbrev S4x2048x768 : Shape := ⟨3, ![4, 2048, 768]⟩
abbrev S1x1x2048 : Shape := ⟨3, ![1, 1, 2048]⟩
abbrev S1x2048x768 : Shape := ⟨3, ![1, 2048, 768]⟩
abbrev S1x256x768 : Shape := ⟨3, ![1, 256, 768]⟩
abbrev S1x1x256 : Shape := ⟨3, ![1, 1, 256]⟩
abbrev S256x2048 : Shape := ⟨2, ![256, 2048]⟩
abbrev S256x768 : Shape := ⟨2, ![256, 768]⟩
abbrev S2048x768 : Shape := ⟨2, ![2048, 768]⟩
abbrev S256x256 : Shape := ⟨2, ![256, 256]⟩
abbrev S1x256 : Shape := ⟨2, ![1, 256]⟩
abbrev S256x1 : Shape := ⟨2, ![256, 1]⟩
abbrev S256x512 : Shape := ⟨2, ![256, 512]⟩
abbrev S256 : Shape := ⟨1, ![256]⟩
abbrev S1x512x768 : Shape := ⟨3, ![1, 512, 768]⟩
abbrev S512x768 : Shape := ⟨2, ![512, 768]⟩
abbrev S256x1024 : Shape := ⟨2, ![256, 1024]⟩
abbrev S1x1024x768 : Shape := ⟨3, ![1, 1024, 768]⟩
abbrev S1024x768 : Shape := ⟨2, ![1024, 768]⟩
abbrev S256x1536 : Shape := ⟨2, ![256, 1536]⟩
abbrev S1x1536x768 : Shape := ⟨3, ![1, 1536, 768]⟩
abbrev S1536x768 : Shape := ⟨2, ![1536, 768]⟩
abbrev S1 : Shape := ⟨1, ![1]⟩

abbrev nBuf : Space → Nat
  | .hbm => 11
  | .vmem => 23
  | .smem => 1
  | _ => 0

abbrev bufTy : (tb : Table) → Fin (tcTables nBuf tb) → BufTy
  | .hbm, ⟨0, _⟩ => ⟨S4, .f32⟩
  | .hbm, ⟨1, _⟩ => ⟨S1x768, .f32⟩
  | .hbm, ⟨2, _⟩ => ⟨S1x768, .f32⟩
  | .hbm, ⟨3, _⟩ => ⟨S4x1x2048, .f32⟩
  | .hbm, ⟨4, _⟩ => ⟨S4x2048x768, .f32⟩
  | .hbm, ⟨5, _⟩ => ⟨S4x2048x768, .bf16⟩
  | .hbm, ⟨6, _⟩ => ⟨S4x2048x768, .bf16⟩
  | .hbm, ⟨7, _⟩ => ⟨S4x2048x768, .f32⟩
  | .hbm, ⟨8, _⟩ => ⟨S4x2048x768, .bf16⟩
  | .hbm, ⟨9, _⟩ => ⟨S4x2048x768, .bf16⟩
  | .hbm, ⟨10, _⟩ => ⟨S4x1x2048, .f32⟩
  | .local _ .vmem, ⟨0, _⟩ => ⟨S1x768, .f32⟩
  | .local _ .vmem, ⟨1, _⟩ => ⟨S1x768, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x768, .f32⟩
  | .local _ .vmem, ⟨5, _⟩ => ⟨S1x2048x768, .f32⟩
  | .local _ .vmem, ⟨6, _⟩ => ⟨S1x2048x768, .bf16⟩
  | .local _ .vmem, ⟨7, _⟩ => ⟨S1x2048x768, .bf16⟩
  | .local _ .vmem, ⟨8, _⟩ => ⟨S1x2048x768, .bf16⟩
  | .local _ .vmem, ⟨9, _⟩ => ⟨S1x2048x768, .bf16⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .bf16⟩
  | .local _ .vmem, ⟨15, _⟩ => ⟨S1x256x768, .bf16⟩
  | .local _ .vmem, ⟨16, _⟩ => ⟨S1x256x768, .bf16⟩
  | .local _ .vmem, ⟨17, _⟩ => ⟨S1x256x768, .bf16⟩
  | .local _ .vmem, ⟨18, _⟩ => ⟨S1x1x256, .f32⟩
  | .local _ .vmem, ⟨19, _⟩ => ⟨S1x1x256, .f32⟩
  | .local _ .vmem, ⟨20, _⟩ => ⟨S256x2048, .f32⟩
  | .local _ .vmem, ⟨21, _⟩ => ⟨S256x768, .f32⟩
  | .local _ .vmem, ⟨22, _⟩ => ⟨S256x768, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_7 : BitVec 32 := 1#32
  ⟨c0_i32_5, v10, c1_i32_7⟩
def k0_mult1 (i : grid0.Coords) (k0_t1 : Fin (k0_t1_loop i).trips) : BitVec 32 :=
  let c0_i32_5 : BitVec 32 := 0#32
  let c1_i32_7 : BitVec 32 := 1#32
  let arg17 : BitVec 32 := Scf.iv c0_i32_5 c1_i32_7 k0_t1
  let c256_i32_52 : BitVec 32 := 256#32
  let v104 : BitVec 32 := Scalar.muli arg17 c256_i32_52
  v104
def k0_off1 (i : grid0.Coords) (k0_t1 : Fin (k0_t1_loop i).trips) : Fin 3 → Nat :=
  let c0_53 : Index := 0#32
  let c0_i32_5 : BitVec 32 := 0#32
  let c1_i32_7 : BitVec 32 := 1#32
  let arg17 : BitVec 32 := Scf.iv c0_i32_5 c1_i32_7 k0_t1
  let c256_i32_52 : BitVec 32 := 256#32
  let v104 : BitVec 32 := Scalar.muli arg17 c256_i32_52
  let v105 : BitVec 32 := v104
  let v106 : Index := Scalar.indexCast v105
  let c0_54 : Index := 0#32
  ![0, v106.toNat, 0]
def k0_off2 (i : grid0.Coords) (k0_t1 : Fin (k0_t1_loop i).trips) : Fin 3 → Nat :=
  let c0_56 : Index := 0#32
  let c0_57 : Index := 0#32
  let c0_i32_5 : BitVec 32 := 0#32
  let c1_i32_7 : BitVec 32 := 1#32
  let arg17 : BitVec 32 := Scf.iv c0_i32_5 c1_i32_7 k0_t1
  let c256_i32_52 : BitVec 32 := 256#32
  let v104 : BitVec 32 := Scalar.muli arg17 c256_i32_52
  let v105 : BitVec 32 := v104
  let v110 : Index := Scalar.indexCast v105
  ![0, 0, v110.toNat]
def k0_off3 (i : grid0.Coords) (k0_t1 : Fin (k0_t1_loop i).trips) : Fin 2 → Nat :=
  let c0_59 : Index := 0#32
  let c0_i32_5 : BitVec 32 := 0#32
  let c1_i32_7 : BitVec 32 := 1#32
  let arg17 : BitVec 32 := Scf.iv c0_i32_5 c1_i32_7 k0_t1
  let c256_i32_52 : BitVec 32 := 256#32
  let v104 : BitVec 32 := Scalar.muli arg17 c256_i32_52
  let v105 : BitVec 32 := v104
  let v124 : Index := Scalar.indexCast v105
  ![0, v124.toNat]
@[reducible] def k0_t2_loop (i : grid0.Coords) : Scf.Loop 32 :=
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let v7 : BitVec 32 := Scalar.addi c0_i32_5 v6
  let c1_i32_8 : BitVec 32 := 1#32
  ⟨v10, v7, c1_i32_8⟩
def k0_mult2 (i : grid0.Coords) (k0_t2 : Fin (k0_t2_loop i).trips) : BitVec 32 :=
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg17 : BitVec 32 := Scf.iv v10 c1_i32_8 k0_t2
  let c256_i32_52 : BitVec 32 := 256#32
  let v104 : BitVec 32 := Scalar.muli arg17 c256_i32_52
  v104
def k0_off4 (i : grid0.Coords) (k0_t2 : Fin (k0_t2_loop i).trips) : Fin 3 → Nat :=
  let c0_53 : Index := 0#32
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg17 : BitVec 32 := Scf.iv v10 c1_i32_8 k0_t2
  let c256_i32_52 : BitVec 32 := 256#32
  let v104 : BitVec 32 := Scalar.muli arg17 c256_i32_52
  let v105 : BitVec 32 := v104
  let v106 : Index := Scalar.indexCast v105
  let c0_54 : Index := 0#32
  ![0, v106.toNat, 0]
def k0_off5 (i : grid0.Coords) (k0_t2 : Fin (k0_t2_loop i).trips) : Fin 3 → Nat :=
  let c0_56 : Index := 0#32
  let c0_57 : Index := 0#32
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg17 : BitVec 32 := Scf.iv v10 c1_i32_8 k0_t2
  let c256_i32_52 : BitVec 32 := 256#32
  let v104 : BitVec 32 := Scalar.muli arg17 c256_i32_52
  let v105 : BitVec 32 := v104
  let v110 : Index := Scalar.indexCast v105
  ![0, 0, v110.toNat]
def k0_off6 (i : grid0.Coords) (k0_t2 : Fin (k0_t2_loop i).trips) : Fin 2 → Nat :=
  let c0_59 : Index := 0#32
  let c0_i32_5 : BitVec 32 := 0#32
  let arg1 : BitVec 32 := BitVec.ofNat 32 (i 1).val
  let c1_i32 : BitVec 32 := 1#32
  let v5 : BitVec 32 := Scalar.addi arg1 c1_i32
  let v6 : BitVec 32 := Scalar.subi v5 c0_i32_5
  let c1_i32_6 : BitVec 32 := 1#32
  let v8 : BitVec 32 := Scalar.divsi v6 c1_i32_6
  let v9 : BitVec 32 := Scalar.muli v8 c1_i32_6
  let v10 : BitVec 32 := Scalar.addi c0_i32_5 v9
  let c1_i32_8 : BitVec 32 := 1#32
  let arg17 : BitVec 32 := Scf.iv v10 c1_i32_8 k0_t2
  let c256_i32_52 : BitVec 32 := 256#32
  let v104 : BitVec 32 := Scalar.muli arg17 c256_i32_52
  let v105 : BitVec 32 := v104
  let v124 : Index := Scalar.indexCast v105
  ![0, v124.toNat]
def k0_cond1 (i : grid0.Coords) : BitVec 1 :=
  let arg1 : BitVec 32 := BitVec.ofNat 32 (i 1).val
  let c0_i32_12 : BitVec 32 := 0#32
  let v23 : BitVec 1 := Scalar.cmpi .sge arg1 c0_i32_12
  let c2_i32 : BitVec 32 := 2#32
  let v24 : BitVec 1 := Scalar.cmpi .slt arg1 c2_i32
  let v25 : BitVec 1 := Scalar.andi v23 v24
  let v26 : BitVec 32 := Scalar.extui v25
  let c0_i32_13 : BitVec 32 := 0#32
  let v27 : BitVec 1 := Scalar.cmpi .ne v26 c0_i32_13
  v27

@[reducible] def k0_t3_loop (i : grid0.Coords) : Scf.Loop 32 :=
  let arg1 : BitVec 32 := BitVec.ofNat 32 (i 1).val
  let c1_i32_52 : BitVec 32 := 1#32
  let v104 : BitVec 32 := Scalar.addi arg1 c1_i32_52
  let c2_i32_54 : BitVec 32 := 2#32
  let v105 : BitVec 32 := Scalar.subi c2_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_56 : BitVec 32 := 1#32
  ⟨v104, v109, c1_i32_56⟩
def k0_mult3 (i : grid0.Coords) (k0_t3 : Fin (k0_t3_loop i).trips) : BitVec 32 :=
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t3
  let c256_i32_81 : BitVec 32 := 256#32
  let v159 : BitVec 32 := Scalar.muli arg17 c256_i32_81
  v159
def k0_off7 (i : grid0.Coords) (k0_t3 : Fin (k0_t3_loop i).trips) : Fin 2 → Nat :=
  let c0_83 : Index := 0#32
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t3
  let c256_i32_81 : BitVec 32 := 256#32
  let v159 : BitVec 32 := Scalar.muli arg17 c256_i32_81
  let v160 : BitVec 32 := v159
  let v162 : Index := Scalar.indexCast v160
  ![0, v162.toNat]
@[reducible] def k0_t4_loop (i : grid0.Coords) : Scf.Loop 32 :=
  let arg1 : BitVec 32 := BitVec.ofNat 32 (i 1).val
  let c1_i32_52 : BitVec 32 := 1#32
  let v104 : BitVec 32 := Scalar.addi arg1 c1_i32_52
  let c2_i32_54 : BitVec 32 := 2#32
  let v105 : BitVec 32 := Scalar.subi c2_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let v106 : BitVec 32 := Scalar.addi v104 v105
  let c1_i32_57 : BitVec 32 := 1#32
  ⟨v109, v106, c1_i32_57⟩
def k0_mult4 (i : grid0.Coords) (k0_t4 : Fin (k0_t4_loop i).trips) : BitVec 32 :=
  let arg1 : BitVec 32 := BitVec.ofNat 32 (i 1).val
  let c1_i32_52 : BitVec 32 := 1#32
  let v104 : BitVec 32 := Scalar.addi arg1 c1_i32_52
  let c2_i32_54 : BitVec 32 := 2#32
  let v105 : BitVec 32 := Scalar.subi c2_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t4
  let c256_i32_81 : BitVec 32 := 256#32
  let v159 : BitVec 32 := Scalar.muli arg17 c256_i32_81
  v159
def k0_off8 (i : grid0.Coords) (k0_t4 : Fin (k0_t4_loop i).trips) : Fin 2 → Nat :=
  let c0_83 : Index := 0#32
  let arg1 : BitVec 32 := BitVec.ofNat 32 (i 1).val
  let c1_i32_52 : BitVec 32 := 1#32
  let v104 : BitVec 32 := Scalar.addi arg1 c1_i32_52
  let c2_i32_54 : BitVec 32 := 2#32
  let v105 : BitVec 32 := Scalar.subi c2_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t4
  let c256_i32_81 : BitVec 32 := 256#32
  let v159 : BitVec 32 := Scalar.muli arg17 c256_i32_81
  let v160 : BitVec 32 := v159
  let v162 : Index := Scalar.indexCast v160
  ![0, v162.toNat]
def k0_cond2 (i : grid0.Coords) : BitVec 1 :=
  let arg1 : BitVec 32 := BitVec.ofNat 32 (i 1).val
  let c2_i32_14 : BitVec 32 := 2#32
  let v28 : BitVec 1 := Scalar.cmpi .sge arg1 c2_i32_14
  let c4_i32_15 : BitVec 32 := 4#32
  let v29 : BitVec 1 := Scalar.cmpi .slt arg1 c4_i32_15
  let v30 : BitVec 1 := Scalar.andi v28 v29
  let v31 : BitVec 32 := Scalar.extui v30
  let c0_i32_16 : BitVec 32 := 0#32
  let v32 : BitVec 1 := Scalar.cmpi .ne v31 c0_i32_16
  v32

@[reducible] def k0_t5_loop (i : grid0.Coords) : Scf.Loop 32 :=
  let arg1 : BitVec 32 := BitVec.ofNat 32 (i 1).val
  let c1_i32_52 : BitVec 32 := 1#32
  let v104 : BitVec 32 := Scalar.addi arg1 c1_i32_52
  let c4_i32_54 : BitVec 32 := 4#32
  let v105 : BitVec 32 := Scalar.subi c4_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_56 : BitVec 32 := 1#32
  ⟨v104, v109, c1_i32_56⟩
def k0_mult5 (i : grid0.Coords) (k0_t5 : Fin (k0_t5_loop i).trips) : BitVec 32 :=
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t5
  let c256_i32_81 : BitVec 32 := 256#32
  let v159 : BitVec 32 := Scalar.muli arg17 c256_i32_81
  v159
def k0_off9 (i : grid0.Coords) (k0_t5 : Fin (k0_t5_loop i).trips) : Fin 2 → Nat :=
  let c0_83 : Index := 0#32
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t5
  let c256_i32_81 : BitVec 32 := 256#32
  let v159 : BitVec 32 := Scalar.muli arg17 c256_i32_81
  let v160 : BitVec 32 := v159
  let v162 : Index := Scalar.indexCast v160
  ![0, v162.toNat]
@[reducible] def k0_t6_loop (i : grid0.Coords) : Scf.Loop 32 :=
  let arg1 : BitVec 32 := BitVec.ofNat 32 (i 1).val
  let c1_i32_52 : BitVec 32 := 1#32
  let v104 : BitVec 32 := Scalar.addi arg1 c1_i32_52
  let c4_i32_54 : BitVec 32 := 4#32
  let v105 : BitVec 32 := Scalar.subi c4_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let v106 : BitVec 32 := Scalar.addi v104 v105
  let c1_i32_57 : BitVec 32 := 1#32
  ⟨v109, v106, c1_i32_57⟩
def k0_mult6 (i : grid0.Coords) (k0_t6 : Fin (k0_t6_loop i).trips) : BitVec 32 :=
  let arg1 : BitVec 32 := BitVec.ofNat 32 (i 1).val
  let c1_i32_52 : BitVec 32 := 1#32
  let v104 : BitVec 32 := Scalar.addi arg1 c1_i32_52
  let c4_i32_54 : BitVec 32 := 4#32
  let v105 : BitVec 32 := Scalar.subi c4_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t6
  let c256_i32_81 : BitVec 32 := 256#32
  let v159 : BitVec 32 := Scalar.muli arg17 c256_i32_81
  v159
def k0_off10 (i : grid0.Coords) (k0_t6 : Fin (k0_t6_loop i).trips) : Fin 2 → Nat :=
  let c0_83 : Index := 0#32
  let arg1 : BitVec 32 := BitVec.ofNat 32 (i 1).val
  let c1_i32_52 : BitVec 32 := 1#32
  let v104 : BitVec 32 := Scalar.addi arg1 c1_i32_52
  let c4_i32_54 : BitVec 32 := 4#32
  let v105 : BitVec 32 := Scalar.subi c4_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t6
  let c256_i32_81 : BitVec 32 := 256#32
  let v159 : BitVec 32 := Scalar.muli arg17 c256_i32_81
  let v160 : BitVec 32 := v159
  let v162 : Index := Scalar.indexCast v160
  ![0, v162.toNat]
def k0_cond3 (i : grid0.Coords) : BitVec 1 :=
  let arg1 : BitVec 32 := BitVec.ofNat 32 (i 1).val
  let c4_i32_17 : BitVec 32 := 4#32
  let v33 : BitVec 1 := Scalar.cmpi .sge arg1 c4_i32_17
  let c6_i32 : BitVec 32 := 6#32
  let v34 : BitVec 1 := Scalar.cmpi .slt arg1 c6_i32
  let v35 : BitVec 1 := Scalar.andi v33 v34
  let v36 : BitVec 32 := Scalar.extui v35
  let c0_i32_18 : BitVec 32 := 0#32
  let v37 : BitVec 1 := Scalar.cmpi .ne v36 c0_i32_18
  v37

@[reducible] def k0_t7_loop (i : grid0.Coords) : Scf.Loop 32 :=
  let arg1 : BitVec 32 := BitVec.ofNat 32 (i 1).val
  let c1_i32_52 : BitVec 32 := 1#32
  let v104 : BitVec 32 := Scalar.addi arg1 c1_i32_52
  let c6_i32_54 : BitVec 32 := 6#32
  let v105 : BitVec 32 := Scalar.subi c6_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_56 : BitVec 32 := 1#32
  ⟨v104, v109, c1_i32_56⟩
def k0_mult7 (i : grid0.Coords) (k0_t7 : Fin (k0_t7_loop i).trips) : BitVec 32 :=
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t7
  let c256_i32_81 : BitVec 32 := 256#32
  let v159 : BitVec 32 := Scalar.muli arg17 c256_i32_81
  v159
def k0_off11 (i : grid0.Coords) (k0_t7 : Fin (k0_t7_loop i).trips) : Fin 2 → Nat :=
  let c0_83 : Index := 0#32
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t7
  let c256_i32_81 : BitVec 32 := 256#32
  let v159 : BitVec 32 := Scalar.muli arg17 c256_i32_81
  let v160 : BitVec 32 := v159
  let v162 : Index := Scalar.indexCast v160
  ![0, v162.toNat]
@[reducible] def k0_t8_loop (i : grid0.Coords) : Scf.Loop 32 :=
  let arg1 : BitVec 32 := BitVec.ofNat 32 (i 1).val
  let c1_i32_52 : BitVec 32 := 1#32
  let v104 : BitVec 32 := Scalar.addi arg1 c1_i32_52
  let c6_i32_54 : BitVec 32 := 6#32
  let v105 : BitVec 32 := Scalar.subi c6_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let v106 : BitVec 32 := Scalar.addi v104 v105
  let c1_i32_57 : BitVec 32 := 1#32
  ⟨v109, v106, c1_i32_57⟩
def k0_mult8 (i : grid0.Coords) (k0_t8 : Fin (k0_t8_loop i).trips) : BitVec 32 :=
  let arg1 : BitVec 32 := BitVec.ofNat 32 (i 1).val
  let c1_i32_52 : BitVec 32 := 1#32
  let v104 : BitVec 32 := Scalar.addi arg1 c1_i32_52
  let c6_i32_54 : BitVec 32 := 6#32
  let v105 : BitVec 32 := Scalar.subi c6_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t8
  let c256_i32_81 : BitVec 32 := 256#32
  let v159 : BitVec 32 := Scalar.muli arg17 c256_i32_81
  v159
def k0_off12 (i : grid0.Coords) (k0_t8 : Fin (k0_t8_loop i).trips) : Fin 2 → Nat :=
  let c0_83 : Index := 0#32
  let arg1 : BitVec 32 := BitVec.ofNat 32 (i 1).val
  let c1_i32_52 : BitVec 32 := 1#32
  let v104 : BitVec 32 := Scalar.addi arg1 c1_i32_52
  let c6_i32_54 : BitVec 32 := 6#32
  let v105 : BitVec 32 := Scalar.subi c6_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t8
  let c256_i32_81 : BitVec 32 := 256#32
  let v159 : BitVec 32 := Scalar.muli arg17 c256_i32_81
  let v160 : BitVec 32 := v159
  let v162 : Index := Scalar.indexCast v160
  ![0, v162.toNat]
def k0_cond4 (i : grid0.Coords) : BitVec 1 :=
  let arg1 : BitVec 32 := BitVec.ofNat 32 (i 1).val
  let c6_i32_19 : BitVec 32 := 6#32
  let v38 : BitVec 1 := Scalar.cmpi .sge arg1 c6_i32_19
  let c8_i32 : BitVec 32 := 8#32
  let v39 : BitVec 1 := Scalar.cmpi .slt arg1 c8_i32
  let v40 : BitVec 1 := Scalar.andi v38 v39
  let v41 : BitVec 32 := Scalar.extui v40
  let c0_i32_20 : BitVec 32 := 0#32
  let v42 : BitVec 1 := Scalar.cmpi .ne v41 c0_i32_20
  v42

@[reducible] def k0_t9_loop (i : grid0.Coords) : Scf.Loop 32 :=
  let arg1 : BitVec 32 := BitVec.ofNat 32 (i 1).val
  let c1_i32_52 : BitVec 32 := 1#32
  let v104 : BitVec 32 := Scalar.addi arg1 c1_i32_52
  let c8_i32_54 : BitVec 32 := 8#32
  let v105 : BitVec 32 := Scalar.subi c8_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_56 : BitVec 32 := 1#32
  ⟨v104, v109, c1_i32_56⟩
def k0_mult9 (i : grid0.Coords) (k0_t9 : Fin (k0_t9_loop i).trips) : BitVec 32 :=
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t9
  let c256_i32_82 : BitVec 32 := 256#32
  let v162 : BitVec 32 := Scalar.muli arg17 c256_i32_82
  v162
def k0_off13 (i : grid0.Coords) (k0_t9 : Fin (k0_t9_loop i).trips) : Fin 2 → Nat :=
  let c0_84 : Index := 0#32
  let arg1 : BitVec 32 := BitVec.ofNat 32 (i 1).val
  let c1_i32_52 : BitVec 32 := 1#32
  let v104 : BitVec 32 := Scalar.addi arg1 c1_i32_52
  let c1_i32_56 : BitVec 32 := 1#32
  let arg17 : BitVec 32 := Scf.iv v104 c1_i32_56 k0_t9
  let c256_i32_82 : BitVec 32 := 256#32
  let v162 : BitVec 32 := Scalar.muli arg17 c256_i32_82
  let v163 : BitVec 32 := v162
  let v165 : Index := Scalar.indexCast v163
  ![0, v165.toNat]
@[reducible] def k0_t10_loop (i : grid0.Coords) : Scf.Loop 32 :=
  let arg1 : BitVec 32 := BitVec.ofNat 32 (i 1).val
  let c1_i32_52 : BitVec 32 := 1#32
  let v104 : BitVec 32 := Scalar.addi arg1 c1_i32_52
  let c8_i32_54 : BitVec 32 := 8#32
  let v105 : BitVec 32 := Scalar.subi c8_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let v106 : BitVec 32 := Scalar.addi v104 v105
  let c1_i32_57 : BitVec 32 := 1#32
  ⟨v109, v106, c1_i32_57⟩
def k0_mult10 (i : grid0.Coords) (k0_t10 : Fin (k0_t10_loop i).trips) : BitVec 32 :=
  let arg1 : BitVec 32 := BitVec.ofNat 32 (i 1).val
  let c1_i32_52 : BitVec 32 := 1#32
  let v104 : BitVec 32 := Scalar.addi arg1 c1_i32_52
  let c8_i32_54 : BitVec 32 := 8#32
  let v105 : BitVec 32 := Scalar.subi c8_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t10
  let c256_i32_82 : BitVec 32 := 256#32
  let v162 : BitVec 32 := Scalar.muli arg17 c256_i32_82
  v162
def k0_off14 (i : grid0.Coords) (k0_t10 : Fin (k0_t10_loop i).trips) : Fin 2 → Nat :=
  let c0_84 : Index := 0#32
  let arg1 : BitVec 32 := BitVec.ofNat 32 (i 1).val
  let c1_i32_52 : BitVec 32 := 1#32
  let v104 : BitVec 32 := Scalar.addi arg1 c1_i32_52
  let c8_i32_54 : BitVec 32 := 8#32
  let v105 : BitVec 32 := Scalar.subi c8_i32_54 v104
  let c1_i32_55 : BitVec 32 := 1#32
  let v107 : BitVec 32 := Scalar.divsi v105 c1_i32_55
  let v108 : BitVec 32 := Scalar.muli v107 c1_i32_55
  let v109 : BitVec 32 := Scalar.addi v104 v108
  let c1_i32_57 : BitVec 32 := 1#32
  let arg17 : BitVec 32 := Scf.iv v109 c1_i32_57 k0_t10
  let c256_i32_82 : BitVec 32 := 256#32
  let v162 : BitVec 32 := Scalar.muli arg17 c256_i32_82
  let v163 : BitVec 32 := v162
  let v165 : Index := Scalar.indexCast v163
  ![0, v165.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3Ideal.lean ====
variable {F : FTy → Type} [FloatOps F] [Named F]
def κ : String → Option EReal := fun
  | "above" => some ⊤
  | "below" => some ⊥
  | "neg" => some ⊥
  | "pos" => some ⊤
  | _ => none
-- ==== Reference3Ideal.lean ====
abbrev S4 : Shape := ⟨1, ![4]⟩
abbrev S1x768 : Shape := ⟨2, ![1, 768]⟩
abbrev S4x1x2048 : Shape := ⟨3, ![4, 1, 2048]⟩
abbrev S4x2048x768 : Shape := ⟨3, ![4, 2048, 768]⟩
abbrev S1 : Shape := ⟨1, ![1]⟩
abbrev S_ : Shape := ⟨0, ![]⟩
abbrev S4x2048 : Shape := ⟨2, ![4, 2048]⟩
abbrev S4x2048x1 : Shape := ⟨3, ![4, 2048, 1]⟩
abbrev S4x768x2048 : Shape := ⟨3, ![4, 768, 2048]⟩
abbrev S4x2048x2048 : Shape := ⟨3, ![4, 2048, 2048]⟩
abbrev S2048x2048 : Shape := ⟨2, ![2048, 2048]⟩
abbrev S1x2048x2048 : Shape := ⟨3, ![1, 2048, 2048]⟩
abbrev S4x1x1 : Shape := ⟨3, ![4, 1, 1]⟩
abbrev S2048 : Shape := ⟨1, ![2048]⟩
abbrev S1x2048x1 : Shape := ⟨3, ![1, 2048, 1]⟩
abbrev S4x2048x4 : Shape := ⟨3, ![4, 2048, 4]⟩
abbrev S4x2048x4x1 : Shape := ⟨4, ![4, 2048, 4, 1]⟩
abbrev S4x2048x4x3 : Shape := ⟨4, ![4, 2048, 4, 3]⟩
abbrev S4x2048x2 : Shape := ⟨3, ![4, 2048, 2]⟩
abbrev S4x2048x2x1 : Shape := ⟨4, ![4, 2048, 2, 1]⟩
abbrev S4x2048x2x3 : Shape := ⟨4, ![4, 2048, 2, 3]⟩
abbrev S768 : Shape := ⟨1, ![768]⟩
abbrev S1x1x768 : Shape := ⟨3, ![1, 1, 768]⟩

abbrev nBuf : Space → Nat
  | .hbm => 196
  | .vmem => 0
  | .smem => 0
  | _ => 0

abbrev hbmTy0_0 (i : Nat) : BufTy := match i % 128 with
  | 0 => ⟨S4, .f32⟩
  | 1 => ⟨S1x768, .f32⟩
  | 2 => ⟨S1x768, .f32⟩
  | 3 => ⟨S4x1x2048, .f32⟩
  | 4 => ⟨S4x2048x768, .f32⟩
  | 5 => ⟨S4x2048x768, .bf16⟩
  | 6 => ⟨S4x2048x768, .bf16⟩
  | 7 => ⟨S1, .f32⟩
  | 8 => ⟨S_, .f32⟩
  | 9 => ⟨S1, .f32⟩
  | 10 => ⟨S_, .f32⟩
  | 11 => ⟨S1, .f32⟩
  | 12 => ⟨S_, .f32⟩
  | 13 => ⟨S4x2048x768, .f32⟩
  | 14 => ⟨S_, .f32⟩
  | 15 => ⟨S4x2048, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x768, .f32⟩
  | 22 => ⟨S4x2048x768, .f32⟩
  | 23 => ⟨S4x768x2048, .f32⟩
  | 24 => ⟨S4x2048x2048, .f32⟩
  | 25 => ⟨S_, .f32⟩
  | 26 => ⟨S2048x2048, .f32⟩
  | 27 => ⟨S2048x2048, .i32⟩
  | 28 => ⟨S_, .i32⟩
  | 29 => ⟨S2048x2048, .i32⟩
  | 30 => ⟨S2048x2048, .i32⟩
  | 31 => ⟨S2048x2048, .i32⟩
  | 32 => ⟨S2048x2048, .i1⟩
  | 33 => ⟨S_, .f32⟩
  | 34 => ⟨S2048x2048, .f32⟩
  | 35 => ⟨S2048x2048, .f32⟩
  | 36 => ⟨S1x2048x2048, .f32⟩
  | 37 => ⟨S4x2048x2048, .f32⟩
  | 38 => ⟨S4x2048x2048, .f32⟩
  | 39 => ⟨S_, .f32⟩
  | 40 => ⟨S2048x2048, .f32⟩
  | 41 => ⟨S2048x2048, .f32⟩
  | 42 => ⟨S_, .f32⟩
  | 43 => ⟨S2048x2048, .f32⟩
  | 44 => ⟨S2048x2048, .f32⟩
  | 45 => ⟨S1x2048x2048, .f32⟩
  | 46 => ⟨S4x2048x2048, .f32⟩
  | 47 => ⟨S4x2048x2048, .f32⟩
  | 48 => ⟨S_, .f32⟩
  | 49 => ⟨S4x2048x2048, .f32⟩
  | 50 => ⟨S_, .f32⟩
  | 51 => ⟨S4x2048x2048, .f32⟩
  | 52 => ⟨S4, .i32⟩
  | 53 => ⟨S4x1x1, .i32⟩
  | 54 => ⟨S2048, .i32⟩
  | 55 => ⟨S1x2048x1, .i32⟩
  | 56 => ⟨S4x2048x4, .f32⟩
  | 57 => ⟨S4x2048x4, .i32⟩
  | 58 => ⟨S_, .i32⟩
  | 59 => ⟨S4x1x1, .i32⟩
  | 60 => ⟨S4x1x1, .i1⟩
  | 61 => ⟨S_, .i32⟩
  | 62 => ⟨S4x1x1, .i32⟩
  | 63 => ⟨S4x1x1, .i32⟩
  | 64 => ⟨S4x1x1, .i32⟩
  | 65 => ⟨S_, .i32⟩
  | 66 => ⟨S1x2048x1, .i32⟩
  | 67 => ⟨S1x2048x1, .i1⟩
  | 68 => ⟨S_, .i32⟩
  | 69 => ⟨S1x2048x1, .i32⟩
  | 70 => ⟨S1x2048x1, .i32⟩
  | 71 => ⟨S1x2048x1, .i32⟩
  | 72 => ⟨S_, .i32⟩
  | 73 => ⟨S4x2048x4, .i32⟩
  | 74 => ⟨S4x2048x4, .i1⟩
  | 75 => ⟨S_, .i32⟩
  | 76 => ⟨S4x2048x4, .i32⟩
  | 77 => ⟨S4x2048x4, .i32⟩
  | 78 => ⟨S4x2048x4, .i32⟩
  | 79 => ⟨S4x2048x4, .i32⟩
  | 80 => ⟨S4x2048x4, .i32⟩
  | 81 => ⟨S4x2048x4x1, .i32⟩
  | 82 => ⟨S4x2048x4x1, .i32⟩
  | 83 => ⟨S4x2048x4x1, .i32⟩
  | 84 => ⟨S4x2048x4x3, .i32⟩
  | 85 => ⟨S_, .f32⟩
  | 86 => ⟨S4x2048x4, .f32⟩
  | 87 => ⟨S4x2048x2048, .f32⟩
  | 88 => ⟨S1x2048x2048, .f32⟩
  | 89 => ⟨S4x2048x2048, .f32⟩
  | 90 => ⟨S4x2048x2048, .f32⟩
  | 91 => ⟨S_, .f32⟩
  | 92 => ⟨S4x2048x2048, .f32⟩
  | 93 => ⟨S4x2048x2048, .i1⟩
  | 94 => ⟨S_, .f32⟩
  | 95 => ⟨S_, .f32⟩
  | 96 => ⟨S4x2048x2048, .f32⟩
  | 97 => ⟨S4x2048x2048, .f32⟩
  | 98 => ⟨S4x2048x2048, .f32⟩
  | 99 => ⟨S4x2048x2, .f32⟩
  | 100 => ⟨S4x2048x2, .i32⟩
  | 101 => ⟨S_, .i32⟩
  | 102 => ⟨S4x1x1, .i32⟩
  | 103 => ⟨S4x1x1, .i1⟩
  | 104 => ⟨S_, .i32⟩
  | 105 => ⟨S4x1x1, .i32⟩
  | 106 => ⟨S4x1x1, .i32⟩
  | 107 => ⟨S4x1x1, .i32⟩
  | 108 => ⟨S_, .i32⟩
  | 109 => ⟨S1x2048x1, .i32⟩
  | 110 => ⟨S1x2048x1, .i1⟩
  | 111 => ⟨S_, .i32⟩
  | 112 => ⟨S1x2048x1, .i32⟩
  | 113 => ⟨S1x2048x1, .i32⟩
  | 114 => ⟨S1x2048x1, .i32⟩
  | 115 => ⟨S_, .i32⟩
  | 116 => ⟨S4x2048x2, .i32⟩
  | 117 => ⟨S4x2048x2, .i1⟩
  | 118 => ⟨S_, .i32⟩
  | 119 => ⟨S4x2048x2, .i32⟩
  | 120 => ⟨S4x2048x2, .i32⟩
  | 121 => ⟨S4x2048x2, .i32⟩
  | 122 => ⟨S4x2048x2, .i32⟩
  | 123 => ⟨S4x2048x2, .i32⟩
  | 124 => ⟨S4x2048x2x1, .i32⟩
  | 125 => ⟨S4x2048x2x1, .i32⟩
  | 126 => ⟨S4x2048x2x1, .i32⟩
  | 127 => ⟨S4x2048x2x3, .i32⟩
  | _ => ⟨S4, .f32⟩

abbrev hbmTy0_1 (i : Nat) : BufTy := match i % 128 with
  | 0 => ⟨S_, .f32⟩
  | 1 => ⟨S4x2048x2, .f32⟩
  | 2 => ⟨S4x2048x2048, .f32⟩
  | 3 => ⟨S1x2048x2048, .f32⟩
  | 4 => ⟨S4x2048x2048, .f32⟩
  | 5 => ⟨S4x2048x2048, .f32⟩
  | 6 => ⟨S_, .f32⟩
  | 7 => ⟨S4x2048x2048, .f32⟩
  | 8 => ⟨S4x2048x2048, .f32⟩
  | 9 => ⟨S4x2048x2048, .f32⟩
  | 10 => ⟨S_, .f32⟩
  | 11 => ⟨S4x2048, .f32⟩
  | 12 => ⟨S4x2048x1, .f32⟩
  | 13 => ⟨S_, .f32⟩
  | 14 => ⟨S_, .f32⟩
  | 15 => ⟨S4x2048x1, .f32⟩
  | 16 => ⟨S4x2048x1, .f32⟩
  | 17 => ⟨S4x2048x768, .f32⟩
  | 18 => ⟨S4x2048x768, .f32⟩
  | 19 => ⟨S4x2048x768, .f32⟩
  | 20 => ⟨S_, .f32⟩
  | 21 => ⟨S4x2048, .f32⟩
  | 22 => ⟨S4x2048x1, .f32⟩
  | 23 => ⟨S_, .f32⟩
  | 24 => ⟨S_, .f32⟩
  | 25 => ⟨S4x2048x1, .f32⟩
  | 26 => ⟨S4x2048x1, .f32⟩
  | 27 => ⟨S4x2048x768, .f32⟩
  | 28 => ⟨S4x2048x768, .f32⟩
  | 29 => ⟨S4x2048x768, .f32⟩
  | 30 => ⟨S4x2048x768, .f32⟩
  | 31 => ⟨S4x2048x768, .f32⟩
  | 32 => ⟨S_, .f32⟩
  | 33 => ⟨S_, .f32⟩
  | 34 => ⟨S4x2048x768, .f32⟩
  | 35 => ⟨S4x2048x768, .f32⟩
  | 36 => ⟨S4x2048x768, .f32⟩
  | 37 => ⟨S4x2048x768, .f32⟩
  | 38 => ⟨S4x2048x768, .f32⟩
  | 39 => ⟨S_, .f32⟩
  | 40 => ⟨S_, .f32⟩
  | 41 => ⟨S4x2048x768, .f32⟩
  | 42 => ⟨S4x2048x768, .f32⟩
  | 43 => ⟨S4x2048x768, .f32⟩
  | 44 => ⟨S768, .f32⟩
  | 45 => ⟨S1x1x768, .f32⟩
  | 46 => ⟨S4x2048x768, .f32⟩
  | 47 => ⟨S4x2048x768, .f32⟩
  | 48 => ⟨S768, .f32⟩
  | 49 => ⟨S1x1x768, .f32⟩
  | 50 => ⟨S4x2048x768, .f32⟩
  | 51 => ⟨S4x2048x768, .f32⟩
  | 52 => ⟨S_, .f32⟩
  | 53 => ⟨S4x2048x768, .f32⟩
  | 54 => ⟨S4x2048x768, .f32⟩
  | 55 => ⟨S4x2048x768, .f32⟩
  | 56 => ⟨S_, .f32⟩
  | 57 => ⟨S4x2048x768, .f32⟩
  | 58 => ⟨S4x2048x768, .f32⟩
  | 59 => ⟨S4x2048x768, .f32⟩
  | 60 => ⟨S4x2048x768, .f32⟩
  | 61 => ⟨S4x2048x768, .f32⟩
  | 62 => ⟨S4x2048x768, .f32⟩
  | 63 => ⟨S_, .f32⟩
  | 64 => ⟨S_, .f32⟩
  | 65 => ⟨S4x2048x768, .f32⟩
  | 66 => ⟨S4x2048x768, .f32⟩
  | 67 => ⟨S4x2048x768, .f32⟩
  | _ => ⟨S4, .f32⟩

abbrev hbmTy (i : Nat) : BufTy := match i / 128 with
  | 0 => hbmTy0_0 i
  | 1 => hbmTy0_1 i
  | _ => ⟨S4, .f32⟩

abbrev bufTy : (tb : Table) → Fin (tcTables nBuf tb) → BufTy
  | .hbm, ⟨i, _⟩ => hbmTy i
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_cst : Ref sig .tc := ⟨.hbm, 33, rfl⟩
abbrev main_call1_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_values : Ref sig .tc := ⟨.hbm, 56, rfl⟩
abbrev main_indices : Ref sig .tc := ⟨.hbm, 57, rfl⟩
abbrev main_c : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_c_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_8 : Ref sig .tc := ⟨.hbm, 72, rfl⟩
abbrev main_v41 : Ref sig .tc := ⟨.hbm, 73, rfl⟩
abbrev main_v42 : Ref sig .tc := ⟨.hbm, 74, rfl⟩
abbrev main_c_9 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_11 : Ref sig .tc := ⟨.hbm, 91, rfl⟩
abbrev main_v57 : Ref sig .tc := ⟨.hbm, 92, rfl⟩
abbrev main_v58 : Ref sig .tc := ⟨.hbm, 93, rfl⟩
abbrev main_cst_12 : Ref sig .tc := ⟨.hbm, 94, rfl⟩
abbrev main_call2_v0 : Ref sig .tc := ⟨.hbm, 95, rfl⟩
abbrev main_call2_v1 : Ref sig .tc := ⟨.hbm, 96, rfl⟩
abbrev main_v59 : Ref sig .tc := ⟨.hbm, 97, rfl⟩
abbrev main_v60 : Ref sig .tc := ⟨.hbm, 98, rfl⟩
abbrev main_values_13 : Ref sig .tc := ⟨.hbm, 99, rfl⟩
abbrev main_indices_14 : Ref sig .tc := ⟨.hbm, 100, rfl⟩
abbrev main_c_15 : Ref sig .tc := ⟨.hbm, 101, rfl⟩
abbrev main_v61 : Ref sig .tc := ⟨.hbm, 102, rfl⟩
abbrev main_v62 : Ref sig .tc := ⟨.hbm, 103, rfl⟩
abbrev main_c_16 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_17 : Ref sig .tc := ⟨.hbm, 108, rfl⟩
abbrev main_v66 : Ref sig .tc := ⟨.hbm, 109, rfl⟩
abbrev main_v67 : Ref sig .tc := ⟨.hbm, 110, rfl⟩
abbrev main_c_18 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_19 : Ref sig .tc := ⟨.hbm, 115, rfl⟩
abbrev main_v71 : Ref sig .tc := ⟨.hbm, 116, rfl⟩
abbrev main_v72 : Ref sig .tc := ⟨.hbm, 117, rfl⟩
abbrev main_c_20 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_21 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_22 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_23 : Ref sig .tc := ⟨.hbm, 138, rfl⟩
abbrev main_v90 : Ref sig .tc := ⟨.hbm, 139, rfl⟩
abbrev main_v91 : Ref sig .tc := ⟨.hbm, 140, rfl⟩
abbrev main_cst_24 : Ref sig .tc := ⟨.hbm, 141, rfl⟩
abbrev main_call3_v0 : Ref sig .tc := ⟨.hbm, 142, rfl⟩
abbrev main_call3_v1 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_25 : Ref sig .tc := ⟨.hbm, 148, rfl⟩
abbrev main_v96 : Ref sig .tc := ⟨.hbm, 149, rfl⟩
abbrev main_v97 : Ref sig .tc := ⟨.hbm, 150, rfl⟩
abbrev main_cst_26 : Ref sig .tc := ⟨.hbm, 151, rfl⟩
abbrev main_call4_v0 : Ref sig .tc := ⟨.hbm, 152, rfl⟩
abbrev main_call4_v1 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_27 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_28 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_cst_29 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_30 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_31 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩

abbrev nD : Nat := 1
abbrev τ : Topo := Topo.v7x

variable {F : FTy → Type} [FloatOps F]
-- ==== Proof.Kernel.Point.lean ====
module

public import proofs.«01_k».proof.Proof.Gen.Kernel.Frame
public import proofs.«01_k».proof.Proof.Gen.Kernel.Loops
public import proofs.«01_k».proof.Proof.Gen.Kernel.Points
public import Idealize.ShloMosaic.Lib.Pipeline.ValueKit.Basic
public import Idealize.ShloMosaic.Lib.WholeRead
public import Idealize.ShloMosaic.Lib.ValueIdx
public import Idealize.ShloMosaic.Lib.Tactic
public import Idealize.ShloMosaic.Lib.Claim

@[expose] public section

set_option maxRecDepth 16384

noncomputable section

namespace Cert.Kernel.Hand

open Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A row tile takes one of five branches. -/
theorem branches (i : grid0.Coords) : (k0_cond1 i = 1#1 ∧ ¬ k0_cond2 i = 1#1 ∧ ¬ k0_cond3 i = 1#1 ∧ ¬ k0_cond4 i = 1#1 ∧ ¬ (Scalar.cmpi .ne (Scalar.extui (Scalar.cmpi .eq (BitVec.ofNat 32 (i 1).val) 7#32)) 0#32) = 1#1)
    ∨ (¬ k0_cond1 i = 1#1 ∧ k0_cond2 i = 1#1 ∧ ¬ k0_cond3 i = 1#1 ∧ ¬ k0_cond4 i = 1#1 ∧ ¬ (Scalar.cmpi .ne (Scalar.extui (Scalar.cmpi .eq (BitVec.ofNat 32 (i 1).val) 7#32)) 0#32) = 1#1)
    ∨ (¬ k0_cond1 i = 1#1 ∧ ¬ k0_cond2 i = 1#1 ∧ k0_cond3 i = 1#1 ∧ ¬ k0_cond4 i = 1#1 ∧ ¬ (Scalar.cmpi .ne (Scalar.extui (Scalar.cmpi .eq (BitVec.ofNat 32 (i 1).val) 7#32)) 0#32) = 1#1)
    ∨ (¬ k0_cond1 i = 1#1 ∧ ¬ k0_cond2 i = 1#1 ∧ ¬ k0_cond3 i = 1#1 ∧ k0_cond4 i = 1#1 ∧ ¬ (Scalar.cmpi .ne (Scalar.extui (Scalar.cmpi .eq (BitVec.ofNat 32 (i 1).val) 7#32)) 0#32) = 1#1)
    ∨ (¬ k0_cond1 i = 1#1 ∧ ¬ k0_cond2 i = 1#1 ∧ ¬ k0_cond3 i = 1#1 ∧ k0_cond4 i = 1#1 ∧ (Scalar.cmpi .ne (Scalar.extui (Scalar.cmpi .eq (BitVec.ofNat 32 (i 1).val) 7#32)) 0#32) = 1#1) := by
  have hd : ∀ n : Fin 8, (Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ ¬ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ ¬ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ Scalar.cmpi .ne (Scalar.extui (Scalar.andi (Scalar.cmpi .sge (BitVec.ofNat 32 n.val) 4#32) (Scalar.cmpi .slt (BitVec.ofNat 32 n.val) 6#32))) 0#32 = 1#1 ∧ ¬ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ Scalar.cmpi .ne (Scalar.extui (Scalar.andi (Scalar.cmpi .sge (BitVec.ofNat 32 n.val) 6#32) (Scalar.cmpi .slt (BitVec.ofNat 32 n.val) 8#32))) 0#32 = 1#1 ∧ (Scalar.cmpi .ne (Scalar.extui (Scalar.cmpi .eq (BitVec.ofNat 32 n.val) 7#32)) 0#32) = 1#1) := by
    decide +kernel
  exact hd (i 1)

set_option maxHeartbeats 8000000 in
/-- One grid point: from any memrefs holding the nine blocks, the body ends and leaves them as they were. -/
theorem point (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S256x2048 .f32) (harg12 : arg12.IsWhole) (arg13 : Memref sig .tc .vmem S256x768 .f32) (harg13 : arg13.IsWhole) (arg14 : Memref sig .tc .vmem S256x768 .f32) (harg14 : arg14.IsWhole) (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14) K := by
  simp only [cc0__round_body_eq_skeleton]; unfold cc0__round_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  rcases branches i with ⟨hc1, hc2, hc3, hc4, hc5⟩ | ⟨hc1, hc2, hc3, hc4, hc5⟩ | ⟨hc1, hc2, hc3, hc4, hc5⟩ | ⟨hc1, hc2, hc3, hc4, hc5⟩ | ⟨hc1, hc2, hc3, hc4, hc5⟩
  all_goals
    sl_exec (disch := first | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand
-- ==== Proof.Kernel.Frame.lean ====
module

public import proofs.«01_k».proof.Proof.Kernel.Point
public import Idealize.ShloMosaic.Lib.Pipeline.ValueKit.Basic
public import Idealize.ShloMosaic.Lib.WholeRead
public import Idealize.ShloMosaic.Lib.ValueIdx
public import Idealize.ShloMosaic.Lib.Tactic
public import Idealize.ShloMosaic.Lib.Claim

@[expose] public section

set_option maxRecDepth 16384

noncomputable section

namespace Cert.Kernel.Hand

open Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The pipeline's proof data: the body leaves every input block as it is; of the output tile nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦA spec0 c
  q w := Pipeline.shareOf spec0 w
  owed _ := 0

theorem A_eq (c : Dev nD) (w) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = iblk m c 5 t := by dsimp only [dats]
theorem after_6 (c : Dev nD) (t) : (dats m 0 c).after 6 t = iblk m c 6 t := by dsimp only [dats]
theorem after_7 (c : Dev nD) (t) : (dats m 0 c).after 7 t = iblk m c 7 t := by dsimp only [dats]
theorem after_8 (c : Dev nD) (t) : (dats m 0 c).after 8 t = iblk m c 8 t := by dsimp only [dats]
theorem before_0 (c : Dev nD) (t) (d) : (dats m 0 c).before 0 t d = iblk m c 0 t := before0_0_of m (dats m 0 c) (A_eq m c 0) (after_0 m c) t d
theorem before_1 (c : Dev nD) (t) (d) : (dats m 0 c).before 1 t d = iblk m c 1 t := before0_1_of m (dats m 0 c) (A_eq m c 1) (after_1 m c) t d
theorem before_2 (c : Dev nD) (t) (d) : (dats m 0 c).before 2 t d = iblk m c 2 t := before0_2_of m (dats m 0 c) (A_eq m c 2) (after_2 m c) t d
theorem before_3 (c : Dev nD) (t) (d) : (dats m 0 c).before 3 t d = iblk m c 3 t := before0_3_of m (dats m 0 c) (A_eq m c 3) (after_3 m c) t d
theorem before_4 (c : Dev nD) (t) (d) : (dats m 0 c).before 4 t d = iblk m c 4 t := before0_4_of m (dats m 0 c) (A_eq m c 4) (after_4 m c) t d
theorem before_5 (c : Dev nD) (t) (d) : (dats m 0 c).before 5 t d = iblk m c 5 t := before0_5_of m (dats m 0 c) (A_eq m c 5) (after_5 m c) t d
theorem before_6 (c : Dev nD) (t) (d) : (dats m 0 c).before 6 t d = iblk m c 6 t := before0_6_of m (dats m 0 c) (A_eq m c 6) (after_6 m c) t d
theorem before_7 (c : Dev nD) (t) (d) : (dats m 0 c).before 7 t d = iblk m c 7 t := before0_7_of m (dats m 0 c) (A_eq m c 7) (after_7 m c) t d
theorem before_8 (c : Dev nD) (t) (d) : (dats m 0 c).before 8 t d = iblk m c 8 t := before0_8_of m (dats m 0 c) (A_eq m c 8) (after_8 m c) t d

/-- The scratch the launch keeps for the body: three buffers at some contents, and the generator's register. -/
theorem kept_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, window by window. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d))

set_option maxHeartbeats 1000000 in
theorem sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, kept_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (point c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; iexact H9
  isplitl [HS0]
  · iexact HS0
  isplitl [HS1]
  · iexact HS1
  isplitl [HS2]
  · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

theorem row (t : Fin cfg0.N) :
    defs₀ (F := F) .tc cfg0.body (cfg0.bodyArgs t (cfg0.slots t)) = bodyAt0 t := by
  unfold defs₀; rw [Defs.onTc_tc]

/-- The output is the one window whose contents the frame does not state. -/
def unsaid : Fin cfg0.W → Bool := fun | ⟨9, _⟩ => true | _ => false

theorem obligation (c : Dev nD) : BodyObligation (dats (F := F) m 0 c) (defs₀ (F := F)) Variants.none () Set.univ unsaid := fun t => by
  rw [bigSep_W0, bigSep_W0, row]
  exact triple_restated (sound m c t) rfl .rfl fun _ => .rfl

set_option backward.isDefEq.respectTransparency.types false in
/-- Every fair run of the program ends, the inputs as they were and the semaphores at zero. -/
theorem run_ends : θ_run defs (onTc (τ := τ) (main (F := F))) (s₀ m ρ) (fun r => (Pipeline.RDat.FramePost cfg0 (fun c => (dats m 0 c).toRForget unsaid) (V m)) r ∧ r.2.sem = fun _ => 0) :=
  Pipeline.θ_run_frame_forget_shared (Q' := _) cfgs (dats m) (0 : Fin 1) launch₀0 defs₀ Variants.none unsaid m ρ main
    (hbody := fun c => (obligation m c).loose) (hq := fun _ _ _ => rfl)
    (howed := fun _ _ => rfl) (V := V m) (hmain := hmain m Variants.none) (hA := A_eq m) (hΦ := fun _ _ => rfl)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1.arr_in c 0 rfl).trans ((A_eq m c 0).trans (V_main_arg0 m c)),
    (h.1.arr_in c 1 rfl).trans ((A_eq m c 1).trans (V_main_arg1 m c)),
    (h.1.arr_in c 2 rfl).trans ((A_eq m c 2).trans (V_main_arg2 m c)),
    (h.1.arr_in c 3 rfl).trans ((A_eq m c 3).trans (V_main_arg3 m c)),
    (h.1.arr_in c 7 rfl).trans ((A_eq m c 7).trans (V_main_arg4 m c)),
    (h.1.arr_in c 5 rfl).trans ((A_eq m c 5).trans (V_main_arg5 m c)),
    (h.1.arr_in c 6 rfl).trans ((A_eq m c 6).trans (V_main_arg6 m c)),
    (h.1.arr_in c 8 rfl).trans ((A_eq m c 8).trans (V_main_arg7 m c))⟩) (run_ends m ρ)

/-- The program ends, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (kept m ρ) ((θ_run defs _ _).mono (fun _ h => h.2) (run_ends m ρ))

end Cert.Kernel.Hand
-- ==== Proof.KernelIdeal.RunA.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Tactic

@[expose] public section

set_option maxRecDepth 16384

noncomputable section

namespace Cert.KernelIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runA (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S256x2048 .f32) (harg12 : arg12.IsWhole) (arg13 : Memref sig .tc .vmem S256x768 .f32) (harg13 : arg13.IsWhole) (arg14 : Memref sig .tc .vmem S256x768 .f32) (harg14 : arg14.IsWhole) (hc1 : k0_cond1 i = 1#1) (hc2 : ¬ k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (G : BufTy.Contents (Elt F) arg12.view.ty) :
    { L9 : List (View.Piece (Elt F) S1x256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (arg12.view.loc (c : Thread nD τ) ↦[arg12.view.set]{fullShare} G) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__round_body_eq_skeleton]; unfold cc0__round_body_skel
    simp only [k0_part15_eq_skeleton, k0_part16_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Hand
-- ==== Proof.KernelIdeal.RunB.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Tactic

@[expose] public section

set_option maxRecDepth 16384

noncomputable section

namespace Cert.KernelIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runB (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S256x2048 .f32) (harg12 : arg12.IsWhole) (arg13 : Memref sig .tc .vmem S256x768 .f32) (harg13 : arg13.IsWhole) (arg14 : Memref sig .tc .vmem S256x768 .f32) (harg14 : arg14.IsWhole) (hc1 : ¬ k0_cond1 i = 1#1) (hc2 : k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (G : BufTy.Contents (Elt F) arg12.view.ty) :
    { L9 : List (View.Piece (Elt F) S1x256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (arg12.view.loc (c : Thread nD τ) ↦[arg12.view.set]{fullShare} G) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__round_body_eq_skeleton]; unfold cc0__round_body_skel
    simp only [k0_part15_eq_skeleton, k0_part16_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Hand
-- ==== Proof.KernelIdeal.RunC.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Tactic

@[expose] public section

set_option maxRecDepth 16384

noncomputable section

namespace Cert.KernelIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runC (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S256x2048 .f32) (harg12 : arg12.IsWhole) (arg13 : Memref sig .tc .vmem S256x768 .f32) (harg13 : arg13.IsWhole) (arg14 : Memref sig .tc .vmem S256x768 .f32) (harg14 : arg14.IsWhole) (hc1 : ¬ k0_cond1 i = 1#1) (hc2 : ¬ k0_cond2 i = 1#1) (hc3 : k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (G : BufTy.Contents (Elt F) arg12.view.ty) :
    { L9 : List (View.Piece (Elt F) S1x256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (arg12.view.loc (c : Thread nD τ) ↦[arg12.view.set]{fullShare} G) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__round_body_eq_skeleton]; unfold cc0__round_body_skel
    simp only [k0_part15_eq_skeleton, k0_part16_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Hand
-- ==== Proof.KernelIdeal.RunD.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Tactic

@[expose] public section

set_option maxRecDepth 16384

noncomputable section

namespace Cert.KernelIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runD (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S256x2048 .f32) (harg12 : arg12.IsWhole) (arg13 : Memref sig .tc .vmem S256x768 .f32) (harg13 : arg13.IsWhole) (arg14 : Memref sig .tc .vmem S256x768 .f32) (harg14 : arg14.IsWhole) (hc1 : ¬ k0_cond1 i = 1#1) (hc2 : ¬ k0_cond2 i = 1#1) (hc3 : ¬ k0_cond3 i = 1#1) (hc4 : k0_cond4 i = 1#1) (hc5 : ¬ (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (G : BufTy.Contents (Elt F) arg12.view.ty) :
    { L9 : List (View.Piece (Elt F) S1x256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (arg12.view.loc (c : Thread nD τ) ↦[arg12.view.set]{fullShare} G) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__round_body_eq_skeleton]; unfold cc0__round_body_skel
    simp only [k0_part15_eq_skeleton, k0_part16_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Hand
-- ==== Proof.KernelIdeal.RunE.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Tactic

@[expose] public section

set_option maxRecDepth 16384

noncomputable section

namespace Cert.KernelIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runE (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S256x2048 .f32) (harg12 : arg12.IsWhole) (arg13 : Memref sig .tc .vmem S256x768 .f32) (harg13 : arg13.IsWhole) (arg14 : Memref sig .tc .vmem S256x768 .f32) (harg14 : arg14.IsWhole) (hc1 : ¬ k0_cond1 i = 1#1) (hc2 : ¬ k0_cond2 i = 1#1) (hc3 : ¬ k0_cond3 i = 1#1) (hc4 : k0_cond4 i = 1#1) (hc5 : (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (G : BufTy.Contents (Elt F) arg12.view.ty) :
    { L9 : List (View.Piece (Elt F) S1x256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (arg12.view.loc (c : Thread nD τ) ↦[arg12.view.set]{fullShare} G) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__round_body_eq_skeleton]; unfold cc0__round_body_skel
    simp only [k0_part15_eq_skeleton, k0_part16_eq_skeleton, k0_part12_eq_skeleton, k0_part13_eq_skeleton, k0_part14_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Hand
-- ==== Proof.KernelIdeal.Body.lean ====
module

public import proofs.«01_k».proof.Proof.KernelIdeal.RunA
public import proofs.«01_k».proof.Proof.KernelIdeal.RunB
public import proofs.«01_k».proof.Proof.KernelIdeal.RunC
public import proofs.«01_k».proof.Proof.KernelIdeal.RunD
public import proofs.«01_k».proof.Proof.KernelIdeal.RunE
public import Idealize.ShloMosaic.Lib.Pipeline.ValueKit.Basic
public import Idealize.ShloMosaic.Lib.WholeRead
public import Idealize.ShloMosaic.Lib.Tactic

@[expose] public section

set_option maxRecDepth 16384

noncomputable section

namespace Cert.KernelIdeal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The update of a row tile from its two messages: the blend with the old state, the gain and the bias, the activation, the
    momentum, and the scaled difference to the original rows. -/
def tail (x0 : Vec F S4 .f32) (x1 x2 : Vec F S1x768 .f32) (x7 x8 : Vec F S1x256x768 .f32) (mp mn : Vec F S256x768 .f32) : Vec F S1x256x768 .f32 :=
  k0_pay1 (k0_pay41 x7) (View.ld x0 (Rect.unit ![2] ![1] inb_S4_S1_2) (Shape.Idx.first (by decide)))
    (View.ld x0 (Rect.unit ![3] ![1] inb_S4_S1_3) (Shape.Idx.first (by decide)))
    (k0_pay53 (k0_pay41 x7) mp (View.ld x0 (Rect.unit ![0] ![1] inb_S4_S1_0) (Shape.Idx.first (by decide)))
      (View.ld x0 (Rect.unit ![1] ![1] inb_S4_S1_1) (Shape.Idx.first (by decide))) mn x1 x2) x8

/-- The message from the most similar earlier rows, the scores `s` kept to a width of 512. -/
def msg512 (i : grid0.Coords) (s : Vec F S256x512 .f32) (x5 x6 : Vec F S1x2048x768 .bf16) : Vec F S256x768 .f32 :=
  k0_pay48 (k0_pay9 (Scalar.muli (BitVec.ofNat 32 (i 1).val) 256#32) (k0_pay46 i)
    (k0_pay6 (k0_pay4 s) (k0_pay5 s)) (k0_pay7 (k0_pay4 s) (k0_pay5 s)) k0_pay8
    (View.ld x5 (Rect.unit (s := S1x2048x768) ![0, 0, 0] S1x512x768.size inb_S1x2048x768_S1x512x768_0_0_0))
    (View.ld x6 (Rect.unit (s := S1x2048x768) ![0, 0, 0] S1x512x768.size inb_S1x2048x768_S1x512x768_0_0_0)))

/-- The message from the most similar earlier rows, the scores `s` kept to a width of 1024. -/
def msg1024 (i : grid0.Coords) (s : Vec F S256x1024 .f32) (x5 x6 : Vec F S1x2048x768 .bf16) : Vec F S256x768 .f32 :=
  k0_pay49 (k0_pay17 (Scalar.muli (BitVec.ofNat 32 (i 1).val) 256#32) (k0_pay46 i)
    (k0_pay14 (k0_pay12 s) (k0_pay13 s)) (k0_pay15 (k0_pay12 s) (k0_pay13 s)) k0_pay16
    (View.ld x5 (Rect.unit (s := S1x2048x768) ![0, 0, 0] S1x1024x768.size inb_S1x2048x768_S1x1024x768_0_0_0))
    (View.ld x6 (Rect.unit (s := S1x2048x768) ![0, 0, 0] S1x1024x768.size inb_S1x2048x768_S1x1024x768_0_0_0)))

/-- The message from the most similar earlier rows, the scores `s` kept to a width of 1536. -/
def msg1536 (i : grid0.Coords) (s : Vec F S256x1536 .f32) (x5 x6 : Vec F S1x2048x768 .bf16) : Vec F S256x768 .f32 :=
  k0_pay50 (k0_pay25 (Scalar.muli (BitVec.ofNat 32 (i 1).val) 256#32) (k0_pay46 i)
    (k0_pay22 (k0_pay20 s) (k0_pay21 s)) (k0_pay23 (k0_pay20 s) (k0_pay21 s)) k0_pay24
    (View.ld x5 (Rect.unit (s := S1x2048x768) ![0, 0, 0] S1x1536x768.size inb_S1x2048x768_S1x1536x768_0_0_0))
    (View.ld x6 (Rect.unit (s := S1x2048x768) ![0, 0, 0] S1x1536x768.size inb_S1x2048x768_S1x1536x768_0_0_0)))

/-- The message from the most similar earlier rows, the scores `s` kept to a width of 2048. -/
def msg2048 (i : grid0.Coords) (s : Vec F S256x2048 .f32) (x5 x6 : Vec F S1x2048x768 .bf16) : Vec F S256x768 .f32 :=
  k0_pay51 (k0_pay40 (Scalar.muli (BitVec.ofNat 32 (i 1).val) 256#32) (k0_pay46 i)
    (k0_pay36 (k0_pay34 s) (k0_pay35 s)) (k0_pay37 (k0_pay34 s) (k0_pay35 s)) k0_pay38
    (View.ld x5 (Rect.unit (s := S1x2048x768) ![0, 0, 0] S1x2048x768.size inb_S1x2048x768_S1x2048x768_0_0_0))
    (View.ld x6 (Rect.unit (s := S1x2048x768) ![0, 0, 0] S1x2048x768.size inb_S1x2048x768_S1x2048x768_0_0_0)))

/-- The scores left after the most similar rows of the widest tiles are struck out. -/
def struck (s : Vec F S256x2048 .f32) : Vec F S256x2048 .f32 :=
  k0_pay39 (k0_pay36 (k0_pay34 s) (k0_pay35 s)) (k0_pay37 (k0_pay34 s) (k0_pay35 s)) k0_pay38

/-- The message from the least similar rows, for the tile of the last rows, over the scores `s` left after the first selection. -/
def far (i : grid0.Coords) (x4 : Vec F S1x2048x768 .f32) (s : Vec F S256x2048 .f32) : Vec F S256x768 .f32 :=
  k0_pay52 (k0_pay42 x4) (k0_pay45 i) (k0_pay29 (k0_pay45 i) (k0_pay26 s) (k0_pay27 (k0_pay45 i) s) (k0_pay28 (k0_pay45 i) s))
    k0_pay30 k0_pay31

variable (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S256x2048 .f32) (harg12 : arg12.IsWhole) (arg13 : Memref sig .tc .vmem S256x768 .f32) (harg13 : arg13.IsWhole) (arg14 : Memref sig .tc .vmem S256x768 .f32) (harg14 : arg14.IsWhole)

/-- What the body leaves in the output tile, case A. -/
theorem runA_eq (hc1 : k0_cond1 i = 1#1) (hc2 : ¬ k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (G : BufTy.Contents (Elt F) arg12.view.ty) :
    (runA c i arg2 harg2 arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 x6 x7 x8 G).1 = [⟨Rect.unit ![0, 0, 0] ![1, 256, 768] inb_S1x256x768_S1x256x768_0_0_0,
      tail x0 x1 x2 x7 x8 (msg512 i (runA.sl.v95 c i arg2 harg2 arg3 harg3 arg4 harg4 arg5 harg5 arg6 harg6 arg7 harg7 arg8 harg8 arg9 harg9 arg10 harg10 arg11 harg11 arg12 harg12 arg13 harg13 arg14 harg14 hc1 x3 x4 x7 G) x5 x6) k0_pay47⟩] := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.v43, runA.sl.v51, runA.sl.HS1_1, runA.sl.HS2_1, View.readAt_eq_ld,
    harg2.read_unread, harg3.read_unread, harg4.read_unread, harg6.read_unread, harg7.read_unread, harg8.read_unread, harg9.read_unread, harg10.read_unread]
  rw [View.ld_unit_lit inb_S1x256x768_S1x256x768_0_0_0 x7 (by decide), View.ld_unit_lit inb_S1x256x768_S1x256x768_0_0_0 x8 (by decide),
    View.ld_unit_lit inb_S1x768_S1x768_0_0 x1 (by decide), View.ld_unit_lit inb_S1x768_S1x768_0_0 x2 (by decide),
    View.readCov_unit_lit arg13.view inb_S256x768_S256x768_0_0 _ (by decide), View.readCov_unit_lit arg14.view inb_S256x768_S256x768_0_0 _ (by decide)]
  rfl

/-- What the body leaves in the output tile, case B. -/
theorem runB_eq (hc1 : ¬ k0_cond1 i = 1#1) (hc2 : k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (G : BufTy.Contents (Elt F) arg12.view.ty) :
    (runB c i arg2 harg2 arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 x6 x7 x8 G).1 = [⟨Rect.unit ![0, 0, 0] ![1, 256, 768] inb_S1x256x768_S1x256x768_0_0_0,
      tail x0 x1 x2 x7 x8 (msg1024 i (runB.sl.v95 c i arg2 harg2 arg3 harg3 arg4 harg4 arg5 harg5 arg6 harg6 arg7 harg7 arg8 harg8 arg9 harg9 arg10 harg10 arg11 harg11 arg12 harg12 arg13 harg13 arg14 harg14 hc2 x3 x4 x7 G) x5 x6) k0_pay47⟩] := by
  unfold runB
  dsimp only
  simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.v43, runB.sl.v51, runB.sl.HS1_1, runB.sl.HS2_1, View.readAt_eq_ld,
    harg2.read_unread, harg3.read_unread, harg4.read_unread, harg6.read_unread, harg7.read_unread, harg8.read_unread, harg9.read_unread, harg10.read_unread]
  rw [View.ld_unit_lit inb_S1x256x768_S1x256x768_0_0_0 x7 (by decide), View.ld_unit_lit inb_S1x256x768_S1x256x768_0_0_0 x8 (by decide),
    View.ld_unit_lit inb_S1x768_S1x768_0_0 x1 (by decide), View.ld_unit_lit inb_S1x768_S1x768_0_0 x2 (by decide),
    View.readCov_unit_lit arg13.view inb_S256x768_S256x768_0_0 _ (by decide), View.readCov_unit_lit arg14.view inb_S256x768_S256x768_0_0 _ (by decide)]
  rfl

/-- What the body leaves in the output tile, case C. -/
theorem runC_eq (hc1 : ¬ k0_cond1 i = 1#1) (hc2 : ¬ k0_cond2 i = 1#1) (hc3 : k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (G : BufTy.Contents (Elt F) arg12.view.ty) :
    (runC c i arg2 harg2 arg3 harg3 arg4 harg4 arg5 harg5 arg6 harg6 arg7 harg7 arg8 harg8 arg9 harg9 arg10 harg10 arg11 harg11 arg12 harg12 arg13 harg13 arg14 harg14 hc1 hc2 hc3 hc4 x0 x1 x2 x3 x4 x5 x6 x7 x8 G).1 = [⟨Rect.unit ![0, 0, 0] ![1, 256, 768] inb_S1x256x768_S1x256x768_0_0_0,
      tail x0 x1 x2 x7 x8 (msg1536 i (runC.sl.v95 c i arg2 harg2 arg3 harg3 arg4 harg4 arg5 harg5 arg6 harg6 arg7 harg7 arg8 harg8 arg9 harg9 arg10 harg10 arg11 harg11 arg12 harg12 arg13 harg13 arg14 harg14 hc3 x3 x4 x7 G) x5 x6) k0_pay47⟩] := by
  unfold runC
  dsimp only
  simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.v43, runC.sl.v51, runC.sl.HS1_1, runC.sl.HS2_1, View.readAt_eq_ld,
    harg2.read_unread, harg3.read_unread, harg4.read_unread, harg6.read_unread, harg7.read_unread, harg8.read_unread, harg9.read_unread, harg10.read_unread]
  rw [View.ld_unit_lit inb_S1x256x768_S1x256x768_0_0_0 x7 (by decide), View.ld_unit_lit inb_S1x256x768_S1x256x768_0_0_0 x8 (by decide),
    View.ld_unit_lit inb_S1x768_S1x768_0_0 x1 (by decide), View.ld_unit_lit inb_S1x768_S1x768_0_0 x2 (by decide),
    View.readCov_unit_lit arg13.view inb_S256x768_S256x768_0_0 _ (by decide), View.readCov_unit_lit arg14.view inb_S256x768_S256x768_0_0 _ (by decide)]
  rfl

/-- What the body leaves in the output tile, case D. -/
theorem runD_eq (hc1 : ¬ k0_cond1 i = 1#1) (hc2 : ¬ k0_cond2 i = 1#1) (hc3 : ¬ k0_cond3 i = 1#1) (hc4 : k0_cond4 i = 1#1) (hc5 : ¬ (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (G : BufTy.Contents (Elt F) arg12.view.ty) :
    (runD c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 x0 x1 x2 x3 x4 x5 x6 x7 x8 G).1 = [⟨Rect.unit ![0, 0, 0] ![1, 256, 768] inb_S1x256x768_S1x256x768_0_0_0,
      tail x0 x1 x2 x7 x8 (msg2048 i (runD.sl.v95 c i arg2 harg2 arg3 harg3 arg4 harg4 arg5 harg5 arg6 harg6 arg7 harg7 arg8 harg8 arg9 harg9 arg10 harg10 arg11 harg11 arg12 harg12 arg13 harg13 arg14 harg14 hc4 x3 x4 x7 G) x5 x6) k0_pay47⟩] := by
  unfold runD
  dsimp only
  simp only [runD.sl.r, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.v43, runD.sl.v51, runD.sl.HS1_1, runD.sl.HS2_1, View.readAt_eq_ld,
    harg2.read_unread, harg3.read_unread, harg4.read_unread, harg6.read_unread, harg7.read_unread, harg8.read_unread, harg9.read_unread, harg10.read_unread]
  rw [View.ld_unit_lit inb_S1x256x768_S1x256x768_0_0_0 x7 (by decide), View.ld_unit_lit inb_S1x256x768_S1x256x768_0_0_0 x8 (by decide),
    View.ld_unit_lit inb_S1x768_S1x768_0_0 x1 (by decide), View.ld_unit_lit inb_S1x768_S1x768_0_0 x2 (by decide),
    View.readCov_unit_lit arg13.view inb_S256x768_S256x768_0_0 _ (by decide), View.readCov_unit_lit arg14.view inb_S256x768_S256x768_0_0 _ (by decide)]
  rfl

/-- What the body leaves in the output tile, case E. -/
theorem runE_eq (hc1 : ¬ k0_cond1 i = 1#1) (hc2 : ¬ k0_cond2 i = 1#1) (hc3 : ¬ k0_cond3 i = 1#1) (hc4 : k0_cond4 i = 1#1) (hc5 : (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (G : BufTy.Contents (Elt F) arg12.view.ty) :
    (runE c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 x0 x1 x2 x3 x4 x5 x6 x7 x8 G).1 = [⟨Rect.unit ![0, 0, 0] ![1, 256, 768] inb_S1x256x768_S1x256x768_0_0_0,
      tail x0 x1 x2 x7 x8 (msg2048 i (runE.sl.v95 c i arg2 harg2 arg3 harg3 arg4 harg4 arg5 harg5 arg6 harg6 arg7 harg7 arg8 harg8 arg9 harg9 arg10 harg10 arg11 harg11 arg12 harg12 arg13 harg13 arg14 harg14 hc4 x3 x4 x7 G) x5 x6) (far i x4 (struck (runE.sl.v95 c i arg2 harg2 arg3 harg3 arg4 harg4 arg5 harg5 arg6 harg6 arg7 harg7 arg8 harg8 arg9 harg9 arg10 harg10 arg11 harg11 arg12 harg12 arg13 harg13 arg14 harg14 hc4 x3 x4 x7 G)))⟩] := by
  unfold runE
  dsimp only
  simp only [runE.sl.r, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.r_14, runE.sl.r_15, runE.sl.r_16, runE.sl.r_17, runE.sl.v43, runE.sl.v51, runE.sl.HS1_1, runE.sl.HS2_1, runE.sl.HS2_2, View.readAt_eq_ld,
    harg2.read_unread, harg3.read_unread, harg4.read_unread, harg6.read_unread, harg7.read_unread, harg8.read_unread, harg9.read_unread, harg10.read_unread]
  rw [View.ld_unit_lit inb_S1x256x768_S1x256x768_0_0_0 x7 (by decide), View.ld_unit_lit inb_S1x256x768_S1x256x768_0_0_0 x8 (by decide),
    View.ld_unit_lit inb_S1x768_S1x768_0_0 x1 (by decide), View.ld_unit_lit inb_S1x768_S1x768_0_0 x2 (by decide),
    View.readCov_unit_lit arg13.view inb_S256x768_S256x768_0_0 _ (by decide), View.readCov_cons_toLoadRect, View.ld_unit_lit inb_S1x2048x768_S1x2048x768_0_0_0 x4 (by decide)]
  rfl

end Cert.KernelIdeal.Hand
-- ==== Proof.KernelIdeal.Scores.lean ====
module

public import proofs.«01_k».proof.Proof.KernelIdeal.Body
public import Idealize.ShloMosaic.Lib.Pipeline.ValueKit.Basic
public import Idealize.ShloMosaic.Lib.WholeRead
public import Idealize.ShloMosaic.Lib.ValueIdx
public import Idealize.ShloMosaic.Lib.Tactic

@[expose] public section

set_option maxRecDepth 16384

noncomputable section

namespace Cert.KernelIdeal.Hand

open Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The loops' bounds and offsets -/

theorem trips1 (i : grid0.Coords) : (k0_t1_loop i).trips = (i 1).val + 1 := by
  have h : ∀ n : Fin 8, Scf.trips 0#32 (Scalar.addi 0#32 (Scalar.muli (Scalar.divsi (Scalar.subi (Scalar.addi (BitVec.ofNat 32 n.val) 1#32) 0#32) 1#32) 1#32)) 1#32 = n.val + 1 := by
    decide +kernel
  exact h (i 1)

theorem lt8 (i : grid0.Coords) : (i 1).val < 8 := (i 1).isLt

/-- The word of a tile's first column. -/
theorem word256 {k : ℕ} (h : k < 8) : (Scalar.indexCast (Scalar.muli (Scf.iv 0#32 1#32 k) 256#32) : Index).toNat = 256 * k := by
  have h' : ∀ k : Fin 8, (Scalar.indexCast (Scalar.muli (Scf.iv 0#32 1#32 k.val) 256#32) : Index).toNat = 256 * k.val := by
    decide +kernel
  exact h' ⟨k, h⟩

theorem k1_lt (i : grid0.Coords) (k : Fin (k0_t1_loop i).trips) : k.val < 8 := by
  have := k.isLt; have := trips1 i; have := lt8 i; omega

theorem off1_eq (i : grid0.Coords) (k : Fin (k0_t1_loop i).trips) : k0_off1 i k = ![0, 256 * k.val, 0] := by
  show ![0, (Scalar.indexCast (Scalar.muli (Scf.iv 0#32 1#32 k.val) 256#32) : Index).toNat, 0] = _
  rw [word256 (k1_lt i k)]
theorem off2_eq (i : grid0.Coords) (k : Fin (k0_t1_loop i).trips) : k0_off2 i k = ![0, 0, 256 * k.val] := by
  show ![0, 0, (Scalar.indexCast (Scalar.muli (Scf.iv 0#32 1#32 k.val) 256#32) : Index).toNat] = _
  rw [word256 (k1_lt i k)]
theorem off3_eq (i : grid0.Coords) (k : Fin (k0_t1_loop i).trips) : k0_off3 i k = ![0, 256 * k.val] := by
  show ![0, (Scalar.indexCast (Scalar.muli (Scf.iv 0#32 1#32 k.val) 256#32) : Index).toNat] = _
  rw [word256 (k1_lt i k)]

theorem trips2 (i : grid0.Coords) : (k0_t2_loop i).trips = 0 := by
  have h : ∀ n : Fin 8, Scf.trips (Scalar.addi 0#32 (Scalar.muli (Scalar.divsi (Scalar.subi (Scalar.addi (BitVec.ofNat 32 n.val) 1#32) 0#32) 1#32) 1#32))
      (Scalar.addi 0#32 (Scalar.subi (Scalar.addi (BitVec.ofNat 32 n.val) 1#32) 0#32)) 1#32 = 0 := by
    decide +kernel
  exact h (i 1)

/-- The first word of a filling loop, its bound `u`, and what is left over. -/
theorem fillTrips (u : Fin 9) (n : Fin 8) (h : n.val < u.val) :
    Scf.trips (Scalar.addi (BitVec.ofNat 32 n.val) 1#32)
      (Scalar.addi (Scalar.addi (BitVec.ofNat 32 n.val) 1#32) (Scalar.muli (Scalar.divsi (Scalar.subi (BitVec.ofNat 32 u.val) (Scalar.addi (BitVec.ofNat 32 n.val) 1#32)) 1#32) 1#32)) 1#32
    = u.val - (n.val + 1) := by
  revert u n; decide +kernel

theorem fillRest (u : Fin 9) (n : Fin 8) (h : n.val < u.val) :
    Scf.trips (Scalar.addi (Scalar.addi (BitVec.ofNat 32 n.val) 1#32) (Scalar.muli (Scalar.divsi (Scalar.subi (BitVec.ofNat 32 u.val) (Scalar.addi (BitVec.ofNat 32 n.val) 1#32)) 1#32) 1#32))
      (Scalar.addi (Scalar.addi (BitVec.ofNat 32 n.val) 1#32) (Scalar.subi (BitVec.ofNat 32 u.val) (Scalar.addi (BitVec.ofNat 32 n.val) 1#32))) 1#32
    = 0 := by
  revert u n; decide +kernel

theorem fillWord (n k : ℕ) (hn : n < 8) (hk : k < 8) :
    (Scalar.indexCast (Scalar.muli (Scf.iv (Scalar.addi (BitVec.ofNat 32 n) 1#32) 1#32 k) 256#32) : Index).toNat = 256 * (n + 1 + k) := by
  have h : ∀ n k : Fin 8, (Scalar.indexCast (Scalar.muli (Scf.iv (Scalar.addi (BitVec.ofNat 32 n.val) 1#32) 1#32 k.val) 256#32) : Index).toNat = 256 * (n.val + 1 + k.val) := by
    decide +kernel
  exact h ⟨n, hn⟩ ⟨k, hk⟩

theorem tile_of_cond1 (i : grid0.Coords) (h : k0_cond1 i = 1#1) : 0 ≤ (i 1).val ∧ (i 1).val < 2 := by
  have hd : ∀ n : Fin 8, Scalar.cmpi .ne (Scalar.extui (Scalar.andi (Scalar.cmpi .sge (BitVec.ofNat 32 n.val) 0#32) (Scalar.cmpi .slt (BitVec.ofNat 32 n.val) 2#32))) 0#32 = 1#1 → 0 ≤ n.val ∧ n.val < 2 := by
    decide +kernel
  exact hd (i 1) h
theorem trips3 (i : grid0.Coords) (h : k0_cond1 i = 1#1) : (k0_t3_loop i).trips = 2 - ((i 1).val + 1) :=
  fillTrips 2 (i 1) (tile_of_cond1 i h).2
theorem trips4 (i : grid0.Coords) (h : k0_cond1 i = 1#1) : (k0_t4_loop i).trips = 0 :=
  fillRest 2 (i 1) (tile_of_cond1 i h).2
theorem off7_eq (i : grid0.Coords) (h : k0_cond1 i = 1#1) (k : Fin (k0_t3_loop i).trips) : k0_off7 i k = ![0, 256 * ((i 1).val + 1 + k.val)] := by
  show ![0, (Scalar.indexCast (Scalar.muli (Scf.iv (Scalar.addi (BitVec.ofNat 32 (i 1).val) 1#32) 1#32 k.val) 256#32) : Index).toNat] = _
  rw [fillWord _ _ (lt8 i) (by have := k.isLt; have := trips3 i h; omega)]

theorem tile_of_cond2 (i : grid0.Coords) (h : k0_cond2 i = 1#1) : 2 ≤ (i 1).val ∧ (i 1).val < 4 := by
  have hd : ∀ n : Fin 8, Scalar.cmpi .ne (Scalar.extui (Scalar.andi (Scalar.cmpi .sge (BitVec.ofNat 32 n.val) 2#32) (Scalar.cmpi .slt (BitVec.ofNat 32 n.val) 4#32))) 0#32 = 1#1 → 2 ≤ n.val ∧ n.val < 4 := by
    decide +kernel
  exact hd (i 1) h
theorem trips5 (i : grid0.Coords) (h : k0_cond2 i = 1#1) : (k0_t5_loop i).trips = 4 - ((i 1).val + 1) :=
  fillTrips 4 (i 1) (tile_of_cond2 i h).2
theorem trips6 (i : grid0.Coords) (h : k0_cond2 i = 1#1) : (k0_t6_loop i).trips = 0 :=
  fillRest 4 (i 1) (tile_of_cond2 i h).2
theorem off9_eq (i : grid0.Coords) (h : k0_cond2 i = 1#1) (k : Fin (k0_t5_loop i).trips) : k0_off9 i k = ![0, 256 * ((i 1).val + 1 + k.val)] := by
  show ![0, (Scalar.indexCast (Scalar.muli (Scf.iv (Scalar.addi (BitVec.ofNat 32 (i 1).val) 1#32) 1#32 k.val) 256#32) : Index).toNat] = _
  rw [fillWord _ _ (lt8 i) (by have := k.isLt; have := trips5 i h; omega)]

theorem tile_of_cond3 (i : grid0.Coords) (h : k0_cond3 i = 1#1) : 4 ≤ (i 1).val ∧ (i 1).val < 6 := by
  have hd : ∀ n : Fin 8, Scalar.cmpi .ne (Scalar.extui (Scalar.andi (Scalar.cmpi .sge (BitVec.ofNat 32 n.val) 4#32) (Scalar.cmpi .slt (BitVec.ofNat 32 n.val) 6#32))) 0#32 = 1#1 → 4 ≤ n.val ∧ n.val < 6 := by
    decide +kernel
  exact hd (i 1) h
theorem trips7 (i : grid0.Coords) (h : k0_cond3 i = 1#1) : (k0_t7_loop i).trips = 6 - ((i 1).val + 1) :=
  fillTrips 6 (i 1) (tile_of_cond3 i h).2
theorem trips8 (i : grid0.Coords) (h : k0_cond3 i = 1#1) : (k0_t8_loop i).trips = 0 :=
  fillRest 6 (i 1) (tile_of_cond3 i h).2
theorem off11_eq (i : grid0.Coords) (h : k0_cond3 i = 1#1) (k : Fin (k0_t7_loop i).trips) : k0_off11 i k = ![0, 256 * ((i 1).val + 1 + k.val)] := by
  show ![0, (Scalar.indexCast (Scalar.muli (Scf.iv (Scalar.addi (BitVec.ofNat 32 (i 1).val) 1#32) 1#32 k.val) 256#32) : Index).toNat] = _
  rw [fillWord _ _ (lt8 i) (by have := k.isLt; have := trips7 i h; omega)]

theorem tile_of_cond4 (i : grid0.Coords) (h : k0_cond4 i = 1#1) : 6 ≤ (i 1).val ∧ (i 1).val < 8 := by
  have hd : ∀ n : Fin 8, Scalar.cmpi .ne (Scalar.extui (Scalar.andi (Scalar.cmpi .sge (BitVec.ofNat 32 n.val) 6#32) (Scalar.cmpi .slt (BitVec.ofNat 32 n.val) 8#32))) 0#32 = 1#1 → 6 ≤ n.val ∧ n.val < 8 := by
    decide +kernel
  exact hd (i 1) h
theorem trips9 (i : grid0.Coords) (h : k0_cond4 i = 1#1) : (k0_t9_loop i).trips = 8 - ((i 1).val + 1) :=
  fillTrips 8 (i 1) (tile_of_cond4 i h).2
theorem trips10 (i : grid0.Coords) (h : k0_cond4 i = 1#1) : (k0_t10_loop i).trips = 0 :=
  fillRest 8 (i 1) (tile_of_cond4 i h).2
theorem off13_eq (i : grid0.Coords) (h : k0_cond4 i = 1#1) (k : Fin (k0_t9_loop i).trips) : k0_off13 i k = ![0, 256 * ((i 1).val + 1 + k.val)] := by
  show ![0, (Scalar.indexCast (Scalar.muli (Scf.iv (Scalar.addi (BitVec.ofNat 32 (i 1).val) 1#32) 1#32 k.val) 256#32) : Index).toNat] = _
  rw [fillWord _ _ (lt8 i) (by have := k.isLt; have := trips9 i h; omega)]

/-! ## The scores a row tile works on -/

/-- The scores of tile row `i`: for the columns of a tile not past the row tile the masked products times the inverse norms, and the
    mask's value past it. -/
def scores (i : grid0.Coords) (x3 : Vec F S1x1x2048 .f32) (x4 : Vec F S1x2048x768 .f32) (x7 : Vec F S1x256x768 .f32) : Vec F S256x2048 .f32 := fun y =>
  if h : (y 1).val / 256 < (k0_t1_loop i).trips then
    k0_pay43 i x7 ⟨(y 1).val / 256, h⟩ (View.ld x4 (Rect.unit (s := S1x2048x768) (k0_off1 i ⟨(y 1).val / 256, h⟩) S1x256x768.size (k0_off1_inb i ⟨(y 1).val / 256, h⟩)))
      (View.ld x3 (Rect.unit (s := S1x1x2048) (k0_off2 i ⟨(y 1).val / 256, h⟩) S1x1x256.size (k0_off2_inb i ⟨(y 1).val / 256, h⟩)))
      (ix2 (y 0) ⟨(y 1).val % 256, Nat.mod_lt _ (by decide)⟩)
  else Named.named κ "neg" 0xF149F2CA#32

/-- The pieces of a listed loop: those of its trips. -/
theorem mem_pieces {α : Type} {N : ℕ} (pb : ℕ → List α) (L : Fin N → List α) (h0 : pb 0 = []) (hs : ∀ k : Fin N, pb (k.val + 1) = L k ++ pb k.val) :
    ∀ n ≤ N, ∀ p, p ∈ pb n ↔ ∃ k : Fin N, k.val < n ∧ p ∈ L k
  | 0, _, p => by simp [h0]
  | n + 1, hn, p => by
    rw [hs ⟨n, hn⟩, List.mem_append, mem_pieces pb L h0 hs n (by omega) p]
    constructor
    · rintro (h | ⟨k, hk, h⟩)
      · exact ⟨⟨n, hn⟩, by simp, h⟩
      · exact ⟨k, by omega, h⟩
    · rintro ⟨k, hk, h⟩
      rcases Nat.lt_succ_iff_lt_or_eq.mp hk with hk | hk
      · exact .inr ⟨k, hk, h⟩
      · left; rwa [show (⟨n, hn⟩ : Fin N) = k from Fin.ext hk.symm]

/-- A load after stores that all are blocks of one function, where they cover it. -/
theorem readAt_of_pieces {sig' : RefSig} {κ' : Kind} {sp : Space} {s : Shape} {e : EltTy} (v : View sig' κ' sp s e) (f : v.ty.Contents (Elt F)) (S : s.Idx → Elt F e)
    (L : List (View.Piece (Elt F) s e)) (r : Rect s) (h : ∀ p ∈ L, ∀ x : p.1.shape.Idx, p.2 x = S (p.1.emb x)) (hc : ∀ x, ∃ p ∈ L, r.emb x ∈ p.1.set) :
    v.readAt (Elt F) r.toLoadRect (v.writes (Elt F) f L) = View.ld S r := by
  funext x
  exact (View.read_writes_apply_eq_canon v f (r.emb x) L (hc x)).trans (View.canon_apply_of_pieces S L h _ (hc x))

theorem fill_block (i : grid0.Coords) (x3 : Vec F S1x1x2048 .f32) (x4 : Vec F S1x2048x768 .f32) (x7 : Vec F S1x256x768 .f32) {off : Fin 2 → ℕ} {k : ℕ} (hoff : off = ![0, 256 * ((i 1).val + 1 + k)])
    (inb : ∀ a, off a + S256x256.size a ≤ S256x2048.size a) (x : (Rect.unit (s := S256x2048) off S256x256.size inb).shape.Idx) :
    (k0_pay2 (F := F)) x = scores i x3 x4 x7 ((Rect.unit (s := S256x2048) off S256x256.size inb).emb x) := by
  subst hoff
  unfold scores
  rw [dif_neg]
  · rfl
  · rw [trips1]
    show ¬ (256 * ((i 1).val + 1 + k) + 1 * (x 1).val) / 256 < _
    omega

/-- The scores in a column of tile `k`. -/
theorem scores_at (i : grid0.Coords) (x3 : Vec F S1x1x2048 .f32) (x4 : Vec F S1x2048x768 .f32) (x7 : Vec F S1x256x768 .f32) (y : S256x2048.Idx) (k : Fin (k0_t1_loop i).trips)
    (hk : (y 1).val / 256 = k.val) :
    scores i x3 x4 x7 y = k0_pay43 i x7 k (View.ld x4 (Rect.unit (s := S1x2048x768) (k0_off1 i k) S1x256x768.size (k0_off1_inb i k)))
      (View.ld x3 (Rect.unit (s := S1x1x2048) (k0_off2 i k) S1x1x256.size (k0_off2_inb i k))) (ix2 (y 0) ⟨(y 1).val % 256, Nat.mod_lt _ (by decide)⟩) := by
  obtain ⟨q, hq⟩ := k
  subst hk
  unfold scores
  rw [dif_pos hq]

theorem product_block (i : grid0.Coords) (x3 : Vec F S1x1x2048 .f32) (x4 : Vec F S1x2048x768 .f32) (x7 : Vec F S1x256x768 .f32) (k : Fin (k0_t1_loop i).trips)
    (inb : ∀ a, k0_off3 i k a + S256x256.size a ≤ S256x2048.size a) (x : (Rect.unit (s := S256x2048) (k0_off3 i k) S256x256.size inb).shape.Idx) :
    k0_pay43 i x7 k (View.ld x4 (Rect.unit (s := S1x2048x768) (k0_off1 i k) S1x256x768.size (k0_off1_inb i k))) (View.ld x3 (Rect.unit (s := S1x1x2048) (k0_off2 i k) S1x1x256.size (k0_off2_inb i k))) x
      = scores i x3 x4 x7 ((Rect.unit (s := S256x2048) (k0_off3 i k) S256x256.size inb).emb x) := by
  have hx0 : (x 0).val < 256 := (x 0).isLt
  have hx1 : (x 1).val < 256 := (x 1).isLt
  have e1 : (((Rect.unit (s := S256x2048) (k0_off3 i k) S256x256.size inb).emb x) 1).val = 256 * k.val + (x 1).val := by
    have h : k0_off3 i k 1 = 256 * k.val := congrFun (off3_eq i k) 1
    show k0_off3 i k 1 + 1 * (x 1).val = _
    omega
  have e0 : (((Rect.unit (s := S256x2048) (k0_off3 i k) S256x256.size inb).emb x) 0).val = (x 0).val := by
    have h : k0_off3 i k 0 = 0 := congrFun (off3_eq i k) 0
    show k0_off3 i k 0 + 1 * (x 0).val = _
    omega
  rw [scores_at i x3 x4 x7 _ k (by omega)]
  congr 1
  funext a
  match a with
  | ⟨0, _⟩ => exact Fin.ext e0.symm
  | ⟨1, _⟩ => exact Fin.ext (show (x 1).val = (((Rect.unit (s := S256x2048) (k0_off3 i k) S256x256.size inb).emb x) 1).val % 256 by omega)

/-! ## Each loop's pieces -/

/-- The scores are what a load finds after a row tile's products and fills, where those reach. -/
theorem loaded (i : grid0.Coords) (x3 : Vec F S1x1x2048 .f32) (x4 : Vec F S1x2048x768 .f32) (x7 : Vec F S1x256x768 .f32) {u N : ℕ}
    {sig' : RefSig} {κ' : Kind} {sp : Space} (v : View sig' κ' sp S256x2048 .f32) (f : v.ty.Contents (Elt F)) (r : Rect S256x2048)
    (pb1 pb3 : ℕ → List (View.Piece (Elt F) S256x2048 .f32)) (L1 : Fin (k0_t1_loop i).trips → List (View.Piece (Elt F) S256x2048 .f32))
    (L3 : Fin N → List (View.Piece (Elt F) S256x2048 .f32)) (h1 : pb1 0 = []) (s1 : ∀ k : Fin (k0_t1_loop i).trips, pb1 (k.val + 1) = L1 k ++ pb1 k.val)
    (h3 : pb3 0 = []) (s3 : ∀ k : Fin N, pb3 (k.val + 1) = L3 k ++ pb3 k.val)
    (e1 : ∀ k, L1 k = [⟨Rect.unit (s := S256x2048) (k0_off3 i k) S256x256.size (k0_off3_inb i k),
          k0_pay43 i x7 k (View.ld x4 (Rect.unit (s := S1x2048x768) (k0_off1 i k) S1x256x768.size (k0_off1_inb i k))) (View.ld x3 (Rect.unit (s := S1x1x2048) (k0_off2 i k) S1x1x256.size (k0_off2_inb i k)))⟩])
    (off : Fin N → Fin 2 → ℕ) (hoff : ∀ k, off k = ![0, 256 * ((i 1).val + 1 + k.val)]) (inb : ∀ k a, off k a + S256x256.size a ≤ S256x2048.size a)
    (e3 : ∀ k, L3 k = [⟨Rect.unit (s := S256x2048) (off k) S256x256.size (inb k), k0_pay2⟩])
    (hN : N = u - ((i 1).val + 1)) (hr : ∀ x, ((r.emb x) 1).val < 256 * u) :
    v.readAt (Elt F) r.toLoadRect (v.writes (Elt F) f ([] ++ (pb3 N ++ ([] ++ pb1 (k0_t1_loop i).trips)))) = View.ld (scores i x3 x4 x7) r := by
  have m1 := mem_pieces pb1 L1 h1 s1 _ le_rfl
  have m3 := mem_pieces pb3 L3 h3 s3 _ le_rfl
  refine readAt_of_pieces v f _ _ r ?_ ?_
  · intro p hp
    rw [List.nil_append, List.nil_append, List.mem_append, m1, m3] at hp
    rcases hp with ⟨k, -, hp⟩ | ⟨k, -, hp⟩
    · rw [e3, List.mem_singleton] at hp; subst hp
      exact fill_block i x3 x4 x7 (hoff k) (inb k)
    · rw [e1, List.mem_singleton] at hp; subst hp
      exact product_block i x3 x4 x7 k (k0_off3_inb i k)
  · intro x
    have hx := hr x
    generalize r.emb x = y at hx
    have hy0 : (y 0).val < 256 := (y 0).isLt
    by_cases hk : (y 1).val / 256 < (k0_t1_loop i).trips
    · have hp := (m1 ⟨Rect.unit (s := S256x2048) (k0_off3 i ⟨_, hk⟩) S256x256.size (k0_off3_inb i ⟨_, hk⟩),
        k0_pay43 i x7 ⟨_, hk⟩ (View.ld x4 (Rect.unit (s := S1x2048x768) (k0_off1 i ⟨_, hk⟩) S1x256x768.size (k0_off1_inb i ⟨_, hk⟩))) (View.ld x3 (Rect.unit (s := S1x1x2048) (k0_off2 i ⟨_, hk⟩) S1x1x256.size (k0_off2_inb i ⟨_, hk⟩)))⟩).mpr ⟨⟨_, hk⟩, hk, by rw [e1]; exact List.mem_singleton_self _⟩
      refine ⟨_, List.mem_append_right (pb3 N) hp, ?_⟩
      · refine (Rect.mem_set_unit (inb := k0_off3_inb i ⟨_, hk⟩)).mpr fun a => ?_
        match a with
        | ⟨0, _⟩ =>
          have h : k0_off3 i ⟨_, hk⟩ 0 = 0 := congrFun (off3_eq i ⟨_, hk⟩) 0
          show k0_off3 i ⟨_, hk⟩ 0 ≤ (y 0).val ∧ (y 0).val < k0_off3 i ⟨_, hk⟩ 0 + 256
          omega
        | ⟨1, _⟩ =>
          have h : k0_off3 i ⟨_, hk⟩ 1 = 256 * ((y 1).val / 256) := congrFun (off3_eq i ⟨_, hk⟩) 1
          show k0_off3 i ⟨_, hk⟩ 1 ≤ (y 1).val ∧ (y 1).val < k0_off3 i ⟨_, hk⟩ 1 + 256
          omega
    · rw [trips1] at hk
      have hk3 : (y 1).val / 256 - ((i 1).val + 1) < N := by omega
      have hp := (m3 ⟨Rect.unit (s := S256x2048) (off ⟨_, hk3⟩) S256x256.size (inb ⟨_, hk3⟩), k0_pay2⟩).mpr ⟨⟨_, hk3⟩, hk3, by rw [e3]; exact List.mem_singleton_self _⟩
      refine ⟨_, List.mem_append_right [] (List.mem_append_left _ hp), ?_⟩
      · refine (Rect.mem_set_unit (inb := inb ⟨_, hk3⟩)).mpr fun a => ?_
        match a with
        | ⟨0, _⟩ =>
          have h : off ⟨_, hk3⟩ 0 = 0 := congrFun (hoff ⟨_, hk3⟩) 0
          show off ⟨_, hk3⟩ 0 ≤ (y 0).val ∧ (y 0).val < off ⟨_, hk3⟩ 0 + 256
          omega
        | ⟨1, _⟩ =>
          have h : off ⟨_, hk3⟩ 1 = 256 * ((i 1).val + 1 + ((y 1).val / 256 - ((i 1).val + 1))) := congrFun (hoff ⟨_, hk3⟩) 1
          show off ⟨_, hk3⟩ 1 ≤ (y 1).val ∧ (y 1).val < off ⟨_, hk3⟩ 1 + 256
          omega

end Cert.KernelIdeal.Hand
-- ==== Proof.KernelIdeal.Loaded.lean ====
module

public import proofs.«01_k».proof.Proof.KernelIdeal.Scores
public import Idealize.ShloMosaic.Lib.Pipeline.ValueKit.Basic
public import Idealize.ShloMosaic.Lib.WholeRead
public import Idealize.ShloMosaic.Lib.ValueIdx
public import Idealize.ShloMosaic.Lib.Tactic

@[expose] public section

set_option maxRecDepth 16384

noncomputable section

namespace Cert.KernelIdeal.Hand

open Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S256x2048 .f32) (harg12 : arg12.IsWhole) (arg13 : Memref sig .tc .vmem S256x768 .f32) (harg13 : arg13.IsWhole) (arg14 : Memref sig .tc .vmem S256x768 .f32) (harg14 : arg14.IsWhole)

theorem piece1 (x3 : Vec F S1x1x2048 .f32) (x4 : Vec F S1x2048x768 .f32) (x7 : Vec F S1x256x768 .f32) (k : Fin (k0_t1_loop i).trips) :
    tripL_k0_t1 Variants.none c none i arg2 harg2 arg3 harg3 arg4 harg4 arg5 harg5 arg6 harg6 arg7 harg7 arg8 harg8 arg9 harg9 arg10 harg10 arg11 harg11 arg12 harg12 arg13 harg13 arg14 harg14 (View.readAt (Elt F) arg9.view (Rect.unit ![0, 0, 0] S1x256x768.size inb_S1x256x768_S1x256x768_0_0_0).toLoadRect (harg9.unread x7)) (harg5.unread x3) (harg6.unread x4) k
      = [⟨Rect.unit (s := S256x2048) (k0_off3 i k) S256x256.size (k0_off3_inb i k),
          k0_pay43 i x7 k (View.ld x4 (Rect.unit (s := S1x2048x768) (k0_off1 i k) S1x256x768.size (k0_off1_inb i k))) (View.ld x3 (Rect.unit (s := S1x1x2048) (k0_off2 i k) S1x1x256.size (k0_off2_inb i k)))⟩] := by
  unfold tripL_k0_t1 trip_k0_t1
  dsimp only
  simp only [View.readAt_eq_ld, harg5.read_unread, harg6.read_unread, harg9.read_unread]
  rw [View.ld_unit_lit inb_S1x256x768_S1x256x768_0_0_0 x7 (by decide)]

theorem piece3 (w : BitVec 32) (h : k0_cond1 i = 1#1) (k : Fin (k0_t3_loop i).trips) :
    tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 w h k
      = [⟨Rect.unit (s := S256x2048) (k0_off7 i k) S256x256.size (k0_off7_inb i k h), k0_pay2⟩] := by
  unfold tripL_k0_t3 trip_k0_t3
  rfl

theorem piece5 (w : BitVec 32) (h : k0_cond2 i = 1#1) (k : Fin (k0_t5_loop i).trips) :
    tripL_k0_t5 (F := F) Variants.none c none i arg2 harg2 arg3 harg3 arg4 harg4 arg5 harg5 arg6 harg6 arg7 harg7 arg8 harg8 arg9 harg9 arg10 harg10 arg11 harg11 arg12 harg12 arg13 harg13 arg14 harg14 w h k
      = [⟨Rect.unit (s := S256x2048) (k0_off9 i k) S256x256.size (k0_off9_inb i k h), k0_pay2⟩] := by
  unfold tripL_k0_t5 trip_k0_t5
  rfl

theorem piece7 (w : BitVec 32) (h : k0_cond3 i = 1#1) (k : Fin (k0_t7_loop i).trips) :
    tripL_k0_t7 (F := F) Variants.none c none i arg2 harg2 arg3 harg3 arg4 harg4 arg5 harg5 arg6 harg6 arg7 harg7 arg8 harg8 arg9 harg9 arg10 harg10 arg11 harg11 arg12 harg12 arg13 harg13 arg14 harg14 w h k
      = [⟨Rect.unit (s := S256x2048) (k0_off11 i k) S256x256.size (k0_off11_inb i k h), k0_pay2⟩] := by
  unfold tripL_k0_t7 trip_k0_t7
  rfl

theorem piece9 (w : BitVec 32) (h : k0_cond4 i = 1#1) (k : Fin (k0_t9_loop i).trips) :
    tripL_k0_t9 (F := F) Variants.none c none i arg2 harg2 arg3 harg3 arg4 harg4 arg5 harg5 arg6 harg6 arg7 harg7 arg8 harg8 arg9 harg9 arg10 harg10 arg11 harg11 arg12 harg12 arg13 harg13 arg14 harg14 w h k
      = [⟨Rect.unit (s := S256x2048) (k0_off13 i k) S256x256.size (k0_off13_inb i k h), k0_pay2⟩] := by
  unfold tripL_k0_t9 trip_k0_t9
  rfl

set_option maxHeartbeats 400000 in
theorem scoresA (h : k0_cond1 i = 1#1) (x3 : Vec F S1x1x2048 .f32) (x4 : Vec F S1x2048x768 .f32) (x7 : Vec F S1x256x768 .f32) (G : BufTy.Contents (Elt F) arg12.view.ty) :
    runA.sl.v95 c i arg2 harg2 arg3 harg3 arg4 harg4 arg5 harg5 arg6 harg6 arg7 harg7 arg8 harg8 arg9 harg9 arg10 harg10 arg11 harg11 arg12 harg12 arg13 harg13 arg14 harg14 h x3 x4 x7 G = View.ld (scores i x3 x4 x7) (Rect.unit (s := S256x2048) ![0, 0] S256x512.size inb_S256x2048_S256x512_0_0) := by
  unfold runA.sl.v95
  rw [show Scf.trips (k0_t4_loop i).lb (k0_t4_loop i).ub (k0_t4_loop i).st = 0 from trips4 i h, show Scf.trips (k0_t2_loop i).lb (k0_t2_loop i).ub (k0_t2_loop i).st = 0 from trips2 i, pb_k0_t4.eq_1, pb_k0_t2.eq_1]
  rw [show Scf.trips (k0_t1_loop i).lb (k0_t1_loop i).ub (k0_t1_loop i).st = (k0_t1_loop i).trips from rfl,
    show Scf.trips (k0_t3_loop i).lb (k0_t3_loop i).ub (k0_t3_loop i).st = (k0_t3_loop i).trips from rfl]
  refine loaded i x3 x4 x7 (u := 2) arg12.view G (Rect.unit (s := S256x2048) ![0, 0] S256x512.size inb_S256x2048_S256x512_0_0) _ _ _ _
    (pb_k0_t1.eq_1 ..) (fun _ => pb_k0_t1_succ ..) (pb_k0_t3.eq_1 ..) (fun _ => pb_k0_t3_succ ..) (fun _ => piece1 ..) (k0_off7 i) (off7_eq i h) (fun k => k0_off7_inb i k h) (fun _ => piece3 ..) (trips3 i h) ?_
  intro x
  have h : (x 1).val < 512 := (x 1).isLt
  show 0 + 1 * (x 1).val < 256 * 2
  omega

set_option maxHeartbeats 400000 in
theorem scoresB (h : k0_cond2 i = 1#1) (x3 : Vec F S1x1x2048 .f32) (x4 : Vec F S1x2048x768 .f32) (x7 : Vec F S1x256x768 .f32) (G : BufTy.Contents (Elt F) arg12.view.ty) :
    runB.sl.v95 c i arg2 harg2 arg3 harg3 arg4 harg4 arg5 harg5 arg6 harg6 arg7 harg7 arg8 harg8 arg9 harg9 arg10 harg10 arg11 harg11 arg12 harg12 arg13 harg13 arg14 harg14 h x3 x4 x7 G = View.ld (scores i x3 x4 x7) (Rect.unit (s := S256x2048) ![0, 0] S256x1024.size inb_S256x2048_S256x1024_0_0) := by
  unfold runB.sl.v95
  rw [show Scf.trips (k0_t6_loop i).lb (k0_t6_loop i).ub (k0_t6_loop i).st = 0 from trips6 i h, show Scf.trips (k0_t2_loop i).lb (k0_t2_loop i).ub (k0_t2_loop i).st = 0 from trips2 i, pb_k0_t6.eq_1, pb_k0_t2.eq_1]
  rw [show Scf.trips (k0_t1_loop i).lb (k0_t1_loop i).ub (k0_t1_loop i).st = (k0_t1_loop i).trips from rfl,
    show Scf.trips (k0_t5_loop i).lb (k0_t5_loop i).ub (k0_t5_loop i).st = (k0_t5_loop i).trips from rfl]
  refine loaded i x3 x4 x7 (u := 4) arg12.view G (Rect.unit (s := S256x2048) ![0, 0] S256x1024.size inb_S256x2048_S256x1024_0_0) _ _ _ _
    (pb_k0_t1.eq_1 ..) (fun _ => pb_k0_t1_succ ..) (pb_k0_t5.eq_1 ..) (fun _ => pb_k0_t5_succ ..) (fun _ => piece1 ..) (k0_off9 i) (off9_eq i h) (fun k => k0_off9_inb i k h) (fun _ => piece5 ..) (trips5 i h) ?_
  intro x
  have h : (x 1).val < 1024 := (x 1).isLt
  show 0 + 1 * (x 1).val < 256 * 4
  omega

set_option maxHeartbeats 400000 in
theorem scoresC (h : k0_cond3 i = 1#1) (x3 : Vec F S1x1x2048 .f32) (x4 : Vec F S1x2048x768 .f32) (x7 : Vec F S1x256x768 .f32) (G : BufTy.Contents (Elt F) arg12.view.ty) :
    runC.sl.v95 c i arg2 harg2 arg3 harg3 arg4 harg4 arg5 harg5 arg6 harg6 arg7 harg7 arg8 harg8 arg9 harg9 arg10 harg10 arg11 harg11 arg12 harg12 arg13 harg13 arg14 harg14 h x3 x4 x7 G = View.ld (scores i x3 x4 x7) (Rect.unit (s := S256x2048) ![0, 0] S256x1536.size inb_S256x2048_S256x1536_0_0) := by
  unfold runC.sl.v95
  rw [show Scf.trips (k0_t8_loop i).lb (k0_t8_loop i).ub (k0_t8_loop i).st = 0 from trips8 i h, show Scf.trips (k0_t2_loop i).lb (k0_t2_loop i).ub (k0_t2_loop i).st = 0 from trips2 i, pb_k0_t8.eq_1, pb_k0_t2.eq_1]
  rw [show Scf.trips (k0_t1_loop i).lb (k0_t1_loop i).ub (k0_t1_loop i).st = (k0_t1_loop i).trips from rfl,
    show Scf.trips (k0_t7_loop i).lb (k0_t7_loop i).ub (k0_t7_loop i).st = (k0_t7_loop i).trips from rfl]
  refine loaded i x3 x4 x7 (u := 6) arg12.view G (Rect.unit (s := S256x2048) ![0, 0] S256x1536.size inb_S256x2048_S256x1536_0_0) _ _ _ _
    (pb_k0_t1.eq_1 ..) (fun _ => pb_k0_t1_succ ..) (pb_k0_t7.eq_1 ..) (fun _ => pb_k0_t7_succ ..) (fun _ => piece1 ..) (k0_off11 i) (off11_eq i h) (fun k => k0_off11_inb i k h) (fun _ => piece7 ..) (trips7 i h) ?_
  intro x
  have h : (x 1).val < 1536 := (x 1).isLt
  show 0 + 1 * (x 1).val < 256 * 6
  omega

set_option maxHeartbeats 400000 in
theorem scoresD (h : k0_cond4 i = 1#1) (x3 : Vec F S1x1x2048 .f32) (x4 : Vec F S1x2048x768 .f32) (x7 : Vec F S1x256x768 .f32) (G : BufTy.Contents (Elt F) arg12.view.ty) :
    runD.sl.v95 c i arg2 harg2 arg3 harg3 arg4 harg4 arg5 harg5 arg6 harg6 arg7 harg7 arg8 harg8 arg9 harg9 arg10 harg10 arg11 harg11 arg12 harg12 arg13 harg13 arg14 harg14 h x3 x4 x7 G = View.ld (scores i x3 x4 x7) (Rect.unit (s := S256x2048) ![0, 0] S256x2048.size inb_S256x2048_S256x2048_0_0) := by
  unfold runD.sl.v95
  rw [show Scf.trips (k0_t10_loop i).lb (k0_t10_loop i).ub (k0_t10_loop i).st = 0 from trips10 i h, show Scf.trips (k0_t2_loop i).lb (k0_t2_loop i).ub (k0_t2_loop i).st = 0 from trips2 i, pb_k0_t10.eq_1, pb_k0_t2.eq_1]
  rw [show Scf.trips (k0_t1_loop i).lb (k0_t1_loop i).ub (k0_t1_loop i).st = (k0_t1_loop i).trips from rfl,
    show Scf.trips (k0_t9_loop i).lb (k0_t9_loop i).ub (k0_t9_loop i).st = (k0_t9_loop i).trips from rfl]
  refine loaded i x3 x4 x7 (u := 8) arg12.view G (Rect.unit (s := S256x2048) ![0, 0] S256x2048.size inb_S256x2048_S256x2048_0_0) _ _ _ _
    (pb_k0_t1.eq_1 ..) (fun _ => pb_k0_t1_succ ..) (pb_k0_t9.eq_1 ..) (fun _ => pb_k0_t9_succ ..) (fun _ => piece1 ..) (k0_off13 i) (off13_eq i h) (fun k => k0_off13_inb i k h) (fun _ => piece9 ..) (trips9 i h) ?_
  intro x
  have h : (x 1).val < 2048 := (x 1).isLt
  show 0 + 1 * (x 1).val < 256 * 8
  omega

set_option maxHeartbeats 400000 in
theorem scoresE (h : k0_cond4 i = 1#1) (x3 : Vec F S1x1x2048 .f32) (x4 : Vec F S1x2048x768 .f32) (x7 : Vec F S1x256x768 .f32) (G : BufTy.Contents (Elt F) arg12.view.ty) :
    runE.sl.v95 c i arg2 harg2 arg3 harg3 arg4 harg4 arg5 harg5 arg6 harg6 arg7 harg7 arg8 harg8 arg9 harg9 arg10 harg10 arg11 harg11 arg12 harg12 arg13 harg13 arg14 harg14 h x3 x4 x7 G = View.ld (scores i x3 x4 x7) (Rect.unit (s := S256x2048) ![0, 0] S256x2048.size inb_S256x2048_S256x2048_0_0) := by
  unfold runE.sl.v95
  rw [show Scf.trips (k0_t10_loop i).lb (k0_t10_loop i).ub (k0_t10_loop i).st = 0 from trips10 i h, show Scf.trips (k0_t2_loop i).lb (k0_t2_loop i).ub (k0_t2_loop i).st = 0 from trips2 i, pb_k0_t10.eq_1, pb_k0_t2.eq_1]
  rw [show Scf.trips (k0_t1_loop i).lb (k0_t1_loop i).ub (k0_t1_loop i).st = (k0_t1_loop i).trips from rfl,
    show Scf.trips (k0_t9_loop i).lb (k0_t9_loop i).ub (k0_t9_loop i).st = (k0_t9_loop i).trips from rfl]
  refine loaded i x3 x4 x7 (u := 8) arg12.view G (Rect.unit (s := S256x2048) ![0, 0] S256x2048.size inb_S256x2048_S256x2048_0_0) _ _ _ _
    (pb_k0_t1.eq_1 ..) (fun _ => pb_k0_t1_succ ..) (pb_k0_t9.eq_1 ..) (fun _ => pb_k0_t9_succ ..) (fun _ => piece1 ..) (k0_off13 i) (off13_eq i h) (fun k => k0_off13_inb i k h) (fun _ => piece9 ..) (trips9 i h) ?_
  intro x
  have h : (x 1).val < 2048 := (x 1).isLt
  show 0 + 1 * (x 1).val < 256 * 8
  omega

end Cert.KernelIdeal.Hand
-- ==== Proof.KernelIdeal.Point.lean ====
module

public import proofs.«01_k».proof.Proof.KernelIdeal.Loaded
public import Idealize.ShloMosaic.Lib.Pipeline.ValueKit.Basic
public import Idealize.ShloMosaic.Lib.WholeRead
public import Idealize.ShloMosaic.Lib.ValueIdx
public import Idealize.ShloMosaic.Lib.Tactic

@[expose] public section

set_option maxRecDepth 16384

noncomputable section

namespace Cert.KernelIdeal.Hand

open Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which branch a row tile takes -/

theorem cond1_iff (i : grid0.Coords) : k0_cond1 i = 1#1 ↔ (i 1).val < 2 := by
  have hd : ∀ n : Fin 8, Scalar.cmpi .ne (Scalar.extui (Scalar.andi (Scalar.cmpi .sge (BitVec.ofNat 32 n.val) 0#32) (Scalar.cmpi .slt (BitVec.ofNat 32 n.val) 2#32))) 0#32 = 1#1 ↔ n.val < 2 := by
    decide +kernel
  exact hd (i 1)
theorem cond2_iff (i : grid0.Coords) : k0_cond2 i = 1#1 ↔ 2 ≤ (i 1).val ∧ (i 1).val < 4 := by
  have hd : ∀ n : Fin 8, Scalar.cmpi .ne (Scalar.extui (Scalar.andi (Scalar.cmpi .sge (BitVec.ofNat 32 n.val) 2#32) (Scalar.cmpi .slt (BitVec.ofNat 32 n.val) 4#32))) 0#32 = 1#1 ↔ 2 ≤ n.val ∧ n.val < 4 := by
    decide +kernel
  exact hd (i 1)
theorem cond3_iff (i : grid0.Coords) : k0_cond3 i = 1#1 ↔ 4 ≤ (i 1).val ∧ (i 1).val < 6 := by
  have hd : ∀ n : Fin 8, Scalar.cmpi .ne (Scalar.extui (Scalar.andi (Scalar.cmpi .sge (BitVec.ofNat 32 n.val) 4#32) (Scalar.cmpi .slt (BitVec.ofNat 32 n.val) 6#32))) 0#32 = 1#1 ↔ 4 ≤ n.val ∧ n.val < 6 := by
    decide +kernel
  exact hd (i 1)
theorem cond4_iff (i : grid0.Coords) : k0_cond4 i = 1#1 ↔ 6 ≤ (i 1).val := by
  have hd : ∀ n : Fin 8, Scalar.cmpi .ne (Scalar.extui (Scalar.andi (Scalar.cmpi .sge (BitVec.ofNat 32 n.val) 6#32) (Scalar.cmpi .slt (BitVec.ofNat 32 n.val) 8#32))) 0#32 = 1#1 ↔ 6 ≤ n.val := by
    decide +kernel
  exact hd (i 1)
theorem last_iff (i : grid0.Coords) : (Scalar.cmpi .ne (Scalar.extui (Scalar.cmpi .eq (BitVec.ofNat 32 (i 1).val) 7#32)) 0#32) = 1#1 ↔ (i 1).val = 7 := by
  have hd : ∀ n : Fin 8, Scalar.cmpi .ne (Scalar.extui (Scalar.cmpi .eq (BitVec.ofNat 32 n.val) 7#32)) 0#32 = 1#1 ↔ n.val = 7 := by
    decide +kernel
  exact hd (i 1)

/-! ## What one grid point leaves in the output tile -/

/-- The columns of the similarity tile that the point's branch reads. -/
def cols512 (s : Vec F S256x2048 .f32) : Vec F S256x512 .f32 := View.ld s (Rect.unit (s := S256x2048) ![0, 0] S256x512.size inb_S256x2048_S256x512_0_0)
def cols1024 (s : Vec F S256x2048 .f32) : Vec F S256x1024 .f32 := View.ld s (Rect.unit (s := S256x2048) ![0, 0] S256x1024.size inb_S256x2048_S256x1024_0_0)
def cols1536 (s : Vec F S256x2048 .f32) : Vec F S256x1536 .f32 := View.ld s (Rect.unit (s := S256x2048) ![0, 0] S256x1536.size inb_S256x2048_S256x1536_0_0)
def cols2048 (s : Vec F S256x2048 .f32) : Vec F S256x2048 .f32 := View.ld s (Rect.unit (s := S256x2048) ![0, 0] S256x2048.size inb_S256x2048_S256x2048_0_0)

/-- The message of the most similar rows, by the tile's branch. -/
def near (i : grid0.Coords) (s : Vec F S256x2048 .f32) (x5 x6 : Vec F S1x2048x768 .bf16) : Vec F S256x768 .f32 :=
  if (i 1).val < 2 then msg512 i (cols512 s) x5 x6
  else if (i 1).val < 4 then msg1024 i (cols1024 s) x5 x6
  else if (i 1).val < 6 then msg1536 i (cols1536 s) x5 x6
  else msg2048 i (cols2048 s) x5 x6

/-- The message of the least similar rows: nought but in the last tile. -/
def apart (i : grid0.Coords) (s : Vec F S256x2048 .f32) (x4 : Vec F S1x2048x768 .f32) : Vec F S256x768 .f32 :=
  if (i 1).val = 7 then far i x4 (struck (cols2048 s)) else k0_pay47

/-- The output tile of a grid point from the blocks of its nine inputs. -/
def tileOut (i : grid0.Coords) (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32) : Vec F S1x256x768 .f32 :=
  tail x0 x1 x2 x7 x8 (near i (scores i x3 x4 x7) x5 x6) (apart i (scores i x3 x4 x7) x4)

variable (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S256x2048 .f32) (harg12 : arg12.IsWhole) (arg13 : Memref sig .tc .vmem S256x768 .f32) (harg13 : arg13.IsWhole) (arg14 : Memref sig .tc .vmem S256x768 .f32) (harg14 : arg14.IsWhole)

/-- A point's run, its one store given, restated with every memref owned at a value. -/
theorem restated (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (v : Vec F S1x256x768 .f32)
    (run : ∀ G : BufTy.Contents (Elt F) arg12.view.ty, ∃ L9 : List (View.Piece (Elt F) S1x256x768 .f32),
      L9 = [⟨Rect.unit ![0, 0, 0] ![1, 256, 768] inb_S1x256x768_S1x256x768_0_0_0, v⟩] ∧
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (arg12.view.loc (c : Thread nD τ) ↦[arg12.view.set]{fullShare} G) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14) K)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare v ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, H4, H5, H6, H7, H8, H9, ⟨%d, HS0⟩, HS1, HS2, HK⟩
  unfold owns
  icases HS0 with ⟨%G, %hG, HS0⟩
  obtain ⟨L9, hL, hrun⟩ := run G
  subst hL
  iapply (hrun E K)
  isplitl [H0]
  · unfold owns; iexact H0
  isplitl [H1]
  · unfold owns; iexact H1
  isplitl [H2]
  · unfold owns; iexact H2
  isplitl [H3]
  · unfold owns; iexact H3
  isplitl [H4]
  · unfold owns; iexact H4
  isplitl [H5]
  · unfold owns; iexact H5
  isplitl [H6]
  · unfold owns; iexact H6
  isplitl [H7]
  · unfold owns; iexact H7
  isplitl [H8]
  · unfold owns; iexact H8
  isplitl [H9]
  · unfold owns; iexact H9
  isplitl [HS0]
  · iexact HS0
  isplitl [HS1]
  · unfold owns; iexact HS1
  isplitl [HS2]
  · unfold owns; iexact HS2
  iintro ⟨H0, H1, H2, H3, H4, H5, H6, H7, H8, ⟨%e9, H9⟩, ⟨%f0, HS0⟩, ⟨%f1, HS1⟩, ⟨%f2, HS2⟩⟩
  iapply HK
  isplitl [H0]
  · unfold owns; iexact H0
  isplitl [H1]
  · unfold owns; iexact H1
  isplitl [H2]
  · unfold owns; iexact H2
  isplitl [H3]
  · unfold owns; iexact H3
  isplitl [H4]
  · unfold owns; iexact H4
  isplitl [H5]
  · unfold owns; iexact H5
  isplitl [H6]
  · unfold owns; iexact H6
  isplitl [H7]
  · unfold owns; iexact H7
  isplitl [H8]
  · unfold owns; iexact H8
  isplitl [H9]
  · iexists _; isplitr; swap; · iexact H9
    ipureintro
    rw [View.read_writes_eq_canon _ _ _ (fun y => ⟨_, List.mem_singleton.2 rfl, View.mem_set_unit_zero (funext (by decide)) inb_S1x256x768_S1x256x768_0_0_0 y⟩),
      View.canon_cons_unit_lit inb_S1x256x768_S1x256x768_0_0_0 _ _ (by decide)]
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-- One grid point: from any memrefs holding the nine blocks, the body leaves them as they were and the output tile at `tileOut`. -/
theorem point (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32) (x8 : Vec F S1x256x768 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (tileOut i x0 x1 x2 x3 x4 x5 x6 x7 x8) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14) K := by
  refine restated _ _ _ _ _ _ _ _ _ _ _ _ _ _ _ _ _ _ _ _ _ _ _ _ _ _ _ _ x0 x1 x2 x3 x4 x5 x6 x7 x8 _ (fun G => ?_) E K
  have b : (i 1).val < 8 := (i 1).isLt
  unfold tileOut near apart
  by_cases h1 : (i 1).val < 2
  · rw [if_pos h1, if_neg (show ¬ (i 1).val = 7 by omega)]
    refine ⟨_, ?_, (runA (hc1 := (cond1_iff i).2 (by omega)) (hc2 := mt (cond2_iff i).1 (by omega)) (hc3 := mt (cond3_iff i).1 (by omega)) (hc4 := mt (cond4_iff i).1 (by omega)) ..).2⟩
    rw [runA_eq, scoresA]; rfl
  rw [if_neg h1]
  by_cases h2 : (i 1).val < 4
  · rw [if_pos h2, if_neg (show ¬ (i 1).val = 7 by omega)]
    refine ⟨_, ?_, (runB (hc1 := mt (cond1_iff i).1 (by omega)) (hc2 := (cond2_iff i).2 (by omega)) (hc3 := mt (cond3_iff i).1 (by omega)) (hc4 := mt (cond4_iff i).1 (by omega)) ..).2⟩
    rw [runB_eq, scoresB]; rfl
  rw [if_neg h2]
  by_cases h3 : (i 1).val < 6
  · rw [if_pos h3, if_neg (show ¬ (i 1).val = 7 by omega)]
    refine ⟨_, ?_, (runC (hc1 := mt (cond1_iff i).1 (by omega)) (hc2 := mt (cond2_iff i).1 (by omega)) (hc3 := (cond3_iff i).2 (by omega)) (hc4 := mt (cond4_iff i).1 (by omega)) ..).2⟩
    rw [runC_eq, scoresC]; rfl
  rw [if_neg h3]
  by_cases h4 : (i 1).val = 7
  · rw [if_pos h4]
    refine ⟨_, ?_, (runE (hc1 := mt (cond1_iff i).1 (by omega)) (hc2 := mt (cond2_iff i).1 (by omega)) (hc3 := mt (cond3_iff i).1 (by omega)) (hc4 := (cond4_iff i).2 (by omega)) (hc5 := (last_iff i).2 (by omega)) ..).2⟩
    rw [runE_eq, scoresE]; rfl
  · rw [if_neg h4]
    refine ⟨_, ?_, (runD (hc1 := mt (cond1_iff i).1 (by omega)) (hc2 := mt (cond2_iff i).1 (by omega)) (hc3 := mt (cond3_iff i).1 (by omega)) (hc4 := (cond4_iff i).2 (by omega)) (hc5 := mt (last_iff i).1 (by omega)) ..).2⟩
    rw [runD_eq, scoresD]; rfl

end Cert.KernelIdeal.Hand
-- ==== Proof.KernelIdeal.Frame.lean ====
module

public import proofs.«01_k».proof.Proof.KernelIdeal.Point
public import Idealize.ShloMosaic.Lib.Pipeline.ValueKit.Basic
public import Idealize.ShloMosaic.Lib.WholeRead
public import Idealize.ShloMosaic.Lib.ValueIdx
public import Idealize.ShloMosaic.Lib.Tactic
public import Idealize.ShloMosaic.Lib.Claim

@[expose] public section

set_option maxRecDepth 16384

noncomputable section

namespace Cert.KernelIdeal.Hand

open Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- The output tile of point `t`, from the blocks of the input arrays there. -/
def outAt (c : Dev nD) (t : Fin cfg0.N) : Vec F S1x256x768 .f32 :=
  tileOut (grid0.coords t) (iblk m c 0 t) (iblk m c 1 t) (iblk m c 2 t) (iblk m c 3 t) (iblk m c 4 t) (iblk m c 5 t) (iblk m c 6 t) (iblk m c 7 t) (iblk m c 8 t)

/-- The pipeline's proof data: the body leaves every input block as it is and the output tile at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q w := Pipeline.shareOf spec0 w
  owed _ := 0

theorem A_eq (c : Dev nD) (w) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = iblk m c 5 t := by dsimp only [dats]
theorem after_6 (c : Dev nD) (t) : (dats m 0 c).after 6 t = iblk m c 6 t := by dsimp only [dats]
theorem after_7 (c : Dev nD) (t) : (dats m 0 c).after 7 t = iblk m c 7 t := by dsimp only [dats]
theorem after_8 (c : Dev nD) (t) : (dats m 0 c).after 8 t = iblk m c 8 t := by dsimp only [dats]
theorem after_9 (c : Dev nD) (t) : (dats m 0 c).after 9 t = outAt m c t := by dsimp only [dats]
theorem before_0 (c : Dev nD) (t) (d) : (dats m 0 c).before 0 t d = iblk m c 0 t := before0_0_of m (dats m 0 c) (A_eq m c 0) (after_0 m c) t d
theorem before_1 (c : Dev nD) (t) (d) : (dats m 0 c).before 1 t d = iblk m c 1 t := before0_1_of m (dats m 0 c) (A_eq m c 1) (after_1 m c) t d
theorem before_2 (c : Dev nD) (t) (d) : (dats m 0 c).before 2 t d = iblk m c 2 t := before0_2_of m (dats m 0 c) (A_eq m c 2) (after_2 m c) t d
theorem before_3 (c : Dev nD) (t) (d) : (dats m 0 c).before 3 t d = iblk m c 3 t := before0_3_of m (dats m 0 c) (A_eq m c 3) (after_3 m c) t d
theorem before_4 (c : Dev nD) (t) (d) : (dats m 0 c).before 4 t d = iblk m c 4 t := before0_4_of m (dats m 0 c) (A_eq m c 4) (after_4 m c) t d
theorem before_5 (c : Dev nD) (t) (d) : (dats m 0 c).before 5 t d = iblk m c 5 t := before0_5_of m (dats m 0 c) (A_eq m c 5) (after_5 m c) t d
theorem before_6 (c : Dev nD) (t) (d) : (dats m 0 c).before 6 t d = iblk m c 6 t := before0_6_of m (dats m 0 c) (A_eq m c 6) (after_6 m c) t d
theorem before_7 (c : Dev nD) (t) (d) : (dats m 0 c).before 7 t d = iblk m c 7 t := before0_7_of m (dats m 0 c) (A_eq m c 7) (after_7 m c) t d
theorem before_8 (c : Dev nD) (t) (d) : (dats m 0 c).before 8 t d = iblk m c 8 t := before0_8_of m (dats m 0 c) (A_eq m c 8) (after_8 m c) t d

/-- The scratch the launch keeps for the body: three buffers at some contents, and the generator's register. -/
theorem kept_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, window by window. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
theorem sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, kept_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (point c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; iexact H9
  isplitl [HS0]
  · iexact HS0
  isplitl [HS1]
  · iexact HS1
  isplitl [HS2]
  · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- Every fair run of the program ends, the arrays at what the proof data say and the semaphores at zero. -/
theorem run_ends : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_ends m ρ)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_post m ρ)

/-- The program ends, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (kept m ρ) ((θ_run defs _ _).mono (fun _ h => h.2) (run_ends m ρ))

end Cert.KernelIdeal.Hand
-- ==== Proof.Select.lean ====
module

public import Idealize.ShloMosaic.PureOps.Ideal.Laws
public import Idealize.ShloMosaic.Lib.SortFacts

@[expose] public section

/-! # Choosing neighbours by striking out the greatest entry

One side of the proof chooses a row's neighbours by a sort, the other by striking out the greatest entry so many times.
Nothing here speaks of a program. -/

namespace Cert.Select

variable {α : Type} [LinearOrder α] [OrderBot α]

/-- Every entry that is as great as the greatest one is struck out. -/
def strike {ι : Type} [Fintype ι] (v : ι → α) : ι → α := fun j => if v j = Finset.univ.sup v then ⊥ else v j

/-- After `k` strikes the entries of rank below `k` are gone, where no two entries left compete for a rank. -/
theorem strike_iter {ι : Type} [Fintype ι] (v : ι → α) (ρ : ι → ℕ) (k : ℕ)
    (hlt : ∀ j j', ρ j < k → ρ j < ρ j' → v j' < v j ∨ v j' = ⊥)
    (hinj : ∀ j j', ρ j < k → ρ j = ρ j' → j = j')
    (hex : ∀ r < k, (∃ j, ρ j = r) ∨ ∀ j, r ≤ ρ j → v j = ⊥) :
    strike^[k] v = fun j => if ρ j < k then ⊥ else v j := by
  induction k with
  | zero => funext j; simp
  | succ k ih =>
    have ih := ih (fun j j' h => hlt j j' (by omega)) (fun j j' h => hinj j j' (by omega)) (fun r h => hex r (by omega))
    rw [Function.iterate_succ_apply', ih]
    funext j
    rcases hex k (by omega) with ⟨j0, h0⟩ | hdead
    · have hsup : Finset.univ.sup (fun j => if ρ j < k then ⊥ else v j) = v j0 := by
        apply le_antisymm
        · refine Finset.sup_le fun i _ => ?_
          split_ifs with h
          · exact bot_le
          · rcases Nat.lt_or_ge k (ρ i) with h' | h'
            · rcases hlt j0 i (by omega) (by omega) with h2 | h2
              · exact h2.le
              · rw [h2]; exact bot_le
            · rw [hinj j0 i (by omega) (by omega)]
        · have := Finset.le_sup (f := fun j => if ρ j < k then ⊥ else v j) (Finset.mem_univ j0)
          simpa [h0] using this
      unfold strike
      rw [hsup]
      dsimp only
      rcases lt_trichotomy (ρ j) k with h | h | h
      · simp [h, show ρ j < k + 1 by omega]
      · have : j0 = j := hinj j0 j (by omega) (by omega)
        subst this
        simp [h]
      · rcases hlt j0 j (by omega) (by omega) with h2 | h2
        · simp [show ¬ ρ j < k by omega, show ¬ ρ j < k + 1 by omega, h2.ne]
        · simp [h2]
    · have hw : ∀ i, (if ρ i < k then ⊥ else v i) = (⊥ : α) := fun i => by
        split_ifs with h
        · rfl
        · exact hdead i (by omega)
      have : (fun j => if ρ j < k then ⊥ else v j) = fun _ => (⊥ : α) := funext hw
      rw [this]
      unfold strike
      rw [ite_self]
      split_ifs with h
      · rfl
      · exact (hdead j (by omega)).symm

/-- A step that strikes only while its number is below `e`. -/
theorem strike_guarded {ι : Type} [Fintype ι] (v : ι → α) (e c : ℕ) :
    (if c < e then strike (strike^[min c e] v) else strike^[min c e] v) = strike^[min (c + 1) e] v := by
  split_ifs with h
  · rw [min_eq_left h.le, min_eq_left (by omega : c + 1 ≤ e), Function.iterate_succ_apply']
  · rw [min_eq_right (by omega : e ≤ c), min_eq_right (by omega : e ≤ c + 1)]

/-- A property that the entries sorted first have has as many entries as it has first positions. -/
theorem lead {n : ℕ} (σ : Equiv.Perm (Fin n)) (p : Fin n → Prop) [DecidablePred p]
    (h : ∀ r s, r ≤ s → p (σ s) → p (σ r)) (r : Fin n) : p (σ r) ↔ r.val < (Finset.univ.filter p).card := by
  have hc : (Finset.univ.filter p).card = (Finset.univ.filter fun r => p (σ r)).card := by
    have : Finset.univ.filter p = (Finset.univ.filter fun r => p (σ r)).map σ.toEmbedding := by
      ext j
      simp only [Finset.mem_map, Finset.mem_filter, Finset.mem_univ, true_and]
      exact ⟨fun hj => ⟨σ.symm j, by simpa using hj, by simp⟩, by rintro ⟨i, hi, rfl⟩; exact hi⟩
    rw [this, Finset.card_map]
  rw [hc]
  constructor
  · intro hp
    have : (Finset.Iic r) ⊆ Finset.univ.filter fun r => p (σ r) := fun s hs => by
      simp only [Finset.mem_filter, Finset.mem_univ, true_and]
      exact h s r (Finset.mem_Iic.1 hs) hp
    have := Finset.card_le_card this
    rw [Fin.card_Iic] at this
    omega
  · intro hr
    by_contra hp
    have : (Finset.univ.filter fun r => p (σ r)) ⊆ Finset.Iio r := fun s hs => by
      simp only [Finset.mem_filter, Finset.mem_univ, true_and] at hs
      rw [Finset.mem_Iio]
      by_contra hle
      exact hp (h r s (not_lt.1 hle) hs)
    have := Finset.card_le_card this
    rw [Fin.card_Iio] at this
    omega

theorem card_below {n t : ℕ} (h : t ≤ n) : (Finset.univ.filter fun j : Fin n => j.val < t).card = t := by
  rw [Fin.card_filter_val_lt, min_eq_right h]

theorem card_from {n t : ℕ} (h : t ≤ n) : (Finset.univ.filter fun j : Fin n => t ≤ j.val).card = n - t := by
  have h1 := Finset.card_filter_add_card_filter_not (s := (Finset.univ : Finset (Fin n))) (fun j => j.val < t)
  simp only [not_lt] at h1
  rw [card_below h, Finset.card_univ, Fintype.card_fin] at h1
  omega

/-- How many positions `r` the permutation takes to entries that a condition on the position picks. -/
theorem card_by_position {n : ℕ} (σ : Equiv.Perm (Fin n)) (p : Fin n → Prop) [DecidablePred p] (a b : ℕ) (hb : b ≤ n)
    (h : ∀ j, p j ↔ a ≤ (σ.symm j).val ∧ (σ.symm j).val < b) : (Finset.univ.filter p).card = b - a := by
  have : Finset.univ.filter p = (Finset.univ.filter fun r : Fin n => a ≤ r.val ∧ r.val < b).map σ.toEmbedding := by
    ext j
    simp only [Finset.mem_map, Finset.mem_filter, Finset.mem_univ, true_and]
    constructor
    · intro hj; exact ⟨σ.symm j, (h j).1 hj, by simp⟩
    · rintro ⟨i, hi, rfl⟩; exact (h _).2 (by simpa using hi)
  rw [this, Finset.card_map]
  by_cases hab : a ≤ b
  · have h2 : (Finset.univ.filter fun r : Fin n => a ≤ r.val ∧ r.val < b)
        = (Finset.univ.filter fun r : Fin n => r.val < b) \ (Finset.univ.filter fun r : Fin n => r.val < a) := by
      ext r; simp [and_comm]
    rw [h2, Finset.card_sdiff_of_subset (fun r hr => by simp at hr ⊢; omega), card_below hb, card_below (hab.trans hb)]
  · rw [Finset.filter_false_of_mem (fun r _ => by omega)]; simp; omega

/-- A row's sorted similarities: `t` columns are past, all above `L`, the others at `L`; `σ` sorts them, the greatest first, and
    the first `k` are no ties. -/
structure Sorted (n t k : ℕ) (L : EReal) (u : Fin n → EReal) (σ : Equiv.Perm (Fin n)) : Prop where
  le : t ≤ n
  past : ∀ j : Fin n, j.val < t → L < u j
  future : ∀ j : Fin n, t ≤ j.val → u j = L
  anti : ∀ r s, r < s → u (σ s) ≤ u (σ r)
  strict : ∀ r s : Fin n, r.val < k → s.val = r.val + 1 → u (σ s) < u (σ r) ∨ u (σ r) ≤ L

namespace Sorted

variable {n t k : ℕ} {L : EReal} {u : Fin n → EReal} {σ : Equiv.Perm (Fin n)}

theorem past_iff (S : Sorted n t k L u σ) (r : Fin n) : (σ r).val < t ↔ r.val < t := by
  have := lead σ (fun j => j.val < t) (fun r s hrs hs => by
    rcases hrs.lt_or_eq with h | h
    · by_contra hr
      have h1 := S.anti r s h
      rw [S.future _ (not_lt.1 hr)] at h1
      exact absurd (S.past _ hs) (not_lt.2 h1)
    · rwa [h]) r
  rw [card_below S.le] at this
  exact this

theorem past_iff' (S : Sorted n t k L u σ) (j : Fin n) : j.val < t ↔ (σ.symm j).val < t := by
  have := S.past_iff (σ.symm j)
  rwa [Equiv.apply_symm_apply] at this

theorem fall (S : Sorted n t k L u σ) (r s : Fin n) (hr : r.val < k) (hrt : r.val < t) (hs : r < s) : u (σ s) < u (σ r) := by
  have h1 : r.val + 1 < n := by have := s.isLt; have : r.val < s.val := hs; omega
  have h2 : u (σ ⟨r.val + 1, h1⟩) < u (σ r) := by
    rcases S.strict r ⟨r.val + 1, h1⟩ hr rfl with h | h
    · exact h
    · exact absurd (S.past (σ r) ((S.past_iff r).2 hrt)) (not_lt.2 h)
  rcases lt_or_eq_of_le (show (⟨r.val + 1, h1⟩ : Fin n) ≤ s from Nat.succ_le_of_lt hs) with h | h
  · exact lt_of_le_of_lt (S.anti _ _ h) h2
  · rwa [← h]

/-- How many are chosen. -/
theorem card_chosen (S : Sorted n t k L u σ) : (Finset.univ.filter fun j : Fin n => j.val < t ∧ (σ.symm j).val < k).card = min t k := by
  rw [card_by_position σ _ 0 (min t k) (le_trans (min_le_left _ _) S.le) (fun j => by rw [S.past_iff' j]; omega)]
  omega

/-- What `k` strikes leave of a row of scores `v` over the columns that `e` numbers, which stand in the order of `u`. -/
theorem struck (S : Sorted n t k L u σ) {ι : Type} [Fintype ι] (e : ι → Fin n) (he : Function.Injective e)
    (hcov : ∀ j : Fin n, j.val < t → ∃ w, e w = j) (v : ι → EReal)
    (hbot : ∀ w, t ≤ (e w).val → v w = ⊥)
    (hord : ∀ w w', (e w).val < t → (e w').val < t → u (e w') < u (e w) → v w' < v w) :
    strike^[k] v = fun w => if (σ.symm (e w)).val < k then ⊥ else v w := by
  refine strike_iter v (fun w => (σ.symm (e w)).val) k (fun w w' hk hlt => ?_) (fun w w' _ h => ?_) (fun r hr => ?_)
  · rcases Nat.lt_or_ge (e w').val t with ht | ht
    · have h1 : (σ.symm (e w')).val < t := (S.past_iff' _).1 ht
      have h2 : (σ.symm (e w)).val < t := by omega
      refine .inl (hord w w' ((S.past_iff' _).2 h2) ht ?_)
      have := S.fall (σ.symm (e w)) (σ.symm (e w')) hk h2 hlt
      simpa using this
    · exact .inr (hbot w' ht)
  · exact he (σ.symm.injective (Fin.ext h))
  · by_cases h : r < t
    · obtain ⟨w, hw⟩ := hcov (σ ⟨r, lt_of_lt_of_le h S.le⟩) ((S.past_iff _).2 h)
      exact .inl ⟨w, by rw [hw]; simp⟩
    · refine .inr fun w hw => hbot w ?_
      by_contra hlt
      have := (S.past_iff' (e w)).1 (not_le.1 hlt)
      omega

end Sorted

/-- A row's sorted distances, of the columns not yet chosen: `q` is `M` at the columns to come, `-M` at the chosen ones and between
    for the others; `τ` sorts, the greatest first, and the first `k` are no ties. -/
structure Rest (n t k c : ℕ) (M : EReal) (sel : Fin n → Prop) (q : Fin n → EReal) (τ : Equiv.Perm (Fin n)) : Prop where
  le : t ≤ n
  low : k + c ≤ n
  sub : ∀ j, sel j → j.val < t
  few : ∀ [DecidablePred sel], (Finset.univ.filter sel).card ≤ c
  future : ∀ j : Fin n, t ≤ j.val → q j = M
  taken : ∀ j : Fin n, sel j → q j = -M
  between : ∀ j : Fin n, j.val < t → ¬ sel j → -M < q j ∧ q j < M
  pos : -M < M
  anti : ∀ r s, r < s → q (τ s) ≤ q (τ r)
  strict : ∀ r s : Fin n, r.val < k → s.val = r.val + 1 → q (τ s) < q (τ r) ∨ M ≤ q (τ r)

namespace Rest

variable {n t k c : ℕ} {M : EReal} {sel : Fin n → Prop} {q : Fin n → EReal} {τ : Equiv.Perm (Fin n)}

theorem below (S : Rest n t k c M sel q τ) (j : Fin n) (h : j.val < t) : q j < M := by
  by_cases hs : sel j
  · rw [S.taken j hs]; exact S.pos
  · exact (S.between j h hs).2

theorem future_iff (S : Rest n t k c M sel q τ) (r : Fin n) : t ≤ (τ r).val ↔ r.val < n - t := by
  have := lead τ (fun j => t ≤ j.val) (fun r s hrs hs => by
    rcases hrs.lt_or_eq with h | h
    · by_contra hr
      have h1 := S.anti r s h
      rw [S.future _ hs] at h1
      exact absurd (S.below _ (not_le.1 hr)) (not_lt.2 h1)
    · rwa [h]) r
  rw [card_from S.le] at this
  exact this

theorem past_iff' (S : Rest n t k c M sel q τ) (j : Fin n) : j.val < t ↔ n - t ≤ (τ.symm j).val := by
  have := S.future_iff (τ.symm j)
  rw [Equiv.apply_symm_apply] at this
  omega

theorem not_taken (S : Rest n t k c M sel q τ) (j : Fin n) (h : (τ.symm j).val < k) : ¬ sel j := by
  classical
  have h2 := lead τ (fun j => ¬ sel j) (fun r s hrs hs => by
    rcases hrs.lt_or_eq with h | h
    · intro hr
      have h1 := S.anti r s h
      rw [S.taken _ hr] at h1
      rcases Nat.lt_or_ge (τ s).val t with ht | ht
      · exact absurd (S.between _ ht hs).1 (not_lt.2 h1)
      · rw [S.future _ ht] at h1; exact absurd S.pos (not_lt.2 h1)
    · rwa [h]) (τ.symm j)
  rw [Equiv.apply_symm_apply] at h2
  refine h2.2 ?_
  have h1 := Finset.card_filter_add_card_filter_not (s := (Finset.univ : Finset (Fin n))) sel
  rw [Finset.card_univ, Fintype.card_fin] at h1
  have := S.few
  have := S.low
  omega

theorem fall (S : Rest n t k c M sel q τ) (r s : Fin n) (hr : r.val < k) (hrt : n - t ≤ r.val) (hs : r < s) : q (τ s) < q (τ r) := by
  have h1 : r.val + 1 < n := by have := s.isLt; have : r.val < s.val := hs; omega
  have h2 : q (τ ⟨r.val + 1, h1⟩) < q (τ r) := by
    rcases S.strict r ⟨r.val + 1, h1⟩ hr rfl with h | h
    · exact h
    · exact absurd (S.below (τ r) (by rw [S.past_iff', Equiv.symm_apply_apply]; exact hrt)) (not_lt.2 h)
  rcases lt_or_eq_of_le (show (⟨r.val + 1, h1⟩ : Fin n) ≤ s from Nat.succ_le_of_lt hs) with h | h
  · exact lt_of_le_of_lt (S.anti _ _ h) h2
  · rwa [← h]

/-- How many are chosen. -/
theorem card_chosen (S : Rest n t k c M sel q τ) [DecidablePred sel] :
    (Finset.univ.filter fun j : Fin n => j.val < t ∧ ¬ sel j ∧ (τ.symm j).val < k).card = k - (n - t) := by
  have := S.low
  rw [card_by_position τ _ (n - t) k (by omega) (fun j => ?_)]
  rw [S.past_iff' j]
  constructor
  · rintro ⟨h1, _, h2⟩; exact ⟨h1, h2⟩
  · rintro ⟨h1, h2⟩; exact ⟨h1, S.not_taken j h2, h2⟩

/-- What as many strikes as rows are wanted leave of the scores `z` of the rest, counted from below. -/
theorem struck (S : Rest n t k c M sel q τ) (z : Fin n → ERealᵒᵈ)
    (hbot : ∀ j, t ≤ j.val ∨ sel j → z j = ⊥)
    (hord : ∀ j j', j.val < t → ¬ sel j → j'.val < t → ¬ sel j' → q j' < q j → z j' < z j) :
    strike^[k - (n - t)] z = fun j => if j.val < t ∧ (τ.symm j).val < k then ⊥ else z j := by
  have low := S.low
  have le := S.le
  rw [strike_iter z (fun j => if t ≤ j.val then n else (τ.symm j).val - (n - t)) (k - (n - t)) (fun j j' hk hlt => ?_)
    (fun j j' hk h => ?_) (fun r hr => ?_)]
  · funext j
    have := S.past_iff' j
    by_cases h : t ≤ j.val
    · rw [if_pos h, if_neg (by omega), if_neg (by omega)]
    · rw [if_neg h]
      congr 1
      apply propext
      omega
  · have p := S.past_iff' j
    have p' := S.past_iff' j'
    by_cases h : t ≤ j.val
    · rw [if_pos h] at hk; omega
    rw [if_neg h] at hk hlt
    by_cases h' : t ≤ j'.val
    · exact .inr (hbot _ (.inl h'))
    rw [if_neg h'] at hlt
    by_cases hs' : sel j'
    · exact .inr (hbot _ (.inr hs'))
    refine .inl (hord j j' (by omega) (S.not_taken j (by omega)) (by omega) hs' ?_)
    have := S.fall (τ.symm j) (τ.symm j') (by omega) (by omega) (by rw [Fin.lt_def]; omega)
    simpa using this
  · have p := S.past_iff' j
    have p' := S.past_iff' j'
    by_cases hj : t ≤ j.val
    · rw [if_pos hj] at hk; omega
    rw [if_neg hj] at hk h
    by_cases h' : t ≤ j'.val
    · rw [if_pos h'] at h; omega
    rw [if_neg h'] at h
    exact τ.symm.injective (Fin.ext (by omega))
  · refine .inl ⟨τ ⟨r + (n - t), by omega⟩, ?_⟩
    have := S.future_iff ⟨r + (n - t), by omega⟩
    dsimp only at this
    rw [if_neg (by omega), Equiv.symm_apply_apply]
    dsimp only
    omega

end Rest

end Cert.Select

end
-- ==== Proof.Similar.lean ====
module

public import Idealize.ShloMosaic.PureOps
public import Idealize.ShloMosaic.PureOps.Ideal.Laws
public import Idealize.ShloMosaic.Lib.IdealHost

@[expose] public section

noncomputable section

/-! # Cosine similarities of real rows, and the few literals both sides read -/

namespace Cert.Similar

open Idealize.ShloMosaic

/-- The least length a row is divided by. -/
def eps : ℝ := 9223372 * (2 : ℝ) ^ (-63 : ℤ)

theorem eps_pos : 0 < eps := by unfold eps; positivity

theorem ofBits_eps : Ideal.ofBits .f32 0x2B8CBCCC#32 = ((eps : ℝ) : EReal) := by
  unfold eps
  simp [Ideal.ofBits, Ideal.ieee, -EReal.coe_mul]

theorem ofBits_far : Ideal.ofBits .f32 0x4E6E6B28#32 = ((1000000000 : ℝ) : EReal) := by
  simp [Ideal.ofBits, Ideal.ieee, -EReal.coe_mul]; norm_num

theorem ofBits_masked : Ideal.ofBits .f32 0xCE6E6B28#32 = ((-1000000000 : ℝ) : EReal) := by
  simp [Ideal.ofBits, Ideal.ieee, -EReal.coe_mul, -EReal.coe_neg]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) y := by
  rcases le_total x y with h | h
  · rw [max_eq_right h, max_eq_right (by exact_mod_cast h)]
  · rw [max_eq_left h, max_eq_left (by exact_mod_cast h)]

theorem div_real (x y : ℝ) (h : y ≠ 0) : Ideal.div (x : EReal) (y : EReal) = ((x / y : ℝ) : EReal) := by
  rw [Ideal.div_coe h, ← EReal.coe_mul, mul_one_div]

variable {n d : ℕ} (H : Fin n → Fin d → ℝ)

/-- A row's length, kept from zero. -/
def len (i : Fin n) : ℝ := max (Real.sqrt (∑ k, H i k * H i k)) eps

theorem len_pos (i : Fin n) : 0 < len H i := lt_of_lt_of_le eps_pos (le_max_right _ _)

/-- A row of unit length. -/
def unit (i : Fin n) (k : Fin d) : ℝ := H i k / len H i

theorem abs_unit_le (i : Fin n) (k : Fin d) : |unit H i k| ≤ 1 := by
  unfold unit
  rw [abs_div, abs_of_pos (len_pos H i), div_le_one (len_pos H i)]
  refine le_trans ?_ (le_max_left _ _)
  apply Real.abs_le_sqrt
  rw [sq]
  exact Finset.single_le_sum (f := fun k => H i k * H i k) (fun k _ => mul_self_nonneg _) (Finset.mem_univ k)

/-- The similarity of two rows. -/
def cosine (i j : Fin n) : ℝ := ∑ k, unit H i k * unit H j k

theorem abs_cosine_le (i j : Fin n) : |cosine H i j| ≤ d := by
  unfold cosine
  refine (Finset.abs_sum_le_sum_abs _ _).trans ?_
  refine (Finset.sum_le_card_nsmul _ _ 1 fun k _ => ?_).trans (by simp)
  rw [abs_mul]
  exact mul_le_one₀ (abs_unit_le H i k) (abs_nonneg _) (abs_unit_le H j k)

/-- A product of two rows over the second's length is the similarity times the first's. -/
theorem score_eq (i j : Fin n) : (∑ k, H i k * H j k) * (1 / len H j) = len H i * cosine H i j := by
  have hi := (len_pos H i).ne'
  have hj := (len_pos H j).ne'
  unfold cosine unit
  rw [Finset.sum_mul, Finset.mul_sum]
  refine Finset.sum_congr rfl fun k _ => ?_
  field_simp

end Cert.Similar

end

end
-- ==== Proof.KernelIdeal.Strike.lean ====
module

public import proofs.«01_k».proof.Proof.KernelIdeal.Point
public import proofs.«01_k».proof.Proof.Select
public import proofs.«01_k».proof.Proof.Similar
public import Idealize.ShloMosaic.Lib.MatmulPlain
public import Idealize.ShloMosaic.Lib.ValueLayout
public import Idealize.ShloMosaic.Lib.StableHlo.Predicate

@[expose] public section

noncomputable section

/-! # The kernel's selection steps, row by row -/

namespace Cert.KernelIdeal.Hand

open Gen Idealize.ShloMosaic Idealize.ShloMosaic.TcCoe Idealize.ShloMosaic.ValueIdx

variable {W : ℕ}

theorem neg_eq : (Named.named κ "neg" 0xF149F2CA#32 : Ideal .f32) = (⊥ : EReal) := IdealRules.named_const.ideal_named_scalar κ _ _ _ rfl
theorem below_eq : (Named.named κ "below" 0xEFA18F08#32 : Ideal .f32) = (⊥ : EReal) := IdealRules.named_const.ideal_named_scalar κ _ _ _ rfl
theorem pos_eq : (Named.named κ "pos" 0x7149F2CA#32 : Ideal .f32) = (⊤ : EReal) := IdealRules.named_const.ideal_named_scalar κ _ _ _ rfl
theorem above_eq : (Named.named κ "above" 0x6FA18F08#32 : Ideal .f32) = (⊤ : EReal) := IdealRules.named_const.ideal_named_scalar κ _ _ _ rfl

/-- A row of a matrix. -/
abbrev rowOf (v : FVec Ideal ⟨2, ![256, W]⟩ .f32) (r : Fin 256) : Fin W → EReal := fun j => v (ix2 r j)

theorem lift_row (h : (⟨2, ![256, W]⟩ : Shape).Reduces [1] S256) (r : Fin 256) (j : Fin W) : h.lift (ix1 r) j = ix2 r j := by
  funext c
  apply Fin.ext
  match c with
  | ⟨0, _⟩ => rfl
  | ⟨1, _⟩ => rfl

theorem column (x : FVec Ideal S256 .f32) (r : Fin 256) : shapeCast S256x1 x shapeCasts_S256_S256x1 (ix2 r 0) = x (ix1 r) :=
  shapeCast_apply x _ (ix2 r 0) (ix1 r) (by rw [Shape.rowMajor_val_two, Shape.rowMajor_val_one]; simp)

theorem spread {α : Type} (x : S256x1.Idx → α) (h : S256x1.Broadcasts ⟨2, ![256, W]⟩) (r : Fin 256) (j : Fin W) :
    broadcastTo (⟨2, ![256, W]⟩ : Shape) x h (ix2 r j) = x (ix2 r 0) :=
  broadcastTo_apply x h (ix2 r j) (ix2 r 0) fun a => match a with | ⟨0, _⟩ => rfl | ⟨1, _⟩ => rfl

/-- One step of the first selection: every row's greatest entries are struck out. -/
def strikeRows (hr : (⟨2, ![256, W]⟩ : Shape).Reduces [1] S256) (hb : S256x1.Broadcasts ⟨2, ![256, W]⟩) (v : FVec Ideal ⟨2, ![256, W]⟩ .f32) :
    FVec Ideal ⟨2, ![256, W]⟩ .f32 :=
  select (cmpf .oeq v (broadcastTo ⟨2, ![256, W]⟩ (shapeCast S256x1 (multiReduction .maximumf [1] S256 v 0xFF800000#32 hr (.inl rfl) rfl)
    shapeCasts_S256_S256x1) hb)) (broadcast ⟨2, ![256, W]⟩ (Named.named κ "neg" 0xF149F2CA#32)) v

theorem rowMax (hr : (⟨2, ![256, W]⟩ : Shape).Reduces [1] S256) (v : FVec Ideal ⟨2, ![256, W]⟩ .f32) (r : Fin 256) :
    multiReduction .maximumf [1] S256 v 0xFF800000#32 hr (.inl rfl) rfl (ix1 r) = Finset.univ.sup (rowOf v r) := by
  have h : (FloatOps.ofBits .f32 0xFF800000#32 : Ideal .f32) = (⊥ : EReal) := Similar.ofBits_bot
  refine (Ideal.multiReduction_maximumf_single v 0xFF800000#32 hr (.inl rfl) rfl (ix1 r)).trans ?_
  rw [h]
  exact Finset.fold_congr fun j _ => congrArg v (lift_row hr r j)

theorem rowMin (hr : (⟨2, ![256, W]⟩ : Shape).Reduces [1] S256) (v : FVec Ideal ⟨2, ![256, W]⟩ .f32) (r : Fin 256) :
    multiReduction .minimumf [1] S256 v 0x7F800000#32 hr (.inl rfl) rfl (ix1 r)
      = OrderDual.ofDual (Finset.univ.sup fun j : Fin W => OrderDual.toDual (v (ix2 r j))) := by
  have h : (FloatOps.ofBits .f32 0x7F800000#32 : Ideal .f32) = (⊤ : EReal) := Similar.ofBits_top
  refine (multiReduction_minimumf_eq_fold v 0x7F800000#32 hr (.inl rfl) rfl (ix1 r)).trans ?_
  refine (hr.fold_filter_drop_single _ _ v (ix1 r)).trans ?_
  rw [h]
  exact Finset.fold_congr fun j _ => congrArg v (lift_row hr r j)

theorem select_eq (x z : EReal) (y w : EReal) (b : BitVec 1) :
    Scalar.select (BitVec.ofBool (decide (x = z)) &&& b) y w = if x = z ∧ b = 1#1 then y else w := by
  unfold Scalar.select
  refine if_congr ?_ rfl rfl
  by_cases h : x = z
  · rw [decide_eq_true h, show ∀ a : BitVec 1, BitVec.ofBool true &&& a = a by decide]
    exact ⟨fun e => ⟨h, e⟩, fun e => e.2⟩
  · rw [decide_eq_false h, show ∀ a : BitVec 1, BitVec.ofBool false &&& a = 0#1 by decide]
    exact ⟨fun e => absurd e (by decide), fun e => absurd e.1 h⟩

theorem rowOf_strike (hr : (⟨2, ![256, W]⟩ : Shape).Reduces [1] S256) (hb : S256x1.Broadcasts ⟨2, ![256, W]⟩) (v : FVec Ideal ⟨2, ![256, W]⟩ .f32)
    (r : Fin 256) : rowOf (strikeRows hr hb v) r = Select.strike (rowOf v r) := by
  funext j
  have e := (spread (shapeCast S256x1 (multiReduction .maximumf [1] S256 v 0xFF800000#32 hr (.inl rfl) rfl) shapeCasts_S256_S256x1) hb r j).trans
    ((column _ r).trans (rowMax hr v r))
  refine Eq.trans (congrArg (fun z => Scalar.select (BitVec.ofBool (decide (v (ix2 r j) = z)))
    (Named.named κ "neg" 0xF149F2CA#32 : Ideal .f32) (v (ix2 r j))) e) ?_
  beta_reduce
  rw [neg_eq, ← (show ∀ a : BitVec 1, a &&& 1#1 = a by decide) (BitVec.ofBool _)]
  refine (select_eq _ _ _ _ _).trans ?_
  unfold Select.strike
  exact if_congr ⟨fun h => h.1, fun h => ⟨h, rfl⟩⟩ rfl rfl

theorem rowOf_strikes (hr : (⟨2, ![256, W]⟩ : Shape).Reduces [1] S256) (hb : S256x1.Broadcasts ⟨2, ![256, W]⟩) (n : ℕ)
    (v : FVec Ideal ⟨2, ![256, W]⟩ .f32) (r : Fin 256) : rowOf ((strikeRows hr hb)^[n] v) r = Select.strike^[n] (rowOf v r) :=
  Function.Semiconj.iterate_right (f := fun v => rowOf v r) (fun v => rowOf_strike hr hb v r) n v

/-- One step of the second selection, taken only by the rows that have reached `e`: their least entries are struck out. -/
def dropRows (row : IVec S256x1 32) (v : FVec Ideal S256x2048 .f32) (e : BitVec 32) : FVec Ideal S256x2048 .f32 :=
  select (andi (cmpf .oeq v (broadcastTo S256x2048 (shapeCast S256x1 (multiReduction .minimumf [1] S256 v 0x7F800000#32 reduces_S256x2048_S256 (.inl rfl) rfl)
    shapeCasts_S256_S256x1) broadcasts_S256x1_S256x2048)) (broadcastTo S256x2048 (cmpi .sge row (broadcast S256x1 e)) broadcasts_S256x1_S256x2048))
    (broadcast S256x2048 (Named.named κ "pos" 0x7149F2CA#32)) v

/-- A row's entries, the order turned round. -/
abbrev rowDual (v : FVec Ideal S256x2048 .f32) (r : Fin 256) : Fin 2048 → ERealᵒᵈ := fun j => OrderDual.toDual (v (ix2 r j))

theorem rowDual_drop (row : IVec S256x1 32) (v : FVec Ideal S256x2048 .f32) (e₀ : BitVec 32) (r : Fin 256) (n m : ℕ) (hn : n < 2 ^ 31) (hm : m < 2 ^ 31)
    (hrow : row (ix2 r 0) = BitVec.ofNat 32 n) (he : e₀ = BitVec.ofNat 32 m) :
    rowDual (dropRows row v e₀) r = if m ≤ n then Select.strike (rowDual v r) else rowDual v r := by
  funext j
  show Scalar.select (BitVec.ofBool (decide (v (ix2 r j) = broadcastTo S256x2048 _ broadcasts_S256x1_S256x2048 (ix2 r j)))
    &&& broadcastTo S256x2048 _ broadcasts_S256x1_S256x2048 (ix2 r j)) (Named.named κ "pos" 0x7149F2CA#32 : Ideal .f32) (v (ix2 r j)) = _
  have hs : IntOp.cmpi .sge (row (ix2 r 0)) e₀ = BitVec.ofBool (decide (m ≤ n)) := by
    rw [hrow, he]
    show BitVec.ofBool ((BitVec.ofNat 32 m).sle (BitVec.ofNat 32 n)) = _
    rw [BitVec.sle, StableHlo.Predicate.toInt_ofNat_small n hn, StableHlo.Predicate.toInt_ofNat_small m hm]
    exact congrArg _ (decide_eq_decide.2 (by omega))
  have e := (spread (shapeCast S256x1 (multiReduction .minimumf [1] S256 v 0x7F800000#32 reduces_S256x2048_S256 (.inl rfl) rfl) shapeCasts_S256_S256x1)
    broadcasts_S256x1_S256x2048 r j).trans ((column _ r).trans (rowMin reduces_S256x2048_S256 v r))
  have e' := (spread (cmpi .sge row (broadcast S256x1 e₀)) broadcasts_S256x1_S256x2048 r j).trans (show _ = _ from hs)
  refine Eq.trans (congrArg₂ (fun z y => Scalar.select (BitVec.ofBool (decide (v (ix2 r j) = z)) &&& y)
    (Named.named κ "pos" 0x7149F2CA#32 : Ideal .f32) (v (ix2 r j))) e e') ?_
  beta_reduce
  rw [pos_eq]
  refine (select_eq _ _ _ _ _).trans ?_
  by_cases h : m ≤ n
  · rw [if_pos h, decide_eq_true h]
    unfold Select.strike
    exact if_congr ⟨fun h => h.1, fun h => ⟨h, rfl⟩⟩ rfl rfl
  · rw [if_neg h, decide_eq_false h]
    exact if_neg fun h => absurd h.2 (by decide)

/-- The steps one after another, each with its own first row, the first of them the row after row `b`. -/
def dropAll (b : ℕ) (row : IVec S256x1 32) (v : FVec Ideal S256x2048 .f32) : ℕ → FVec Ideal S256x2048 .f32
  | 0 => v
  | c + 1 => dropRows row (dropAll b row v c) (BitVec.ofNat 32 (b + 1 + c))

theorem rowDual_dropAll (b : ℕ) (hb : b < 2048) (row : IVec S256x1 32) (v : FVec Ideal S256x2048 .f32) (r : Fin 256) (n : ℕ) (hn : n < 2 ^ 31)
    (hrow : row (ix2 r 0) = BitVec.ofNat 32 n) (c : ℕ) (hc : c ≤ 8) :
    rowDual (dropAll b row v c) r = Select.strike^[min c (n - b)] (rowDual v r) := by
  induction c with
  | zero => simp [dropAll]
  | succ c ih =>
    have := rowDual_drop row (dropAll b row v c) (BitVec.ofNat 32 (b + 1 + c)) r n (b + 1 + c) hn (by omega) hrow rfl
    rw [ih (by omega)] at this
    rw [← Select.strike_guarded, if_congr (show c < n - b ↔ b + 1 + c ≤ n by omega) rfl rfl]
    exact this

end Cert.KernelIdeal.Hand

end

end
-- ==== Proof.KernelIdeal.Rows.lean ====
module

public import proofs.«01_k».proof.Proof.KernelIdeal.Strike
public import Idealize.ShloMosaic.Lib.Pipeline.ValueKit.Tiles

@[expose] public section

noncomputable section

/-! # The kernel's scores at an index -/

namespace Cert.KernelIdeal.Hand

open Gen Idealize.ShloMosaic Idealize.ShloMosaic.TcCoe Idealize.ShloMosaic.ValueIdx

variable {W : ℕ}

/-- The number of a row or column, as the kernel counts it: 256 times its tile, plus its place. -/
theorem word_mul (a c : ℕ) : BitVec.ofNat 32 a * 256#32 + BitVec.ofNat 32 c = BitVec.ofNat 32 (256 * a + c) := by
  rw [show (256#32 : BitVec 32) = BitVec.ofNat 32 256 from rfl, ← BitVec.ofNat_mul, ← BitVec.ofNat_add, mul_comm]

theorem word_iv (k : ℕ) : Scf.iv 0#32 1#32 k = BitVec.ofNat 32 k := by
  unfold Scf.iv
  rw [BitVec.mul_one]
  exact BitVec.zero_add _

theorem iota_col (h : (⟨2, ![256, W]⟩ : Shape).Iotas .tc 32 [1]) (r : Fin 256) (j : Fin W) :
    iota .tc (⟨2, ![256, W]⟩ : Shape) 32 [1] h (ix2 r j) = BitVec.ofNat 32 j.val := by
  show BitVec.ofNat 32 (0 * _ + j.val) = _
  rw [Nat.zero_mul, Nat.zero_add]

theorem iota_row (h : (⟨2, ![256, W]⟩ : Shape).Iotas .tc 32 [0]) (r : Fin 256) (j : Fin W) :
    iota .tc (⟨2, ![256, W]⟩ : Shape) 32 [0] h (ix2 r j) = BitVec.ofNat 32 r.val := by
  show BitVec.ofNat 32 (0 * _ + r.val) = _
  rw [Nat.zero_mul, Nat.zero_add]

/-- A choice by a comparison of two counts. -/
theorem choose_lt {α : Type} (a b : ℕ) (ha : a < 2 ^ 31) (hb : b < 2 ^ 31) (y w : α) :
    Scalar.select (BitVec.ofBool ((BitVec.ofNat 32 a).slt (BitVec.ofNat 32 b))) y w = if a < b then y else w := by
  unfold Scalar.select
  exact if_congr (StableHlo.Predicate.slt_ofNat_iff a b ha hb) rfl rfl

/-- A product of a row tile with a block of rows. -/
theorem dots (x y : FVec Ideal S256x768 .f32) (r c : Fin 256) :
    matmul dot_S256x768_S256x768_S256x256_1_1_0_0_n_n (some .fp32) x y (constant S256x256 .f32 0x00000000#32) (ix2 r c)
      = ∑ k : Fin 768, x (ix2 r k) * y (ix2 c k) := by
  refine (Ideal.matmul_transposedRhs_apply (some .fp32) x y (constant S256x256 .f32 0x00000000#32) r c).trans ?_
  have h : (constant S256x256 .f32 0x00000000#32 : FVec Ideal S256x256 .f32) (ix2 r c) = (0 : EReal) := Ideal.ofBits_zero_f32
  rw [h, zero_add]

/-- One entry of a block of scores. -/
theorem block_value (i : grid0.Coords) (x7 v92 : Vec Ideal S1x256x768 .f32) (v96 : Vec Ideal S1x1x256 .f32) (k : Fin (k0_t1_loop i).trips) (r c : Fin 256) :
    k0_pay43 i x7 k v92 v96 (ix2 r c) = if 256 * k.val + c.val < 256 * (i 1).val + r.val then
      (∑ q : Fin 768, (x7 (ix3 0 r q) : EReal) * v92 (ix3 0 c q)) * v96 (ix3 0 0 c) else ⊥ := by
  have hk := k1_lt i k
  have hi := lt8 i
  have hr := r.isLt
  have hc := c.isLt
  unfold k0_pay43
  beta_reduce
  rw [shapeCast_self]
  refine Eq.trans ?_ (choose_lt (256 * k.val + c.val) (256 * (i 1).val + r.val) (by omega) (by omega) _ _)
  show Scalar.select (BitVec.ofBool (BitVec.slt (Scf.iv 0#32 1#32 k.val * 256#32 + iota .tc S256x256 32 [1] iota_S256x256_d1_w32 (ix2 r c))
    (BitVec.ofNat 32 (i 1).val * 256#32 + iota .tc S256x256 32 [0] iota_S256x256_d0_w32 (ix2 r c)))) (_ * _ : EReal) _ = _
  rw [word_iv, iota_col, iota_row, word_mul, word_mul, dots, neg_eq]
  congr 1
  congr 1
  · refine Finset.sum_congr rfl fun q _ => ?_
    unfold k0_pay41
    beta_reduce
    rw [shapeCast_1ab_ab_apply, shapeCast_1ab_ab_apply]
  · rw [broadcastTo_1b_ab_apply]
    exact shapeCast_1ab_ab_apply _ _ _ _

/-- What the scores of a row tile are, where the operands hold finite rows `H` and the inverses of their lengths. -/
theorem scores_value (i : grid0.Coords) (x3 : Vec Ideal S1x1x2048 .f32) (x4 : Vec Ideal S1x2048x768 .f32) (x7 : Vec Ideal S1x256x768 .f32)
    (H : Fin 2048 → Fin 768 → ℝ) (n : Fin 256 → Fin 2048) (hn : ∀ r, (n r).val = 256 * (i 1).val + r.val)
    (h4 : ∀ j k, x4 (ix3 0 j k) = (H j k : EReal)) (h7 : ∀ r k, x7 (ix3 0 r k) = (H (n r) k : EReal))
    (h3 : ∀ j, x3 (ix3 0 0 j) = ((1 / Similar.len H j : ℝ) : EReal)) (r : Fin 256) (j : Fin 2048) :
    scores i x3 x4 x7 (ix2 r j) = if j.val < (n r).val then ((Similar.len H (n r) * Similar.cosine H (n r) j : ℝ) : EReal) else ⊥ := by
  have ht := trips1 i
  have hr := r.isLt
  have hnr := hn r
  by_cases hk : j.val / 256 < (k0_t1_loop i).trips
  · refine (scores_at i x3 x4 x7 (ix2 r j) ⟨j.val / 256, hk⟩ rfl).trans ?_
    refine (block_value i x7 _ _ ⟨j.val / 256, hk⟩ r ⟨j.val % 256, Nat.mod_lt _ (by decide)⟩).trans ?_
    have hj : 256 * (j.val / 256) + j.val % 256 = j.val := Nat.div_add_mod _ _
    refine if_congr (by show 256 * (j.val / 256) + j.val % 256 < _ ↔ _; rw [hj, hnr]) ?_ rfl
    rw [← Similar.score_eq]
    have h1 : ∀ q : Fin 768, View.ld x4 (Rect.unit (s := S1x2048x768) (k0_off1 i ⟨j.val / 256, hk⟩) S1x256x768.size (k0_off1_inb i ⟨j.val / 256, hk⟩))
        (ix3 0 ⟨j.val % 256, Nat.mod_lt _ (by decide)⟩ q) = x4 (ix3 0 j q) := fun q =>
      View.ld_unit_apply_of x4 _ _ _ _ (ix3 0 j q) (by
        intro a
        rw [show k0_off1 i ⟨j.val / 256, hk⟩ a = _ from congrFun (off1_eq i ⟨j.val / 256, hk⟩) a]
        match a with
        | ⟨0, _⟩ => rfl
        | ⟨1, _⟩ => exact hj.symm
        | ⟨2, _⟩ => exact (Nat.zero_add _).symm)
    have h2 : View.ld x3 (Rect.unit (s := S1x1x2048) (k0_off2 i ⟨j.val / 256, hk⟩) S1x1x256.size (k0_off2_inb i ⟨j.val / 256, hk⟩))
        (ix3 0 0 ⟨j.val % 256, Nat.mod_lt _ (by decide)⟩) = x3 (ix3 0 0 j) :=
      View.ld_unit_apply_of x3 _ _ _ _ (ix3 0 0 j) (by
        intro a
        rw [show k0_off2 i ⟨j.val / 256, hk⟩ a = _ from congrFun (off2_eq i ⟨j.val / 256, hk⟩) a]
        match a with
        | ⟨0, _⟩ => rfl
        | ⟨1, _⟩ => rfl
        | ⟨2, _⟩ => exact hj.symm)
    rw [h2, h3, EReal.coe_mul, Similar.coe_sum]
    refine congrArg (fun t : EReal => t * ((1 / Similar.len H j : ℝ) : EReal)) (Finset.sum_congr rfl fun q _ => ?_)
    rw [h1, h4, h7, EReal.coe_mul]
  · rw [if_neg (by omega)]
    unfold scores
    rw [dif_neg (by exact hk), neg_eq]

end Cert.KernelIdeal.Hand
-- ==== Proof.KernelIdeal.Message.lean ====
module

public import proofs.«01_k».proof.Proof.KernelIdeal.Rows

@[expose] public section

noncomputable section

/-! # The kernel's messages at an index -/

namespace Cert.KernelIdeal.Hand

open Gen Idealize.ShloMosaic Idealize.ShloMosaic.TcCoe Idealize.ShloMosaic.ValueIdx

variable {W : ℕ}

/-! ## The message from the struck-out columns -/

/-- The weights of the first message: one on a struck-out column earlier than the row, nothing elsewhere. -/
def weights (row : BitVec 32) (h0 : (⟨2, ![256, W]⟩ : Shape).Iotas .tc 32 [0]) (h1 : (⟨2, ![256, W]⟩ : Shape).Iotas .tc 32 [1])
    (v : FVec Ideal ⟨2, ![256, W]⟩ .f32) : FVec Ideal ⟨2, ![256, W]⟩ .bf16 :=
  truncf .bf16 (select (andi (cmpf .ole v (broadcast ⟨2, ![256, W]⟩ (Named.named κ "below" 0xEFA18F08#32)))
      (cmpi .slt (iota .tc ⟨2, ![256, W]⟩ 32 [1] h1) (addi (broadcast ⟨2, ![256, W]⟩ row) (iota .tc ⟨2, ![256, W]⟩ 32 [0] h0))))
    (broadcast ⟨2, ![256, W]⟩ (Scalar.ofBits .f32 0x3F800000#32)) (broadcast ⟨2, ![256, W]⟩ (Scalar.ofBits .f32 0x00000000#32))) bitsLt_bf16_f32

/-- The mean of the weighted rows, the rows given as two parts. -/
def mean (deg : FVec Ideal S256x1 .f32) (hc : (⟨3, ![1, W, 768]⟩ : Shape).ShapeCasts ⟨2, ![W, 768]⟩)
    (a : FVec Ideal ⟨2, ![256, W]⟩ .bf16) (y z : FVec Ideal ⟨3, ![1, W, 768]⟩ .bf16) : FVec Ideal S256x768 .f32 :=
  divf (addf (matmul (DotDims.plain 256 W 768) none a (shapeCast ⟨2, ![W, 768]⟩ y hc) (constant S256x768 .f32 0x00000000#32))
      (matmul (DotDims.plain 256 W 768) none a (shapeCast ⟨2, ![W, 768]⟩ z hc) (constant S256x768 .f32 0x00000000#32)))
    (broadcastTo S256x768 deg broadcasts_S256x1_S256x768)

theorem select_both {α : Type} (x : EReal) (a b : ℕ) (ha : a < 2 ^ 31) (hb : b < 2 ^ 31) (y w : α) :
    Scalar.select (BitVec.ofBool (decide (x ≤ ⊥)) &&& BitVec.ofBool ((BitVec.ofNat 32 a).slt (BitVec.ofNat 32 b))) y w = if x = ⊥ ∧ a < b then y else w := by
  unfold Scalar.select
  refine if_congr ?_ rfl rfl
  have hbit : ∀ c : BitVec 1, 1#1 &&& c = 1#1 ↔ c = 1#1 := by decide
  have hnot : ∀ c : BitVec 1, ¬ 0#1 &&& c = 1#1 := by decide
  rw [← StableHlo.Predicate.slt_ofNat_iff a b ha hb, ← le_bot_iff]
  by_cases h : x ≤ ⊥
  · rw [decide_eq_true h]
    exact (hbit _).trans ⟨fun h' => ⟨h, h'⟩, fun h' => h'.2⟩
  · rw [decide_eq_false h]
    exact ⟨fun h' => absurd h' (hnot _), fun h' => absurd h'.1 h⟩

theorem weights_at (p : ℕ) (hp : p < 8) (hW : W ≤ 2048) (h0 : (⟨2, ![256, W]⟩ : Shape).Iotas .tc 32 [0]) (h1 : (⟨2, ![256, W]⟩ : Shape).Iotas .tc 32 [1])
    (v : FVec Ideal ⟨2, ![256, W]⟩ .f32) (r : Fin 256) (w : Fin W) :
    weights (BitVec.ofNat 32 p * 256#32) h0 h1 v (ix2 r w) = if v (ix2 r w) = (⊥ : EReal) ∧ w.val < 256 * p + r.val then (1 : EReal) else 0 := by
  have hr := r.isLt
  have hw := w.isLt
  have e1 : (Scalar.ofBits .f32 0x3F800000#32 : Ideal .f32) = (1 : EReal) := Ideal.ofBits_one_f32
  have e0 : (Scalar.ofBits .f32 0x00000000#32 : Ideal .f32) = (0 : EReal) := Ideal.ofBits_zero_f32
  refine Eq.trans ?_ (select_both (v (ix2 r w)) w.val (256 * p + r.val) (by omega) (by omega) _ _)
  show Scalar.select (BitVec.ofBool (decide ((v (ix2 r w) : EReal) ≤ (Named.named κ "below" 0xEFA18F08#32 : Ideal .f32)))
    &&& BitVec.ofBool (BitVec.slt (iota .tc (⟨2, ![256, W]⟩ : Shape) 32 [1] h1 (ix2 r w))
      (BitVec.ofNat 32 p * 256#32 + iota .tc (⟨2, ![256, W]⟩ : Shape) 32 [0] h0 (ix2 r w))))
    (Scalar.ofBits .f32 0x3F800000#32 : Ideal .f32) (Scalar.ofBits .f32 0x00000000#32 : Ideal .f32) = _
  rw [iota_col, iota_row, word_mul, below_eq, e1, e0]

theorem product_at {f : FTy} (prec : Option ContractPrecision) (a : FVec Ideal ⟨2, ![256, W]⟩ f) (y : FVec Ideal ⟨3, ![1, W, 768]⟩ f)
    (hc : (⟨3, ![1, W, 768]⟩ : Shape).ShapeCasts ⟨2, ![W, 768]⟩) (r : Fin 256) (k : Fin 768) :
    matmul (DotDims.plain 256 W 768) prec a (shapeCast ⟨2, ![W, 768]⟩ y hc) (constant S256x768 .f32 0x00000000#32) (ix2 r k)
      = ∑ w : Fin W, (a (ix2 r w) : EReal) * y (ix3 0 w k) := by
  refine (Ideal.matmul_plain_apply prec a _ (constant S256x768 .f32 0x00000000#32) r k).trans ?_
  have h : (constant S256x768 .f32 0x00000000#32 : FVec Ideal S256x768 .f32) (ix2 r k) = (0 : EReal) := Ideal.ofBits_zero_f32
  rw [h, zero_add]
  exact Finset.sum_congr rfl fun w _ => congrArg (fun t : EReal => (a (ix2 r w) : EReal) * t) (shapeCast_1ab_ab_apply y hc w k)

theorem mean_at (deg : FVec Ideal S256x1 .f32) (hc : (⟨3, ![1, W, 768]⟩ : Shape).ShapeCasts ⟨2, ![W, 768]⟩)
    (a : FVec Ideal ⟨2, ![256, W]⟩ .bf16) (y z : FVec Ideal ⟨3, ![1, W, 768]⟩ .bf16) (r : Fin 256) (k : Fin 768) :
    mean deg hc a y z (ix2 r k) = Ideal.div (∑ w : Fin W, ((a (ix2 r w) : EReal) * y (ix3 0 w k) + (a (ix2 r w) : EReal) * z (ix3 0 w k))) (deg (ix2 r 0)) := by
  rw [Finset.sum_add_distrib, ← product_at none a y hc r k, ← product_at none a z hc r k, ← spread deg broadcasts_S256x1_S256x768 r k]
  rfl

/-- Small counts as the kernel compares them. -/
theorem min_word (a b : ℕ) (ha : a < 2 ^ 31) (hb : b < 2 ^ 31) : IntOp.minsi (BitVec.ofNat 32 a) (BitVec.ofNat 32 b) = BitVec.ofNat 32 (min a b) := by
  have h := StableHlo.Predicate.slt_ofNat_iff a b ha hb
  rw [StableHlo.Predicate.ofBool_eq_one_iff] at h
  unfold IntOp.minsi
  rcases Nat.lt_or_ge a b with hab | hab
  · rw [if_pos (h.2 hab), min_eq_left hab.le]
  · rw [if_neg (fun h' => absurd (h.1 h') (by omega)), min_eq_right hab]

theorem max_word (a b : ℕ) (ha : a < 2 ^ 31) (hb : b < 2 ^ 31) : IntOp.maxsi (BitVec.ofNat 32 a) (BitVec.ofNat 32 b) = BitVec.ofNat 32 (max a b) := by
  have h := StableHlo.Predicate.slt_ofNat_iff b a hb ha
  rw [StableHlo.Predicate.ofBool_eq_one_iff] at h
  unfold IntOp.maxsi
  rcases Nat.lt_or_ge b a with hab | hab
  · rw [if_pos (h.2 hab), max_eq_left hab.le]
  · rw [if_neg (fun h' => absurd (h.1 h') (by omega)), max_eq_right hab]

theorem row_word (i : grid0.Coords) (r : Fin 256) : k0_pay45 i (ix2 r 0) = BitVec.ofNat 32 (256 * (i 1).val + r.val) := by
  show BitVec.ofNat 32 (i 1).val * 256#32 + iota .tc S256x1 32 [0] iota_S256x1_d0_w32 (ix2 r 0) = _
  rw [iota_row, word_mul]

/-- How many earlier rows the first message takes, `a` at the most, none counting as one. -/
theorem count_word (a : ℕ) (ha : a < 2 ^ 30) (i : grid0.Coords) (r : Fin 256) :
    (((IntOp.maxsi (IntOp.minsi (k0_pay45 i (ix2 r 0)) (BitVec.ofNat 32 a)) 1#32).toInt : ℝ) : EReal) = ((max (min (256 * (i 1).val + r.val) a) 1 : ℕ) : ℝ) := by
  have hi := lt8 i
  have hr := r.isLt
  rw [row_word, min_word _ _ (by omega) (by omega),
    show (1#32 : BitVec 32) = BitVec.ofNat 32 1 from rfl, max_word _ _ (by omega) (by omega), StableHlo.Predicate.toInt_ofNat_small _ (by omega)]
  norm_cast

theorem near_count (i : grid0.Coords) (r : Fin 256) : (k0_pay46 (F := Ideal) i (ix2 r 0) : EReal) = ((max (min (256 * (i 1).val + r.val) 16) 1 : ℕ) : ℝ) :=
  count_word 16 (by decide) i r

/-- A sum over the first columns of what vanishes beyond them. -/
theorem sum_first (hW : W ≤ 2048) (f : Fin 2048 → EReal) (hf : ∀ j : Fin 2048, W ≤ j.val → f j = 0) : ∑ w : Fin W, f (Fin.castLE hW w) = ∑ j, f j := by
  refine Fintype.sum_of_injective (Fin.castLE hW) (Fin.castLE_injective hW) _ _ (fun j hj => hf j ?_) (fun w => rfl)
  by_contra h
  exact hj ⟨⟨j.val, by omega⟩, rfl⟩

/-- A row of scores of finite rows `H` after the first selection: the columns of the first `a` positions in the reference's order are struck out. -/
theorem struck_row {a : ℕ} (hW : W ≤ 2048) (hr hb) (s : FVec Ideal ⟨2, ![256, W]⟩ .f32) (H : Fin 2048 → Fin 768 → ℝ) (n : Fin 2048) (r : Fin 256) (hnW : n.val < W)
    (hs : ∀ w : Fin W, s (ix2 r w) = if w.val < n.val then ((Similar.len H n * Similar.cosine H n (Fin.castLE hW w) : ℝ) : EReal) else ⊥)
    {L : EReal} (u : Fin 2048 → EReal) (σ : Equiv.Perm (Fin 2048)) (S : Select.Sorted 2048 n.val a L u σ)
    (hu : ∀ j : Fin 2048, j.val < n.val → u j = (Similar.cosine H n j : EReal)) (w : Fin W) :
    (strikeRows hr hb)^[a] s (ix2 r w) = if (σ.symm (Fin.castLE hW w)).val < a then (⊥ : EReal) else s (ix2 r w) := by
  refine (congrFun (rowOf_strikes hr hb a s r) w).trans (congrFun (S.struck (Fin.castLE hW) (Fin.castLE_injective hW)
    (fun j hj => ⟨⟨j.val, by omega⟩, rfl⟩) (rowOf s r) (fun w hw => ?_) (fun w w' h h' hlt => ?_)) w)
  · exact (hs w).trans (if_neg (not_lt.2 hw))
  · rw [hu _ h, hu _ h', EReal.coe_lt_coe_iff] at hlt
    show s (ix2 r w') < s (ix2 r w)
    rw [hs, hs, if_pos (show w.val < n.val from h), if_pos (show w'.val < n.val from h'), EReal.coe_lt_coe_iff]
    exact mul_lt_mul_of_pos_left hlt (Similar.len_pos H n)

open Classical in
/-- The first message, where the scores are those of finite rows `H` and the reference's order of the earlier columns is known. -/
theorem near_value {a : ℕ} (i : grid0.Coords) (deg : FVec Ideal S256x1 .f32) (hW : W ≤ 2048) (hr hb h0 h1 hc) (s : FVec Ideal ⟨2, ![256, W]⟩ .f32) (y z : FVec Ideal ⟨3, ![1, W, 768]⟩ .bf16)
    (H : Fin 2048 → Fin 768 → ℝ) (n : Fin 2048) (r : Fin 256) (hn : n.val = 256 * (i 1).val + r.val) (hnW : n.val < W)
    (hs : ∀ w : Fin W, s (ix2 r w) = if w.val < n.val then ((Similar.len H n * Similar.cosine H n (Fin.castLE hW w) : ℝ) : EReal) else ⊥)
    (hyz : ∀ w k, (y (ix3 0 w k) : EReal) + z (ix3 0 w k) = (H (Fin.castLE hW w) k : EReal))
    {L : EReal} (u : Fin 2048 → EReal) (σ : Equiv.Perm (Fin 2048)) (S : Select.Sorted 2048 n.val a L u σ)
    (hu : ∀ j : Fin 2048, j.val < n.val → u j = (Similar.cosine H n j : EReal))
    (hdeg : (deg (ix2 r 0) : EReal) = ((max (min n.val a) 1 : ℕ) : ℝ)) (k : Fin 768) :
    mean deg hc (weights (BitVec.ofNat 32 (i 1).val * 256#32) h0 h1 ((strikeRows hr hb)^[a] s)) y z (ix2 r k)
      = Ideal.div (∑ j : Fin 2048, (if j.val < n.val ∧ (σ.symm j).val < a then (1 : EReal) else 0) * (H j k : EReal))
        (max 1 ((((Finset.univ.filter fun j : Fin 2048 => j.val < n.val ∧ (σ.symm j).val < a).card : ℕ) : ℝ) : EReal)) := by
  have hstruck := struck_row hW hr hb s H n r hnW hs u σ S hu
  rw [mean_at, S.card_chosen]
  congr 1
  · rw [← sum_first hW]
    · refine Finset.sum_congr rfl fun w _ => ?_
      have hmask : ((strikeRows hr hb)^[a] s (ix2 r w) = (⊥ : EReal) ∧ w.val < 256 * (i 1).val + r.val)
          ↔ ((Fin.castLE hW w).val < n.val ∧ (σ.symm (Fin.castLE hW w)).val < a) := by
        rw [hstruck, ← hn]
        show _ ↔ (w.val < n.val ∧ _)
        refine ⟨fun h => ⟨h.2, ?_⟩, fun h => ⟨if_pos h.2, h.1⟩⟩
        by_contra hge
        have := h.1
        rw [if_neg hge, hs, if_pos h.2] at this
        exact EReal.coe_ne_bot _ this
      rw [weights_at _ (lt8 i) hW, if_congr hmask rfl rfl, ← hyz]
      split_ifs
      · rw [one_mul, one_mul, one_mul]
      · rw [zero_mul, zero_mul, zero_mul, zero_add]
    · intro j hj
      rw [if_neg (fun h => absurd h.1 (by omega)), zero_mul]
  · rw [hdeg, max_comm, ← EReal.coe_one, ← Similar.coe_max]
    norm_cast

end Cert.KernelIdeal.Hand
-- ==== Proof.KernelIdeal.Widths.lean ====
module

public import proofs.«01_k».proof.Proof.KernelIdeal.Message

@[expose] public section

noncomputable section

/-! # The kernel's first message at each of its four widths -/

namespace Cert.KernelIdeal.Hand

open Gen Idealize.ShloMosaic Idealize.ShloMosaic.TcCoe Idealize.ShloMosaic.ValueIdx

variable {W : ℕ}

/-- Every row's greatest entry, as a column. -/
abbrev tops (hr : (⟨2, ![256, W]⟩ : Shape).Reduces [1] S256) (v : FVec Ideal ⟨2, ![256, W]⟩ .f32) : FVec Ideal S256x1 .f32 :=
  shapeCast S256x1 (multiReduction .maximumf [1] S256 v 0xFF800000#32 hr (.inl rfl) rfl) shapeCasts_S256_S256x1

/-- One more step, as the program's parts write it. -/
theorem one_more (hr : (⟨2, ![256, W]⟩ : Shape).Reduces [1] S256) (hb : S256x1.Broadcasts ⟨2, ![256, W]⟩) {x v : FVec Ideal ⟨2, ![256, W]⟩ .f32} {n : ℕ}
    (h : x = (strikeRows hr hb)^[n] v) :
    select (cmpf .oeq x (broadcastTo ⟨2, ![256, W]⟩ (shapeCast S256x1 (multiReduction .maximumf [1] S256 x 0xFF800000#32 hr (.inl rfl) rfl)
      shapeCasts_S256_S256x1) hb)) (broadcast ⟨2, ![256, W]⟩ (Named.named κ "neg" 0xF149F2CA#32)) x = (strikeRows hr hb)^[n + 1] v := by
  rw [Function.iterate_succ_apply', ← h]
  rfl

/-- Where a row's greatest entry stands. -/
abbrev marks (hr : (⟨2, ![256, W]⟩ : Shape).Reduces [1] S256) (hb : S256x1.Broadcasts ⟨2, ![256, W]⟩) (v : FVec Ideal ⟨2, ![256, W]⟩ .f32) :
    IVec ⟨2, ![256, W]⟩ 1 :=
  cmpf .oeq v (broadcastTo ⟨2, ![256, W]⟩ (tops hr v) hb)

/-- Sixteen steps, counted as the program's parts hold them. -/
theorem sixteen (hr : (⟨2, ![256, W]⟩ : Shape).Reduces [1] S256) (hb : S256x1.Broadcasts ⟨2, ![256, W]⟩) (v : FVec Ideal ⟨2, ![256, W]⟩ .f32) :
    (strikeRows hr hb)^[4] ((strikeRows hr hb)^[7] ((strikeRows hr hb)^[5] v)) = (strikeRows hr hb)^[16] v := by
  rw [← Function.iterate_add_apply, ← Function.iterate_add_apply]

theorem msg512_eq (i : grid0.Coords) (s : Vec Ideal S256x512 .f32) (x5 x6 : Vec Ideal S1x2048x768 .bf16) :
    msg512 i s x5 x6 = mean (k0_pay46 i) shapeCasts_S1x512x768_S512x768
      (weights (BitVec.ofNat 32 (i 1).val * 256#32) iota_S256x512_d0_w32 iota_S256x512_d1_w32 ((strikeRows reduces_S256x512_S256 broadcasts_S256x1_S256x512)^[16] s))
      (View.ld x5 (Rect.unit (s := S1x2048x768) ![0, 0, 0] S1x512x768.size inb_S1x2048x768_S1x512x768_0_0_0))
      (View.ld x6 (Rect.unit (s := S1x2048x768) ![0, 0, 0] S1x512x768.size inb_S1x2048x768_S1x512x768_0_0_0)) := by
  have h1 : k0_pay4 s = (strikeRows reduces_S256x512_S256 broadcasts_S256x1_S256x512)^[5] s := rfl
  have h2 : ∀ v, k0_pay6 v (tops reduces_S256x512_S256 v) = (strikeRows reduces_S256x512_S256 broadcasts_S256x1_S256x512)^[7] v := fun v => by
    unfold k0_pay6 tops
    beta_reduce
    exact one_more _ _ (one_more _ _ (one_more _ _ (one_more _ _ (one_more _ _ (one_more _ _ (one_more _ _ rfl))))))
  have h3 : ∀ v t, k0_pay7 v t = marks reduces_S256x512_S256 broadcasts_S256x1_S256x512 (k0_pay6 v t) := fun v t => rfl
  have h4 : ∀ v y z, k0_pay9 (BitVec.ofNat 32 (i 1).val * 256#32) (k0_pay46 i) v (marks reduces_S256x512_S256 broadcasts_S256x1_S256x512 v) k0_pay8 y z
      = mean (k0_pay46 i) shapeCasts_S1x512x768_S512x768
        (weights (BitVec.ofNat 32 (i 1).val * 256#32) iota_S256x512_d0_w32 iota_S256x512_d1_w32 ((strikeRows reduces_S256x512_S256 broadcasts_S256x1_S256x512)^[4] v)) y z := fun v y z => rfl
  have h5 : k0_pay5 s = tops reduces_S256x512_S256 (k0_pay4 s) := rfl
  unfold msg512 k0_pay48
  beta_reduce
  rw [shapeCast_self, h5, h3, h2, h1]
  exact (h4 _ _ _).trans (by rw [sixteen])

theorem msg1024_eq (i : grid0.Coords) (s : Vec Ideal S256x1024 .f32) (x5 x6 : Vec Ideal S1x2048x768 .bf16) :
    msg1024 i s x5 x6 = mean (k0_pay46 i) shapeCasts_S1x1024x768_S1024x768
      (weights (BitVec.ofNat 32 (i 1).val * 256#32) iota_S256x1024_d0_w32 iota_S256x1024_d1_w32 ((strikeRows reduces_S256x1024_S256 broadcasts_S256x1_S256x1024)^[16] s))
      (View.ld x5 (Rect.unit (s := S1x2048x768) ![0, 0, 0] S1x1024x768.size inb_S1x2048x768_S1x1024x768_0_0_0))
      (View.ld x6 (Rect.unit (s := S1x2048x768) ![0, 0, 0] S1x1024x768.size inb_S1x2048x768_S1x1024x768_0_0_0)) := by
  have h1 : k0_pay12 s = (strikeRows reduces_S256x1024_S256 broadcasts_S256x1_S256x1024)^[5] s := rfl
  have h2 : ∀ v, k0_pay14 v (tops reduces_S256x1024_S256 v) = (strikeRows reduces_S256x1024_S256 broadcasts_S256x1_S256x1024)^[7] v := fun v => by
    unfold k0_pay14 tops
    beta_reduce
    exact one_more _ _ (one_more _ _ (one_more _ _ (one_more _ _ (one_more _ _ (one_more _ _ (one_more _ _ rfl))))))
  have h3 : ∀ v t, k0_pay15 v t = marks reduces_S256x1024_S256 broadcasts_S256x1_S256x1024 (k0_pay14 v t) := fun v t => rfl
  have h4 : ∀ v y z, k0_pay17 (BitVec.ofNat 32 (i 1).val * 256#32) (k0_pay46 i) v (marks reduces_S256x1024_S256 broadcasts_S256x1_S256x1024 v) k0_pay16 y z
      = mean (k0_pay46 i) shapeCasts_S1x1024x768_S1024x768
        (weights (BitVec.ofNat 32 (i 1).val * 256#32) iota_S256x1024_d0_w32 iota_S256x1024_d1_w32 ((strikeRows reduces_S256x1024_S256 broadcasts_S256x1_S256x1024)^[4] v)) y z := fun v y z => rfl
  have h5 : k0_pay13 s = tops reduces_S256x1024_S256 (k0_pay12 s) := rfl
  unfold msg1024 k0_pay49
  beta_reduce
  rw [shapeCast_self, h5, h3, h2, h1]
  exact (h4 _ _ _).trans (by rw [sixteen])

theorem msg1536_eq (i : grid0.Coords) (s : Vec Ideal S256x1536 .f32) (x5 x6 : Vec Ideal S1x2048x768 .bf16) :
    msg1536 i s x5 x6 = mean (k0_pay46 i) shapeCasts_S1x1536x768_S1536x768
      (weights (BitVec.ofNat 32 (i 1).val * 256#32) iota_S256x1536_d0_w32 iota_S256x1536_d1_w32 ((strikeRows reduces_S256x1536_S256 broadcasts_S256x1_S256x1536)^[16] s))
      (View.ld x5 (Rect.unit (s := S1x2048x768) ![0, 0, 0] S1x1536x768.size inb_S1x2048x768_S1x1536x768_0_0_0))
      (View.ld x6 (Rect.unit (s := S1x2048x768) ![0, 0, 0] S1x1536x768.size inb_S1x2048x768_S1x1536x768_0_0_0)) := by
  have h1 : k0_pay20 s = (strikeRows reduces_S256x1536_S256 broadcasts_S256x1_S256x1536)^[5] s := rfl
  have h2 : ∀ v, k0_pay22 v (tops reduces_S256x1536_S256 v) = (strikeRows reduces_S256x1536_S256 broadcasts_S256x1_S256x1536)^[7] v := fun v => by
    unfold k0_pay22 tops
    beta_reduce
    exact one_more _ _ (one_more _ _ (one_more _ _ (one_more _ _ (one_more _ _ (one_more _ _ (one_more _ _ rfl))))))
  have h3 : ∀ v t, k0_pay23 v t = marks reduces_S256x1536_S256 broadcasts_S256x1_S256x1536 (k0_pay22 v t) := fun v t => rfl
  have h4 : ∀ v y z, k0_pay25 (BitVec.ofNat 32 (i 1).val * 256#32) (k0_pay46 i) v (marks reduces_S256x1536_S256 broadcasts_S256x1_S256x1536 v) k0_pay24 y z
      = mean (k0_pay46 i) shapeCasts_S1x1536x768_S1536x768
        (weights (BitVec.ofNat 32 (i 1).val * 256#32) iota_S256x1536_d0_w32 iota_S256x1536_d1_w32 ((strikeRows reduces_S256x1536_S256 broadcasts_S256x1_S256x1536)^[4] v)) y z := fun v y z => rfl
  have h5 : k0_pay21 s = tops reduces_S256x1536_S256 (k0_pay20 s) := rfl
  unfold msg1536 k0_pay50
  beta_reduce
  rw [shapeCast_self, h5, h3, h2, h1]
  exact (h4 _ _ _).trans (by rw [sixteen])

theorem msg2048_eq (i : grid0.Coords) (s : Vec Ideal S256x2048 .f32) (x5 x6 : Vec Ideal S1x2048x768 .bf16) :
    msg2048 i s x5 x6 = mean (k0_pay46 i) shapeCasts_S1x2048x768_S2048x768
      (weights (BitVec.ofNat 32 (i 1).val * 256#32) iota_S256x2048_d0_w32 iota_S256x2048_d1_w32 ((strikeRows reduces_S256x2048_S256 broadcasts_S256x1_S256x2048)^[16] s))
      (View.ld x5 (Rect.unit (s := S1x2048x768) ![0, 0, 0] S1x2048x768.size inb_S1x2048x768_S1x2048x768_0_0_0))
      (View.ld x6 (Rect.unit (s := S1x2048x768) ![0, 0, 0] S1x2048x768.size inb_S1x2048x768_S1x2048x768_0_0_0)) := by
  have h1 : k0_pay34 s = (strikeRows reduces_S256x2048_S256 broadcasts_S256x1_S256x2048)^[5] s := rfl
  have h2 : ∀ v, k0_pay36 v (tops reduces_S256x2048_S256 v) = (strikeRows reduces_S256x2048_S256 broadcasts_S256x1_S256x2048)^[7] v := fun v => by
    unfold k0_pay36 tops
    beta_reduce
    exact one_more _ _ (one_more _ _ (one_more _ _ (one_more _ _ (one_more _ _ (one_more _ _ (one_more _ _ rfl))))))
  have h3 : ∀ v t, k0_pay37 v t = marks reduces_S256x2048_S256 broadcasts_S256x1_S256x2048 (k0_pay36 v t) := fun v t => rfl
  have h4 : ∀ v y z, k0_pay40 (BitVec.ofNat 32 (i 1).val * 256#32) (k0_pay46 i) v (marks reduces_S256x2048_S256 broadcasts_S256x1_S256x2048 v) k0_pay38 y z
      = mean (k0_pay46 i) shapeCasts_S1x2048x768_S2048x768
        (weights (BitVec.ofNat 32 (i 1).val * 256#32) iota_S256x2048_d0_w32 iota_S256x2048_d1_w32 ((strikeRows reduces_S256x2048_S256 broadcasts_S256x1_S256x2048)^[4] v)) y z := fun v y z => rfl
  have h5 : k0_pay35 s = tops reduces_S256x2048_S256 (k0_pay34 s) := rfl
  unfold msg2048 k0_pay51
  beta_reduce
  rw [shapeCast_self, h5, h3, h2, h1]
  exact (h4 _ _ _).trans (by rw [sixteen])

theorem struck_eq (s : Vec Ideal S256x2048 .f32) : struck s = (strikeRows reduces_S256x2048_S256 broadcasts_S256x1_S256x2048)^[16] s := by
  have h1 : k0_pay34 s = (strikeRows reduces_S256x2048_S256 broadcasts_S256x1_S256x2048)^[5] s := rfl
  have h2 : ∀ v, k0_pay36 v (tops reduces_S256x2048_S256 v) = (strikeRows reduces_S256x2048_S256 broadcasts_S256x1_S256x2048)^[7] v := fun v => by
    unfold k0_pay36 tops
    beta_reduce
    exact one_more _ _ (one_more _ _ (one_more _ _ (one_more _ _ (one_more _ _ (one_more _ _ (one_more _ _ rfl))))))
  have h3 : ∀ v t, k0_pay37 v t = marks reduces_S256x2048_S256 broadcasts_S256x1_S256x2048 (k0_pay36 v t) := fun v t => rfl
  have h4 : ∀ v, k0_pay39 v (marks reduces_S256x2048_S256 broadcasts_S256x1_S256x2048 v) k0_pay38
      = (strikeRows reduces_S256x2048_S256 broadcasts_S256x1_S256x2048)^[4] v := fun v => rfl
  have h5 : k0_pay35 s = tops reduces_S256x2048_S256 (k0_pay34 s) := rfl
  unfold struck
  rw [h5, h3, h2, h1, h4, sixteen]

end Cert.KernelIdeal.Hand

end

end
-- ==== Proof.KernelIdeal.Far.lean ====
module

public import proofs.«01_k».proof.Proof.KernelIdeal.Message

@[expose] public section

noncomputable section

/-! # The kernel's second message, from the least similar rows -/

namespace Cert.KernelIdeal.Hand

open Gen Idealize.ShloMosaic Idealize.ShloMosaic.TcCoe Idealize.ShloMosaic.ValueIdx

/-- The scores with the struck-out ones put above all others. -/
def raised (s : FVec Ideal S256x2048 .f32) : FVec Ideal S256x2048 .f32 :=
  select (cmpf .ole s (broadcast S256x2048 (Named.named κ "below" 0xEFA18F08#32))) (broadcast S256x2048 (Named.named κ "pos" 0x7149F2CA#32)) s

/-- One more step, as the program's parts write it. -/
theorem drop_more {b : ℕ} (row : IVec S256x1 32) {x v : FVec Ideal S256x2048 .f32} {c : ℕ} {e : BitVec 32} (he : e = BitVec.ofNat 32 (b + 1 + c)) (h : x = dropAll b row v c) :
    select (andi (cmpf .oeq x (broadcastTo S256x2048 (shapeCast S256x1 (multiReduction .minimumf [1] S256 x 0x7F800000#32 reduces_S256x2048_S256 (.inl rfl) rfl)
      shapeCasts_S256_S256x1) broadcasts_S256x1_S256x2048)) (broadcastTo S256x2048 (cmpi .sge row (broadcast S256x1 e)) broadcasts_S256x1_S256x2048))
      (broadcast S256x2048 (Named.named κ "pos" 0x7149F2CA#32)) x = dropAll b row v (c + 1) := by
  subst h he
  rfl

/-- The columns that the second message takes: those struck out in the second selection's `c` steps and not in the first. -/
def taken (b c : ℕ) (row : IVec S256x1 32) (s : FVec Ideal S256x2048 .f32) : IVec S256x2048 1 :=
  andi (cmpf .oge (dropAll b row (raised s) c) (broadcast S256x2048 (Named.named κ "above" 0x6FA18F08#32)))
    (xori (cmpf .ole s (broadcast S256x2048 (Named.named κ "below" 0xEFA18F08#32))) (constantI S256x2048 1 1#1))

/-- The second message: the mean of the rows of the columns taken. -/
def others (b c : ℕ) (row : IVec S256x1 32) (x4 : FVec Ideal S1x2048x768 .f32) (s : FVec Ideal S256x2048 .f32) : FVec Ideal S256x768 .f32 :=
  divf (matmul (DotDims.plain 256 2048 768) (some .fp32)
      (select (taken b c row s) (broadcast S256x2048 (Scalar.ofBits .f32 0x3F800000#32)) (broadcast S256x2048 (Scalar.ofBits .f32 0x00000000#32)))
      (shapeCast ⟨2, ![2048, 768]⟩ x4 shapeCasts_S1x2048x768_S2048x768) (constant S256x768 .f32 0x00000000#32))
    (broadcastTo S256x768 (sitofp (F := Ideal) .f32 (maxsi (subi row (broadcast S256x1 (BitVec.ofNat 32 b))) (broadcast S256x1 1#32))) broadcasts_S256x1_S256x768)

theorem first_four (row : IVec S256x1 32) (s : FVec Ideal S256x2048 .f32) : k0_pay27 row s = dropAll 2040 row (raised s) 4 := by
  unfold k0_pay27
  beta_reduce
  exact drop_more row rfl (drop_more row rfl (drop_more row rfl (drop_more row rfl rfl)))

theorem oge_congr (m : IVec S256x2048 1) {x y : FVec Ideal S256x2048 .f32} (h : x = y) :
    andi (cmpf .oge x (broadcast S256x2048 (Named.named κ "above" 0x6FA18F08#32))) m
      = andi (cmpf .oge y (broadcast S256x2048 (Named.named κ "above" 0x6FA18F08#32))) m := by
  rw [h]

theorem last_four (row : IVec S256x1 32) (s : FVec Ideal S256x2048 .f32) :
    k0_pay29 row (k0_pay26 s) (k0_pay27 row s) (k0_pay28 row s) = taken 2040 8 row s := by
  unfold k0_pay29
  beta_reduce
  refine oge_congr _ ?_
  exact drop_more row rfl (drop_more row rfl (drop_more row rfl (drop_more row rfl (first_four row s))))

theorem far_eq (i : grid0.Coords) (x4 : FVec Ideal S1x2048x768 .f32) (s : FVec Ideal S256x2048 .f32) : far (F := Ideal) i x4 s = others 2040 8 (k0_pay45 i) x4 s := by
  unfold far k0_pay52
  dsimp only
  rw [shapeCast_self, last_four]
  rfl

theorem bit_without (p q : Prop) [Decidable p] [Decidable q] : BitVec.ofBool (decide p) &&& (BitVec.ofBool (decide q) ^^^ 1#1) = 1#1 ↔ p ∧ ¬ q := by
  by_cases hp : p <;> by_cases hq : q <;> simp [hp, hq]

/-- The columns of the second message at an index. -/
theorem taken_at (b c : ℕ) (row : IVec S256x1 32) (s : FVec Ideal S256x2048 .f32) (r : Fin 256) (j : Fin 2048) :
    Scalar.select (taken b c row s (ix2 r j)) (1 : EReal) 0
      = if rowDual (dropAll b row (raised s) c) r j = ⊥ ∧ ¬ s (ix2 r j) = (⊥ : EReal) then 1 else 0 := by
  show Scalar.select (BitVec.ofBool (decide ((Named.named κ "above" 0x6FA18F08#32 : Ideal .f32) ≤ (dropAll b row (raised s) c (ix2 r j) : EReal)))
    &&& (BitVec.ofBool (decide ((s (ix2 r j) : EReal) ≤ (Named.named κ "below" 0xEFA18F08#32 : Ideal .f32))) ^^^ 1#1)) _ _ = _
  rw [above_eq, below_eq]
  unfold Scalar.select
  refine if_congr ?_ rfl rfl
  have hd : rowDual (dropAll b row (raised s) c) r j = ⊥ ↔ (⊤ : EReal) ≤ (dropAll b row (raised s) c (ix2 r j) : EReal) :=
    (top_le_iff (a := (dropAll b row (raised s) c (ix2 r j) : EReal))).symm
  rw [hd, ← le_bot_iff]
  exact bit_without _ _

theorem raised_at (s : FVec Ideal S256x2048 .f32) (r : Fin 256) (j : Fin 2048) :
    raised s (ix2 r j) = if s (ix2 r j) = (⊥ : EReal) then (⊤ : EReal) else s (ix2 r j) := by
  show Scalar.select (BitVec.ofBool (decide ((s (ix2 r j) : EReal) ≤ (Named.named κ "below" 0xEFA18F08#32 : Ideal .f32)))) (Named.named κ "pos" 0x7149F2CA#32 : Ideal .f32) _ = _
  rw [pos_eq, below_eq]
  unfold Scalar.select
  refine if_congr ?_ rfl rfl
  show BitVec.ofBool _ = 1#1 ↔ _
  rw [StableHlo.Predicate.ofBool_eq_one_iff, decide_eq_true_iff]
  exact le_bot_iff

/-- How many rows the second message takes, none counting as one. -/
theorem far_word (b n : ℕ) (hb : b < 2 ^ 30) (hn : n < 2048) : (IntOp.maxsi (BitVec.ofNat 32 n - BitVec.ofNat 32 b) 1#32).toInt = ((max (n - b) 1 : ℕ) : ℤ) := by
  have hone : (1#32 : BitVec 32).toInt = 1 := by decide
  have hsub : (BitVec.ofNat 32 n - BitVec.ofNat 32 b).toInt = (n : ℤ) - b := by
    rw [BitVec.toInt_sub, StableHlo.Predicate.toInt_ofNat_small n (by omega), StableHlo.Predicate.toInt_ofNat_small b (by omega)]
    exact Int.bmod_eq_of_le (by omega) (by omega)
  unfold IntOp.maxsi
  split_ifs with h
  all_goals
    simp only [BitVec.slt, BitVec.sle, decide_eq_true_eq, hsub, hone] at h
    first | rw [hsub] | rw [hone]
    omega

theorem others_at (b c : ℕ) (hb : b < 2 ^ 30) (i : grid0.Coords) (x4 : FVec Ideal S1x2048x768 .f32) (s : FVec Ideal S256x2048 .f32) (r : Fin 256) (k : Fin 768) :
    (others b c (k0_pay45 i) x4 s (ix2 r k) : EReal)
      = Ideal.div (∑ j : Fin 2048, (if rowDual (dropAll b (k0_pay45 i) (raised s) c) r j = ⊥ ∧ ¬ s (ix2 r j) = (⊥ : EReal) then (1 : EReal) else 0) * x4 (ix3 0 j k))
        ((max (256 * (i 1).val + r.val - b) 1 : ℕ) : ℝ) := by
  have hi := lt8 i
  have hr := r.isLt
  have e1 : (Scalar.ofBits .f32 0x3F800000#32 : Ideal .f32) = (1 : EReal) := Ideal.ofBits_one_f32
  have e0 : (Scalar.ofBits .f32 0x00000000#32 : Ideal .f32) = (0 : EReal) := Ideal.ofBits_zero_f32
  have hmask : ∀ j : Fin 2048, (select (taken b c (k0_pay45 i) s) (broadcast S256x2048 (Scalar.ofBits (F := Ideal) .f32 0x3F800000#32))
      (broadcast S256x2048 (Scalar.ofBits (F := Ideal) .f32 0x00000000#32)) (ix2 r j) : EReal)
      = if rowDual (dropAll b (k0_pay45 i) (raised s) c) r j = ⊥ ∧ ¬ s (ix2 r j) = (⊥ : EReal) then (1 : EReal) else 0 := fun j => by
    rw [← taken_at]
    show Scalar.select _ (Scalar.ofBits .f32 0x3F800000#32 : Ideal .f32) (Scalar.ofBits .f32 0x00000000#32 : Ideal .f32) = _
    rw [e1, e0]
  have hdeg : broadcastTo S256x768 (sitofp (F := Ideal) .f32 (maxsi (subi (k0_pay45 i) (broadcast S256x1 (BitVec.ofNat 32 b))) (broadcast S256x1 1#32)))
      broadcasts_S256x1_S256x768 (ix2 r k) = (((max (256 * (i 1).val + r.val - b) 1 : ℕ) : ℝ) : EReal) := by
    rw [spread]
    show (((IntOp.maxsi (k0_pay45 i (ix2 r 0) - BitVec.ofNat 32 b) 1#32).toInt : ℝ) : EReal) = _
    rw [row_word, far_word _ _ hb (by omega)]
    norm_cast
  have hprod := product_at (some .fp32) (select (taken b c (k0_pay45 i) s) (broadcast S256x2048 (Scalar.ofBits (F := Ideal) .f32 0x3F800000#32))
    (broadcast S256x2048 (Scalar.ofBits .f32 0x00000000#32))) x4 shapeCasts_S1x2048x768_S2048x768 r k
  rw [← hdeg]
  refine congrArg (fun z : EReal => Ideal.div z _) (hprod.trans (Finset.sum_congr rfl fun j _ => ?_))
  rw [hmask]

open Classical in
/-- The second message, where the scores left are those of finite rows `H` and the reference's order of the rows left is known. -/
theorem others_value {b c a : ℕ} (hbc : b + c = 2048) (h0 : 0 < c) (hc : c ≤ 8) (i : grid0.Coords) (x4 : FVec Ideal S1x2048x768 .f32) (s : FVec Ideal S256x2048 .f32)
    (H : Fin 2048 → Fin 768 → ℝ) (n : Fin 2048) (r : Fin 256) (hn : n.val = 256 * (i 1).val + r.val) (sel : Fin 2048 → Prop)
    (hs : ∀ j : Fin 2048, s (ix2 r j) = if j.val < n.val ∧ ¬ sel j then ((Similar.len H n * Similar.cosine H n j : ℝ) : EReal) else ⊥)
    (h4 : ∀ j k, (x4 (ix3 0 j k) : EReal) = (H j k : EReal))
    {M : EReal} (q : Fin 2048 → EReal) (τ : Equiv.Perm (Fin 2048)) (S : Select.Rest 2048 n.val c a M sel q τ)
    (hq : ∀ j : Fin 2048, j.val < n.val → ¬ sel j → q j = ((-Similar.cosine H n j : ℝ) : EReal)) (k : Fin 768) :
    (others b c (k0_pay45 i) x4 s (ix2 r k) : EReal)
      = Ideal.div (∑ j : Fin 2048, (if j.val < n.val ∧ ¬ sel j ∧ (τ.symm j).val < c then (1 : EReal) else 0) * (H j k : EReal))
        (max 1 ((((Finset.univ.filter fun j : Fin 2048 => j.val < n.val ∧ ¬ sel j ∧ (τ.symm j).val < c).card : ℕ) : ℝ) : EReal)) := by
  have hnlt := n.isLt
  have hfin : ∀ j : Fin 2048, s (ix2 r j) = (⊥ : EReal) ↔ ¬ (j.val < n.val ∧ ¬ sel j) := fun j => by
    rw [hs]
    by_cases h : j.val < n.val ∧ ¬ sel j
    · rw [if_pos h]
      exact ⟨fun h' => absurd h' (EReal.coe_ne_bot _), fun h' => absurd h h'⟩
    · rw [if_neg h]
      exact ⟨fun _ => h, fun _ => rfl⟩
  have hz : ∀ j : Fin 2048, j.val < n.val → ¬ sel j → raised s (ix2 r j) = ((Similar.len H n * Similar.cosine H n j : ℝ) : EReal) := fun j h1 h2 => by
    rw [raised_at, if_neg (fun h => (hfin j).1 h ⟨h1, h2⟩), hs, if_pos ⟨h1, h2⟩]
  have hdropped : rowDual (dropAll b (k0_pay45 i) (raised s) c) r = fun j => if j.val < n.val ∧ (τ.symm j).val < c then ⊥ else rowDual (raised s) r j := by
    rw [rowDual_dropAll b (by omega) (k0_pay45 i) (raised s) r n.val (by omega) ((row_word i r).trans (by rw [hn])) c hc,
      show min c (n.val - b) = c - (2048 - n.val) by omega]
    refine S.struck (rowDual (raised s) r) (fun j hj => ?_) (fun j j' h1 h2 h3 h4 hlt => ?_)
    · show OrderDual.toDual (raised s (ix2 r j)) = OrderDual.toDual (⊤ : EReal)
      rw [raised_at, if_pos ((hfin j).2 (by rintro ⟨h, h'⟩; rcases hj with hj | hj <;> [omega; exact h' hj]))]
    · rw [hq j h1 h2, hq j' h3 h4, EReal.coe_lt_coe_iff, neg_lt_neg_iff] at hlt
      show raised s (ix2 r j) < raised s (ix2 r j')
      rw [hz j h1 h2, hz j' h3 h4, EReal.coe_lt_coe_iff]
      exact mul_lt_mul_of_pos_left hlt (Similar.len_pos H n)
  rw [others_at _ _ (by omega), S.card_chosen]
  congr 1
  · refine Finset.sum_congr rfl fun j _ => ?_
    have hmask : (rowDual (dropAll b (k0_pay45 i) (raised s) c) r j = ⊥ ∧ ¬ s (ix2 r j) = (⊥ : EReal)) ↔ (j.val < n.val ∧ ¬ sel j ∧ (τ.symm j).val < c) := by
      rw [hfin, not_not, congrFun hdropped j]
      constructor
      · rintro ⟨h, h1, h2⟩
        refine ⟨h1, h2, ?_⟩
        by_contra h3
        rw [if_neg (fun h' => h3 h'.2)] at h
        have h' : raised s (ix2 r j) = (⊤ : EReal) := h
        rw [hz j h1 h2] at h'
        exact EReal.coe_ne_top _ h'
      · rintro ⟨h1, h2, h3⟩
        exact ⟨if_pos ⟨h1, h3⟩, h1, h2⟩
    rw [if_congr hmask rfl rfl, h4]
  · rw [← hn, max_comm, ← EReal.coe_one, ← Similar.coe_max, show c - (2048 - n.val) = n.val - b by omega]
    norm_cast

/-- Where no row is left to take, the second message is nothing. -/
theorem far_none {c a : ℕ} (n : Fin 2048) (sel : Fin 2048 → Prop) {M : EReal} (q : Fin 2048 → EReal) (τ : Equiv.Perm (Fin 2048)) (S : Select.Rest 2048 n.val c a M sel q τ)
    (hn : n.val + c ≤ 2048) (j : Fin 2048) : ¬ (j.val < n.val ∧ ¬ sel j ∧ (τ.symm j).val < c) := by
  rintro ⟨h1, _, h3⟩
  have := (S.past_iff' j).1 h1
  omega

end Cert.KernelIdeal.Hand

end

end
-- ==== Proof.Round.lean ====
module

public import Idealize.ShloMosaic.PureOps.Ideal.Laws
public import Idealize.ShloMosaic.Lib.IdealHost

@[expose] public section

noncomputable section

/-! # One entry of a round's result, from the two messages -/

namespace Cert.Round

open Idealize.ShloMosaic

/-- A number as it is printed. -/
abbrev lit (b : BitVec 32) : EReal := (FloatOps.ofBits .f32 b : Ideal .f32)

/-- The row blended with its two messages, then scaled and shifted: what the activation is applied to. -/
def blend (p0 p1 h mp mn gain bias : EReal) : EReal :=
  (p0 * h + (lit 0x3F800000#32 - p0) * (p1 * mp + (lit 0x3F800000#32 - p1) * mn)) * gain + bias

/-- The activation of `z`, by the error function. -/
def act (z : EReal) : EReal := lit 0x3F000000#32 * z * (lit 0x3F800000#32 + Ideal.erf (z * lit 0x3F3504F3#32))

/-- The activation as the complementary error function spells it. -/
theorem act_erfc (z : EReal) : lit 0x3F000000#32 * z * Ideal.erfc (-z * lit 0x3F3504F3#32) = act z := by
  have h1 : lit 0x3F800000#32 = (1 : EReal) := Ideal.ofBits_one_f32
  unfold act
  rw [neg_mul, Ideal.erfc_neg, h1]

/-- One entry of the next row: the row before, and the activation of the blend. -/
def state (p0 p1 p2 h mp mn gain bias : EReal) : EReal :=
  p2 * h + (lit 0x3F800000#32 - p2) * act (blend p0 p1 h mp mn gain bias)

/-- One entry of the result: the next row's, less the first row's, scaled. -/
def entry (p0 p1 p2 p3 h mp mn gain bias x : EReal) : EReal :=
  (state p0 p1 p2 h mp mn gain bias - x) * p3

open Classical in
/-- The mean of the rows chosen by `P`, none chosen counting as one. -/
def mean {n : ℕ} (P : Fin n → Prop) (f : Fin n → EReal) : EReal :=
  Ideal.div (∑ j, (if P j then 1 else 0) * f j) (max 1 (((Finset.univ.filter P).card : ℝ) : EReal))

/-- The mean however the choice is decided. -/
theorem mean_eq {n : ℕ} (P : Fin n → Prop) (d : ∀ j, Decidable (P j)) (d' : DecidablePred P) (f : Fin n → EReal) :
    Ideal.div (∑ j, (@ite EReal (P j) (d j) 1 0) * f j) (max 1 (((@Finset.filter _ P d' Finset.univ).card : ℝ) : EReal)) = mean P f := by
  unfold mean
  rw [Subsingleton.elim d fun j => Classical.propDecidable (P j), Subsingleton.elim d' fun j => Classical.propDecidable (P j)]

theorem mean_none {n : ℕ} {P : Fin n → Prop} (h : ∀ j, ¬ P j) (f : Fin n → EReal) : mean P f = 0 := by
  classical
  unfold mean
  rw [Finset.sum_eq_zero (fun j _ => by rw [if_neg (h j), zero_mul]), Finset.filter_false_of_mem (fun j _ => h j), Finset.card_empty]
  norm_num [Ideal.div]

end Cert.Round

end

end
-- ==== Proof.KernelIdeal.Tiles.lean ====
module

public import proofs.«01_k».proof.Proof.KernelIdeal.Widths
public import proofs.«01_k».proof.Proof.KernelIdeal.Far
public import proofs.«01_k».proof.Proof.Round

@[expose] public section

noncomputable section

/-! # The two messages of a row tile -/

namespace Cert.KernelIdeal.Hand

open Gen Idealize.ShloMosaic Idealize.ShloMosaic.TcCoe Idealize.ShloMosaic.ValueIdx

/-- The first columns of the scores. -/
theorem cols_at {W : ℕ} (hW : W ≤ 2048) (s : Vec Ideal S256x2048 .f32) (inb : ∀ a, (![0, 0] : Fin 2 → ℕ) a + (![256, W] : Fin 2 → ℕ) a ≤ S256x2048.size a) (r : Fin 256) (w : Fin W) :
    View.ld s (Rect.unit (s := S256x2048) ![0, 0] ![256, W] inb) (ix2 r w) = s (ix2 r (Fin.castLE hW w)) :=
  View.ld_unit_apply_of s _ _ _ _ (ix2 r (Fin.castLE hW w)) fun a => match a with
    | ⟨0, _⟩ => (Nat.zero_add _).symm
    | ⟨1, _⟩ => (Nat.zero_add _).symm

/-- The first of the rows. -/
theorem rows_at {W : ℕ} (hW : W ≤ 2048) (x : Vec Ideal S1x2048x768 .bf16) (inb : ∀ a, (![0, 0, 0] : Fin 3 → ℕ) a + (![1, W, 768] : Fin 3 → ℕ) a ≤ S1x2048x768.size a) (w : Fin W)
    (k : Fin 768) : View.ld x (Rect.unit (s := S1x2048x768) ![0, 0, 0] ![1, W, 768] inb) (ix3 0 w k) = x (ix3 0 (Fin.castLE hW w) k) :=
  View.ld_unit_apply_of x _ _ _ _ (ix3 0 (Fin.castLE hW w) k) fun a => match a with
    | ⟨0, _⟩ => rfl
    | ⟨1, _⟩ => (Nat.zero_add _).symm
    | ⟨2, _⟩ => (Nat.zero_add _).symm

section

variable (i : grid0.Coords) (s : Vec Ideal S256x2048 .f32) (H : Fin 2048 → Fin 768 → ℝ) (n : Fin 2048) (r : Fin 256) (hn : n.val = 256 * (i 1).val + r.val)
  (hs : ∀ j : Fin 2048, s (ix2 r j) = if j.val < n.val then ((Similar.len H n * Similar.cosine H n j : ℝ) : EReal) else ⊥)
  {a c : ℕ} {L : EReal} (u : Fin 2048 → EReal) (σ : Equiv.Perm (Fin 2048)) (S : Select.Sorted 2048 n.val a L u σ)
  (hu : ∀ j : Fin 2048, j.val < n.val → u j = (Similar.cosine H n j : EReal))

include hn hs S hu

/-- The first message of a tile whose rows reach no further than `W`. -/
theorem width_tile {W : ℕ} (hW : W ≤ 2048) (hnW : n.val < W) (deg : FVec Ideal S256x1 .f32) (hdeg : (deg (ix2 r 0) : EReal) = ((max (min (256 * (i 1).val + r.val) a) 1 : ℕ) : ℝ))
    (hr hb h0 h1 hc) (inb2 : ∀ d, (![0, 0] : Fin 2 → ℕ) d + (![256, W] : Fin 2 → ℕ) d ≤ S256x2048.size d)
    (inb3 : ∀ d, (![0, 0, 0] : Fin 3 → ℕ) d + (![1, W, 768] : Fin 3 → ℕ) d ≤ S1x2048x768.size d)
    (x5 x6 : Vec Ideal S1x2048x768 .bf16) (h56 : ∀ j k, (x5 (ix3 0 j k) : EReal) + x6 (ix3 0 j k) = (H j k : EReal)) (k : Fin 768) :
    (mean (W := W) deg hc (weights (BitVec.ofNat 32 (i 1).val * 256#32) h0 h1 ((strikeRows hr hb)^[a] (View.ld s (Rect.unit (s := S256x2048) ![0, 0] ![256, W] inb2))))
      (View.ld x5 (Rect.unit (s := S1x2048x768) ![0, 0, 0] ![1, W, 768] inb3)) (View.ld x6 (Rect.unit (s := S1x2048x768) ![0, 0, 0] ![1, W, 768] inb3)) (ix2 r k) : EReal)
      = Round.mean (fun j : Fin 2048 => j.val < n.val ∧ (σ.symm j).val < a) fun j => (H j k : EReal) :=
  (near_value i deg hW hr hb h0 h1 hc _ _ _ H n r hn hnW (fun w => (cols_at hW s inb2 r w).trans (hs _))
    (fun w k => by rw [rows_at hW x5, rows_at hW x6, h56]) u σ S hu (by rw [hdeg, hn]) k).trans (Round.mean_eq _ _ _ _)

/-- The second message of the tile of the last rows, `b` of them taking none. -/
theorem last_tile {b : ℕ} (hbc : b + c = 2048) (h0 : 0 < c) (hc : c ≤ 8) (hr hb) (x4 : Vec Ideal S1x2048x768 .f32) (h4 : ∀ j k, (x4 (ix3 0 j k) : EReal) = (H j k : EReal))
    {M : EReal} (q : Fin 2048 → EReal) (τ : Equiv.Perm (Fin 2048)) (R : Select.Rest 2048 n.val c a M (fun j => j.val < n.val ∧ (σ.symm j).val < a) q τ)
    (hq : ∀ j : Fin 2048, j.val < n.val → ¬ (j.val < n.val ∧ (σ.symm j).val < a) → q j = ((-Similar.cosine H n j : ℝ) : EReal)) (k : Fin 768) :
    (others b c (k0_pay45 i) x4 ((strikeRows (W := 2048) hr hb)^[a] (cols2048 s)) (ix2 r k) : EReal)
      = Round.mean (fun j : Fin 2048 => j.val < n.val ∧ ¬ (j.val < n.val ∧ (σ.symm j).val < a) ∧ (τ.symm j).val < c) fun j => (H j k : EReal) := by
  refine (others_value hbc h0 hc i x4 _ H n r hn (fun j => j.val < n.val ∧ (σ.symm j).val < a) (fun j => ?_) h4 q τ R hq k).trans (Round.mean_eq _ _ _ _)
  have hcol : ∀ w : Fin 2048, cols2048 s (ix2 r w) = if w.val < n.val then ((Similar.len H n * Similar.cosine H n (Fin.castLE le_rfl w) : ℝ) : EReal) else ⊥ :=
    fun w => (cols_at le_rfl s inb_S256x2048_S256x2048_0_0 r w).trans (hs _)
  refine (struck_row le_rfl _ _ (cols2048 s) H n r n.isLt hcol u σ S hu j).trans ?_
  rw [hcol]
  show (if (σ.symm j).val < a then (⊥ : EReal) else if j.val < n.val then ((Similar.len H n * Similar.cosine H n j : ℝ) : EReal) else ⊥) = _
  by_cases h1 : j.val < n.val <;> by_cases h2 : (σ.symm j).val < a <;> simp [h1, h2]

end

/-- A tile of earlier rows takes no second message. -/
theorem none_tile (n : Fin 2048) {a c : ℕ} (H : Fin 2048 → Fin 768 → ℝ) (sel : Fin 2048 → Prop) {M : EReal} (q : Fin 2048 → EReal) (τ : Equiv.Perm (Fin 2048))
    (R : Select.Rest 2048 n.val c a M sel q τ) (hc : n.val + c ≤ 2048) (k : Fin 768) :
    (0 : EReal) = Round.mean (fun j : Fin 2048 => j.val < n.val ∧ ¬ sel j ∧ (τ.symm j).val < c) fun j => (H j k : EReal) :=
  (Round.mean_none (far_none n sel q τ R hc) _).symm

section

variable (i : grid0.Coords) (s : Vec Ideal S256x2048 .f32) (H : Fin 2048 → Fin 768 → ℝ) (n : Fin 2048) (r : Fin 256) (hn : n.val = 256 * (i 1).val + r.val)
  (hs : ∀ j : Fin 2048, s (ix2 r j) = if j.val < n.val then ((Similar.len H n * Similar.cosine H n j : ℝ) : EReal) else ⊥)
  {L : EReal} (u : Fin 2048 → EReal) (σ : Equiv.Perm (Fin 2048)) (S : Select.Sorted 2048 n.val 16 L u σ)
  (hu : ∀ j : Fin 2048, j.val < n.val → u j = (Similar.cosine H n j : EReal))

include hn hs S hu

/-- The first message of a tile. -/
theorem near_tile (x5 x6 : Vec Ideal S1x2048x768 .bf16) (h56 : ∀ j k, (x5 (ix3 0 j k) : EReal) + x6 (ix3 0 j k) = (H j k : EReal)) (k : Fin 768) :
    (near i s x5 x6 (ix2 r k) : EReal) = Round.mean (fun j : Fin 2048 => j.val < n.val ∧ (σ.symm j).val < 16) fun j => (H j k : EReal) := by
  have hi := lt8 i
  have hr := r.isLt
  unfold near
  split_ifs with h2 h4 h6
  · rw [msg512_eq]
    exact width_tile i s H n r hn hs u σ S hu (by decide) (by omega) _ (near_count i r) _ _ _ _ _ _ _ x5 x6 h56 k
  · rw [msg1024_eq]
    exact width_tile i s H n r hn hs u σ S hu (by decide) (by omega) _ (near_count i r) _ _ _ _ _ _ _ x5 x6 h56 k
  · rw [msg1536_eq]
    exact width_tile i s H n r hn hs u σ S hu (by decide) (by omega) _ (near_count i r) _ _ _ _ _ _ _ x5 x6 h56 k
  · rw [msg2048_eq]
    exact width_tile i s H n r hn hs u σ S hu le_rfl (by omega) _ (near_count i r) _ _ _ _ _ _ _ x5 x6 h56 k

/-- The second message of a tile. -/
theorem apart_tile (x4 : Vec Ideal S1x2048x768 .f32) (h4 : ∀ j k, (x4 (ix3 0 j k) : EReal) = (H j k : EReal))
    {M : EReal} (q : Fin 2048 → EReal) (τ : Equiv.Perm (Fin 2048)) (R : Select.Rest 2048 n.val 8 16 M (fun j => j.val < n.val ∧ (σ.symm j).val < 16) q τ)
    (hq : ∀ j : Fin 2048, j.val < n.val → ¬ (j.val < n.val ∧ (σ.symm j).val < 16) → q j = ((-Similar.cosine H n j : ℝ) : EReal)) (k : Fin 768) :
    (apart i s x4 (ix2 r k) : EReal)
      = Round.mean (fun j : Fin 2048 => j.val < n.val ∧ ¬ (j.val < n.val ∧ (σ.symm j).val < 16) ∧ (τ.symm j).val < 8) fun j => (H j k : EReal) := by
  have hi := lt8 i
  have hr := r.isLt
  unfold apart
  split_ifs with h7
  · rw [far_eq, struck_eq]
    exact last_tile i s H n r hn hs u σ S hu rfl (by decide) le_rfl _ _ x4 h4 q τ R hq k
  · refine Eq.trans ?_ (none_tile n H _ q τ R (by omega) k)
    unfold k0_pay47
    beta_reduce
    rw [shapeCast_self]
    exact Ideal.ofBits_zero_f32

end

end Cert.KernelIdeal.Hand

end

end
-- ==== Proof.KernelIdeal.Tail.lean ====
module

public import proofs.«01_k».proof.Proof.KernelIdeal.Rows
public import proofs.«01_k».proof.Proof.Round

@[expose] public section

noncomputable section

/-! # The kernel's last steps at an index -/

namespace Cert.KernelIdeal.Hand

open Gen Idealize.ShloMosaic Idealize.ShloMosaic.TcCoe Idealize.ShloMosaic.ValueIdx

/-- A parameter read alone. -/
theorem param_at (x0 : Vec Ideal S4 .f32) (a : Fin 4) (inb : ∀ d, (![a.val] : Fin 1 → ℕ) d + (![1] : Fin 1 → ℕ) d ≤ S4.size d) (h : 0 < (Rect.unit (s := S4) ![a.val] ![1] inb).shape.numel) :
    View.ld x0 (Rect.unit (s := S4) ![a.val] ![1] inb) (Shape.Idx.first h) = x0 (ix1 a) :=
  View.ld_unit_apply_of x0 _ _ _ _ (ix1 a) fun d => match d with | ⟨0, _⟩ => rfl

theorem spread_row (x : FVec Ideal S1x768 .f32) (r : Fin 256) (k : Fin 768) : broadcastTo S256x768 x broadcasts_S1x768_S256x768 (ix2 r k) = x (ix2 0 k) :=
  broadcastTo_1b_ab_apply x broadcasts_S1x768_S256x768 r k

theorem blend_at (v1 mp mn : FVec Ideal S256x768 .f32) (p0 p1 : Elt Ideal .f32) (gain bias : Vec Ideal S1x768 .f32) (r : Fin 256) (k : Fin 768) :
    (k0_pay53 v1 mp p0 p1 mn gain bias (ix2 r k) : EReal) = Round.blend p0 p1 (v1 (ix2 r k)) (mp (ix2 r k)) (mn (ix2 r k)) (gain (ix2 0 k)) (bias (ix2 0 k)) := by
  rw [← spread_row gain r k, ← spread_row bias r k]
  rfl

theorem entry_at (v1 z : FVec Ideal S256x768 .f32) (p2 p3 : Elt Ideal .f32) (x8 : Vec Ideal S1x256x768 .f32) (r : Fin 256) (k : Fin 768) :
    (k0_pay1 v1 p2 p3 z x8 (ix3 0 r k) : EReal)
      = (p2 * v1 (ix2 r k) + (Round.lit 0x3F800000#32 - p2) * Round.act (z (ix2 r k)) - x8 (ix3 0 r k)) * p3 := by
  rw [← shapeCast_1ab_ab_apply x8 shapeCasts_S1x256x768_S256x768 r k]
  unfold k0_pay1
  beta_reduce
  refine (shapeCast_ab_1ab_apply _ shapeCasts_S256x768_S1x256x768 0 r k).trans ?_
  rfl

/-- The output tile at an index, from the two messages. -/
theorem tail_at (x0 : Vec Ideal S4 .f32) (x1 x2 : Vec Ideal S1x768 .f32) (x7 x8 : Vec Ideal S1x256x768 .f32) (mp mn : Vec Ideal S256x768 .f32) (r : Fin 256) (k : Fin 768) :
    (tail x0 x1 x2 x7 x8 mp mn (ix3 0 r k) : EReal)
      = Round.entry (x0 (ix1 0)) (x0 (ix1 1)) (x0 (ix1 2)) (x0 (ix1 3)) (x7 (ix3 0 r k)) (mp (ix2 r k)) (mn (ix2 r k)) (x1 (ix2 0 k)) (x2 (ix2 0 k)) (x8 (ix3 0 r k)) := by
  have hrow : k0_pay41 x7 (ix2 r k) = x7 (ix3 0 r k) := shapeCast_1ab_ab_apply x7 shapeCasts_S1x256x768_S256x768 r k
  have e0 : View.ld x0 (Rect.unit ![0] ![1] inb_S4_S1_0) (Shape.Idx.first (by decide)) = x0 (ix1 0) := param_at x0 0 inb_S4_S1_0 (by decide)
  have e1 : View.ld x0 (Rect.unit ![1] ![1] inb_S4_S1_1) (Shape.Idx.first (by decide)) = x0 (ix1 1) := param_at x0 1 inb_S4_S1_1 (by decide)
  have e2 : View.ld x0 (Rect.unit ![2] ![1] inb_S4_S1_2) (Shape.Idx.first (by decide)) = x0 (ix1 2) := param_at x0 2 inb_S4_S1_2 (by decide)
  have e3 : View.ld x0 (Rect.unit ![3] ![1] inb_S4_S1_3) (Shape.Idx.first (by decide)) = x0 (ix1 3) := param_at x0 3 inb_S4_S1_3 (by decide)
  unfold tail
  rw [entry_at, blend_at, hrow]
  unfold Round.entry Round.state
  rw [e0, e1, e2, e3]

end Cert.KernelIdeal.Hand

end

end
-- ==== Proof.KernelIdeal.Blocks.lean ====
module

public import proofs.«01_k».proof.Proof.KernelIdeal.Frame
public import Idealize.ShloMosaic.Lib.Pipeline.ValueKit

@[expose] public section

set_option maxRecDepth 16384

noncomputable section

/-! # A point's blocks, element by element, and the array the tiles make up -/

namespace Cert.KernelIdeal.Hand

open Gen
open Idealize.ShloMosaic.ValueIdx
open Idealize.ShloMosaic hiding ix1 ix2 ix3
open Idealize.ShloMosaic.TcCoe Idealize.ShloMosaic.Tactic
open Idealize.ShloMosaic.Pipeline (Dat Cfg Window cellOf)

variable {F : FTy → Type} [FloatOps F] [Named F]
variable (m : (ℓ : Loc nD τ sig) → Buf (Elt F) ℓ)

theorem places : ∀ t : Fin cfg0.N,
    win0_0.index t = ![0] ∧ win0_1.index t = ![0, 0] ∧ win0_2.index t = ![0, 0]
    ∧ win0_3.index t = ![(grid0.coords t 0).val, 0, 0] ∧ win0_4.index t = ![(grid0.coords t 0).val, 0, 0]
    ∧ win0_5.index t = ![(grid0.coords t 0).val, 0, 0] ∧ win0_6.index t = ![(grid0.coords t 0).val, 0, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0] := by
  decide +kernel

/-- The batch of a point. -/
def batch (t : Fin cfg0.N) : Fin 4 := ⟨(grid0.coords t 0).val, (grid0.coords t 0).isLt⟩

/-- The row of the array that is row `r` of the point's tile. -/
def arrayRow (t : Fin cfg0.N) (r : Fin 256) : Fin 2048 :=
  ⟨256 * (grid0.coords t 1).val + r.val, by have : (grid0.coords t 1).val < 8 := (grid0.coords t 1).isLt; omega⟩

variable (c : Dev nD) (t : Fin cfg0.N)

theorem block0 (a : Fin 4) : iblk m c 0 t (ix1 a) = m (c.tc.loc main_arg0) (ix1 a) := by
  obtain ⟨e, -⟩ := places t
  show V m c (Pipeline.arrRef spec0 0) (((cfg0.win 0).blk t).view.emb (ix1 a)) = _
  refine congrArg _ (funext fun j => match j with | ⟨0, _⟩ => Fin.ext ?_)
  blk_simp [e]

theorem block1 (k : Fin 768) : iblk m c 1 t (ix2 0 k) = m (c.tc.loc main_arg1) (ix2 0 k) := by
  obtain ⟨-, e, -⟩ := places t
  show V m c (Pipeline.arrRef spec0 1) (((cfg0.win 1).blk t).view.emb (ix2 0 k)) = _
  refine congrArg _ (funext fun j => match j with | ⟨0, _⟩ => Fin.ext ?_ | ⟨1, _⟩ => Fin.ext ?_) <;> blk_simp [e]

theorem block2 (k : Fin 768) : iblk m c 2 t (ix2 0 k) = m (c.tc.loc main_arg2) (ix2 0 k) := by
  obtain ⟨-, -, e, -⟩ := places t
  show V m c (Pipeline.arrRef spec0 2) (((cfg0.win 2).blk t).view.emb (ix2 0 k)) = _
  refine congrArg _ (funext fun j => match j with | ⟨0, _⟩ => Fin.ext ?_ | ⟨1, _⟩ => Fin.ext ?_) <;> blk_simp [e]

theorem block3 (k : Fin 2048) : iblk m c 3 t (ix3 0 0 k) = m (c.tc.loc main_arg3) (ix3 (batch t) 0 k) := by
  obtain ⟨-, -, -, e, -⟩ := places t
  show V m c (Pipeline.arrRef spec0 3) (((cfg0.win 3).blk t).view.emb (ix3 0 0 k)) = _
  refine congrArg _ (funext fun j => match j with | ⟨0, _⟩ => Fin.ext ?_ | ⟨1, _⟩ => Fin.ext ?_ | ⟨2, _⟩ => Fin.ext ?_) <;> blk_simp [e, batch]

theorem block4 (j : Fin 2048) (k : Fin 768) : iblk m c 4 t (ix3 0 j k) = m (c.tc.loc main_arg4) (ix3 (batch t) j k) := by
  obtain ⟨-, -, -, -, e, -⟩ := places t
  show V m c (Pipeline.arrRef spec0 4) (((cfg0.win 4).blk t).view.emb (ix3 0 j k)) = _
  refine congrArg _ (funext fun j => match j with | ⟨0, _⟩ => Fin.ext ?_ | ⟨1, _⟩ => Fin.ext ?_ | ⟨2, _⟩ => Fin.ext ?_) <;> blk_simp [e, batch]

theorem block5 (j : Fin 2048) (k : Fin 768) : iblk m c 5 t (ix3 0 j k) = m (c.tc.loc main_arg5) (ix3 (batch t) j k) := by
  obtain ⟨-, -, -, -, -, e, -⟩ := places t
  show V m c (Pipeline.arrRef spec0 5) (((cfg0.win 5).blk t).view.emb (ix3 0 j k)) = _
  refine congrArg _ (funext fun j => match j with | ⟨0, _⟩ => Fin.ext ?_ | ⟨1, _⟩ => Fin.ext ?_ | ⟨2, _⟩ => Fin.ext ?_) <;> blk_simp [e, batch]

theorem block6 (j : Fin 2048) (k : Fin 768) : iblk m c 6 t (ix3 0 j k) = m (c.tc.loc main_arg6) (ix3 (batch t) j k) := by
  obtain ⟨-, -, -, -, -, -, e, -⟩ := places t
  show V m c (Pipeline.arrRef spec0 6) (((cfg0.win 6).blk t).view.emb (ix3 0 j k)) = _
  refine congrArg _ (funext fun j => match j with | ⟨0, _⟩ => Fin.ext ?_ | ⟨1, _⟩ => Fin.ext ?_ | ⟨2, _⟩ => Fin.ext ?_) <;> blk_simp [e, batch]

theorem block7 (r : Fin 256) (k : Fin 768) : iblk m c 7 t (ix3 0 r k) = m (c.tc.loc main_arg4) (ix3 (batch t) (arrayRow t r) k) := by
  obtain ⟨-, -, -, -, -, -, -, e, -⟩ := places t
  show V m c (Pipeline.arrRef spec0 7) (((cfg0.win 7).blk t).view.emb (ix3 0 r k)) = _
  refine congrArg _ (funext fun j => match j with | ⟨0, _⟩ => Fin.ext ?_ | ⟨1, _⟩ => Fin.ext ?_ | ⟨2, _⟩ => Fin.ext ?_) <;>
    blk_simp [e, batch, arrayRow, Nat.mul_comm]

theorem block8 (r : Fin 256) (k : Fin 768) : iblk m c 8 t (ix3 0 r k) = m (c.tc.loc main_arg7) (ix3 (batch t) (arrayRow t r) k) := by
  obtain ⟨-, -, -, -, -, -, -, -, e, -⟩ := places t
  show V m c (Pipeline.arrRef spec0 8) (((cfg0.win 8).blk t).view.emb (ix3 0 r k)) = _
  refine congrArg _ (funext fun j => match j with | ⟨0, _⟩ => Fin.ext ?_ | ⟨1, _⟩ => Fin.ext ?_ | ⟨2, _⟩ => Fin.ext ?_) <;>
    blk_simp [e, batch, arrayRow, Nat.mul_comm]

/-- The array the tiles make up: any array the tiles agree with. -/
theorem whole (G : Vec F S4x2048x768 .f32) (h : ∀ (t : Fin cfg0.N) (r : Fin 256) (k : Fin 768), outAt m c t (ix3 0 r k) = G (ix3 (batch t) (arrayRow t r) k)) :
    (dats m 0 c).arrAt 9 cfg0.N = G := by
  refine (dats m 0 c).arrAt_eq_of_covers 9 _ (by decide +kernel) fun t hf y => ?_
  obtain ⟨-, -, -, -, -, -, -, -, -, e⟩ := places t
  have hy : y = ix3 (0 : Fin 1) (y 1 : Fin 256) (y 2 : Fin 768) := by
    funext j
    match j with
    | ⟨0, _⟩ => exact Fin.ext (Nat.lt_one_iff.mp (y 0).isLt)
    | ⟨1, _⟩ => rfl
    | ⟨2, _⟩ => rfl
  blk_simp [e]
  rw [after_9]
  refine (congrArg (outAt m c t) hy).trans ((h t _ _).trans (congrArg G ?_))
  funext j
  match j with
  | ⟨0, _⟩ => exact Fin.ext (Eq.symm (by blk_simp [e, batch, arrayRow, Nat.mul_comm]))
  | ⟨1, _⟩ => exact Fin.ext (Eq.symm (by blk_simp [e, batch, arrayRow, Nat.mul_comm]; rfl))
  | ⟨2, _⟩ => exact Fin.ext (Eq.symm (by blk_simp [e, batch, arrayRow, Nat.mul_comm]; rfl))

end Cert.KernelIdeal.Hand
-- ==== Proof.Topk.lean ====
module

public import Idealize.ShloMosaic.PureOps
public import Idealize.ShloMosaic.PureOps.Ideal.Laws
public import Idealize.ShloMosaic.Lib.SortFacts
public import Idealize.ShloMosaic.Lib.ValueIdxCoords

@[expose] public section

noncomputable section

/-! # The host's greatest entries of a row, read at an index -/

namespace Cert.Topk

open Idealize.ShloMosaic

/-- Where a row's sort, the greatest first, takes its entries from. -/
def perm {n : ℕ} (u : Fin n → EReal) : Equiv.Perm (Fin n) :=
  Equiv.ofBijective (sortedFrom fun k k' => Ideal.cmpTotal .gt (u k) (u k') == 1#1)
    ⟨sortedFrom_injective _, sortedFrom_surjective _⟩

theorem before_iff {n : ℕ} (u : Fin n → EReal) (k k' : Fin n) :
    (Ideal.cmpTotal .gt (u k) (u k') == 1#1) = decide (u k' < u k) := by
  show (BitVec.ofBool (decide (u k' < u k)) == 1#1) = decide (u k' < u k)
  cases decide (u k' < u k) <;> rfl

/-- No later position holds a greater entry. -/
theorem perm_anti {n : ℕ} (u : Fin n → EReal) (r s : Fin n) (h : r < s) : u (perm u s) ≤ u (perm u r) := by
  have := sortedFrom_noInversion (fun k k' => Ideal.cmpTotal .gt (u k) (u k') == 1#1)
    (fun k k' => Ideal.cmpTotal .gt (u k) (u k') == 1#1)
    (fun a b h => by rw [before_iff] at h ⊢; simp only [decide_eq_true_eq, decide_eq_false_iff_not, not_lt] at h ⊢; exact h.le)
    (fun a b h => h)
    (fun a b c h h' => by
      rw [before_iff] at h h' ⊢
      simp only [decide_eq_false_iff_not, not_lt] at h h' ⊢
      exact h.trans h') r s h
  rw [before_iff] at this
  exact not_lt.1 (of_decide_eq_false this)

/-- A row of an array of rows. -/
def row {a b n : ℕ} (x : (⟨3, ![a, b, n]⟩ : Shape).Idx → EReal) (p : Fin a) (q : Fin b) : Fin n → EReal :=
  fun j => x (ValueIdx.ix3 p q j)

theorem along_ix3 {a b n : ℕ} (p : Fin a) (q : Fin b) (r j : Fin n) :
    (ValueIdx.ix3 p q r : (⟨3, ![a, b, n]⟩ : Shape).Idx).along (2 : Fin 3) j = ValueIdx.ix3 p q j := by
  funext i
  match i with
  | ⟨0, _⟩ => rfl
  | ⟨1, _⟩ => rfl
  | ⟨2, _⟩ => rfl

theorem values_apply {a b n k : ℕ} (x : (⟨3, ![a, b, n]⟩ : Shape).Idx → EReal)
    (h : (⟨3, ![a, b, n]⟩ : Shape).Slices (fun _ => 0) ⟨3, ![a, b, k]⟩) (hk : k ≤ n) (p : Fin a) (q : Fin b) (r : Fin k) :
    (Host.topK (s := ⟨3, ![a, b, n]⟩) ⟨3, ![a, b, k]⟩ 2 (FloatOps.cmpfTotal (F := Ideal) (φ := .f32) .gt) x h).1 (ValueIdx.ix3 p q r)
      = row x p q (perm (row x p q) (r.castLE hk)) := by
  have e : ∀ (f : (⟨3, ![a, b, n]⟩ : Shape).Idx → EReal),
      extractStridedSlice (⟨3, ![a, b, k]⟩ : Shape) (fun _ => 0) f h (ValueIdx.ix3 p q r) = f (ValueIdx.ix3 p q (r.castLE hk)) := fun f => by
    unfold extractStridedSlice
    refine congrArg f (funext fun i => Fin.ext ?_)
    match i with
    | ⟨0, _⟩ => exact Nat.zero_add _
    | ⟨1, _⟩ => exact Nat.zero_add _
    | ⟨2, _⟩ => exact Nat.zero_add _
  unfold Host.topK
  dsimp only
  rw [e]
  unfold Host.sort2
  rw [dif_pos (show 2 < (⟨3, ![a, b, n]⟩ : Shape).rank from (by decide : 2 < 3))]
  dsimp only
  erw [along_ix3]
  have al := fun j => along_ix3 (a := a) p q (r.castLE hk) j
  simp only [show (⟨2, (by decide : 2 < 3)⟩ : Fin 3) = 2 from rfl] at *
  refine congrArg (fun j => x (ValueIdx.ix3 p q j)) (congrFun (congrArg sortedFrom ?_) _)
  funext k k'
  exact congrArg₂ (fun y z => Ideal.cmpTotal .gt (x y) (x z) == 1#1) (al k) (al k')

theorem indices_apply {a b n k : ℕ} (x : (⟨3, ![a, b, n]⟩ : Shape).Idx → EReal)
    (h : (⟨3, ![a, b, n]⟩ : Shape).Slices (fun _ => 0) ⟨3, ![a, b, k]⟩) (hk : k ≤ n) (p : Fin a) (q : Fin b) (r : Fin k) :
    (Host.topK (s := ⟨3, ![a, b, n]⟩) ⟨3, ![a, b, k]⟩ 2 (FloatOps.cmpfTotal (F := Ideal) (φ := .f32) .gt) x h).2 (ValueIdx.ix3 p q r)
      = BitVec.ofNat 32 (perm (row x p q) (r.castLE hk)).val := by
  have e : ∀ (f : (⟨3, ![a, b, n]⟩ : Shape).Idx → BitVec 32),
      extractStridedSlice (⟨3, ![a, b, k]⟩ : Shape) (fun _ => 0) f h (ValueIdx.ix3 p q r) = f (ValueIdx.ix3 p q (r.castLE hk)) := fun f => by
    unfold extractStridedSlice
    refine congrArg f (funext fun i => Fin.ext ?_)
    match i with
    | ⟨0, _⟩ => exact Nat.zero_add _
    | ⟨1, _⟩ => exact Nat.zero_add _
    | ⟨2, _⟩ => exact Nat.zero_add _
  unfold Host.topK
  dsimp only
  rw [e]
  unfold Host.sort2
  rw [dif_pos (show 2 < (⟨3, ![a, b, n]⟩ : Shape).rank from (by decide : 2 < 3))]
  dsimp only
  rw [dif_pos (by decide : 2 < 3)]
  have al := fun j => along_ix3 (a := a) p q (r.castLE hk) j
  unfold iotaInDim
  erw [al]
  refine congrArg (fun j : Fin n => BitVec.ofNat 32 j.val) (congrFun (congrArg sortedFrom ?_) _)
  funext k k'
  exact congrArg₂ (fun y z => Ideal.cmpTotal .gt (x y) (x z) == 1#1) (al k) (al k')

end Cert.Topk

end

end
-- ==== Proof.Reference.Masked.lean ====
module

public import proofs.«01_k».proof.Proof.Gen.ReferenceIdeal
public import proofs.«01_k».proof.Proof.Gen.ReferenceIdeal.Run
public import proofs.«01_k».proof.Proof.Gen.ReferenceIdeal.Read
public import proofs.«01_k».proof.Proof.Topk
public import proofs.«01_k».proof.Proof.Similar
public import Idealize.ShloMosaic.Lib.StableHlo.Predicate

@[expose] public section

noncomputable section

/-! # The reference's masked similarities, read at an index -/

namespace Cert.ReferenceIdeal.Hand

open Cert.ReferenceIdeal Cert.ReferenceIdeal.Gen Cert.ReferenceIdeal.Read Idealize.ShloMosaic Idealize.ShloMosaic.TcCoe ValueIdx

theorem sge_pred (i j : ℕ) (hi : i < 2048) (hj : j < 2048) :
    IntOp.cmpi .sge (IntOp.addi (BitVec.ofNat 32 i) 4294967295#32) (BitVec.ofNat 32 j) = BitVec.ofBool (decide (j < i)) := by
  have e : (IntOp.addi (BitVec.ofNat 32 i) 4294967295#32).toInt = (i : Int) - 1 := by
    cases i with
    | zero => decide
    | succ i =>
      have : IntOp.addi (BitVec.ofNat 32 (i + 1)) 4294967295#32 = BitVec.ofNat 32 i := by
        have h1 : (1#32 : BitVec 32) + 4294967295#32 = 0#32 := by decide
        unfold IntOp.addi
        rw [BitVec.ofNat_add, BitVec.add_assoc, h1, BitVec.add_zero]
      rw [this, StableHlo.Predicate.toInt_ofNat_small _ (by omega)]
      push_cast
      omega
  show BitVec.ofBool ((BitVec.ofNat 32 j).sle (IntOp.addi (BitVec.ofNat 32 i) 4294967295#32)) = _
  refine congrArg BitVec.ofBool ?_
  rw [BitVec.sle, e, StableHlo.Predicate.toInt_ofNat_small _ (by omega)]
  exact decide_eq_decide.2 (by omega)

theorem select_ofBool {α : Type} (c : Prop) [Decidable c] (x y : α) :
    Scalar.select (BitVec.ofBool (decide c)) x y = if c then x else y := by
  by_cases h : c
  · rw [if_pos h, decide_eq_true h]; rfl
  · rw [if_neg h, decide_eq_false h]; rfl

/-- One below the diagonal, zero elsewhere. -/
theorem lower (i j : Fin 2048) : val_main_v16 (F := Ideal) (ix2 i j) = if j.val < i.val then 1 else 0 := by
  rw [val_main_v16_apply, val_main_call1_v4_apply, val_main_call1_v2_apply, val_main_call1_v0_apply, val_main_call1_v1_apply,
    val_main_call1_v3_apply, val_main_v15_apply, val_main_call1_v5_apply, val_main_call1_c_apply, val_main_cst_0_apply,
    val_main_call1_cst_apply]
  show Scalar.select (IntOp.cmpi .sge (IntOp.addi (BitVec.ofNat 32 i.val) 4294967295#32) (BitVec.ofNat 32 j.val)) _ _ = _
  rw [sge_pred i.val j.val i.isLt j.isLt, select_ofBool, Ideal.ofBits_def, Ideal.ofBits_def, Ideal.ofBits_one_f32, Ideal.ofBits_zero_f32]

variable (x4 : (⟨S4x2048x768, .f32⟩ : BufTy).Contents (Elt Ideal))

theorem v18_at (b : Fin 4) (i j : Fin 2048) : val_main_v18 (F := Ideal) (ix3 b i j) = if j.val < i.val then 1 else 0 := by
  rw [val_main_v18_apply, val_main_v17_apply, ← lower i j]
  exact congrArg _ (funext fun a => match a with | ⟨0, _⟩ => rfl | ⟨1, _⟩ => rfl)

theorem v57_at (b : Fin 4) (i j : Fin 2048) : val_main_v57 (F := Ideal) (ix3 b i j) = if j.val < i.val then 1 else 0 := by
  rw [val_main_v57_apply, val_main_v56_apply, ← lower i j]
  exact congrArg _ (funext fun a => match a with | ⟨0, _⟩ => rfl | ⟨1, _⟩ => rfl)

theorem v87_at (b : Fin 4) (i j : Fin 2048) : val_main_v87 (F := Ideal) (ix3 b i j) = if j.val < i.val then 1 else 0 := by
  rw [val_main_v87_apply, val_main_v86_apply, ← lower i j]
  exact congrArg _ (funext fun a => match a with | ⟨0, _⟩ => rfl | ⟨1, _⟩ => rfl)

/-- The similarity below the diagonal, minus a billion elsewhere. -/
theorem masked (b : Fin 4) (i j : Fin 2048) : val_main_v26 (F := Ideal) x4 (ix3 b i j)
    = if j.val < i.val then val_main_v14 (F := Ideal) x4 (ix3 b i j) else ((-1000000000 : ℝ) : EReal) := by
  rw [val_main_v26_apply, val_main_v19_apply, v18_at, val_main_v25_apply, val_main_v24_apply, val_main_v23_apply,
    val_main_v22_apply, val_main_cst_2_apply, val_main_v21_apply, val_main_v20_apply, val_main_cst_1_apply]
  have e : idx_main_v24 (idx_main_v25 (ix3 b i j)) = ix2 i j := funext fun a => match a with | ⟨0, _⟩ => rfl | ⟨1, _⟩ => rfl
  rw [e, lower, Ideal.ofBits_def, Ideal.ofBits_def, Similar.ofBits_far, Ideal.ofBits_one_f32]
  show val_main_v14 (F := Ideal) x4 (ix3 b i j) * _ - _ * (_ - _) = _
  split_ifs with h
  · have : (1 : EReal) - 1 = 0 := by rw [← EReal.coe_one, ← EReal.coe_sub, sub_self, EReal.coe_zero]
    rw [this, mul_one, mul_zero, sub_zero]
  · rw [mul_zero, sub_zero, mul_one, zero_sub, ← EReal.coe_neg]

variable {x4}
variable {H : Fin 4 → Fin 2048 → Fin 768 → ℝ}

theorem length_at (hH : ∀ b i k, x4 (ix3 b i k) = (H b i k : EReal)) (b : Fin 4) (i : Fin 2048) :
    val_main_v10 (F := Ideal) x4 (ix3 b i 0) = (Similar.len (H b) i : EReal) := by
  rw [val_main_v10_apply, val_main_v8_apply, val_main_call0_v2_apply, val_main_call0_v1_apply, val_main_v9_apply, val_main_cst_apply]
  have e : ∀ k : Fin 768, val_main_call0_v0 (F := Ideal) x4 (idx_main_call0_v1 (idx_main_call0_v2 (ix3 b i 0)) k)
      = ((H b i k * H b i k : ℝ) : EReal) := fun k => by
    have e1 : idx_main_call0_v1 (idx_main_call0_v2 (ix3 b i 0)) k = ix3 b i k :=
      funext fun a => match a with | ⟨0, _⟩ => rfl | ⟨1, _⟩ => rfl | ⟨2, _⟩ => rfl
    rw [e1, EReal.coe_mul, ← hH]
    rfl
  rw [Finset.sum_congr rfl fun k _ => e k, ← Similar.coe_sum, val_main_call0_cst_apply, Ideal.ofBits_def, Ideal.ofBits_def,
    Similar.ofBits_eps, Ideal.ofBits_zero_f32, zero_add, Ideal.hostUnary_sqrt_def, Ideal.sqrt_coe, if_neg (not_lt.2 ?_)]
  · exact (Similar.coe_max _ _).symm
  · exact Finset.sum_nonneg fun k _ => mul_self_nonneg _

theorem unit_at (hH : ∀ b i k, x4 (ix3 b i k) = (H b i k : EReal)) (b : Fin 4) (i : Fin 2048) (k : Fin 768) :
    val_main_v12 (F := Ideal) x4 (ix3 b i k) = (Similar.unit (H b) i k : EReal) := by
  have e : idx_main_v11 (ix3 b i k) = ix3 b i 0 :=
    funext fun a => match a with | ⟨0, _⟩ => rfl | ⟨1, _⟩ => rfl | ⟨2, _⟩ => rfl
  rw [val_main_v12_apply, val_main_v11_apply, e, length_at hH, hH, Ideal.hostDivf_def, Similar.div_real _ _ (Similar.len_pos _ _).ne']
  rfl

theorem similar_at (hH : ∀ b i k, x4 (ix3 b i k) = (H b i k : EReal)) (b : Fin 4) (i j : Fin 2048) :
    val_main_v14 (F := Ideal) x4 (ix3 b i j) = (Similar.cosine (H b) i j : EReal) := by
  rw [val_main_v14_apply]
  unfold Similar.cosine
  rw [Similar.coe_sum]
  refine Finset.sum_congr rfl fun k _ => ?_
  have e1 : lidx_main_v14 (ix3 b i j) k = ix3 b i k := funext fun a => match a with | ⟨0, _⟩ => rfl | ⟨1, _⟩ => rfl | ⟨2, _⟩ => rfl
  have e2 : idx_main_v13 (ridx_main_v14 (ix3 b i j) k) = ix3 b j k := funext fun a => match a with | ⟨0, _⟩ => rfl | ⟨1, _⟩ => rfl | ⟨2, _⟩ => rfl
  rw [val_main_v13_apply, e1, e2, unit_at hH, unit_at hH, EReal.coe_mul]

end Cert.ReferenceIdeal.Hand

end

end
-- ==== Proof.Lands.lean ====
module

public import Idealize.ShloMosaic.PureOps
public import Idealize.ShloMosaic.PureOps.Ideal.Laws
public import Idealize.ShloMosaic.Lib.ValueIdxCoords
public import Idealize.ShloMosaic.Lib.Routing.OpsSet
public import Idealize.ShloMosaic.Lib.Pipeline.Value
public import Idealize.ShloMosaic.Lib.StableHlo.Predicate

@[expose] public section

noncomputable section

/-! # Ones scattered into the rows of a zero array, read at an index -/

namespace Cert.Lands

open Idealize.ShloMosaic

variable {a b n k : ℕ}

/-- A scatter index names an entry whole: the row's two coordinates, then the column. -/
abbrev dims (wf : ScatterDims.WF ⟨3, ![a, b, n]⟩ ⟨4, ![a, b, k, 3]⟩ ⟨3, ![a, b, k]⟩ [] [0, 1, 2] [0, 1, 2] 3) :
    ScatterDims ⟨3, ![a, b, n]⟩ ⟨4, ![a, b, k, 3]⟩ ⟨3, ![a, b, k]⟩ where
  updateWindowDims := []
  insertedWindowDims := [0, 1, 2]
  scatterDimsToOperandDims := [0, 1, 2]
  indexVectorDim := 3
  wf := wf

theorem start_eq (wf) (idx : IVec ⟨4, ![a, b, k, 3]⟩ 32) (p : Fin a) (q : Fin b) (r : Fin k) (c : Fin 3) :
    (dims (n := n) wf).start (ValueIdx.ix3 p q r) idx c = (idx (ValueIdx.ix4 p q r c)).toInt := by
  unfold ScatterDims.start
  rw [dif_pos (show c ∈ [0, 1, 2] from by revert c; decide)]
  refine congrArg (fun i => (idx i).toInt) (funext fun e => Fin.ext ?_)
  match e, c with
  | ⟨0, _⟩, _ => rfl
  | ⟨1, _⟩, _ => rfl
  | ⟨2, _⟩, _ => rfl
  | ⟨3, _⟩, ⟨0, _⟩ => rfl
  | ⟨3, _⟩, ⟨1, _⟩ => rfl
  | ⟨3, _⟩, ⟨2, _⟩ => rfl

theorem window_eq (wf) (j : (⟨3, ![a, b, k]⟩ : Shape).Idx) (c : Fin 3) : (dims (n := n) wf).window j c = 0 := by
  unfold ScatterDims.window
  exact dif_neg (show c ∉ (List.finRange 3).filter (· ∉ [0, 1, 2]) from by revert c; decide)

theorem lands_iff (wf) (idx : IVec ⟨4, ![a, b, k, 3]⟩ 32) (p : Fin a) (q : Fin b) (r : Fin k) (ι : (⟨3, ![a, b, n]⟩ : Shape).Idx) :
    (dims (n := n) wf).resultIdx? (ValueIdx.ix3 p q r) idx = some ι
      ↔ ∀ c : Fin 3, (idx (ValueIdx.ix4 p q r c)).toInt = ((ι c).val : Int) := by
  unfold ScatterDims.resultIdx?
  simp only [start_eq, window_eq]
  constructor
  · intro h c
    split at h
    · rename_i hb
      have := congrFun (Option.some.inj h) c
      have := congrArg Fin.val this
      have h0 := hb c
      dsimp only at this
      omega
    · cases h
  · intro h
    rw [dif_pos fun c => by
      have := h c
      have hl : ((ι c).val : Int) < ((⟨3, ![a, b, n]⟩ : Shape).size c : Int) := by exact_mod_cast (ι c).isLt
      constructor <;> simp only [Nat.cast_zero, add_zero] <;> omega]
    refine congrArg some (funext fun c => Fin.ext ?_)
    have := h c
    dsimp only
    omega

/-- The scattered array: one where one of the row's columns is named, zero elsewhere. -/
theorem scatter_apply (wf) (x0 : (⟨3, ![a, b, n]⟩ : Shape).Idx → EReal) (idx : IVec ⟨4, ![a, b, k, 3]⟩ 32)
    (upd : (⟨3, ![a, b, k]⟩ : Shape).Idx → EReal) (v0 v1 : EReal) (h0 : ∀ i, x0 i = v0) (h1 : ∀ i, upd i = v1)
    (col : Fin a → Fin b → Fin k → Fin n)
    (hp : ∀ p q r, (idx (ValueIdx.ix4 p q r 0)).toInt = (p.val : Int))
    (hq : ∀ p q r, (idx (ValueIdx.ix4 p q r 1)).toInt = (q.val : Int))
    (hc : ∀ p q r, (idx (ValueIdx.ix4 p q r 2)).toInt = ((col p q r).val : Int))
    (p : Fin a) (q : Fin b) (j : Fin n) [Decidable (∃ r, col p q r = j)] :
    Host.scatter (dims (n := n) wf) (fun _ b => b) x0 idx upd (ValueIdx.ix3 p q j) = if ∃ r, col p q r = j then v1 else v0 := by
  split_ifs with h
  · obtain ⟨r, hr⟩ := h
    refine Routing.scatter_set_hit _ x0 idx upd _ v1 (fun i _ => h1 i) (ValueIdx.ix3 p q r) ((lands_iff wf idx p q r _).2 fun c => ?_)
    match c with
    | ⟨0, _⟩ => exact hp p q r
    | ⟨1, _⟩ => exact hq p q r
    | ⟨2, _⟩ => exact (hc p q r).trans (by rw [hr])
  · rw [← h0 (ValueIdx.ix3 p q j)]
    refine Routing.scatter_set_miss _ x0 idx upd _ fun i hi => h ?_
    rw [ValueIdx.eq_ix3 i] at hi
    have := (lands_iff wf idx (i 0) (i 1) (i 2) _).1 hi
    have e0 : (i 0 : Fin a) = p := Fin.ext (by have := (hp (i 0) (i 1) (i 2)).symm.trans (this 0); exact_mod_cast this)
    have e1 : (i 1 : Fin b) = q := Fin.ext (by have := (hq (i 0) (i 1) (i 2)).symm.trans (this 1); exact_mod_cast this)
    have e2 := (hc (i 0) (i 1) (i 2)).symm.trans (this 2)
    refine ⟨i 2, Fin.ext ?_⟩
    rw [← e0, ← e1]
    exact_mod_cast e2

/-- Three arrays side by side on a last axis of three. -/
theorem beside (x y z : IVec ⟨4, ![a, b, k, 1]⟩ 32)
    (h : Shape.Concatenates (([⟨_, x⟩, ⟨_, y⟩, ⟨_, z⟩] : List ((s : Shape) × (s.Idx → BitVec 32))).map (·.1)) ⟨4, ![a, b, k, 3]⟩ 3)
    (p : Fin a) (q : Fin b) (r : Fin k) :
    concatenate (⟨4, ![a, b, k, 3]⟩ : Shape) 3 [⟨_, x⟩, ⟨_, y⟩, ⟨_, z⟩] h (ValueIdx.ix4 p q r 0) = x (ValueIdx.ix4 p q r 0)
      ∧ concatenate (⟨4, ![a, b, k, 3]⟩ : Shape) 3 [⟨_, x⟩, ⟨_, y⟩, ⟨_, z⟩] h (ValueIdx.ix4 p q r 1) = y (ValueIdx.ix4 p q r 0)
      ∧ concatenate (⟨4, ![a, b, k, 3]⟩ : Shape) 3 [⟨_, x⟩, ⟨_, y⟩, ⟨_, z⟩] h (ValueIdx.ix4 p q r 2) = z (ValueIdx.ix4 p q r 0) := by
  have off : ∀ (c : Fin 3) (e : Fin 4), e ≠ 3 → ((ValueIdx.ix4 p q r (0 : Fin 1) : (⟨4, ![a, b, k, 1]⟩ : Shape).Idx) e).val
      = ((ValueIdx.ix4 p q r c : (⟨4, ![a, b, k, 3]⟩ : Shape).Idx) e).val := fun c e he => by
    match e, he with
    | ⟨0, _⟩, _ => rfl
    | ⟨1, _⟩, _ => rfl
    | ⟨2, _⟩, _ => rfl
    | ⟨3, _⟩, he => exact absurd rfl he
  refine ⟨?_, ?_, ?_⟩
  · exact concatenate_apply_piece 3 _ h _ 0 (by decide : 0 < 3) _ x rfl rfl 0 rfl _ (fun e he => off 0 e he) rfl
  · exact concatenate_apply_piece 3 _ h _ 1 (by decide : 1 < 3) _ y rfl rfl 1 rfl _ (fun e he => off 1 e he) rfl
  · exact concatenate_apply_piece 3 _ h _ 2 (by decide : 2 < 3) _ z rfl rfl 2 rfl _ (fun e he => off 2 e he) rfl

/-- A position that is not negative is taken as it stands. -/
theorem unwrapped (v : ℕ) (hv : v < 2 ^ 31) (y : BitVec 32) :
    Scalar.select (IntOp.cmpi .slt (BitVec.ofNat 32 v) 0#32) y (BitVec.ofNat 32 v) = BitVec.ofNat 32 v := by
  have : IntOp.cmpi .slt (BitVec.ofNat 32 v) 0#32 = 0#1 := by
    show BitVec.ofBool ((BitVec.ofNat 32 v).slt 0#32) = 0#1
    rw [BitVec.slt, StableHlo.Predicate.toInt_ofNat_small v hv, decide_eq_false (by simp)]
    rfl
  rw [this]
  rfl

end Cert.Lands

end

end
-- ==== Proof.Reference.Neighbours.lean ====
module

public import proofs.«01_k».proof.Proof.Reference.Masked
public import proofs.«01_k».proof.Proof.Lands

@[expose] public section

noncomputable section

/-! # The reference's two adjacency matrices, read at an index -/

namespace Cert.ReferenceIdeal.Hand

open Cert.ReferenceIdeal Cert.ReferenceIdeal.Gen Cert.ReferenceIdeal.Read Idealize.ShloMosaic Idealize.ShloMosaic.TcCoe ValueIdx

variable (x4 : (⟨S4x2048x768, .f32⟩ : BufTy).Contents (Elt Ideal))

/-- The order of a row's masked similarities. -/
def nearOrder (b : Fin 4) (i : Fin 2048) : Equiv.Perm (Fin 2048) := Topk.perm (Topk.row (val_main_v26 (F := Ideal) x4) b i)

/-- The order of what the second choice is made from. -/
def farOrder (b : Fin 4) (i : Fin 2048) : Equiv.Perm (Fin 2048) := Topk.perm (Topk.row (val_main_v62 (F := Ideal) x4) b i)

/-- A row's similar neighbours. -/
abbrev Near (b : Fin 4) (i j : Fin 2048) : Prop := j.val < i.val ∧ ((nearOrder x4 b i).symm j).val < 16

/-- A row's contrasting neighbours. -/
abbrev Far (b : Fin 4) (i j : Fin 2048) : Prop := j.val < i.val ∧ ¬ Near x4 b i j ∧ ((farOrder x4 b i).symm j).val < 8

theorem among (n k : ℕ) (hk : k ≤ n) (σ : Equiv.Perm (Fin n)) (j : Fin n) :
    (∃ r : Fin k, σ (r.castLE hk) = j) ↔ (σ.symm j).val < k := by
  constructor
  · rintro ⟨r, rfl⟩; rw [Equiv.symm_apply_apply]; exact r.isLt
  · intro h; exact ⟨⟨_, h⟩, by show σ ⟨(σ.symm j).val, _⟩ = j; rw [Fin.eta, Equiv.apply_symm_apply]⟩

theorem batch37 (i : S4x1x1.Idx) : val_main_v37 (F := Ideal) i = BitVec.ofNat 32 (i 0).val := by
  rw [val_main_v37_apply, val_main_v34_apply, val_main_v30_apply, val_main_v29_apply, val_main_v33_apply, val_main_c_apply]
  exact Lands.unwrapped (i 0).val (lt_trans (show (i 0).val < 4 from (i 0).isLt) (by decide)) _

theorem row42 (i : S1x2048x1.Idx) : val_main_v42 (F := Ideal) i = BitVec.ofNat 32 (i 1).val := by
  rw [val_main_v42_apply, val_main_v39_apply, val_main_v32_apply, val_main_v31_apply, val_main_v38_apply, val_main_c_6_apply]
  exact Lands.unwrapped (i 1).val (lt_trans (show (i 1).val < 2048 from (i 1).isLt) (by decide)) _

theorem col47 (b : Fin 4) (i : Fin 2048) (r : Fin 16) :
    val_main_v47 (F := Ideal) x4 (ix3 b i r) = BitVec.ofNat 32 (nearOrder x4 b i (r.castLE (by decide))).val := by
  have e : val_main_indices (F := Ideal) x4 (ix3 b i r) = BitVec.ofNat 32 (nearOrder x4 b i (r.castLE (by decide))).val :=
    Topk.indices_apply (val_main_v26 (F := Ideal) x4) sliceFits_S4x2048x2048_S4x2048x16 (by decide) b i r
  rw [val_main_v47_apply, val_main_v44_apply, val_main_v43_apply, val_main_c_8_apply, e]
  exact Lands.unwrapped _ (lt_trans (Fin.isLt _) (by decide)) _

theorem batch67 (i : S4x1x1.Idx) : val_main_v67 (F := Ideal) i = BitVec.ofNat 32 (i 0).val := by
  rw [val_main_v67_apply, val_main_v64_apply, val_main_v30_apply, val_main_v29_apply, val_main_v63_apply, val_main_c_15_apply]
  exact Lands.unwrapped (i 0).val (lt_trans (show (i 0).val < 4 from (i 0).isLt) (by decide)) _

theorem row72 (i : S1x2048x1.Idx) : val_main_v72 (F := Ideal) i = BitVec.ofNat 32 (i 1).val := by
  rw [val_main_v72_apply, val_main_v69_apply, val_main_v32_apply, val_main_v31_apply, val_main_v68_apply, val_main_c_17_apply]
  exact Lands.unwrapped (i 1).val (lt_trans (show (i 1).val < 2048 from (i 1).isLt) (by decide)) _

theorem col77 (b : Fin 4) (i : Fin 2048) (r : Fin 8) :
    val_main_v77 (F := Ideal) x4 (ix3 b i r) = BitVec.ofNat 32 (farOrder x4 b i (r.castLE (by decide))).val := by
  have e : val_main_indices_14 (F := Ideal) x4 (ix3 b i r) = BitVec.ofNat 32 (farOrder x4 b i (r.castLE (by decide))).val :=
    Topk.indices_apply (val_main_v62 (F := Ideal) x4) sliceFits_S4x2048x2048_S4x2048x8 (by decide) b i r
  rw [val_main_v77_apply, val_main_v74_apply, val_main_v73_apply, val_main_c_19_apply, e]
  exact Lands.unwrapped _ (lt_trans (Fin.isLt _) (by decide)) _

theorem small (v : ℕ) (hv : v < 2048) : (BitVec.ofNat 32 v).toInt = (v : Int) :=
  StableHlo.Predicate.toInt_ofNat_small v (lt_trans hv (by decide))

open Classical in
theorem scattered16 (b : Fin 4) (i j : Fin 2048) :
    val_main_v55 (F := Ideal) x4 (ix3 b i j) = if ((nearOrder x4 b i).symm j).val < 16 then 1 else 0 := by
  have h := fun p q r => Lands.beside (val_main_v50 (F := Ideal)) (val_main_v51 (F := Ideal)) (val_main_v52 (F := Ideal) x4)
    concatenates_S4x2048x16x1_S4x2048x16x1_S4x2048x16x1_S4x2048x16x3_d3 p q r
  unfold val_main_v55 val_main_v53
  refine (Lands.scatter_apply scatter_S4x2048x2048_S4x2048x16x3_S4x2048x16_n_012_012_3_wf _ _ _ (0 : EReal) (1 : EReal) (fun i => ?_) (fun i => ?_)
    (fun p q r => nearOrder x4 p q (r.castLE (by decide))) (fun p q r => ?_) (fun p q r => ?_) (fun p q r => ?_) b i j).trans ?_
  · rw [val_main_v27_apply, val_main_cst_3_apply, Ideal.ofBits_def, Ideal.ofBits_zero_f32]
  · rw [val_main_v54_apply, val_main_cst_10_apply, Ideal.ofBits_def, Ideal.ofBits_one_f32]
  · rw [(h p q r).1, val_main_v50_apply, val_main_v48_apply, batch37]
    exact small p.val (by omega)
  · rw [(h p q r).2.1, val_main_v51_apply, val_main_v49_apply, row42]
    exact small q.val q.isLt
  · rw [(h p q r).2.2, val_main_v52_apply]
    have e : idx_main_v52 (ix4 p q r 0) = ix3 p q r := funext fun a => match a with | ⟨0, _⟩ => rfl | ⟨1, _⟩ => rfl | ⟨2, _⟩ => rfl
    rw [e, col47]
    exact small _ (Fin.isLt _)
  · simp only [among]

open Classical in
theorem scattered8 (b : Fin 4) (i j : Fin 2048) :
    val_main_v85 (F := Ideal) x4 (ix3 b i j) = if ((farOrder x4 b i).symm j).val < 8 then 1 else 0 := by
  have h := fun p q r => Lands.beside (val_main_v80 (F := Ideal)) (val_main_v81 (F := Ideal)) (val_main_v82 (F := Ideal) x4)
    concatenates_S4x2048x8x1_S4x2048x8x1_S4x2048x8x1_S4x2048x8x3_d3 p q r
  unfold val_main_v85 val_main_v83
  refine (Lands.scatter_apply scatter_S4x2048x2048_S4x2048x8x3_S4x2048x8_n_012_012_3_wf _ _ _ (0 : EReal) (1 : EReal) (fun i => ?_) (fun i => ?_)
    (fun p q r => farOrder x4 p q (r.castLE (by decide))) (fun p q r => ?_) (fun p q r => ?_) (fun p q r => ?_) b i j).trans ?_
  · rw [val_main_v28_apply, val_main_cst_4_apply, Ideal.ofBits_def, Ideal.ofBits_zero_f32]
  · rw [val_main_v84_apply, val_main_cst_21_apply, Ideal.ofBits_def, Ideal.ofBits_one_f32]
  · rw [(h p q r).1, val_main_v80_apply, val_main_v78_apply, batch67]
    exact small p.val (by omega)
  · rw [(h p q r).2.1, val_main_v81_apply, val_main_v79_apply, row72]
    exact small q.val q.isLt
  · rw [(h p q r).2.2, val_main_v82_apply]
    have e : idx_main_v82 (ix4 p q r 0) = ix3 p q r := funext fun a => match a with | ⟨0, _⟩ => rfl | ⟨1, _⟩ => rfl | ⟨2, _⟩ => rfl
    rw [e, col77]
    exact small _ (Fin.isLt _)
  · simp only [among]

/-- The similar neighbours' matrix. -/
theorem near_at (b : Fin 4) (i j : Fin 2048) :
    val_main_v58 (F := Ideal) x4 (ix3 b i j) = if Near x4 b i j then 1 else 0 := by
  rw [val_main_v58_apply, scattered16, v57_at]
  show (_ : EReal) * _ = _
  by_cases h1 : ((nearOrder x4 b i).symm j).val < 16 <;> by_cases h2 : j.val < i.val <;> simp [Near, h1, h2]

/-- What the second choice is made from. -/
theorem left_at (b : Fin 4) (i j : Fin 2048) :
    val_main_v62 (F := Ideal) x4 (ix3 b i j)
      = -(if Near x4 b i j then ((1000000000 : ℝ) : EReal) else val_main_v26 (F := Ideal) x4 (ix3 b i j)) := by
  rw [val_main_v62_apply, val_main_v61_apply, val_main_v60_apply, near_at, val_main_v59_apply, val_main_cst_11_apply,
    val_main_call2_v1_apply, val_main_call2_v0_apply, val_main_cst_12_apply, Ideal.ofBits_def, Ideal.ofBits_def, Ideal.ofBits_zero_f32,
    Similar.ofBits_far]
  show -(Scalar.select (BitVec.ofBool (decide ((0 : EReal) < if Near x4 b i j then 1 else 0))) _ _) = _
  rw [select_ofBool]
  by_cases h : Near x4 b i j
  · rw [if_pos h, if_pos zero_lt_one, if_pos h]
  · rw [if_neg h, if_neg (lt_irrefl _), if_neg h]

/-- The contrasting neighbours' matrix. -/
theorem far_at (b : Fin 4) (i j : Fin 2048) :
    val_main_v91 (F := Ideal) x4 (ix3 b i j) = if Far x4 b i j then 1 else 0 := by
  rw [val_main_v91_apply, val_main_v88_apply, scattered8, v87_at, val_main_v90_apply, near_at, val_main_v89_apply,
    val_main_cst_22_apply, Ideal.ofBits_def, Ideal.ofBits_one_f32]
  show (_ : EReal) * _ * (_ - _) = _
  have h0 : (1 : EReal) - 1 = 0 := by rw [← EReal.coe_one, ← EReal.coe_sub, sub_self, EReal.coe_zero]
  by_cases h3 : Near x4 b i j
  · rw [if_pos h3, h0, mul_zero, if_neg fun h : Far x4 b i j => h.2.1 h3]
  · rw [if_neg h3, sub_zero, mul_one]
    have e : Far x4 b i j ↔ j.val < i.val ∧ ((farOrder x4 b i).symm j).val < 8 := ⟨fun h => ⟨h.1, h.2.2⟩, fun h => ⟨h.1, h3, h.2⟩⟩
    rw [if_congr e rfl rfl]
    by_cases h1 : ((farOrder x4 b i).symm j).val < 8 <;> by_cases h2 : j.val < i.val <;> simp [h1, h2]

theorem sum_ones (p : Fin 2048 → Prop) [DecidablePred p] :
    (∑ j, if p j then (1 : EReal) else 0) = (((Finset.univ.filter p).card : ℝ) : EReal) := by
  have : ∀ j, (if p j then (1 : EReal) else 0) = (((if p j then 1 else 0 : ℝ)) : EReal) := fun j => by split_ifs <;> rfl
  rw [Finset.sum_congr rfl fun j _ => this j, ← Similar.coe_sum, Finset.sum_boole]

/-- What the similar neighbours say: the sum of their rows over their number. -/
theorem near_mean (b : Fin 4) (i : Fin 2048) (k : Fin 768) :
    val_main_v97 (F := Ideal) x4 (ix3 b i k)
      = Ideal.div (∑ j, (if Near x4 b i j then 1 else 0) * x4 (ix3 b j k))
          (max 1 (((Finset.univ.filter fun j => Near x4 b i j).card : ℝ) : EReal)) := by
  rw [val_main_v97_apply, val_main_v95_apply, val_main_v96_apply, val_main_v94_apply, val_main_v93_apply, val_main_v92_apply,
    val_main_call3_v1_apply, val_main_call3_v0_apply, val_main_cst_24_apply, val_main_cst_23_apply, Ideal.ofBits_def,
    Ideal.ofBits_def, Ideal.ofBits_zero_f32, Ideal.ofBits_one_f32, Ideal.hostDivf_def, ← sum_ones, zero_add]
  refine congrArg₂ Ideal.div (Finset.sum_congr rfl fun j _ => ?_) (congrArg (max 1) (Finset.sum_congr rfl fun j _ => ?_))
  · rw [← near_at]
    refine congrArg₂ (· * ·) (congrArg _ ?_) (congrArg _ ?_)
    · exact funext fun a => match a with | ⟨0, _⟩ => rfl | ⟨1, _⟩ => rfl | ⟨2, _⟩ => rfl
    · exact funext fun a => match a with | ⟨0, _⟩ => rfl | ⟨1, _⟩ => rfl | ⟨2, _⟩ => rfl
  · rw [← near_at]
    exact congrArg _ (funext fun a => match a with | ⟨0, _⟩ => rfl | ⟨1, _⟩ => rfl | ⟨2, _⟩ => rfl)

/-- What the contrasting neighbours say. -/
theorem far_mean (b : Fin 4) (i : Fin 2048) (k : Fin 768) :
    val_main_v103 (F := Ideal) x4 (ix3 b i k)
      = Ideal.div (∑ j, (if Far x4 b i j then 1 else 0) * x4 (ix3 b j k))
          (max 1 (((Finset.univ.filter fun j => Far x4 b i j).card : ℝ) : EReal)) := by
  rw [val_main_v103_apply, val_main_v101_apply, val_main_v102_apply, val_main_v100_apply, val_main_v99_apply, val_main_v98_apply,
    val_main_call4_v1_apply, val_main_call4_v0_apply, val_main_cst_26_apply, val_main_cst_25_apply, Ideal.ofBits_def,
    Ideal.ofBits_def, Ideal.ofBits_zero_f32, Ideal.ofBits_one_f32, Ideal.hostDivf_def, ← sum_ones, zero_add]
  refine congrArg₂ Ideal.div (Finset.sum_congr rfl fun j _ => ?_) (congrArg (max 1) (Finset.sum_congr rfl fun j _ => ?_))
  · rw [← far_at]
    refine congrArg₂ (· * ·) (congrArg _ ?_) (congrArg _ ?_)
    · exact funext fun a => match a with | ⟨0, _⟩ => rfl | ⟨1, _⟩ => rfl | ⟨2, _⟩ => rfl
    · exact funext fun a => match a with | ⟨0, _⟩ => rfl | ⟨1, _⟩ => rfl | ⟨2, _⟩ => rfl
  · rw [← far_at]
    exact congrArg _ (funext fun a => match a with | ⟨0, _⟩ => rfl | ⟨1, _⟩ => rfl | ⟨2, _⟩ => rfl)

end Cert.ReferenceIdeal.Hand

end

end
-- ==== Proof.Reference.Result.lean ====
module

public import proofs.«01_k».proof.Proof.Reference.Neighbours
public import proofs.«01_k».proof.Proof.Round

@[expose] public section

noncomputable section

/-! # The reference's result at an index, from its two messages -/

namespace Cert.ReferenceIdeal.Hand

open Cert.ReferenceIdeal Cert.ReferenceIdeal.Gen Cert.ReferenceIdeal.Read Idealize.ShloMosaic Idealize.ShloMosaic.TcCoe ValueIdx

variable (x0 : (⟨S4, .f32⟩ : BufTy).Contents (Elt Ideal)) (x1 x2 : (⟨S1x768, .f32⟩ : BufTy).Contents (Elt Ideal))
  (x4 x7 : (⟨S4x2048x768, .f32⟩ : BufTy).Contents (Elt Ideal))

theorem only (y : S1.Idx → EReal) (i : S_.Idx) : shapeCast S_ y shapeCasts_S1_S_ i = y (ix1 0) :=
  shapeCast_apply y shapeCasts_S1_S_ i (ix1 0) (by
    have h1 := (S_.rowMajor i).isLt
    have h2 := (S1.rowMajor (ix1 0)).isLt
    have e1 : S_.numel = 1 := by decide
    have e2 : S1.numel = 1 := by decide
    omega)

theorem param0 (i : S_.Idx) : val_main_v1 (F := Ideal) x0 i = x0 (ix1 0) :=
  (only _ i).trans ((val_main_v0_apply x0 _).trans (congrArg x0 (funext fun a => match a with | ⟨0, _⟩ => rfl)))

theorem slice_at (a : Fin 4) (h : S4.Slices ![a.val] S1) : extractStridedSlice S1 ![a.val] x0 h (ix1 0) = x0 (ix1 a) :=
  extractStridedSlice_apply ![a.val] x0 h (ix1 0) (ix1 a) fun d => match d with | ⟨0, _⟩ => rfl

theorem param1 (i : S_.Idx) : val_main_v3 (F := Ideal) x0 i = x0 (ix1 1) := (only _ i).trans (slice_at x0 1 slices_S4_S1_1)
theorem param2 (i : S_.Idx) : val_main_v5 (F := Ideal) x0 i = x0 (ix1 2) := (only _ i).trans (slice_at x0 2 slices_S4_S1_2)
theorem param3 (i : S_.Idx) : val_main_v7 (F := Ideal) x0 i = x0 (ix1 3) := (only _ i).trans (slice_at x0 3 slices_S4_S1_3)

theorem gain_at (b : Fin 4) (i : Fin 2048) (k : Fin 768) : val_main_v118 (F := Ideal) x1 (ix3 b i k) = x1 (ix2 0 k) := by
  rw [val_main_v118_apply, val_main_v117_apply, val_main_v116_apply]
  exact congrArg x1 (funext fun a => match a with
    | ⟨0, _⟩ => rfl
    | ⟨1, _⟩ => Fin.ext (Nat.mod_eq_of_lt k.isLt))

theorem bias_at (b : Fin 4) (i : Fin 2048) (k : Fin 768) : val_main_v122 (F := Ideal) x2 (ix3 b i k) = x2 (ix2 0 k) := by
  rw [val_main_v122_apply, val_main_v121_apply, val_main_v120_apply]
  exact congrArg x2 (funext fun a => match a with
    | ⟨0, _⟩ => rfl
    | ⟨1, _⟩ => Fin.ext (Nat.mod_eq_of_lt k.isLt))

/-- What the activation is applied to. -/
theorem pre_at (b : Fin 4) (i : Fin 2048) (k : Fin 768) :
    (val_main_v123 (F := Ideal) x0 x1 x2 x4 (ix3 b i k) : EReal)
      = Round.blend (x0 (ix1 0)) (x0 (ix1 1)) (x4 (ix3 b i k)) (val_main_v97 (F := Ideal) x4 (ix3 b i k)) (val_main_v103 (F := Ideal) x4 (ix3 b i k)) (x1 (ix2 0 k)) (x2 (ix2 0 k)) := by
  rw [val_main_v123_apply, val_main_v119_apply, val_main_v115_apply, val_main_v111_apply, val_main_v110_apply, param0, val_main_v114_apply, val_main_v113_apply,
    val_main_v112_apply, param0, val_main_v109_apply, val_main_v105_apply, val_main_v104_apply, param1, val_main_v108_apply, val_main_v107_apply, val_main_v106_apply, param1,
    gain_at, bias_at]
  rfl

/-- The result at an index. -/
theorem result_at (b : Fin 4) (i : Fin 2048) (k : Fin 768) :
    (val_main_v139 (F := Ideal) x0 x1 x2 x4 x7 (ix3 b i k) : EReal)
      = Round.entry (x0 (ix1 0)) (x0 (ix1 1)) (x0 (ix1 2)) (x0 (ix1 3)) (x4 (ix3 b i k)) (val_main_v97 (F := Ideal) x4 (ix3 b i k)) (val_main_v103 (F := Ideal) x4 (ix3 b i k))
        (x1 (ix2 0 k)) (x2 (ix2 0 k)) (x7 (ix3 b i k)) := by
  unfold Round.entry Round.state
  rw [← pre_at x0 x1 x2 x4 b i k, ← Round.act_erfc, val_main_v139_apply, val_main_v138_apply, param3, val_main_v137_apply, val_main_v136_apply, val_main_v132_apply, val_main_v131_apply, param2,
    val_main_v135_apply, val_main_v134_apply, val_main_v133_apply, param2, val_main_v130_apply, val_main_v125_apply, val_main_v124_apply, val_main_v129_apply, val_main_v128_apply,
    val_main_v126_apply, val_main_v127_apply]
  rfl

end Cert.ReferenceIdeal.Hand

end

end
-- ==== Proof.Choice.lean ====
module

public import proofs.«01_k».proof.Proof.Reference.Neighbours
public import proofs.«01_k».proof.Proof.Select
public import Idealize.ShloMosaic.Lib.ReduceAll
public import Idealize.ShloMosaic.Lib.Pipeline.Value

@[expose] public section

noncomputable section

/-! # What a precondition on the choices says, element by element

The first choice takes `a` rows and the second `c`; the preconditions of the two rounds are the same text with different numbers. -/

namespace Cert.Choice

open Cert.ReferenceIdeal (S_ S4x2048 S4x2048x1 S4x1x1 S4x2048x768 S4x2048x2048)
open Idealize.ShloMosaic Idealize.ShloMosaic.TcCoe ValueIdx

/-- The shape of the inverse lengths. -/
abbrev S4x1x2048 : Shape := ⟨3, ![4, 1, 2048]⟩

theorem ofBool_one (p : Prop) [Decidable p] : BitVec.ofBool (decide p) = 1#1 ↔ p := by
  by_cases h : p <;> simp [h]

theorem eq_zero_of_ne_one {a : BitVec 1} (h : a ≠ 1#1) : a = 0#1 := by
  revert a; decide

theorem ori_one (a b : BitVec 1) : (a ||| b) = 1#1 ↔ a = 1#1 ∨ b = 1#1 := by
  revert a b; decide

theorem lead_at {k : ℕ} (x : (⟨3, ![4, 2048, 2048]⟩ : Shape).Idx → EReal) (h : (⟨3, ![4, 2048, 2048]⟩ : Shape).Slices (fun _ => 0) ⟨3, ![4, 2048, k]⟩)
    (hk : k ≤ 2048) (p : Fin 4) (q : Fin 2048) (r : Fin k) (s : Fin 2048) (hs : s.val = r.val) :
    (Host.topK (s := ⟨3, ![4, 2048, 2048]⟩) ⟨3, ![4, 2048, k]⟩ 2 (FloatOps.cmpfTotal (F := Ideal) (φ := .f32) .gt) x h).1 (ix3 p q r)
      = Topk.row x p q (Topk.perm (Topk.row x p q) s) :=
  (Topk.values_apply x h hk p q r).trans (congrArg _ (congrArg _ (Fin.ext hs.symm)))

theorem cut {n c : ℕ} (o : ℕ) (x : (⟨3, ![4, 2048, n]⟩ : Shape).Idx → EReal) (hx : (⟨3, ![4, 2048, n]⟩ : Shape).Slices ![0, 0, o] ⟨3, ![4, 2048, c]⟩)
    (p : Fin 4) (q : Fin 2048) (r : Fin c) (hr : o + r.val < n) :
    extractStridedSlice (⟨3, ![4, 2048, c]⟩ : Shape) ![0, 0, o] x hx (ix3 p q r) = x (ix3 p q ⟨o + r.val, hr⟩) :=
  extractStridedSlice_apply _ x hx _ _ fun a => match a with
    | ⟨0, _⟩ => (Nat.zero_add _).symm
    | ⟨1, _⟩ => (Nat.zero_add _).symm
    | ⟨2, _⟩ => rfl

/-- A row's `n` leading entries, each with the next one. -/
abbrev leading {n : ℕ} (x : FVec Ideal S4x2048x2048 .f32) (h : S4x2048x2048.Slices (fun _ => 0) ⟨3, ![4, 2048, n]⟩) : FVec Ideal ⟨3, ![4, 2048, n]⟩ .f32 :=
  (Host.topK (s := S4x2048x2048) ⟨3, ![4, 2048, n]⟩ 2 (FloatOps.cmpfTotal (F := Ideal) (φ := .f32) .gt) x h).1

theorem first_lt {n k : ℕ} (hn : n = k + 1) (hk : n ≤ 2048) (x : FVec Ideal S4x2048x2048 .f32) (h : S4x2048x2048.Slices (fun _ => 0) ⟨3, ![4, 2048, n]⟩)
    (h1 : (⟨3, ![4, 2048, n]⟩ : Shape).Slices ![0, 0, 1] ⟨3, ![4, 2048, k]⟩) (h0 : (⟨3, ![4, 2048, n]⟩ : Shape).Slices ![0, 0, 0] ⟨3, ![4, 2048, k]⟩)
    (p : Fin 4) (q r s : Fin 2048) (hr : r.val < k) (hs : s.val = r.val + 1)
    (e : cmpf .olt (extractStridedSlice (⟨3, ![4, 2048, k]⟩ : Shape) ![0, 0, 1] (leading x h) h1) (extractStridedSlice (⟨3, ![4, 2048, k]⟩ : Shape) ![0, 0, 0] (leading x h) h0)
      (ix3 p q ⟨r.val, hr⟩) = 1#1) :
    Topk.row x p q (Topk.perm (Topk.row x p q) s) < Topk.row x p q (Topk.perm (Topk.row x p q) r) := by
  have e := (ofBool_one _).1 e
  rw [cut 1 _ _ p q ⟨r.val, hr⟩ (by show 1 + r.val < n; omega), cut 0 _ _ p q ⟨r.val, hr⟩ (by show 0 + r.val < n; omega)] at e
  exact lt_of_eq_of_lt (lead_at _ h hk p q _ s (by show s.val = 1 + r.val; omega)).symm (lt_of_lt_of_eq e (lead_at _ h hk p q _ r (Nat.zero_add _).symm))

theorem first_at {n k : ℕ} (hn : n = k + 1) (hk : n ≤ 2048) (x : FVec Ideal S4x2048x2048 .f32) (h : S4x2048x2048.Slices (fun _ => 0) ⟨3, ![4, 2048, n]⟩)
    (h0 : (⟨3, ![4, 2048, n]⟩ : Shape).Slices ![0, 0, 0] ⟨3, ![4, 2048, k]⟩) (p : Fin 4) (q r : Fin 2048) (hr : r.val < k) :
    extractStridedSlice (⟨3, ![4, 2048, k]⟩ : Shape) ![0, 0, 0] (leading x h) h0 (ix3 p q ⟨r.val, hr⟩) = Topk.row x p q (Topk.perm (Topk.row x p q) r) := by
  rw [cut 0 _ _ p q ⟨r.val, hr⟩ (by show 0 + r.val < n; omega)]
  exact lead_at _ h hk p q _ r (Nat.zero_add _).symm

/-- The first choice falls. -/
theorem near_falls {n k : ℕ} (hn : n = k + 1) (hk : n ≤ 2048) (x : FVec Ideal S4x2048x2048 .f32) (h h1 h0 hb)
    (e : ∀ i, ori (cmpf .olt (extractStridedSlice (⟨3, ![4, 2048, k]⟩ : Shape) ![0, 0, 1] (leading (n := n) x h) h1) (extractStridedSlice (⟨3, ![4, 2048, k]⟩ : Shape) ![0, 0, 0] (leading x h) h0))
      (cmpf .ole (extractStridedSlice (⟨3, ![4, 2048, k]⟩ : Shape) ![0, 0, 0] (leading x h) h0) (broadcastInDim (⟨3, ![4, 2048, k]⟩ : Shape) ![] hb (constant (F := Ideal) S_ .f32 0xCE6E6B28#32))) i = 1#1)
    (p : Fin 4) (q r s : Fin 2048) (hr : r.val < k) (hs : s.val = r.val + 1) :
    Topk.row x p q (Topk.perm (Topk.row x p q) s) < Topk.row x p q (Topk.perm (Topk.row x p q) r)
      ∨ Topk.row x p q (Topk.perm (Topk.row x p q) r) ≤ ((-1000000000 : ℝ) : EReal) := by
  rcases (ori_one _ _).1 (e (ix3 p q ⟨r.val, hr⟩)) with e | e
  · exact .inl (first_lt hn hk x h h1 h0 p q r s hr hs e)
  · exact .inr ((first_at hn hk x h h0 p q r hr).symm.le.trans (((ofBool_one _).1 e).trans (le_of_eq Similar.ofBits_masked)))

/-- The second choice falls. -/
theorem far_falls {n k : ℕ} (hn : n = k + 1) (hk : n ≤ 2048) (x : FVec Ideal S4x2048x2048 .f32) (h h1 h0 hb)
    (e : ∀ i, ori (cmpf .olt (extractStridedSlice (⟨3, ![4, 2048, k]⟩ : Shape) ![0, 0, 1] (leading (n := n) x h) h1) (extractStridedSlice (⟨3, ![4, 2048, k]⟩ : Shape) ![0, 0, 0] (leading x h) h0))
      (cmpf .oge (extractStridedSlice (⟨3, ![4, 2048, k]⟩ : Shape) ![0, 0, 0] (leading x h) h0) (broadcastInDim (⟨3, ![4, 2048, k]⟩ : Shape) ![] hb (constant (F := Ideal) S_ .f32 0x4E6E6B28#32))) i = 1#1)
    (p : Fin 4) (q r s : Fin 2048) (hr : r.val < k) (hs : s.val = r.val + 1) :
    Topk.row x p q (Topk.perm (Topk.row x p q) s) < Topk.row x p q (Topk.perm (Topk.row x p q) r)
      ∨ ((1000000000 : ℝ) : EReal) ≤ Topk.row x p q (Topk.perm (Topk.row x p q) r) := by
  rcases (ori_one _ _).1 (e (ix3 p q ⟨r.val, hr⟩)) with e | e
  · exact .inl (first_lt hn hk x h h1 h0 p q r s hr hs e)
  · exact .inr ((le_of_eq Similar.ofBits_far.symm).trans (((ofBool_one _).1 e).trans (first_at hn hk x h h0 p q r hr).le))

/-- What the second choice is made from: the similarities that reach the last one chosen, among the earlier rows, are set aside. -/
theorem aside {n o : ℕ} (hk : n ≤ 2048) (ho : o < n) (v : IVec S4x2048x2048 1) (x : FVec Ideal S4x2048x2048 .f32) (h hb hc h0) (p : Fin 4) (q j : Fin 2048) :
    Host.negf (select (andi v (cmpf .oge x (broadcastInDim S4x2048x2048 ![0, 1, 2] hb
      (extractStridedSlice (⟨3, ![4, 2048, 1]⟩ : Shape) ![0, 0, o] (leading (n := n) x h) h0)))) (broadcastInDim S4x2048x2048 ![] hc (constant (F := Ideal) S_ .f32 0x4E6E6B28#32)) x) (ix3 p q j)
      = -(if v (ix3 p q j) = 1#1 ∧ Topk.row x p q (Topk.perm (Topk.row x p q) ⟨o, by omega⟩) ≤ x (ix3 p q j) then ((1000000000 : ℝ) : EReal) else x (ix3 p q j)) := by
  have e : broadcastInDim S4x2048x2048 ![0, 1, 2] hb
      (extractStridedSlice (⟨3, ![4, 2048, 1]⟩ : Shape) ![0, 0, o] (leading (n := n) x h) h0) (ix3 p q j) = Topk.row x p q (Topk.perm (Topk.row x p q) ⟨o, by omega⟩) := by
    rw [broadcastInDim_apply _ _ _ (ix3 p q j) (ix3 p q 0) (fun a => match a with | ⟨0, _⟩ => rfl | ⟨1, _⟩ => rfl | ⟨2, _⟩ => rfl),
      cut o _ _ p q 0 (by omega)]
    exact lead_at _ h hk p q _ _ rfl
  show -(Scalar.select (v (ix3 p q j) &&& BitVec.ofBool (decide (_ ≤ x (ix3 p q j)))) (Ideal.ofBits .f32 0x4E6E6B28#32) (x (ix3 p q j))) = _
  rw [e, Similar.ofBits_far]
  refine congrArg _ ?_
  by_cases h1 : v (ix3 p q j) = 1#1
  · by_cases h2 : Topk.row x p q (Topk.perm (Topk.row x p q) ⟨o, by omega⟩) ≤ x (ix3 p q j)
    · rw [if_pos ⟨h1, h2⟩, h1, decide_eq_true h2]; rfl
    · rw [if_neg (fun h => h2 h.2), h1, decide_eq_false h2]; rfl
  · rw [if_neg (fun h => h1 h.1), eq_zero_of_ne_one h1]
    unfold Scalar.select
    rw [if_neg (by simp)]

theorem card_any {n : ℕ} (p : Fin n → Prop) (d d' : DecidablePred p) :
    (@Finset.filter _ p d Finset.univ).card = (@Finset.filter _ p d' Finset.univ).card := by
  rw [Subsingleton.elim d d']

theorem every (i : S4x2048x2048.Idx) : ∃ (b : Fin 4) (p q : Fin 2048), i = ix3 b p q := ⟨i 0, i 1, i 2, eq_ix3 i⟩

theorem lt_spelt (p q : Fin 2048) : IntOp.cmpi .slt (BitVec.ofNat 32 q.val) (BitVec.ofNat 32 p.val) = 1#1 ↔ q.val < p.val :=
  StableHlo.Predicate.slt_ofNat_iff q.val p.val (lt_trans q.isLt (by decide)) (lt_trans p.isLt (by decide))

open Cert.ReferenceIdeal.Read in
/-- The masked similarities are the reference's. -/
theorem masked_eq (x4 : FVec Ideal S4x2048x768 .f32) (y : FVec Ideal S4x2048x2048 .f32) (hy : y = val_main_v14 (F := Ideal) x4) (hb) :
    select (cmpi .slt (iotaInDim S4x2048x2048 32 2) (iotaInDim S4x2048x2048 32 1)) y
      (broadcastInDim S4x2048x2048 ![] hb (constant (F := Ideal) S_ .f32 0xCE6E6B28#32)) = val_main_v26 (F := Ideal) x4 := by
  funext i
  obtain ⟨b, p, q, rfl⟩ := every i
  rw [Cert.ReferenceIdeal.Hand.masked, hy]
  show Scalar.select (IntOp.cmpi .slt (BitVec.ofNat 32 q.val) (BitVec.ofNat 32 p.val)) _ (Ideal.ofBits .f32 0xCE6E6B28#32) = _
  rw [Similar.ofBits_masked]
  unfold Scalar.select
  exact if_congr (lt_spelt p q) rfl rfl

/-- The inverse lengths, read without the casts. -/
theorem inverse_of (x3 : FVec Ideal S4x1x2048 .f32) (y : FVec Ideal S4x2048x1 .f32) (h3 hy)
    (h : ∀ i, shapeCast S4x2048 x3 h3 i = Ideal.div 1 (shapeCast S4x2048 y hy i)) (b : Fin 4) (i : Fin 2048) :
    x3 (ix3 b 0 i) = Ideal.div 1 (y (ix3 b i 0)) := by
  have e := h (ix2 b i)
  rw [shapeCast_apply x3 _ (ix2 b i) (ix3 b 0 i) (by rw [Shape.rowMajor_val_three, Shape.rowMajor_val_two]; simp)] at e
  rw [e, shapeCast_apply _ _ (ix2 b i) (ix3 b i 0) (by rw [Shape.rowMajor_val_three, Shape.rowMajor_val_two]; simp)]

/-- What a precondition gives: finite rows, two halves that add up, inverse lengths, and choices that fall: the first of `a` rows, the second, made from `left`, of `c`. -/
structure Holds (a c : ℕ) (left : FVec Ideal S4x2048x2048 .f32) (x3 : FVec Ideal S4x1x2048 .f32) (x4 : FVec Ideal S4x2048x768 .f32) (x5 x6 : FVec Ideal S4x2048x768 .bf16)
    (H : Fin 4 → Fin 2048 → Fin 768 → ℝ) : Prop where
  finite : ∀ b i k, x4 (ix3 b i k) = (H b i k : EReal)
  halves : ∀ i, x5 i + x6 i = x4 i
  inverse : ∀ b i, x3 (ix3 b 0 i) = ((1 / Similar.len (H b) i : ℝ) : EReal)
  sorted : ∀ b i, Select.Sorted 2048 i.val a ((-1000000000 : ℝ) : EReal)
    (fun j => Cert.ReferenceIdeal.Read.val_main_v26 (F := Ideal) x4 (ix3 b i j)) (Cert.ReferenceIdeal.Hand.nearOrder x4 b i)
  rest : ∀ b i, Select.Rest 2048 i.val c a ((1000000000 : ℝ) : EReal) (fun j => j.val < i.val ∧ ((Cert.ReferenceIdeal.Hand.nearOrder x4 b i).symm j).val < a)
    (fun j => left (ix3 b i j)) (Topk.perm (Topk.row left b i))

open Cert.ReferenceIdeal.Read Cert.ReferenceIdeal.Hand in
theorem holds_of {a c o : ℕ} (ho : o + 1 = a) (hac : c + a ≤ 2048) (left : FVec Ideal S4x2048x2048 .f32) (x3 : FVec Ideal S4x1x2048 .f32)
    (x4 : FVec Ideal S4x2048x768 .f32) (x5 x6 : FVec Ideal S4x2048x768 .bf16)
    (hleft : ∀ (b : Fin 4) (i j : Fin 2048), left (ix3 b i j)
      = -(if j.val < i.val ∧ ((nearOrder x4 b i).symm j).val < a then ((1000000000 : ℝ) : EReal) else val_main_v26 (F := Ideal) x4 (ix3 b i j)))
    (hfin : ∀ i, max (x4 i) (-(x4 i)) < ⊤) (hhalf : ∀ i, x5 i + x6 i = x4 i)
    (hinv : ∀ (b : Fin 4) (i : Fin 2048), x3 (ix3 b 0 i) = Ideal.div 1 (val_main_v10 (F := Ideal) x4 (ix3 b i 0)))
    (hnear : ∀ (p : Fin 4) (q r s : Fin 2048), r.val < a → s.val = r.val + 1 →
      Topk.row (val_main_v26 (F := Ideal) x4) p q (nearOrder x4 p q s) < Topk.row (val_main_v26 (F := Ideal) x4) p q (nearOrder x4 p q r)
      ∨ Topk.row (val_main_v26 (F := Ideal) x4) p q (nearOrder x4 p q r) ≤ ((-1000000000 : ℝ) : EReal))
    (w : FVec Ideal S4x2048x2048 .f32)
    (hw : ∀ (p : Fin 4) (q j : Fin 2048), w (ix3 p q j)
      = -(if IntOp.cmpi .slt (BitVec.ofNat 32 j.val) (BitVec.ofNat 32 q.val) = 1#1
          ∧ Topk.row (val_main_v26 (F := Ideal) x4) p q (nearOrder x4 p q ⟨o, by omega⟩) ≤ val_main_v26 (F := Ideal) x4 (ix3 p q j)
        then ((1000000000 : ℝ) : EReal) else val_main_v26 (F := Ideal) x4 (ix3 p q j)))
    (hfar : ∀ (p : Fin 4) (q r s : Fin 2048), r.val < c → s.val = r.val + 1 →
      Topk.row w p q (Topk.perm (Topk.row w p q) s) < Topk.row w p q (Topk.perm (Topk.row w p q) r)
      ∨ ((1000000000 : ℝ) : EReal) ≤ Topk.row w p q (Topk.perm (Topk.row w p q) r)) :
    ∃ H, Holds a c left x3 x4 x5 x6 H := by
  have hfinite : ∀ i, ∃ r : ℝ, x4 i = (r : EReal) := fun i => by
    have e : max (x4 i) (-(x4 i)) < ⊤ := hfin i
    obtain ⟨e1, e2⟩ := max_lt_iff.1 e
    induction hx : x4 i using EReal.rec with
    | bot => rw [hx] at e2; exact absurd e2 (by simp)
    | top => rw [hx] at e1; exact absurd e1 (by simp)
    | coe r => exact ⟨r, rfl⟩
  choose R hR using hfinite
  have hH : ∀ b i k, x4 (ix3 b i k) = ((fun b i k => R (ix3 b i k)) b i k : EReal) := fun b i k => hR _
  have hcos : ∀ (b : Fin 4) (i j : Fin 2048), j.val < i.val → ∃ r : ℝ, |r| ≤ 768 ∧ val_main_v26 (F := Ideal) x4 (ix3 b i j) = (r : EReal) :=
    fun b i j hj => ⟨_, by exact_mod_cast Similar.abs_cosine_le (fun i k => R (ix3 b i k)) i j, by
      rw [masked, if_pos hj, similar_at hH]⟩
  have hsorted : ∀ b i, Select.Sorted 2048 i.val a ((-1000000000 : ℝ) : EReal)
      (fun j => val_main_v26 (F := Ideal) x4 (ix3 b i j)) (nearOrder x4 b i) := fun b i =>
    { le := i.isLt.le
      past := fun j hj => by
        obtain ⟨r, hr, e⟩ := hcos b i j hj
        show _ < val_main_v26 (F := Ideal) x4 (ix3 b i j)
        rw [e]
        exact EReal.coe_lt_coe_iff.2 (by have := (abs_le.1 hr).1; linarith)
      future := fun j hj => by
        show val_main_v26 (F := Ideal) x4 (ix3 b i j) = _
        rw [masked, if_neg (not_lt.2 hj)]
      anti := fun r s hrs => Topk.perm_anti (Topk.row (val_main_v26 (F := Ideal) x4) b i) r s hrs
      strict := fun r s hr hs => hnear b i r s hr hs }
  have hchosen : ∀ (b : Fin 4) (i j : Fin 2048), j.val < i.val →
      (Topk.row (val_main_v26 (F := Ideal) x4) b i (nearOrder x4 b i ⟨o, by omega⟩)
        ≤ val_main_v26 (F := Ideal) x4 (ix3 b i j) ↔ ((nearOrder x4 b i).symm j).val < a) := fun b i j hj => by
    have S := hsorted b i
    have ej : val_main_v26 (F := Ideal) x4 (ix3 b i j)
        = Topk.row (val_main_v26 (F := Ideal) x4) b i (nearOrder x4 b i ((nearOrder x4 b i).symm j)) := by
      rw [Equiv.apply_symm_apply]; rfl
    constructor
    · intro hle
      by_contra hc
      have hlast : (⟨o, by omega⟩ : Fin 2048) < (nearOrder x4 b i).symm j := by
        show o < _
        omega
      have hji : ((nearOrder x4 b i).symm j).val < i.val := (S.past_iff' j).1 hj
      have := S.fall ⟨o, by omega⟩ _ (by show o < a; omega) (lt_trans hlast hji) hlast
      rw [ej] at hle
      exact absurd hle (not_le.2 this)
    · intro hlt
      rw [ej]
      rcases lt_or_eq_of_le (show (nearOrder x4 b i).symm j ≤ (⟨o, by omega⟩ : Fin 2048) from by
          show ((nearOrder x4 b i).symm j).val ≤ o
          omega) with e | e
      · exact Topk.perm_anti (Topk.row (val_main_v26 (F := Ideal) x4) b i) _ _ e
      · rw [e]
  have hwe : w = left := by
    funext i
    obtain ⟨b, p, q, rfl⟩ := every i
    rw [hw, hleft]
    refine congrArg _ (if_congr ?_ rfl rfl)
    constructor
    · rintro ⟨h1, h2⟩
      have h1 := (lt_spelt p q).1 h1
      exact ⟨h1, (hchosen _ _ _ h1).1 h2⟩
    · rintro ⟨h1, h2⟩
      exact ⟨(lt_spelt p q).2 h1, (hchosen _ _ _ h1).2 h2⟩
  rw [hwe] at hfar
  refine ⟨fun b i k => R (ix3 b i k), hH, hhalf, fun b i => ?_, hsorted, fun b i => ?_⟩
  · rw [hinv]
    refine (congrArg (Ideal.div 1) (length_at hH b i)).trans ?_
    rw [← EReal.coe_one, Similar.div_real _ _ (Similar.len_pos _ _).ne']
  · have hneg : -((1000000000 : ℝ) : EReal) = ((-1000000000 : ℝ) : EReal) := (EReal.coe_neg _).symm
    exact
    { le := i.isLt.le
      low := hac
      sub := fun j hj => hj.1
      few := fun {_} => by
        have := (hsorted b i).card_chosen
        exact (card_any _ _ _).trans_le (this.trans_le (min_le_right _ _))
      future := fun j hj => by
        show left (ix3 b i j) = _
        rw [hleft, if_neg fun h => not_lt.2 hj h.1, masked, if_neg (not_lt.2 hj), ← EReal.coe_neg, neg_neg]
      taken := fun j hj => by
        show left (ix3 b i j) = _
        rw [hleft, if_pos hj]
      between := fun j hj hn => by
        obtain ⟨r, hr, e⟩ := hcos b i j hj
        show _ < left (ix3 b i j) ∧ left (ix3 b i j) < _
        rw [hleft, if_neg hn, e, hneg, ← EReal.coe_neg]
        have := abs_le.1 hr
        exact ⟨EReal.coe_lt_coe_iff.2 (by linarith), EReal.coe_lt_coe_iff.2 (by linarith)⟩
      pos := by rw [hneg]; exact EReal.coe_lt_coe_iff.2 (by norm_num)
      anti := fun r s hrs => Topk.perm_anti (Topk.row left b i) r s hrs
      strict := fun r s hr hs => hfar b i r s hr hs }

end Cert.Choice

end

end
-- ==== Proof.Decided.lean ====
module

public import proofs.«01_k».proof.Pre_decided
public import proofs.«01_k».proof.Proof.Reference.Neighbours
public import proofs.«01_k».proof.Proof.Choice

@[expose] public section

noncomputable section

/-! # What the precondition says, element by element -/

namespace Cert.Pre_decided.Hand

open Cert.Pre_decided Cert.Choice Idealize.ShloMosaic Idealize.ShloMosaic.TcCoe ValueIdx

variable [Cert.Pre_decided.Facts]

/-- The part that compares: which of a row's leading entries fall. -/
theorem part1 (x4 : FVec Ideal S4x2048x768 .f32) (x5 x6 : FVec Ideal S4x2048x768 .bf16) (v12 : IVec S4x2048x2048 1)
    (v14 : FVec Ideal S4x2048x2048 .f32) (v17 : IVec S4x2048x768 1) (v18 v19 : FVec Ideal S4x2048 .f32) (j : S_.Idx)
    (h : fn_part1 (F := Ideal) x4 x5 x6 v12 v14 v17 v18 v19 j = 1#1) :
    (∀ i, v17 i = 1#1) ∧ (∀ i, x5 i + x6 i = x4 i) ∧ (∀ i, v18 i = Ideal.div 1 (v19 i))
      ∧ (∀ (p : Fin 4) (q : Fin 2048) (r s : Fin 2048), r.val < 16 → s.val = r.val + 1 →
          Topk.row v14 p q (Topk.perm (Topk.row v14 p q) s) < Topk.row v14 p q (Topk.perm (Topk.row v14 p q) r)
          ∨ Topk.row v14 p q (Topk.perm (Topk.row v14 p q) r) ≤ ((-1000000000 : ℝ) : EReal))
      ∧ ∃ w : FVec Ideal S4x2048x2048 .f32,
        (∀ (p : Fin 4) (q j : Fin 2048), w (ix3 p q j)
          = -(if v12 (ix3 p q j) = 1#1 ∧ Topk.row v14 p q (Topk.perm (Topk.row v14 p q) ⟨15, by decide⟩) ≤ v14 (ix3 p q j)
            then ((1000000000 : ℝ) : EReal) else v14 (ix3 p q j)))
        ∧ (∀ (p : Fin 4) (q : Fin 2048) (r s : Fin 2048), r.val < 8 → s.val = r.val + 1 →
          Topk.row w p q (Topk.perm (Topk.row w p q) s) < Topk.row w p q (Topk.perm (Topk.row w p q) r)
          ∨ ((1000000000 : ℝ) : EReal) ≤ Topk.row w p q (Topk.perm (Topk.row w p q) r)) := by
  haveI : Subsingleton S_.Idx := ⟨fun a b => funext fun i => i.elim0⟩
  unfold fn_part1 at h
  unfold fn_part2 at h
  unfold fn_part3 at h
  beta_reduce at h
  obtain ⟨h12, h3⟩ := IntOp.andi_eq_one.1 h
  obtain ⟨h1, h2⟩ := IntOp.andi_eq_one.1 h12
  obtain ⟨h3, h45⟩ := IntOp.andi_eq_one.1 h3
  obtain ⟨h4, h5⟩ := IntOp.andi_eq_one.1 h45
  replace h1 := Host.reduce_andi_all _ _ _ _ _ h1
  replace h2 := Host.reduce_andi_all _ _ _ _ _ h2
  replace h3 := Host.reduce_andi_all _ _ _ _ _ h3
  replace h4 := Host.reduce_andi_all _ _ _ _ _ h4
  replace h5 := Host.reduce_andi_all _ _ _ _ _ h5
  exact ⟨h1, fun i => (ofBool_one _).1 (h2 i),
    fun i => ((ofBool_one _).1 (h3 i)).trans (congrArg (fun z => Ideal.div z _) Ideal.ofBits_one_f32),
    near_falls (n := 17) (k := 16) rfl (by decide) v14 _ _ _ _ h4, _,
    aside (n := 17) (o := 15) (by decide) (by decide) v12 v14 Facts.sliceFits_S4x2048x2048_S4x2048x17 Facts.bcast_S4x2048x1_S4x2048x2048_0_1_2
      Facts.bcast_S_S4x2048x2048 Facts.slices_S4x2048x17_S4x2048x1_0_0_15,
    far_falls (n := 9) (k := 8) rfl (by decide) _ _ _ _ _ h5⟩

open Cert.ReferenceIdeal.Read Cert.ReferenceIdeal.Hand in
theorem holds (x0 : FVec Ideal S4 .f32) (x1 x2 : FVec Ideal S1x768 .f32) (x3 : FVec Ideal S4x1x2048 .f32) (x4 : FVec Ideal S4x2048x768 .f32)
    (x5 x6 : FVec Ideal S4x2048x768 .bf16) (x7 : FVec Ideal S4x2048x768 .f32) (j : S_.Idx)
    (h : fn (F := Ideal) x0 x1 x2 x3 x4 x5 x6 x7 j = 1#1) : ∃ H, Holds 16 8 (val_main_v62 (F := Ideal) x4) x3 x4 x5 x6 H := by
  unfold fn at h
  beta_reduce at h
  obtain ⟨hfin, hhalf, hinv, hnear, w, hw, hfar⟩ := part1 _ _ _ _ _ _ _ _ _ h
  erw [masked_eq x4 _ rfl] at hnear hw
  exact holds_of (o := 15) rfl (by decide) _ x3 x4 x5 x6 (left_at x4)
    (fun i => lt_of_lt_of_eq ((ofBool_one _).1 (hfin i)) Similar.ofBits_top) hhalf (inverse_of x3 _ _ _ hinv) hnear w hw hfar

end Cert.Pre_decided.Hand

end

end
-- ==== Proof.Agree.lean ====
module

public import proofs.«01_k».proof.Proof.KernelIdeal.Tiles
public import proofs.«01_k».proof.Proof.KernelIdeal.Tail
public import proofs.«01_k».proof.Proof.KernelIdeal.Blocks
public import proofs.«01_k».proof.Proof.Reference.Result
public import proofs.«01_k».proof.Proof.Decided

@[expose] public section

set_option maxRecDepth 16384

noncomputable section

/-! # A tile of the kernel and the same rows of the reference -/

namespace Cert.Agree

open Idealize.ShloMosaic hiding ix1 ix2 ix3
open Idealize.ShloMosaic.TcCoe Idealize.ShloMosaic.ValueIdx
open Cert.Pre_decided (S4 S1x768 S4x1x2048 S4x2048x768)
open Cert.KernelIdeal (S1x1x2048 S1x2048x768 S1x256x768)
open Cert.Choice (Holds)
open Cert.ReferenceIdeal.Hand (nearOrder farOrder Near Far near_mean far_mean masked similar_at left_at result_at)
open Cert.ReferenceIdeal.Read (val_main_v26 val_main_v62 val_main_v97 val_main_v103 val_main_v139)

variable [Cert.ReferenceIdeal.Facts]
variable {X0 : FVec Ideal S4 .f32} {X1 X2 : FVec Ideal S1x768 .f32} {X3 : FVec Ideal S4x1x2048 .f32} {X4 : FVec Ideal S4x2048x768 .f32}
  {X5 X6 : FVec Ideal S4x2048x768 .bf16} {X7 : FVec Ideal S4x2048x768 .f32} {H : Fin 4 → Fin 2048 → Fin 768 → ℝ}

/-- The first choice is made from cosines. -/
theorem first_from {a c : ℕ} {left : FVec Ideal (⟨3, ![4, 2048, 2048]⟩ : Shape) .f32} (hold : Holds a c left X3 X4 X5 X6 H) (b : Fin 4) (i j : Fin 2048) (h : j.val < i.val) :
    val_main_v26 (F := Ideal) X4 (ix3 b i j) = ((Similar.cosine (H b) i j : ℝ) : EReal) := by
  rw [masked, if_pos h, similar_at hold.finite]

/-- The second choice is made from their negatives. -/
theorem second_from (hold : Holds 16 8 (val_main_v62 (F := Ideal) X4) X3 X4 X5 X6 H) (b : Fin 4) (i j : Fin 2048) (h : j.val < i.val) (h' : ¬ Near X4 b i j) :
    val_main_v62 (F := Ideal) X4 (ix3 b i j) = ((-Similar.cosine (H b) i j : ℝ) : EReal) := by
  rw [left_at, if_neg h', first_from hold b i j h, EReal.coe_neg]

theorem near_said (hold : Holds 16 8 (val_main_v62 (F := Ideal) X4) X3 X4 X5 X6 H) (b : Fin 4) (i : Fin 2048) (k : Fin 768) :
    (val_main_v97 (F := Ideal) X4 (ix3 b i k) : EReal) = Round.mean (fun j => Near X4 b i j) fun j => (H b j k : EReal) := by
  rw [near_mean]
  exact (Round.mean_eq _ _ _ _).trans (congrArg _ (funext fun j => hold.finite b j k))

theorem far_said (hold : Holds 16 8 (val_main_v62 (F := Ideal) X4) X3 X4 X5 X6 H) (b : Fin 4) (i : Fin 2048) (k : Fin 768) :
    (val_main_v103 (F := Ideal) X4 (ix3 b i k) : EReal) = Round.mean (fun j => Far X4 b i j) fun j => (H b j k : EReal) := by
  rw [far_mean]
  exact (Round.mean_eq _ _ _ _).trans (congrArg _ (funext fun j => hold.finite b j k))

/-- What the kernel leaves in a tile, from blocks that hold the arguments' rows, is what the reference leaves in these rows. -/
theorem tile (hold : Holds 16 8 (val_main_v62 (F := Ideal) X4) X3 X4 X5 X6 H) (i : Cert.KernelIdeal.grid0.Coords) (b : Fin 4) (n : Fin 256 → Fin 2048)
    (hn : ∀ r, (n r).val = 256 * (i 1).val + r.val)
    (x0 : Vec Ideal S4 .f32) (x1 x2 : Vec Ideal S1x768 .f32) (x3 : Vec Ideal S1x1x2048 .f32) (x4 : Vec Ideal S1x2048x768 .f32)
    (x5 x6 : Vec Ideal S1x2048x768 .bf16) (x7 x8 : Vec Ideal S1x256x768 .f32)
    (h0 : ∀ a, x0 (ix1 a) = X0 (ix1 a)) (h1 : ∀ k, x1 (ix2 0 k) = X1 (ix2 0 k)) (h2 : ∀ k, x2 (ix2 0 k) = X2 (ix2 0 k))
    (h3 : ∀ j, x3 (ix3 0 0 j) = X3 (ix3 b 0 j)) (h4 : ∀ j k, x4 (ix3 0 j k) = X4 (ix3 b j k))
    (h5 : ∀ j k, x5 (ix3 0 j k) = X5 (ix3 b j k)) (h6 : ∀ j k, x6 (ix3 0 j k) = X6 (ix3 b j k))
    (h7 : ∀ r k, x7 (ix3 0 r k) = X4 (ix3 b (n r) k)) (h8 : ∀ r k, x8 (ix3 0 r k) = X7 (ix3 b (n r) k))
    (r : Fin 256) (k : Fin 768) :
    (Cert.KernelIdeal.Hand.tileOut (F := Ideal) i x0 x1 x2 x3 x4 x5 x6 x7 x8 (ix3 0 r k) : EReal)
      = val_main_v139 (F := Ideal) X0 X1 X2 X4 X7 (ix3 b (n r) k) := by
  have hs := Cert.KernelIdeal.Hand.scores_value i x3 x4 x7 (H b) n hn (fun j k => (h4 j k).trans (hold.finite b j k))
    (fun r k => (h7 r k).trans (hold.finite b (n r) k)) (fun j => (h3 j).trans (hold.inverse b j))
  rw [result_at, near_said hold, far_said hold]
  refine (Cert.KernelIdeal.Hand.tail_at _ _ _ _ _ _ _ r k).trans ?_
  rw [h0, h0, h0, h0, h1, h2, h7, h8,
    Cert.KernelIdeal.Hand.near_tile i _ (H b) (n r) r (hn r) (fun j => hs r j) _ _ (hold.sorted b (n r)) (fun j h => first_from hold b (n r) j h) x5 x6
      (fun j k => by rw [h5, h6]; exact (hold.halves _).trans (hold.finite b j k)) k,
    Cert.KernelIdeal.Hand.apart_tile i _ (H b) (n r) r (hn r) (fun j => hs r j) _ _ (hold.sorted b (n r)) (fun j h => first_from hold b (n r) j h) x4
      (fun j k => (h4 j k).trans (hold.finite b j k)) _ _ (hold.rest b (n r)) (fun j h h' => second_from hold b (n r) j h h') k]
  rfl

/-- The array the kernel leaves is the reference's result of the same arguments. -/
theorem array (m : (ℓ : Loc Cert.KernelIdeal.nD Cert.KernelIdeal.τ Cert.KernelIdeal.sig) → Buf (Elt Ideal) ℓ) (c : Dev Cert.KernelIdeal.nD)
    {H : Fin 4 → Fin 2048 → Fin 768 → ℝ}
    (hold : Holds 16 8 (val_main_v62 (F := Ideal) (m (c.tc.loc Cert.KernelIdeal.main_arg4))) (m (c.tc.loc Cert.KernelIdeal.main_arg3)) (m (c.tc.loc Cert.KernelIdeal.main_arg4)) (m (c.tc.loc Cert.KernelIdeal.main_arg5))
      (m (c.tc.loc Cert.KernelIdeal.main_arg6)) H) :
    (Cert.KernelIdeal.Hand.dats (F := Ideal) m 0 c).arrAt 9 Cert.KernelIdeal.cfg0.N
      = val_main_v139 (F := Ideal) (m (c.tc.loc Cert.KernelIdeal.main_arg0)) (m (c.tc.loc Cert.KernelIdeal.main_arg1)) (m (c.tc.loc Cert.KernelIdeal.main_arg2))
          (m (c.tc.loc Cert.KernelIdeal.main_arg4)) (m (c.tc.loc Cert.KernelIdeal.main_arg7)) :=
  Cert.KernelIdeal.Hand.whole m c _ fun t r k => tile hold _ (Cert.KernelIdeal.Hand.batch t) (Cert.KernelIdeal.Hand.arrayRow t) (fun _ => rfl) _ _ _ _ _ _ _ _ _
    (Cert.KernelIdeal.Hand.block0 m c t) (Cert.KernelIdeal.Hand.block1 m c t) (Cert.KernelIdeal.Hand.block2 m c t)
    (Cert.KernelIdeal.Hand.block3 m c t) (Cert.KernelIdeal.Hand.block4 m c t) (Cert.KernelIdeal.Hand.block5 m c t)
    (Cert.KernelIdeal.Hand.block6 m c t) (Cert.KernelIdeal.Hand.block7 m c t) (Cert.KernelIdeal.Hand.block8 m c t) r k

end Cert.Agree
-- ==== Proof.Kernel2Ideal.RunA.lean ====
module

public import proofs.«01_k».proof.Proof.Gen.Kernel2Ideal.Frame
public import proofs.«01_k».proof.Proof.Gen.Kernel2Ideal.Loops
public import proofs.«01_k».proof.Proof.Gen.Kernel2Ideal.Points
public import Idealize.ShloMosaic.Lib.Tactic

@[expose] public section

set_option maxRecDepth 16384

noncomputable section

namespace Cert.Kernel2Ideal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runA (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (hc1 : k0_cond1 i = 1#1) (hc2 : ¬ k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    { L : List (View.Piece (Elt F) S1x256x768 .f32) × List (View.Piece (Elt F) S1x256x768 .bf16) × List (View.Piece (Elt F) S1x256x768 .bf16) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun E K => ?run⟩
  case run =>
    simp only [cc0__round_body_eq_skeleton]; unfold cc0__round_body_skel
    simp only [k0_part10_eq_skeleton, k0_part11_eq_skeleton, k0_part12_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.Kernel2Ideal.Hand
-- ==== Proof.Kernel2Ideal.RunB.lean ====
module

public import proofs.«01_k».proof.Proof.Gen.Kernel2Ideal.Frame
public import proofs.«01_k».proof.Proof.Gen.Kernel2Ideal.Loops
public import proofs.«01_k».proof.Proof.Gen.Kernel2Ideal.Points
public import Idealize.ShloMosaic.Lib.Tactic

@[expose] public section

set_option maxRecDepth 16384

noncomputable section

namespace Cert.Kernel2Ideal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runB (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (hc1 : ¬ k0_cond1 i = 1#1) (hc2 : k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    { L : List (View.Piece (Elt F) S1x256x768 .f32) × List (View.Piece (Elt F) S1x256x768 .bf16) × List (View.Piece (Elt F) S1x256x768 .bf16) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun E K => ?run⟩
  case run =>
    simp only [cc0__round_body_eq_skeleton]; unfold cc0__round_body_skel
    simp only [k0_part10_eq_skeleton, k0_part11_eq_skeleton, k0_part12_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.Kernel2Ideal.Hand
-- ==== Proof.Kernel2Ideal.RunC.lean ====
module

public import proofs.«01_k».proof.Proof.Gen.Kernel2Ideal.Frame
public import proofs.«01_k».proof.Proof.Gen.Kernel2Ideal.Loops
public import proofs.«01_k».proof.Proof.Gen.Kernel2Ideal.Points
public import Idealize.ShloMosaic.Lib.Tactic

@[expose] public section

set_option maxRecDepth 16384

noncomputable section

namespace Cert.Kernel2Ideal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runC (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (hc1 : ¬ k0_cond1 i = 1#1) (hc2 : ¬ k0_cond2 i = 1#1) (hc3 : k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    { L : List (View.Piece (Elt F) S1x256x768 .f32) × List (View.Piece (Elt F) S1x256x768 .bf16) × List (View.Piece (Elt F) S1x256x768 .bf16) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun E K => ?run⟩
  case run =>
    simp only [cc0__round_body_eq_skeleton]; unfold cc0__round_body_skel
    simp only [k0_part10_eq_skeleton, k0_part11_eq_skeleton, k0_part12_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.Kernel2Ideal.Hand
-- ==== Proof.Kernel2Ideal.RunD.lean ====
module

public import proofs.«01_k».proof.Proof.Gen.Kernel2Ideal.Frame
public import proofs.«01_k».proof.Proof.Gen.Kernel2Ideal.Loops
public import proofs.«01_k».proof.Proof.Gen.Kernel2Ideal.Points
public import Idealize.ShloMosaic.Lib.Tactic

@[expose] public section

set_option maxRecDepth 16384

noncomputable section

namespace Cert.Kernel2Ideal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runD (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (hc1 : ¬ k0_cond1 i = 1#1) (hc2 : ¬ k0_cond2 i = 1#1) (hc3 : ¬ k0_cond3 i = 1#1) (hc4 : k0_cond4 i = 1#1) (hc5 : ¬ (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    { L : List (View.Piece (Elt F) S1x256x768 .f32) × List (View.Piece (Elt F) S1x256x768 .bf16) × List (View.Piece (Elt F) S1x256x768 .bf16) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun E K => ?run⟩
  case run =>
    simp only [cc0__round_body_eq_skeleton]; unfold cc0__round_body_skel
    simp only [k0_part10_eq_skeleton, k0_part11_eq_skeleton, k0_part12_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.Kernel2Ideal.Hand
-- ==== Proof.Kernel2Ideal.RunE.lean ====
module

public import proofs.«01_k».proof.Proof.Gen.Kernel2Ideal.Frame
public import proofs.«01_k».proof.Proof.Gen.Kernel2Ideal.Loops
public import proofs.«01_k».proof.Proof.Gen.Kernel2Ideal.Points
public import Idealize.ShloMosaic.Lib.Tactic

@[expose] public section

set_option maxRecDepth 16384

noncomputable section

namespace Cert.Kernel2Ideal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runE (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (hc1 : ¬ k0_cond1 i = 1#1) (hc2 : ¬ k0_cond2 i = 1#1) (hc3 : ¬ k0_cond3 i = 1#1) (hc4 : k0_cond4 i = 1#1) (hc5 : (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    { L : List (View.Piece (Elt F) S1x256x768 .f32) × List (View.Piece (Elt F) S1x256x768 .bf16) × List (View.Piece (Elt F) S1x256x768 .bf16) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun E K => ?run⟩
  case run =>
    simp only [cc0__round_body_eq_skeleton]; unfold cc0__round_body_skel
    simp only [k0_part10_eq_skeleton, k0_part11_eq_skeleton, k0_part12_eq_skeleton, k0_part8_eq_skeleton, k0_part9_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.Kernel2Ideal.Hand
-- ==== Proof.Kernel2Ideal.Body.lean ====
module

public import proofs.«01_k».proof.Proof.Kernel2Ideal.RunA
public import proofs.«01_k».proof.Proof.Kernel2Ideal.RunB
public import proofs.«01_k».proof.Proof.Kernel2Ideal.RunC
public import proofs.«01_k».proof.Proof.Kernel2Ideal.RunD
public import proofs.«01_k».proof.Proof.Kernel2Ideal.RunE
public import proofs.«01_k».proof.Proof.KernelIdeal.Point
public import Idealize.ShloMosaic.Lib.Pipeline.ValueKit.Basic
public import Idealize.ShloMosaic.Lib.WholeRead
public import Idealize.ShloMosaic.Lib.Tactic

@[expose] public section

set_option maxRecDepth 16384

noncomputable section

namespace Cert.Kernel2Ideal.Hand

open Gen
open Cert.KernelIdeal.Hand (scores loaded trips1 trips2 trips3 trips4 trips5 trips6 trips7 trips8 trips9 trips10 off7_eq off9_eq off11_eq off13_eq lt8 cond1_iff cond2_iff cond3_iff cond4_iff last_iff cols512 cols1024 cols1536 cols2048)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The row tile before the activation: the blend of the old state with its two messages, the gain and the bias. -/
def blended (x0 : Vec F S4 .f32) (x1 x2 : Vec F S1x768 .f32) (x7 : Vec F S1x256x768 .f32) (mp mn : Vec F S256x768 .f32) : Vec F S256x768 .f32 :=
  k0_pay33 (k0_pay25 x7) mp (View.ld x0 (Rect.unit ![0] ![1] inb_S4_S1_0) (Shape.Idx.first (by decide)))
    (View.ld x0 (Rect.unit ![1] ![1] inb_S4_S1_1) (Shape.Idx.first (by decide))) mn x1 x2

/-- The momentum factor. -/
def momentum (x0 : Vec F S4 .f32) : Elt F .f32 := (View.ld x0 (Rect.unit ![2] ![1] inb_S4_S1_2) (Shape.Idx.first (by decide)))

/-- The new state of a row tile, its two halves in the shorter format, and the reciprocals of its rows' lengths. -/
def tail (x0 : Vec F S4 .f32) (x1 x2 : Vec F S1x768 .f32) (x7 : Vec F S1x256x768 .f32) (mp mn : Vec F S256x768 .f32) : Vec F S1x256x768 .f32 :=
  k0_pay36 (k0_pay25 x7) (momentum x0) (blended x0 x1 x2 x7 mp mn) k0_pay34
def tailHigh (x0 : Vec F S4 .f32) (x1 x2 : Vec F S1x768 .f32) (x7 : Vec F S1x256x768 .f32) (mp mn : Vec F S256x768 .f32) : Vec F S1x256x768 .bf16 :=
  k0_pay38 (k0_pay25 x7) (momentum x0) (blended x0 x1 x2 x7 mp mn) k0_pay34
def tailLow (x0 : Vec F S4 .f32) (x1 x2 : Vec F S1x768 .f32) (x7 : Vec F S1x256x768 .f32) (mp mn : Vec F S256x768 .f32) : Vec F S1x256x768 .bf16 :=
  k0_pay39 (k0_pay25 x7) (momentum x0) (blended x0 x1 x2 x7 mp mn) k0_pay34
def tailInv (x0 : Vec F S4 .f32) (x1 x2 : Vec F S1x768 .f32) (x7 : Vec F S1x256x768 .f32) (mp mn : Vec F S256x768 .f32) : Vec F S1x1x256 .f32 :=
  k0_pay40 (k0_pay25 x7) (momentum x0) (blended x0 x1 x2 x7 mp mn) k0_pay34

/-- The message from the most similar earlier rows, the scores `s` kept to a width of 512. -/
def msg512 (i : grid0.Coords) (s : Vec F S256x512 .f32) (x5 x6 : Vec F S1x2048x768 .bf16) : Vec F S256x768 .f32 :=
  k0_pay5 (Scalar.muli (BitVec.ofNat 32 (i 1).val) 256#32) (k0_pay30 i) (k0_pay3 s) (k0_pay4 s)
    (View.ld x5 (Rect.unit (s := S1x2048x768) ![0, 0, 0] S1x512x768.size inb_S1x2048x768_S1x512x768_0_0_0))
    (View.ld x6 (Rect.unit (s := S1x2048x768) ![0, 0, 0] S1x512x768.size inb_S1x2048x768_S1x512x768_0_0_0))

/-- The message from the most similar earlier rows, the scores `s` kept to a width of 1024. -/
def msg1024 (i : grid0.Coords) (s : Vec F S256x1024 .f32) (x5 x6 : Vec F S1x2048x768 .bf16) : Vec F S256x768 .f32 :=
  k0_pay10 (Scalar.muli (BitVec.ofNat 32 (i 1).val) 256#32) (k0_pay30 i) (k0_pay8 s) (k0_pay9 s)
    (View.ld x5 (Rect.unit (s := S1x2048x768) ![0, 0, 0] S1x1024x768.size inb_S1x2048x768_S1x1024x768_0_0_0))
    (View.ld x6 (Rect.unit (s := S1x2048x768) ![0, 0, 0] S1x1024x768.size inb_S1x2048x768_S1x1024x768_0_0_0))

/-- The message from the most similar earlier rows, the scores `s` kept to a width of 1536. -/
def msg1536 (i : grid0.Coords) (s : Vec F S256x1536 .f32) (x5 x6 : Vec F S1x2048x768 .bf16) : Vec F S256x768 .f32 :=
  k0_pay15 (Scalar.muli (BitVec.ofNat 32 (i 1).val) 256#32) (k0_pay30 i) (k0_pay13 s) (k0_pay14 s)
    (View.ld x5 (Rect.unit (s := S1x2048x768) ![0, 0, 0] S1x1536x768.size inb_S1x2048x768_S1x1536x768_0_0_0))
    (View.ld x6 (Rect.unit (s := S1x2048x768) ![0, 0, 0] S1x1536x768.size inb_S1x2048x768_S1x1536x768_0_0_0))

/-- The message from the most similar earlier rows, the scores `s` kept to a width of 2048. -/
def msg2048 (i : grid0.Coords) (s : Vec F S256x2048 .f32) (x5 x6 : Vec F S1x2048x768 .bf16) : Vec F S256x768 .f32 :=
  k0_pay24 (Scalar.muli (BitVec.ofNat 32 (i 1).val) 256#32) (k0_pay30 i) (k0_pay21 s) (k0_pay22 s)
    (View.ld x5 (Rect.unit (s := S1x2048x768) ![0, 0, 0] S1x2048x768.size inb_S1x2048x768_S1x2048x768_0_0_0))
    (View.ld x6 (Rect.unit (s := S1x2048x768) ![0, 0, 0] S1x2048x768.size inb_S1x2048x768_S1x2048x768_0_0_0))

/-- The scores left after the most similar rows of the widest tiles are struck out. -/
def struck (s : Vec F S256x2048 .f32) : Vec F S256x2048 .f32 := k0_pay23 (k0_pay21 s) (k0_pay22 s)

/-- The message from the least similar rows, for the tile of the last rows, over the scores `s` left after the first selection. -/
def far (i : grid0.Coords) (x4 : Vec F S1x2048x768 .f32) (s : Vec F S256x2048 .f32) : Vec F S256x768 .f32 :=
  k0_pay32 (k0_pay26 x4) (k0_pay29 i) (k0_pay16 s) (k0_pay17 (k0_pay29 i) s) k0_pay18

/-- The stores of the four output tiles, from the two messages. -/
def stored (x0 : Vec F S4 .f32) (x1 x2 : Vec F S1x768 .f32) (x7 : Vec F S1x256x768 .f32) (mp mn : Vec F S256x768 .f32) :
    List (View.Piece (Elt F) S1x256x768 .f32) × List (View.Piece (Elt F) S1x256x768 .bf16) × List (View.Piece (Elt F) S1x256x768 .bf16) × List (View.Piece (Elt F) S1x1x256 .f32) :=
  ⟨[⟨Rect.unit ![0, 0, 0] ![1, 256, 768] inb_S1x256x768_S1x256x768_0_0_0, tail x0 x1 x2 x7 mp mn⟩],
    [⟨Rect.unit ![0, 0, 0] ![1, 256, 768] inb_S1x256x768_S1x256x768_0_0_0, tailHigh x0 x1 x2 x7 mp mn⟩],
    [⟨Rect.unit ![0, 0, 0] ![1, 256, 768] inb_S1x256x768_S1x256x768_0_0_0, tailLow x0 x1 x2 x7 mp mn⟩],
    [⟨Rect.unit ![0, 0, 0] ![1, 1, 256] inb_S1x1x256_S1x1x256_0_0_0, tailInv x0 x1 x2 x7 mp mn⟩]⟩

variable (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole)

/-- What the body leaves in the output tiles, case A. -/
theorem runA_eq (hc1 : k0_cond1 i = 1#1) (hc2 : ¬ k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 x0 x1 x2 x3 x4 x5 x6 x7 G).1 =
      stored x0 x1 x2 x7 (msg512 i (runA.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 x3 x4 x7 G) x5 x6) k0_pay31 := by
  unfold runA
  dsimp only
  simp only [runA.sl.r, runA.sl.r_1, runA.sl.r_2, runA.sl.r_3, runA.sl.r_4, runA.sl.r_5, runA.sl.r_6, runA.sl.r_7, runA.sl.v43, runA.sl.v50, runA.sl.HS1_1, runA.sl.HS2_1, View.readAt_eq_ld,
    harg2.read_unread, harg3.read_unread, harg4.read_unread, harg6.read_unread, harg7.read_unread, harg8.read_unread, harg9.read_unread]
  rw [View.ld_unit_lit inb_S1x256x768_S1x256x768_0_0_0 x7 (by decide),
    View.ld_unit_lit inb_S1x768_S1x768_0_0 x1 (by decide), View.ld_unit_lit inb_S1x768_S1x768_0_0 x2 (by decide),
    View.readCov_unit_lit arg15.view inb_S256x768_S256x768_0_0 _ (by decide), View.readCov_unit_lit arg16.view inb_S256x768_S256x768_0_0 _ (by decide)]
  rfl

/-- What the body leaves in the output tiles, case B. -/
theorem runB_eq (hc1 : ¬ k0_cond1 i = 1#1) (hc2 : k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 x0 x1 x2 x3 x4 x5 x6 x7 G).1 =
      stored x0 x1 x2 x7 (msg1024 i (runB.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 x3 x4 x7 G) x5 x6) k0_pay31 := by
  unfold runB
  dsimp only
  simp only [runB.sl.r, runB.sl.r_1, runB.sl.r_2, runB.sl.r_3, runB.sl.r_4, runB.sl.r_5, runB.sl.r_6, runB.sl.r_7, runB.sl.v43, runB.sl.v50, runB.sl.HS1_1, runB.sl.HS2_1, View.readAt_eq_ld,
    harg2.read_unread, harg3.read_unread, harg4.read_unread, harg6.read_unread, harg7.read_unread, harg8.read_unread, harg9.read_unread]
  rw [View.ld_unit_lit inb_S1x256x768_S1x256x768_0_0_0 x7 (by decide),
    View.ld_unit_lit inb_S1x768_S1x768_0_0 x1 (by decide), View.ld_unit_lit inb_S1x768_S1x768_0_0 x2 (by decide),
    View.readCov_unit_lit arg15.view inb_S256x768_S256x768_0_0 _ (by decide), View.readCov_unit_lit arg16.view inb_S256x768_S256x768_0_0 _ (by decide)]
  rfl

/-- What the body leaves in the output tiles, case C. -/
theorem runC_eq (hc1 : ¬ k0_cond1 i = 1#1) (hc2 : ¬ k0_cond2 i = 1#1) (hc3 : k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 x0 x1 x2 x3 x4 x5 x6 x7 G).1 =
      stored x0 x1 x2 x7 (msg1536 i (runC.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc3 x3 x4 x7 G) x5 x6) k0_pay31 := by
  unfold runC
  dsimp only
  simp only [runC.sl.r, runC.sl.r_1, runC.sl.r_2, runC.sl.r_3, runC.sl.r_4, runC.sl.r_5, runC.sl.r_6, runC.sl.r_7, runC.sl.v43, runC.sl.v50, runC.sl.HS1_1, runC.sl.HS2_1, View.readAt_eq_ld,
    harg2.read_unread, harg3.read_unread, harg4.read_unread, harg6.read_unread, harg7.read_unread, harg8.read_unread, harg9.read_unread]
  rw [View.ld_unit_lit inb_S1x256x768_S1x256x768_0_0_0 x7 (by decide),
    View.ld_unit_lit inb_S1x768_S1x768_0_0 x1 (by decide), View.ld_unit_lit inb_S1x768_S1x768_0_0 x2 (by decide),
    View.readCov_unit_lit arg15.view inb_S256x768_S256x768_0_0 _ (by decide), View.readCov_unit_lit arg16.view inb_S256x768_S256x768_0_0 _ (by decide)]
  rfl

/-- What the body leaves in the output tiles, case D. -/
theorem runD_eq (hc1 : ¬ k0_cond1 i = 1#1) (hc2 : ¬ k0_cond2 i = 1#1) (hc3 : ¬ k0_cond3 i = 1#1) (hc4 : k0_cond4 i = 1#1) (hc5 : ¬ (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 x4 x5 x6 x7 G).1 =
      stored x0 x1 x2 x7 (msg2048 i (runD.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc4 x3 x4 x7 G) x5 x6) k0_pay31 := by
  unfold runD
  dsimp only
  simp only [runD.sl.r, runD.sl.r_1, runD.sl.r_2, runD.sl.r_3, runD.sl.r_4, runD.sl.r_5, runD.sl.r_6, runD.sl.r_7, runD.sl.r_8, runD.sl.v43, runD.sl.v50, runD.sl.HS1_1, runD.sl.HS2_1, View.readAt_eq_ld,
    harg2.read_unread, harg3.read_unread, harg4.read_unread, harg6.read_unread, harg7.read_unread, harg8.read_unread, harg9.read_unread]
  rw [View.ld_unit_lit inb_S1x256x768_S1x256x768_0_0_0 x7 (by decide),
    View.ld_unit_lit inb_S1x768_S1x768_0_0 x1 (by decide), View.ld_unit_lit inb_S1x768_S1x768_0_0 x2 (by decide),
    View.readCov_unit_lit arg15.view inb_S256x768_S256x768_0_0 _ (by decide), View.readCov_unit_lit arg16.view inb_S256x768_S256x768_0_0 _ (by decide)]
  rfl

/-- What the body leaves in the output tiles, case E. -/
theorem runE_eq (hc1 : ¬ k0_cond1 i = 1#1) (hc2 : ¬ k0_cond2 i = 1#1) (hc3 : ¬ k0_cond3 i = 1#1) (hc4 : k0_cond4 i = 1#1) (hc5 : (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 x4 x5 x6 x7 G).1 =
      stored x0 x1 x2 x7 (msg2048 i (runE.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc4 x3 x4 x7 G) x5 x6) (far i x4 (struck (runE.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc4 x3 x4 x7 G))) := by
  unfold runE
  dsimp only
  simp only [runE.sl.r, runE.sl.r_1, runE.sl.r_2, runE.sl.r_3, runE.sl.r_4, runE.sl.r_5, runE.sl.r_6, runE.sl.r_7, runE.sl.r_8, runE.sl.r_9, runE.sl.r_10, runE.sl.v43, runE.sl.v50, runE.sl.HS1_1, runE.sl.HS2_1, runE.sl.HS2_2, View.readAt_eq_ld,
    harg2.read_unread, harg3.read_unread, harg4.read_unread, harg6.read_unread, harg7.read_unread, harg8.read_unread, harg9.read_unread]
  rw [View.ld_unit_lit inb_S1x256x768_S1x256x768_0_0_0 x7 (by decide),
    View.ld_unit_lit inb_S1x768_S1x768_0_0 x1 (by decide), View.ld_unit_lit inb_S1x768_S1x768_0_0 x2 (by decide),
    View.readCov_unit_lit arg15.view inb_S256x768_S256x768_0_0 _ (by decide), View.readCov_cons_toLoadRect, View.ld_unit_lit inb_S1x2048x768_S1x2048x768_0_0_0 x4 (by decide)]
  rfl

end Cert.Kernel2Ideal.Hand
-- ==== Proof.Kernel2Ideal.Loaded.lean ====
module

public import proofs.«01_k».proof.Proof.Kernel2Ideal.Body
public import Idealize.ShloMosaic.Lib.Pipeline.ValueKit.Basic
public import Idealize.ShloMosaic.Lib.WholeRead
public import Idealize.ShloMosaic.Lib.ValueIdx
public import Idealize.ShloMosaic.Lib.Tactic

@[expose] public section

set_option maxRecDepth 16384

noncomputable section

namespace Cert.Kernel2Ideal.Hand

open Gen
open Cert.KernelIdeal.Hand (scores loaded trips1 trips2 trips3 trips4 trips5 trips6 trips7 trips8 trips9 trips10 off7_eq off9_eq off11_eq off13_eq lt8 cond1_iff cond2_iff cond3_iff cond4_iff last_iff cols512 cols1024 cols1536 cols2048)
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole)

theorem piece1 (x3 : Vec F S1x1x2048 .f32) (x4 : Vec F S1x2048x768 .f32) (x7 : Vec F S1x256x768 .f32) (k : Fin (k0_t1_loop i).trips) :
    tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (View.readAt (Elt F) arg9.view (Rect.unit ![0, 0, 0] S1x256x768.size inb_S1x256x768_S1x256x768_0_0_0).toLoadRect (harg9.unread x7)) (harg5.unread x3) (harg6.unread x4) k
      = [⟨Rect.unit (s := S256x2048) (k0_off3 i k) S256x256.size (k0_off3_inb i k),
          k0_pay27 i x7 k (View.ld x4 (Rect.unit (s := S1x2048x768) (k0_off1 i k) S1x256x768.size (k0_off1_inb i k))) (View.ld x3 (Rect.unit (s := S1x1x2048) (k0_off2 i k) S1x1x256.size (k0_off2_inb i k)))⟩] := by
  unfold tripL_k0_t1 trip_k0_t1
  dsimp only
  simp only [View.readAt_eq_ld, harg5.read_unread, harg6.read_unread, harg9.read_unread]
  rw [View.ld_unit_lit inb_S1x256x768_S1x256x768_0_0_0 x7 (by decide)]

theorem piece3 (w : BitVec 32) (h : k0_cond1 i = 1#1) (k : Fin (k0_t3_loop i).trips) :
    tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w h k
      = [⟨Rect.unit (s := S256x2048) (k0_off7 i k) S256x256.size (k0_off7_inb i k h), k0_pay1⟩] := by
  unfold tripL_k0_t3 trip_k0_t3
  rfl

theorem piece5 (w : BitVec 32) (h : k0_cond2 i = 1#1) (k : Fin (k0_t5_loop i).trips) :
    tripL_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w h k
      = [⟨Rect.unit (s := S256x2048) (k0_off9 i k) S256x256.size (k0_off9_inb i k h), k0_pay1⟩] := by
  unfold tripL_k0_t5 trip_k0_t5
  rfl

theorem piece7 (w : BitVec 32) (h : k0_cond3 i = 1#1) (k : Fin (k0_t7_loop i).trips) :
    tripL_k0_t7 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w h k
      = [⟨Rect.unit (s := S256x2048) (k0_off11 i k) S256x256.size (k0_off11_inb i k h), k0_pay1⟩] := by
  unfold tripL_k0_t7 trip_k0_t7
  rfl

theorem piece9 (w : BitVec 32) (h : k0_cond4 i = 1#1) (k : Fin (k0_t9_loop i).trips) :
    tripL_k0_t9 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w h k
      = [⟨Rect.unit (s := S256x2048) (k0_off13 i k) S256x256.size (k0_off13_inb i k h), k0_pay1⟩] := by
  unfold tripL_k0_t9 trip_k0_t9
  rfl

set_option maxHeartbeats 400000 in
theorem scoresA (h : k0_cond1 i = 1#1) (x3 : Vec F S1x1x2048 .f32) (x4 : Vec F S1x2048x768 .f32) (x7 : Vec F S1x256x768 .f32) (G : BufTy.Contents (Elt F) arg14.view.ty) :
    runA.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x7 G = View.ld (scores i x3 x4 x7) (Rect.unit (s := S256x2048) ![0, 0] S256x512.size inb_S256x2048_S256x512_0_0) := by
  unfold runA.sl.v110
  rw [show Scf.trips (k0_t4_loop i).lb (k0_t4_loop i).ub (k0_t4_loop i).st = 0 from trips4 i h, show Scf.trips (k0_t2_loop i).lb (k0_t2_loop i).ub (k0_t2_loop i).st = 0 from trips2 i, pb_k0_t4.eq_1, pb_k0_t2.eq_1]
  rw [show Scf.trips (k0_t1_loop i).lb (k0_t1_loop i).ub (k0_t1_loop i).st = (k0_t1_loop i).trips from rfl,
    show Scf.trips (k0_t3_loop i).lb (k0_t3_loop i).ub (k0_t3_loop i).st = (k0_t3_loop i).trips from rfl]
  refine loaded i x3 x4 x7 (u := 2) arg14.view G (Rect.unit (s := S256x2048) ![0, 0] S256x512.size inb_S256x2048_S256x512_0_0) _ _ _ _
    (pb_k0_t1.eq_1 ..) (fun _ => pb_k0_t1_succ ..) (pb_k0_t3.eq_1 ..) (fun _ => pb_k0_t3_succ ..) (fun _ => piece1 ..) (k0_off7 i) (off7_eq i h) (fun k => k0_off7_inb i k h) (fun _ => piece3 ..) (trips3 i h) ?_
  intro x
  have h : (x 1).val < 512 := (x 1).isLt
  show 0 + 1 * (x 1).val < 256 * 2
  omega

set_option maxHeartbeats 400000 in
theorem scoresB (h : k0_cond2 i = 1#1) (x3 : Vec F S1x1x2048 .f32) (x4 : Vec F S1x2048x768 .f32) (x7 : Vec F S1x256x768 .f32) (G : BufTy.Contents (Elt F) arg14.view.ty) :
    runB.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x7 G = View.ld (scores i x3 x4 x7) (Rect.unit (s := S256x2048) ![0, 0] S256x1024.size inb_S256x2048_S256x1024_0_0) := by
  unfold runB.sl.v110
  rw [show Scf.trips (k0_t6_loop i).lb (k0_t6_loop i).ub (k0_t6_loop i).st = 0 from trips6 i h, show Scf.trips (k0_t2_loop i).lb (k0_t2_loop i).ub (k0_t2_loop i).st = 0 from trips2 i, pb_k0_t6.eq_1, pb_k0_t2.eq_1]
  rw [show Scf.trips (k0_t1_loop i).lb (k0_t1_loop i).ub (k0_t1_loop i).st = (k0_t1_loop i).trips from rfl,
    show Scf.trips (k0_t5_loop i).lb (k0_t5_loop i).ub (k0_t5_loop i).st = (k0_t5_loop i).trips from rfl]
  refine loaded i x3 x4 x7 (u := 4) arg14.view G (Rect.unit (s := S256x2048) ![0, 0] S256x1024.size inb_S256x2048_S256x1024_0_0) _ _ _ _
    (pb_k0_t1.eq_1 ..) (fun _ => pb_k0_t1_succ ..) (pb_k0_t5.eq_1 ..) (fun _ => pb_k0_t5_succ ..) (fun _ => piece1 ..) (k0_off9 i) (off9_eq i h) (fun k => k0_off9_inb i k h) (fun _ => piece5 ..) (trips5 i h) ?_
  intro x
  have h : (x 1).val < 1024 := (x 1).isLt
  show 0 + 1 * (x 1).val < 256 * 4
  omega

set_option maxHeartbeats 400000 in
theorem scoresC (h : k0_cond3 i = 1#1) (x3 : Vec F S1x1x2048 .f32) (x4 : Vec F S1x2048x768 .f32) (x7 : Vec F S1x256x768 .f32) (G : BufTy.Contents (Elt F) arg14.view.ty) :
    runC.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x7 G = View.ld (scores i x3 x4 x7) (Rect.unit (s := S256x2048) ![0, 0] S256x1536.size inb_S256x2048_S256x1536_0_0) := by
  unfold runC.sl.v110
  rw [show Scf.trips (k0_t8_loop i).lb (k0_t8_loop i).ub (k0_t8_loop i).st = 0 from trips8 i h, show Scf.trips (k0_t2_loop i).lb (k0_t2_loop i).ub (k0_t2_loop i).st = 0 from trips2 i, pb_k0_t8.eq_1, pb_k0_t2.eq_1]
  rw [show Scf.trips (k0_t1_loop i).lb (k0_t1_loop i).ub (k0_t1_loop i).st = (k0_t1_loop i).trips from rfl,
    show Scf.trips (k0_t7_loop i).lb (k0_t7_loop i).ub (k0_t7_loop i).st = (k0_t7_loop i).trips from rfl]
  refine loaded i x3 x4 x7 (u := 6) arg14.view G (Rect.unit (s := S256x2048) ![0, 0] S256x1536.size inb_S256x2048_S256x1536_0_0) _ _ _ _
    (pb_k0_t1.eq_1 ..) (fun _ => pb_k0_t1_succ ..) (pb_k0_t7.eq_1 ..) (fun _ => pb_k0_t7_succ ..) (fun _ => piece1 ..) (k0_off11 i) (off11_eq i h) (fun k => k0_off11_inb i k h) (fun _ => piece7 ..) (trips7 i h) ?_
  intro x
  have h : (x 1).val < 1536 := (x 1).isLt
  show 0 + 1 * (x 1).val < 256 * 6
  omega

set_option maxHeartbeats 400000 in
theorem scoresD (h : k0_cond4 i = 1#1) (x3 : Vec F S1x1x2048 .f32) (x4 : Vec F S1x2048x768 .f32) (x7 : Vec F S1x256x768 .f32) (G : BufTy.Contents (Elt F) arg14.view.ty) :
    runD.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x7 G = View.ld (scores i x3 x4 x7) (Rect.unit (s := S256x2048) ![0, 0] S256x2048.size inb_S256x2048_S256x2048_0_0) := by
  unfold runD.sl.v110
  rw [show Scf.trips (k0_t10_loop i).lb (k0_t10_loop i).ub (k0_t10_loop i).st = 0 from trips10 i h, show Scf.trips (k0_t2_loop i).lb (k0_t2_loop i).ub (k0_t2_loop i).st = 0 from trips2 i, pb_k0_t10.eq_1, pb_k0_t2.eq_1]
  rw [show Scf.trips (k0_t1_loop i).lb (k0_t1_loop i).ub (k0_t1_loop i).st = (k0_t1_loop i).trips from rfl,
    show Scf.trips (k0_t9_loop i).lb (k0_t9_loop i).ub (k0_t9_loop i).st = (k0_t9_loop i).trips from rfl]
  refine loaded i x3 x4 x7 (u := 8) arg14.view G (Rect.unit (s := S256x2048) ![0, 0] S256x2048.size inb_S256x2048_S256x2048_0_0) _ _ _ _
    (pb_k0_t1.eq_1 ..) (fun _ => pb_k0_t1_succ ..) (pb_k0_t9.eq_1 ..) (fun _ => pb_k0_t9_succ ..) (fun _ => piece1 ..) (k0_off13 i) (off13_eq i h) (fun k => k0_off13_inb i k h) (fun _ => piece9 ..) (trips9 i h) ?_
  intro x
  have h : (x 1).val < 2048 := (x 1).isLt
  show 0 + 1 * (x 1).val < 256 * 8
  omega

set_option maxHeartbeats 400000 in
theorem scoresE (h : k0_cond4 i = 1#1) (x3 : Vec F S1x1x2048 .f32) (x4 : Vec F S1x2048x768 .f32) (x7 : Vec F S1x256x768 .f32) (G : BufTy.Contents (Elt F) arg14.view.ty) :
    runE.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x7 G = View.ld (scores i x3 x4 x7) (Rect.unit (s := S256x2048) ![0, 0] S256x2048.size inb_S256x2048_S256x2048_0_0) := by
  unfold runE.sl.v110
  rw [show Scf.trips (k0_t10_loop i).lb (k0_t10_loop i).ub (k0_t10_loop i).st = 0 from trips10 i h, show Scf.trips (k0_t2_loop i).lb (k0_t2_loop i).ub (k0_t2_loop i).st = 0 from trips2 i, pb_k0_t10.eq_1, pb_k0_t2.eq_1]
  rw [show Scf.trips (k0_t1_loop i).lb (k0_t1_loop i).ub (k0_t1_loop i).st = (k0_t1_loop i).trips from rfl,
    show Scf.trips (k0_t9_loop i).lb (k0_t9_loop i).ub (k0_t9_loop i).st = (k0_t9_loop i).trips from rfl]
  refine loaded i x3 x4 x7 (u := 8) arg14.view G (Rect.unit (s := S256x2048) ![0, 0] S256x2048.size inb_S256x2048_S256x2048_0_0) _ _ _ _
    (pb_k0_t1.eq_1 ..) (fun _ => pb_k0_t1_succ ..) (pb_k0_t9.eq_1 ..) (fun _ => pb_k0_t9_succ ..) (fun _ => piece1 ..) (k0_off13 i) (off13_eq i h) (fun k => k0_off13_inb i k h) (fun _ => piece9 ..) (trips9 i h) ?_
  intro x
  have h : (x 1).val < 2048 := (x 1).isLt
  show 0 + 1 * (x 1).val < 256 * 8
  omega

end Cert.Kernel2Ideal.Hand
-- ==== Proof.Kernel2Ideal.Tiles.lean ====
module

public import proofs.«01_k».proof.Proof.Kernel2Ideal.Point
public import proofs.«01_k».proof.Proof.KernelIdeal.Tiles

@[expose] public section

noncomputable section

/-! # The middle round's two messages of a row tile

The steps, the counts and the means are those of the last round, with eight rows in place of sixteen and four in place of eight. -/

namespace Cert.Kernel2Ideal.Hand

open Gen Idealize.ShloMosaic Idealize.ShloMosaic.TcCoe Idealize.ShloMosaic.ValueIdx
open Cert.KernelIdeal.Hand (strikeRows one_more tops weights mean width_tile last_tile none_tile others dropAll drop_more raised taken oge_congr count_word lt8)

variable {W : ℕ}

/-- Eight steps, counted as the program's parts hold them. -/
theorem eight (hr : (⟨2, ![256, W]⟩ : Shape).Reduces [1] S256) (hb : S256x1.Broadcasts ⟨2, ![256, W]⟩) (v : FVec Ideal ⟨2, ![256, W]⟩ .f32) :
    (strikeRows hr hb)^[3] ((strikeRows hr hb)^[5] v) = (strikeRows hr hb)^[8] v := by
  rw [← Function.iterate_add_apply]

theorem msg512_eq (i : grid0.Coords) (s : Vec Ideal S256x512 .f32) (x5 x6 : Vec Ideal S1x2048x768 .bf16) :
    msg512 i s x5 x6 = mean (k0_pay30 i) shapeCasts_S1x512x768_S512x768
      (weights (BitVec.ofNat 32 (i 1).val * 256#32) iota_S256x512_d0_w32 iota_S256x512_d1_w32 ((strikeRows reduces_S256x512_S256 broadcasts_S256x1_S256x512)^[8] s))
      (View.ld x5 (Rect.unit (s := S1x2048x768) ![0, 0, 0] S1x512x768.size inb_S1x2048x768_S1x512x768_0_0_0))
      (View.ld x6 (Rect.unit (s := S1x2048x768) ![0, 0, 0] S1x512x768.size inb_S1x2048x768_S1x512x768_0_0_0)) := by
  have h1 : k0_pay3 s = (strikeRows reduces_S256x512_S256 broadcasts_S256x1_S256x512)^[5] s := rfl
  have h4 : ∀ v y z, k0_pay5 (BitVec.ofNat 32 (i 1).val * 256#32) (k0_pay30 i) v (tops reduces_S256x512_S256 v) y z
      = mean (k0_pay30 i) shapeCasts_S1x512x768_S512x768
        (weights (BitVec.ofNat 32 (i 1).val * 256#32) iota_S256x512_d0_w32 iota_S256x512_d1_w32 ((strikeRows reduces_S256x512_S256 broadcasts_S256x1_S256x512)^[3] v)) y z := fun v y z =>
    shapeCast_self _ _
  have h5 : k0_pay4 s = tops reduces_S256x512_S256 (k0_pay3 s) := rfl
  unfold msg512
  rw [h5, h1]
  exact (h4 _ _ _).trans (by rw [eight])

theorem msg1024_eq (i : grid0.Coords) (s : Vec Ideal S256x1024 .f32) (x5 x6 : Vec Ideal S1x2048x768 .bf16) :
    msg1024 i s x5 x6 = mean (k0_pay30 i) shapeCasts_S1x1024x768_S1024x768
      (weights (BitVec.ofNat 32 (i 1).val * 256#32) iota_S256x1024_d0_w32 iota_S256x1024_d1_w32 ((strikeRows reduces_S256x1024_S256 broadcasts_S256x1_S256x1024)^[8] s))
      (View.ld x5 (Rect.unit (s := S1x2048x768) ![0, 0, 0] S1x1024x768.size inb_S1x2048x768_S1x1024x768_0_0_0))
      (View.ld x6 (Rect.unit (s := S1x2048x768) ![0, 0, 0] S1x1024x768.size inb_S1x2048x768_S1x1024x768_0_0_0)) := by
  have h1 : k0_pay8 s = (strikeRows reduces_S256x1024_S256 broadcasts_S256x1_S256x1024)^[5] s := rfl
  have h4 : ∀ v y z, k0_pay10 (BitVec.ofNat 32 (i 1).val * 256#32) (k0_pay30 i) v (tops reduces_S256x1024_S256 v) y z
      = mean (k0_pay30 i) shapeCasts_S1x1024x768_S1024x768
        (weights (BitVec.ofNat 32 (i 1).val * 256#32) iota_S256x1024_d0_w32 iota_S256x1024_d1_w32 ((strikeRows reduces_S256x1024_S256 broadcasts_S256x1_S256x1024)^[3] v)) y z := fun v y z =>
    shapeCast_self _ _
  have h5 : k0_pay9 s = tops reduces_S256x1024_S256 (k0_pay8 s) := rfl
  unfold msg1024
  rw [h5, h1]
  exact (h4 _ _ _).trans (by rw [eight])

theorem msg1536_eq (i : grid0.Coords) (s : Vec Ideal S256x1536 .f32) (x5 x6 : Vec Ideal S1x2048x768 .bf16) :
    msg1536 i s x5 x6 = mean (k0_pay30 i) shapeCasts_S1x1536x768_S1536x768
      (weights (BitVec.ofNat 32 (i 1).val * 256#32) iota_S256x1536_d0_w32 iota_S256x1536_d1_w32 ((strikeRows reduces_S256x1536_S256 broadcasts_S256x1_S256x1536)^[8] s))
      (View.ld x5 (Rect.unit (s := S1x2048x768) ![0, 0, 0] S1x1536x768.size inb_S1x2048x768_S1x1536x768_0_0_0))
      (View.ld x6 (Rect.unit (s := S1x2048x768) ![0, 0, 0] S1x1536x768.size inb_S1x2048x768_S1x1536x768_0_0_0)) := by
  have h1 : k0_pay13 s = (strikeRows reduces_S256x1536_S256 broadcasts_S256x1_S256x1536)^[5] s := rfl
  have h4 : ∀ v y z, k0_pay15 (BitVec.ofNat 32 (i 1).val * 256#32) (k0_pay30 i) v (tops reduces_S256x1536_S256 v) y z
      = mean (k0_pay30 i) shapeCasts_S1x1536x768_S1536x768
        (weights (BitVec.ofNat 32 (i 1).val * 256#32) iota_S256x1536_d0_w32 iota_S256x1536_d1_w32 ((strikeRows reduces_S256x1536_S256 broadcasts_S256x1_S256x1536)^[3] v)) y z := fun v y z =>
    shapeCast_self _ _
  have h5 : k0_pay14 s = tops reduces_S256x1536_S256 (k0_pay13 s) := rfl
  unfold msg1536
  rw [h5, h1]
  exact (h4 _ _ _).trans (by rw [eight])

theorem msg2048_eq (i : grid0.Coords) (s : Vec Ideal S256x2048 .f32) (x5 x6 : Vec Ideal S1x2048x768 .bf16) :
    msg2048 i s x5 x6 = mean (k0_pay30 i) shapeCasts_S1x2048x768_S2048x768
      (weights (BitVec.ofNat 32 (i 1).val * 256#32) iota_S256x2048_d0_w32 iota_S256x2048_d1_w32 ((strikeRows reduces_S256x2048_S256 broadcasts_S256x1_S256x2048)^[8] s))
      (View.ld x5 (Rect.unit (s := S1x2048x768) ![0, 0, 0] S1x2048x768.size inb_S1x2048x768_S1x2048x768_0_0_0))
      (View.ld x6 (Rect.unit (s := S1x2048x768) ![0, 0, 0] S1x2048x768.size inb_S1x2048x768_S1x2048x768_0_0_0)) := by
  have h1 : k0_pay21 s = (strikeRows reduces_S256x2048_S256 broadcasts_S256x1_S256x2048)^[5] s := rfl
  have h4 : ∀ v y z, k0_pay24 (BitVec.ofNat 32 (i 1).val * 256#32) (k0_pay30 i) v (tops reduces_S256x2048_S256 v) y z
      = mean (k0_pay30 i) shapeCasts_S1x2048x768_S2048x768
        (weights (BitVec.ofNat 32 (i 1).val * 256#32) iota_S256x2048_d0_w32 iota_S256x2048_d1_w32 ((strikeRows reduces_S256x2048_S256 broadcasts_S256x1_S256x2048)^[3] v)) y z := fun v y z =>
    shapeCast_self _ _
  have h5 : k0_pay22 s = tops reduces_S256x2048_S256 (k0_pay21 s) := rfl
  unfold msg2048
  rw [h5, h1]
  exact (h4 _ _ _).trans (by rw [eight])

theorem struck_eq (s : Vec Ideal S256x2048 .f32) : struck s = (strikeRows reduces_S256x2048_S256 broadcasts_S256x1_S256x2048)^[8] s := by
  have h1 : k0_pay21 s = (strikeRows reduces_S256x2048_S256 broadcasts_S256x1_S256x2048)^[5] s := rfl
  have h4 : ∀ v, k0_pay23 v (tops reduces_S256x2048_S256 v) = (strikeRows reduces_S256x2048_S256 broadcasts_S256x1_S256x2048)^[3] v := fun v => rfl
  have h5 : k0_pay22 s = tops reduces_S256x2048_S256 (k0_pay21 s) := rfl
  unfold struck
  rw [h5, h1, h4, eight]

theorem dropped (row : IVec S256x1 32) (s : FVec Ideal S256x2048 .f32) : k0_pay17 row s = dropAll 2044 row (raised s) 4 := by
  unfold k0_pay17
  beta_reduce
  exact drop_more row rfl (drop_more row rfl (drop_more row rfl (drop_more row rfl rfl)))

theorem far_eq (i : grid0.Coords) (x4 : FVec Ideal S1x2048x768 .f32) (s : FVec Ideal S256x2048 .f32) :
    far (F := Ideal) i x4 s = others 2044 4 (Cert.KernelIdeal.Gen.k0_pay45 i) x4 s := by
  unfold far
  rw [dropped]
  exact shapeCast_self _ _

section

variable (i : grid0.Coords) (s : Vec Ideal S256x2048 .f32) (H : Fin 2048 → Fin 768 → ℝ) (n : Fin 2048) (r : Fin 256) (hn : n.val = 256 * (i 1).val + r.val)
  (hs : ∀ j : Fin 2048, s (ix2 r j) = if j.val < n.val then ((Similar.len H n * Similar.cosine H n j : ℝ) : EReal) else ⊥)
  {L : EReal} (u : Fin 2048 → EReal) (σ : Equiv.Perm (Fin 2048)) (S : Select.Sorted 2048 n.val 8 L u σ)
  (hu : ∀ j : Fin 2048, j.val < n.val → u j = (Similar.cosine H n j : EReal))

include hn hs S hu

/-- The first message of a tile. -/
theorem near_tile (x5 x6 : Vec Ideal S1x2048x768 .bf16) (h56 : ∀ j k, (x5 (ix3 0 j k) : EReal) + x6 (ix3 0 j k) = (H j k : EReal)) (k : Fin 768) :
    (near i s x5 x6 (ix2 r k) : EReal) = Round.mean (fun j : Fin 2048 => j.val < n.val ∧ (σ.symm j).val < 8) fun j => (H j k : EReal) := by
  have hi := lt8 i
  have hr := r.isLt
  have hdeg : (k0_pay30 (F := Ideal) i (ix2 r 0) : EReal) = ((max (min (256 * (i 1).val + r.val) 8) 1 : ℕ) : ℝ) := count_word 8 (by decide) i r
  unfold near
  split_ifs with h2 h4 h6
  · rw [msg512_eq]
    exact width_tile i s H n r hn hs u σ S hu (by decide) (by omega) _ hdeg _ _ _ _ _ _ _ x5 x6 h56 k
  · rw [msg1024_eq]
    exact width_tile i s H n r hn hs u σ S hu (by decide) (by omega) _ hdeg _ _ _ _ _ _ _ x5 x6 h56 k
  · rw [msg1536_eq]
    exact width_tile i s H n r hn hs u σ S hu (by decide) (by omega) _ hdeg _ _ _ _ _ _ _ x5 x6 h56 k
  · rw [msg2048_eq]
    exact width_tile i s H n r hn hs u σ S hu le_rfl (by omega) _ hdeg _ _ _ _ _ _ _ x5 x6 h56 k

/-- The second message of a tile. -/
theorem apart_tile (x4 : Vec Ideal S1x2048x768 .f32) (h4 : ∀ j k, (x4 (ix3 0 j k) : EReal) = (H j k : EReal))
    {M : EReal} (q : Fin 2048 → EReal) (τ : Equiv.Perm (Fin 2048)) (R : Select.Rest 2048 n.val 4 8 M (fun j => j.val < n.val ∧ (σ.symm j).val < 8) q τ)
    (hq : ∀ j : Fin 2048, j.val < n.val → ¬ (j.val < n.val ∧ (σ.symm j).val < 8) → q j = ((-Similar.cosine H n j : ℝ) : EReal)) (k : Fin 768) :
    (apart i s x4 (ix2 r k) : EReal)
      = Round.mean (fun j : Fin 2048 => j.val < n.val ∧ ¬ (j.val < n.val ∧ (σ.symm j).val < 8) ∧ (τ.symm j).val < 4) fun j => (H j k : EReal) := by
  have hi := lt8 i
  have hr := r.isLt
  unfold apart
  split_ifs with h7
  · rw [far_eq, struck_eq]
    exact last_tile i s H n r hn hs u σ S hu rfl (by decide) (by decide) _ _ x4 h4 q τ R hq k
  · refine Eq.trans ?_ (none_tile n H _ q τ R (by omega) k)
    unfold k0_pay31
    beta_reduce
    rw [shapeCast_self]
    exact Ideal.ofBits_zero_f32

end

end Cert.Kernel2Ideal.Hand

end

end
-- ==== Proof.Kernel2Ideal.Tail.lean ====
module

public import proofs.«01_k».proof.Proof.Kernel2Ideal.Body
public import proofs.«01_k».proof.Proof.KernelIdeal.Tail

@[expose] public section

noncomputable section

/-! # The middle round's last steps at an index -/

namespace Cert.Kernel2Ideal.Hand

open Gen Idealize.ShloMosaic Idealize.ShloMosaic.TcCoe Idealize.ShloMosaic.ValueIdx
open Cert.KernelIdeal.Hand (param_at blend_at)

theorem state_at (v1 z : FVec Ideal S256x768 .f32) (p2 : Elt Ideal .f32) (r : Fin 256) (k : Fin 768) :
    (k0_pay36 v1 p2 z k0_pay34 (ix3 0 r k) : EReal) = p2 * v1 (ix2 r k) + (Round.lit 0x3F800000#32 - p2) * Round.act (z (ix2 r k)) := by
  unfold k0_pay36
  beta_reduce
  refine (shapeCast_ab_1ab_apply _ shapeCasts_S256x768_S1x256x768 0 r k).trans ?_
  rfl

/-- The tile of the next state at an index, from the two messages. -/
theorem tail_at (x0 : Vec Ideal S4 .f32) (x1 x2 : Vec Ideal S1x768 .f32) (x7 : Vec Ideal S1x256x768 .f32) (mp mn : Vec Ideal S256x768 .f32) (r : Fin 256) (k : Fin 768) :
    (tail x0 x1 x2 x7 mp mn (ix3 0 r k) : EReal)
      = Round.state (x0 (ix1 0)) (x0 (ix1 1)) (x0 (ix1 2)) (x7 (ix3 0 r k)) (mp (ix2 r k)) (mn (ix2 r k)) (x1 (ix2 0 k)) (x2 (ix2 0 k)) := by
  have hrow : k0_pay25 x7 (ix2 r k) = x7 (ix3 0 r k) := shapeCast_1ab_ab_apply x7 shapeCasts_S1x256x768_S256x768 r k
  have e0 : View.ld x0 (Rect.unit ![0] ![1] inb_S4_S1_0) (Shape.Idx.first (by decide)) = x0 (ix1 0) := param_at x0 0 inb_S4_S1_0 (by decide)
  have e1 : View.ld x0 (Rect.unit ![1] ![1] inb_S4_S1_1) (Shape.Idx.first (by decide)) = x0 (ix1 1) := param_at x0 1 inb_S4_S1_1 (by decide)
  have e2 : View.ld x0 (Rect.unit ![2] ![1] inb_S4_S1_2) (Shape.Idx.first (by decide)) = x0 (ix1 2) := param_at x0 2 inb_S4_S1_2 (by decide)
  have eb : (blended x0 x1 x2 x7 mp mn (ix2 r k) : EReal) = _ := blend_at (k0_pay25 x7) mp mn _ _ x1 x2 r k
  unfold tail
  rw [state_at, eb, hrow]
  unfold Round.state momentum
  rw [e0, e1, e2]

end Cert.Kernel2Ideal.Hand

end

end
-- ==== Proof.Kernel2Ideal.Blocks.lean ====
module

public import proofs.«01_k».proof.Proof.Kernel2Ideal.Frame
public import Idealize.ShloMosaic.Lib.Pipeline.ValueKit

@[expose] public section

set_option maxRecDepth 16384

noncomputable section

/-! # The middle round: a point's blocks, element by element, and the array of states the tiles make up -/

namespace Cert.Kernel2Ideal.Hand

open Gen
open Idealize.ShloMosaic.ValueIdx
open Idealize.ShloMosaic hiding ix1 ix2 ix3
open Idealize.ShloMosaic.TcCoe Idealize.ShloMosaic.Tactic
open Idealize.ShloMosaic.Pipeline (Dat Cfg Window cellOf)

variable {F : FTy → Type} [FloatOps F] [Named F]
variable (m : (ℓ : Loc nD τ sig) → Buf (Elt F) ℓ)

theorem places : ∀ t : Fin cfg0.N,
    win0_0.index t = ![0] ∧ win0_1.index t = ![0, 0] ∧ win0_2.index t = ![0, 0]
    ∧ win0_3.index t = ![(grid0.coords t 0).val, 0, 0] ∧ win0_4.index t = ![(grid0.coords t 0).val, 0, 0]
    ∧ win0_5.index t = ![(grid0.coords t 0).val, 0, 0] ∧ win0_6.index t = ![(grid0.coords t 0).val, 0, 0]
    ∧ win0_7.index t = ![(grid0.coords t 0).val, (grid0.coords t 1).val, 0]
    ∧ win0_8.index t = ![(grid0.coords t 0).val, (grid0.coords t 1).val, 0] := by
  decide +kernel

/-- The batch of a point. -/
def batch (t : Fin cfg0.N) : Fin 4 := ⟨(grid0.coords t 0).val, (grid0.coords t 0).isLt⟩

/-- The row of the array that is row `r` of the point's tile. -/
def arrayRow (t : Fin cfg0.N) (r : Fin 256) : Fin 2048 :=
  ⟨256 * (grid0.coords t 1).val + r.val, by have : (grid0.coords t 1).val < 8 := (grid0.coords t 1).isLt; omega⟩

variable (c : Dev nD) (t : Fin cfg0.N)

theorem block0 (a : Fin 4) : iblk m c 0 t (ix1 a) = m (c.tc.loc main_arg0) (ix1 a) := by
  obtain ⟨e, -⟩ := places t
  show V m c (Pipeline.arrRef spec0 0) (((cfg0.win 0).blk t).view.emb (ix1 a)) = _
  refine congrArg _ (funext fun j => match j with | ⟨0, _⟩ => Fin.ext ?_)
  blk_simp [e]

theorem block1 (k : Fin 768) : iblk m c 1 t (ix2 0 k) = m (c.tc.loc main_arg1) (ix2 0 k) := by
  obtain ⟨-, e, -⟩ := places t
  show V m c (Pipeline.arrRef spec0 1) (((cfg0.win 1).blk t).view.emb (ix2 0 k)) = _
  refine congrArg _ (funext fun j => match j with | ⟨0, _⟩ => Fin.ext ?_ | ⟨1, _⟩ => Fin.ext ?_) <;> blk_simp [e]

theorem block2 (k : Fin 768) : iblk m c 2 t (ix2 0 k) = m (c.tc.loc main_arg2) (ix2 0 k) := by
  obtain ⟨-, -, e, -⟩ := places t
  show V m c (Pipeline.arrRef spec0 2) (((cfg0.win 2).blk t).view.emb (ix2 0 k)) = _
  refine congrArg _ (funext fun j => match j with | ⟨0, _⟩ => Fin.ext ?_ | ⟨1, _⟩ => Fin.ext ?_) <;> blk_simp [e]

theorem block3 (k : Fin 2048) : iblk m c 3 t (ix3 0 0 k) = m (c.tc.loc main_arg3) (ix3 (batch t) 0 k) := by
  obtain ⟨-, -, -, e, -⟩ := places t
  show V m c (Pipeline.arrRef spec0 3) (((cfg0.win 3).blk t).view.emb (ix3 0 0 k)) = _
  refine congrArg _ (funext fun j => match j with | ⟨0, _⟩ => Fin.ext ?_ | ⟨1, _⟩ => Fin.ext ?_ | ⟨2, _⟩ => Fin.ext ?_) <;> blk_simp [e, batch]

theorem block4 (j : Fin 2048) (k : Fin 768) : iblk m c 4 t (ix3 0 j k) = m (c.tc.loc main_arg4) (ix3 (batch t) j k) := by
  obtain ⟨-, -, -, -, e, -⟩ := places t
  show V m c (Pipeline.arrRef spec0 4) (((cfg0.win 4).blk t).view.emb (ix3 0 j k)) = _
  refine congrArg _ (funext fun j => match j with | ⟨0, _⟩ => Fin.ext ?_ | ⟨1, _⟩ => Fin.ext ?_ | ⟨2, _⟩ => Fin.ext ?_) <;> blk_simp [e, batch]

theorem block5 (j : Fin 2048) (k : Fin 768) : iblk m c 5 t (ix3 0 j k) = m (c.tc.loc main_arg5) (ix3 (batch t) j k) := by
  obtain ⟨-, -, -, -, -, e, -⟩ := places t
  show V m c (Pipeline.arrRef spec0 5) (((cfg0.win 5).blk t).view.emb (ix3 0 j k)) = _
  refine congrArg _ (funext fun j => match j with | ⟨0, _⟩ => Fin.ext ?_ | ⟨1, _⟩ => Fin.ext ?_ | ⟨2, _⟩ => Fin.ext ?_) <;> blk_simp [e, batch]

theorem block6 (j : Fin 2048) (k : Fin 768) : iblk m c 6 t (ix3 0 j k) = m (c.tc.loc main_arg6) (ix3 (batch t) j k) := by
  obtain ⟨-, -, -, -, -, -, e, -⟩ := places t
  show V m c (Pipeline.arrRef spec0 6) (((cfg0.win 6).blk t).view.emb (ix3 0 j k)) = _
  refine congrArg _ (funext fun j => match j with | ⟨0, _⟩ => Fin.ext ?_ | ⟨1, _⟩ => Fin.ext ?_ | ⟨2, _⟩ => Fin.ext ?_) <;> blk_simp [e, batch]

theorem block7 (r : Fin 256) (k : Fin 768) : iblk m c 7 t (ix3 0 r k) = m (c.tc.loc main_arg4) (ix3 (batch t) (arrayRow t r) k) := by
  obtain ⟨-, -, -, -, -, -, -, e, -⟩ := places t
  show V m c (Pipeline.arrRef spec0 7) (((cfg0.win 7).blk t).view.emb (ix3 0 r k)) = _
  refine congrArg _ (funext fun j => match j with | ⟨0, _⟩ => Fin.ext ?_ | ⟨1, _⟩ => Fin.ext ?_ | ⟨2, _⟩ => Fin.ext ?_) <;>
    blk_simp [e, batch, arrayRow, Nat.mul_comm]

/-- The array the tiles make up: any array the tiles agree with. -/
theorem whole (G : Vec F S4x2048x768 .f32) (h : ∀ (t : Fin cfg0.N) (r : Fin 256) (k : Fin 768), outAt m c t (ix3 0 r k) = G (ix3 (batch t) (arrayRow t r) k)) :
    (dats m 0 c).arrAt 8 cfg0.N = G := by
  refine (dats m 0 c).arrAt_eq_of_covers 8 _ (by decide +kernel) fun t hf y => ?_
  obtain ⟨-, -, -, -, -, -, -, -, e⟩ := places t
  have hy : y = ix3 (0 : Fin 1) (y 1 : Fin 256) (y 2 : Fin 768) := by
    funext j
    match j with
    | ⟨0, _⟩ => exact Fin.ext (Nat.lt_one_iff.mp (y 0).isLt)
    | ⟨1, _⟩ => rfl
    | ⟨2, _⟩ => rfl
  blk_simp [e]
  rw [after_8]
  refine (congrArg (outAt m c t) hy).trans ((h t _ _).trans (congrArg G ?_))
  funext j
  match j with
  | ⟨0, _⟩ => exact Fin.ext (Eq.symm (by blk_simp [e, batch, arrayRow, Nat.mul_comm]))
  | ⟨1, _⟩ => exact Fin.ext (Eq.symm (by blk_simp [e, batch, arrayRow, Nat.mul_comm]; rfl))
  | ⟨2, _⟩ => exact Fin.ext (Eq.symm (by blk_simp [e, batch, arrayRow, Nat.mul_comm]; rfl))

end Cert.Kernel2Ideal.Hand
-- ==== Proof.Reference2.Neighbours.lean ====
module

public import proofs.«01_k».proof.Proof.Gen.Reference2Ideal
public import proofs.«01_k».proof.Proof.Gen.Reference2Ideal.Run
public import proofs.«01_k».proof.Proof.Gen.Reference2Ideal.Read
public import proofs.«01_k».proof.Proof.Reference.Neighbours

@[expose] public section

noncomputable section

/-! # The middle round's two adjacency matrices, read at an index

The similarities and their mask are those of the last round's reference; eight similar neighbours are chosen and four contrasting ones. -/

namespace Cert.Reference2Ideal.Hand

open Cert.Reference2Ideal Cert.Reference2Ideal.Gen Cert.Reference2Ideal.Read Idealize.ShloMosaic Idealize.ShloMosaic.TcCoe ValueIdx
open Cert.ReferenceIdeal.Hand (nearOrder among small sum_ones select_ofBool)

variable (x4 : (⟨S4x2048x768, .f32⟩ : BufTy).Contents (Elt Ideal))

/-- The masked similarities are the last round's. -/
theorem same : val_main_v24 (F := Ideal) x4 = Cert.ReferenceIdeal.Read.val_main_v26 (F := Ideal) x4 := rfl

/-- The order of what the second choice is made from. -/
def farOrder (b : Fin 4) (i : Fin 2048) : Equiv.Perm (Fin 2048) := Topk.perm (Topk.row (val_main_v60 (F := Ideal) x4) b i)

/-- A row's similar neighbours. -/
abbrev Near (b : Fin 4) (i j : Fin 2048) : Prop := j.val < i.val ∧ ((nearOrder x4 b i).symm j).val < 8

/-- A row's contrasting neighbours. -/
abbrev Far (b : Fin 4) (i j : Fin 2048) : Prop := j.val < i.val ∧ ¬ Near x4 b i j ∧ ((farOrder x4 b i).symm j).val < 4

theorem v55_at (b : Fin 4) (i j : Fin 2048) : val_main_v55 (F := Ideal) (ix3 b i j) = if j.val < i.val then 1 else 0 := Cert.ReferenceIdeal.Hand.v57_at b i j

theorem v85_at (b : Fin 4) (i j : Fin 2048) : val_main_v85 (F := Ideal) (ix3 b i j) = if j.val < i.val then 1 else 0 := Cert.ReferenceIdeal.Hand.v87_at b i j

theorem batch35 (i : S4x1x1.Idx) : val_main_v35 (F := Ideal) i = BitVec.ofNat 32 (i 0).val := Cert.ReferenceIdeal.Hand.batch37 i

theorem row40 (i : S1x2048x1.Idx) : val_main_v40 (F := Ideal) i = BitVec.ofNat 32 (i 1).val := Cert.ReferenceIdeal.Hand.row42 i

theorem col45 (b : Fin 4) (i : Fin 2048) (r : Fin 8) :
    val_main_v45 (F := Ideal) x4 (ix3 b i r) = BitVec.ofNat 32 (nearOrder x4 b i (r.castLE (by decide))).val := by
  have e : val_main_indices (F := Ideal) x4 (ix3 b i r) = BitVec.ofNat 32 (nearOrder x4 b i (r.castLE (by decide))).val :=
    Topk.indices_apply (val_main_v24 (F := Ideal) x4) sliceFits_S4x2048x2048_S4x2048x8 (by decide) b i r
  rw [val_main_v45_apply, val_main_v42_apply, val_main_v41_apply, val_main_c_8_apply, e]
  exact Lands.unwrapped _ (lt_trans (Fin.isLt _) (by decide)) _

theorem batch65 (i : S4x1x1.Idx) : val_main_v65 (F := Ideal) i = BitVec.ofNat 32 (i 0).val := Cert.ReferenceIdeal.Hand.batch67 i

theorem row70 (i : S1x2048x1.Idx) : val_main_v70 (F := Ideal) i = BitVec.ofNat 32 (i 1).val := Cert.ReferenceIdeal.Hand.row72 i

theorem col75 (b : Fin 4) (i : Fin 2048) (r : Fin 4) :
    val_main_v75 (F := Ideal) x4 (ix3 b i r) = BitVec.ofNat 32 (farOrder x4 b i (r.castLE (by decide))).val := by
  have e : val_main_indices_14 (F := Ideal) x4 (ix3 b i r) = BitVec.ofNat 32 (farOrder x4 b i (r.castLE (by decide))).val :=
    Topk.indices_apply (val_main_v60 (F := Ideal) x4) sliceFits_S4x2048x2048_S4x2048x4 (by decide) b i r
  rw [val_main_v75_apply, val_main_v72_apply, val_main_v71_apply, val_main_c_19_apply, e]
  exact Lands.unwrapped _ (lt_trans (Fin.isLt _) (by decide)) _

open Classical in
theorem scattered8 (b : Fin 4) (i j : Fin 2048) :
    val_main_v53 (F := Ideal) x4 (ix3 b i j) = if ((nearOrder x4 b i).symm j).val < 8 then 1 else 0 := by
  have h := fun p q r => Lands.beside (val_main_v48 (F := Ideal)) (val_main_v49 (F := Ideal)) (val_main_v50 (F := Ideal) x4)
    concatenates_S4x2048x8x1_S4x2048x8x1_S4x2048x8x1_S4x2048x8x3_d3 p q r
  unfold val_main_v53 val_main_v51
  refine (Lands.scatter_apply scatter_S4x2048x2048_S4x2048x8x3_S4x2048x8_n_012_012_3_wf _ _ _ (0 : EReal) (1 : EReal) (fun i => ?_) (fun i => ?_)
    (fun p q r => nearOrder x4 p q (r.castLE (by decide))) (fun p q r => ?_) (fun p q r => ?_) (fun p q r => ?_) b i j).trans ?_
  · rw [val_main_v25_apply, val_main_cst_3_apply, Ideal.ofBits_def, Ideal.ofBits_zero_f32]
  · rw [val_main_v52_apply, val_main_cst_10_apply, Ideal.ofBits_def, Ideal.ofBits_one_f32]
  · rw [(h p q r).1, val_main_v48_apply, val_main_v46_apply, batch35]
    exact small p.val (by omega)
  · rw [(h p q r).2.1, val_main_v49_apply, val_main_v47_apply, row40]
    exact small q.val q.isLt
  · rw [(h p q r).2.2, val_main_v50_apply]
    have e : idx_main_v50 (ix4 p q r 0) = ix3 p q r := funext fun a => match a with | ⟨0, _⟩ => rfl | ⟨1, _⟩ => rfl | ⟨2, _⟩ => rfl
    rw [e, col45]
    exact small _ (Fin.isLt _)
  · simp only [among]

open Classical in
theorem scattered4 (b : Fin 4) (i j : Fin 2048) :
    val_main_v83 (F := Ideal) x4 (ix3 b i j) = if ((farOrder x4 b i).symm j).val < 4 then 1 else 0 := by
  have h := fun p q r => Lands.beside (val_main_v78 (F := Ideal)) (val_main_v79 (F := Ideal)) (val_main_v80 (F := Ideal) x4)
    concatenates_S4x2048x4x1_S4x2048x4x1_S4x2048x4x1_S4x2048x4x3_d3 p q r
  unfold val_main_v83 val_main_v81
  refine (Lands.scatter_apply scatter_S4x2048x2048_S4x2048x4x3_S4x2048x4_n_012_012_3_wf _ _ _ (0 : EReal) (1 : EReal) (fun i => ?_) (fun i => ?_)
    (fun p q r => farOrder x4 p q (r.castLE (by decide))) (fun p q r => ?_) (fun p q r => ?_) (fun p q r => ?_) b i j).trans ?_
  · rw [val_main_v26_apply, val_main_cst_4_apply, Ideal.ofBits_def, Ideal.ofBits_zero_f32]
  · rw [val_main_v82_apply, val_main_cst_21_apply, Ideal.ofBits_def, Ideal.ofBits_one_f32]
  · rw [(h p q r).1, val_main_v78_apply, val_main_v76_apply, batch65]
    exact small p.val (by omega)
  · rw [(h p q r).2.1, val_main_v79_apply, val_main_v77_apply, row70]
    exact small q.val q.isLt
  · rw [(h p q r).2.2, val_main_v80_apply]
    have e : idx_main_v80 (ix4 p q r 0) = ix3 p q r := funext fun a => match a with | ⟨0, _⟩ => rfl | ⟨1, _⟩ => rfl | ⟨2, _⟩ => rfl
    rw [e, col75]
    exact small _ (Fin.isLt _)
  · simp only [among]

/-- The similar neighbours' matrix. -/
theorem near_at (b : Fin 4) (i j : Fin 2048) :
    val_main_v56 (F := Ideal) x4 (ix3 b i j) = if Near x4 b i j then 1 else 0 := by
  rw [val_main_v56_apply, scattered8, v55_at]
  show (_ : EReal) * _ = _
  by_cases h1 : ((nearOrder x4 b i).symm j).val < 8 <;> by_cases h2 : j.val < i.val <;> simp [Near, h1, h2]

/-- What the second choice is made from. -/
theorem left_at (b : Fin 4) (i j : Fin 2048) :
    val_main_v60 (F := Ideal) x4 (ix3 b i j)
      = -(if Near x4 b i j then ((1000000000 : ℝ) : EReal) else val_main_v24 (F := Ideal) x4 (ix3 b i j)) := by
  rw [val_main_v60_apply, val_main_v59_apply, val_main_v58_apply, near_at, val_main_v57_apply, val_main_cst_11_apply,
    val_main_call2_v1_apply, val_main_call2_v0_apply, val_main_cst_12_apply, Ideal.ofBits_def, Ideal.ofBits_def, Ideal.ofBits_zero_f32,
    Similar.ofBits_far]
  show -(Scalar.select (BitVec.ofBool (decide ((0 : EReal) < if Near x4 b i j then 1 else 0))) _ _) = _
  rw [select_ofBool]
  by_cases h : Near x4 b i j
  · rw [if_pos h, if_pos zero_lt_one, if_pos h]
  · rw [if_neg h, if_neg (lt_irrefl _), if_neg h]

/-- The contrasting neighbours' matrix. -/
theorem far_at (b : Fin 4) (i j : Fin 2048) :
    val_main_v89 (F := Ideal) x4 (ix3 b i j) = if Far x4 b i j then 1 else 0 := by
  rw [val_main_v89_apply, val_main_v86_apply, scattered4, v85_at, val_main_v88_apply, near_at, val_main_v87_apply,
    val_main_cst_22_apply, Ideal.ofBits_def, Ideal.ofBits_one_f32]
  show (_ : EReal) * _ * (_ - _) = _
  have h0 : (1 : EReal) - 1 = 0 := by rw [← EReal.coe_one, ← EReal.coe_sub, sub_self, EReal.coe_zero]
  by_cases h3 : Near x4 b i j
  · rw [if_pos h3, h0, mul_zero, if_neg fun h : Far x4 b i j => h.2.1 h3]
  · rw [if_neg h3, sub_zero, mul_one]
    have e : Far x4 b i j ↔ j.val < i.val ∧ ((farOrder x4 b i).symm j).val < 4 := ⟨fun h => ⟨h.1, h.2.2⟩, fun h => ⟨h.1, h3, h.2⟩⟩
    rw [if_congr e rfl rfl]
    by_cases h1 : ((farOrder x4 b i).symm j).val < 4 <;> by_cases h2 : j.val < i.val <;> simp [h1, h2]

/-- What the similar neighbours say: the sum of their rows over their number. -/
theorem near_mean (b : Fin 4) (i : Fin 2048) (k : Fin 768) :
    val_main_v95 (F := Ideal) x4 (ix3 b i k)
      = Ideal.div (∑ j, (if Near x4 b i j then 1 else 0) * x4 (ix3 b j k))
          (max 1 (((Finset.univ.filter fun j => Near x4 b i j).card : ℝ) : EReal)) := by
  rw [val_main_v95_apply, val_main_v93_apply, val_main_v94_apply, val_main_v92_apply, val_main_v91_apply, val_main_v90_apply,
    val_main_call3_v1_apply, val_main_call3_v0_apply, val_main_cst_24_apply, val_main_cst_23_apply, Ideal.ofBits_def,
    Ideal.ofBits_def, Ideal.ofBits_zero_f32, Ideal.ofBits_one_f32, Ideal.hostDivf_def, ← sum_ones, zero_add]
  refine congrArg₂ Ideal.div (Finset.sum_congr rfl fun j _ => ?_) (congrArg (max 1) (Finset.sum_congr rfl fun j _ => ?_))
  · rw [← near_at]
    refine congrArg₂ (· * ·) (congrArg _ ?_) (congrArg _ ?_)
    · exact funext fun a => match a with | ⟨0, _⟩ => rfl | ⟨1, _⟩ => rfl | ⟨2, _⟩ => rfl
    · exact funext fun a => match a with | ⟨0, _⟩ => rfl | ⟨1, _⟩ => rfl | ⟨2, _⟩ => rfl
  · rw [← near_at]
    exact congrArg _ (funext fun a => match a with | ⟨0, _⟩ => rfl | ⟨1, _⟩ => rfl | ⟨2, _⟩ => rfl)

/-- What the contrasting neighbours say. -/
theorem far_mean (b : Fin 4) (i : Fin 2048) (k : Fin 768) :
    val_main_v101 (F := Ideal) x4 (ix3 b i k)
      = Ideal.div (∑ j, (if Far x4 b i j then 1 else 0) * x4 (ix3 b j k))
          (max 1 (((Finset.univ.filter fun j => Far x4 b i j).card : ℝ) : EReal)) := by
  rw [val_main_v101_apply, val_main_v99_apply, val_main_v100_apply, val_main_v98_apply, val_main_v97_apply, val_main_v96_apply,
    val_main_call4_v1_apply, val_main_call4_v0_apply, val_main_cst_26_apply, val_main_cst_25_apply, Ideal.ofBits_def,
    Ideal.ofBits_def, Ideal.ofBits_zero_f32, Ideal.ofBits_one_f32, Ideal.hostDivf_def, ← sum_ones, zero_add]
  refine congrArg₂ Ideal.div (Finset.sum_congr rfl fun j _ => ?_) (congrArg (max 1) (Finset.sum_congr rfl fun j _ => ?_))
  · rw [← far_at]
    refine congrArg₂ (· * ·) (congrArg _ ?_) (congrArg _ ?_)
    · exact funext fun a => match a with | ⟨0, _⟩ => rfl | ⟨1, _⟩ => rfl | ⟨2, _⟩ => rfl
    · exact funext fun a => match a with | ⟨0, _⟩ => rfl | ⟨1, _⟩ => rfl | ⟨2, _⟩ => rfl
  · rw [← far_at]
    exact congrArg _ (funext fun a => match a with | ⟨0, _⟩ => rfl | ⟨1, _⟩ => rfl | ⟨2, _⟩ => rfl)

end Cert.Reference2Ideal.Hand

end

end
-- ==== Proof.Reference2.Result.lean ====
module

public import proofs.«01_k».proof.Proof.Reference2.Neighbours
public import proofs.«01_k».proof.Proof.Reference.Result

@[expose] public section

noncomputable section

/-! # The middle round's result at an index, from its two messages -/

namespace Cert.Reference2Ideal.Hand

open Cert.Reference2Ideal Cert.Reference2Ideal.Gen Cert.Reference2Ideal.Read Idealize.ShloMosaic Idealize.ShloMosaic.TcCoe ValueIdx

variable (x0 : (⟨S4, .f32⟩ : BufTy).Contents (Elt Ideal)) (x1 x2 : (⟨S1x768, .f32⟩ : BufTy).Contents (Elt Ideal))
  (x4 : (⟨S4x2048x768, .f32⟩ : BufTy).Contents (Elt Ideal))

theorem param0 (i : S_.Idx) : val_main_v1 (F := Ideal) x0 i = x0 (ix1 0) := Cert.ReferenceIdeal.Hand.param0 x0 i
theorem param1 (i : S_.Idx) : val_main_v3 (F := Ideal) x0 i = x0 (ix1 1) := Cert.ReferenceIdeal.Hand.param1 x0 i
theorem param2 (i : S_.Idx) : val_main_v5 (F := Ideal) x0 i = x0 (ix1 2) := Cert.ReferenceIdeal.Hand.param2 x0 i
theorem gain_at (b : Fin 4) (i : Fin 2048) (k : Fin 768) : val_main_v116 (F := Ideal) x1 (ix3 b i k) = x1 (ix2 0 k) := Cert.ReferenceIdeal.Hand.gain_at x1 b i k
theorem bias_at (b : Fin 4) (i : Fin 2048) (k : Fin 768) : val_main_v120 (F := Ideal) x2 (ix3 b i k) = x2 (ix2 0 k) := Cert.ReferenceIdeal.Hand.bias_at x2 b i k

/-- What the activation is applied to. -/
theorem pre_at (b : Fin 4) (i : Fin 2048) (k : Fin 768) :
    (val_main_v121 (F := Ideal) x0 x1 x2 x4 (ix3 b i k) : EReal)
      = Round.blend (x0 (ix1 0)) (x0 (ix1 1)) (x4 (ix3 b i k)) (val_main_v95 (F := Ideal) x4 (ix3 b i k)) (val_main_v101 (F := Ideal) x4 (ix3 b i k)) (x1 (ix2 0 k)) (x2 (ix2 0 k)) := by
  rw [val_main_v121_apply, val_main_v117_apply, val_main_v113_apply, val_main_v109_apply, val_main_v108_apply, param0, val_main_v112_apply, val_main_v111_apply,
    val_main_v110_apply, param0, val_main_v107_apply, val_main_v103_apply, val_main_v102_apply, param1, val_main_v106_apply, val_main_v105_apply, val_main_v104_apply, param1,
    gain_at, bias_at]
  rfl

/-- The result at an index. -/
theorem result_at (b : Fin 4) (i : Fin 2048) (k : Fin 768) :
    (val_main_v134 (F := Ideal) x0 x1 x2 x4 (ix3 b i k) : EReal)
      = Round.state (x0 (ix1 0)) (x0 (ix1 1)) (x0 (ix1 2)) (x4 (ix3 b i k)) (val_main_v95 (F := Ideal) x4 (ix3 b i k)) (val_main_v101 (F := Ideal) x4 (ix3 b i k))
        (x1 (ix2 0 k)) (x2 (ix2 0 k)) := by
  unfold Round.state
  rw [← pre_at x0 x1 x2 x4 b i k, ← Round.act_erfc, val_main_v134_apply, val_main_v130_apply, val_main_v129_apply, param2,
    val_main_v133_apply, val_main_v132_apply, val_main_v131_apply, param2, val_main_v128_apply, val_main_v123_apply, val_main_v122_apply, val_main_v127_apply, val_main_v126_apply,
    val_main_v124_apply, val_main_v125_apply]
  rfl

end Cert.Reference2Ideal.Hand

end

end
-- ==== Proof.DecidedMiddle.lean ====
module

public import proofs.«01_k».proof.Pre_decided_middle
public import proofs.«01_k».proof.Proof.Reference2.Neighbours
public import proofs.«01_k».proof.Proof.Choice

@[expose] public section

noncomputable section

/-! # What the middle round's precondition says, element by element -/

namespace Cert.Pre_decided_middle.Hand

open Cert.Pre_decided_middle Cert.Choice Idealize.ShloMosaic Idealize.ShloMosaic.TcCoe ValueIdx

variable [Cert.Pre_decided_middle.Facts]

/-- The part that compares: which of a row's leading entries fall. -/
theorem part1 (x4 : FVec Ideal S4x2048x768 .f32) (x5 x6 : FVec Ideal S4x2048x768 .bf16) (v12 : IVec S4x2048x2048 1)
    (v14 : FVec Ideal S4x2048x2048 .f32) (v17 : IVec S4x2048x768 1) (v18 v19 : FVec Ideal S4x2048 .f32) (j : S_.Idx)
    (h : fn_part1 (F := Ideal) x4 x5 x6 v12 v14 v17 v18 v19 j = 1#1) :
    (∀ i, v17 i = 1#1) ∧ (∀ i, x5 i + x6 i = x4 i) ∧ (∀ i, v18 i = Ideal.div 1 (v19 i))
      ∧ (∀ (p : Fin 4) (q : Fin 2048) (r s : Fin 2048), r.val < 8 → s.val = r.val + 1 →
          Topk.row v14 p q (Topk.perm (Topk.row v14 p q) s) < Topk.row v14 p q (Topk.perm (Topk.row v14 p q) r)
          ∨ Topk.row v14 p q (Topk.perm (Topk.row v14 p q) r) ≤ ((-1000000000 : ℝ) : EReal))
      ∧ ∃ w : FVec Ideal S4x2048x2048 .f32,
        (∀ (p : Fin 4) (q j : Fin 2048), w (ix3 p q j)
          = -(if v12 (ix3 p q j) = 1#1 ∧ Topk.row v14 p q (Topk.perm (Topk.row v14 p q) ⟨7, by decide⟩) ≤ v14 (ix3 p q j)
            then ((1000000000 : ℝ) : EReal) else v14 (ix3 p q j)))
        ∧ (∀ (p : Fin 4) (q : Fin 2048) (r s : Fin 2048), r.val < 4 → s.val = r.val + 1 →
          Topk.row w p q (Topk.perm (Topk.row w p q) s) < Topk.row w p q (Topk.perm (Topk.row w p q) r)
          ∨ ((1000000000 : ℝ) : EReal) ≤ Topk.row w p q (Topk.perm (Topk.row w p q) r)) := by
  haveI : Subsingleton S_.Idx := ⟨fun a b => funext fun i => i.elim0⟩
  unfold fn_part1 at h
  unfold fn_part2 at h
  unfold fn_part3 at h
  beta_reduce at h
  obtain ⟨h12, h3⟩ := IntOp.andi_eq_one.1 h
  obtain ⟨h1, h2⟩ := IntOp.andi_eq_one.1 h12
  obtain ⟨h3, h45⟩ := IntOp.andi_eq_one.1 h3
  obtain ⟨h4, h5⟩ := IntOp.andi_eq_one.1 h45
  replace h1 := Host.reduce_andi_all _ _ _ _ _ h1
  replace h2 := Host.reduce_andi_all _ _ _ _ _ h2
  replace h3 := Host.reduce_andi_all _ _ _ _ _ h3
  replace h4 := Host.reduce_andi_all _ _ _ _ _ h4
  replace h5 := Host.reduce_andi_all _ _ _ _ _ h5
  exact ⟨h1, fun i => (ofBool_one _).1 (h2 i),
    fun i => ((ofBool_one _).1 (h3 i)).trans (congrArg (fun z => Ideal.div z _) Ideal.ofBits_one_f32),
    near_falls (n := 9) (k := 8) rfl (by decide) v14 _ _ _ _ h4, _,
    aside (n := 9) (o := 7) (by decide) (by decide) v12 v14 Facts.sliceFits_S4x2048x2048_S4x2048x9 Facts.bcast_S4x2048x1_S4x2048x2048_0_1_2
      Facts.bcast_S_S4x2048x2048 Facts.slices_S4x2048x9_S4x2048x1_0_0_7,
    far_falls (n := 5) (k := 4) rfl (by decide) _ _ _ _ _ h5⟩

open Cert.ReferenceIdeal.Read Cert.ReferenceIdeal.Hand in
theorem holds (x0 : FVec Ideal S4 .f32) (x1 x2 : FVec Ideal S1x768 .f32) (x3 : FVec Ideal S4x1x2048 .f32) (x4 : FVec Ideal S4x2048x768 .f32)
    (x5 x6 : FVec Ideal S4x2048x768 .bf16) (j : S_.Idx)
    (h : fn (F := Ideal) x0 x1 x2 x3 x4 x5 x6 j = 1#1) : ∃ H, Holds 8 4 (Cert.Reference2Ideal.Read.val_main_v60 (F := Ideal) x4) x3 x4 x5 x6 H := by
  unfold fn at h
  beta_reduce at h
  obtain ⟨hfin, hhalf, hinv, hnear, w, hw, hfar⟩ := part1 _ _ _ _ _ _ _ _ _ h
  erw [masked_eq x4 _ rfl] at hnear hw
  exact holds_of (o := 7) rfl (by decide) _ x3 x4 x5 x6 (Cert.Reference2Ideal.Hand.left_at x4)
    (fun i => lt_of_lt_of_eq ((ofBool_one _).1 (hfin i)) Similar.ofBits_top) hhalf (inverse_of x3 _ _ _ hinv) hnear w hw hfar

end Cert.Pre_decided_middle.Hand

end

end
-- ==== Proof.AgreeMiddle.lean ====
module

public import proofs.«01_k».proof.Proof.Agree
public import proofs.«01_k».proof.Proof.Kernel2Ideal.Tiles
public import proofs.«01_k».proof.Proof.Kernel2Ideal.Tail
public import proofs.«01_k».proof.Proof.Kernel2Ideal.Blocks
public import proofs.«01_k».proof.Proof.Reference2.Result
public import proofs.«01_k».proof.Proof.DecidedMiddle

@[expose] public section

set_option maxRecDepth 16384

noncomputable section

/-! # The middle round: a tile of the kernel and the same rows of the reference -/

namespace Cert.AgreeMiddle

open Idealize.ShloMosaic hiding ix1 ix2 ix3
open Idealize.ShloMosaic.TcCoe Idealize.ShloMosaic.ValueIdx
open Cert.Pre_decided_middle (S4 S1x768 S4x1x2048 S4x2048x768)
open Cert.Kernel2Ideal (S1x1x2048 S1x2048x768 S1x256x768)
open Cert.Choice (Holds)
open Cert.Agree (first_from)
open Cert.Reference2Ideal.Hand (Near Far near_mean far_mean left_at result_at)
open Cert.Reference2Ideal.Read (val_main_v60 val_main_v95 val_main_v101 val_main_v134)

variable [Cert.ReferenceIdeal.Facts] [Cert.Reference2Ideal.Facts]
variable {X0 : FVec Ideal S4 .f32} {X1 X2 : FVec Ideal S1x768 .f32} {X3 : FVec Ideal S4x1x2048 .f32} {X4 : FVec Ideal S4x2048x768 .f32}
  {X5 X6 : FVec Ideal S4x2048x768 .bf16} {H : Fin 4 → Fin 2048 → Fin 768 → ℝ}

/-- The second choice is made from the negatives of the cosines. -/
theorem second_from (hold : Holds 8 4 (val_main_v60 (F := Ideal) X4) X3 X4 X5 X6 H) (b : Fin 4) (i j : Fin 2048) (h : j.val < i.val) (h' : ¬ Near X4 b i j) :
    val_main_v60 (F := Ideal) X4 (ix3 b i j) = ((-Similar.cosine (H b) i j : ℝ) : EReal) := by
  rw [left_at, if_neg h', EReal.coe_neg]
  exact congrArg _ (first_from hold b i j h)

theorem near_said (hold : Holds 8 4 (val_main_v60 (F := Ideal) X4) X3 X4 X5 X6 H) (b : Fin 4) (i : Fin 2048) (k : Fin 768) :
    (val_main_v95 (F := Ideal) X4 (ix3 b i k) : EReal) = Round.mean (fun j => Near X4 b i j) fun j => (H b j k : EReal) := by
  rw [near_mean]
  exact (Round.mean_eq _ _ _ _).trans (congrArg _ (funext fun j => hold.finite b j k))

theorem far_said (hold : Holds 8 4 (val_main_v60 (F := Ideal) X4) X3 X4 X5 X6 H) (b : Fin 4) (i : Fin 2048) (k : Fin 768) :
    (val_main_v101 (F := Ideal) X4 (ix3 b i k) : EReal) = Round.mean (fun j => Far X4 b i j) fun j => (H b j k : EReal) := by
  rw [far_mean]
  exact (Round.mean_eq _ _ _ _).trans (congrArg _ (funext fun j => hold.finite b j k))

/-- What the kernel leaves in a tile of the next state, from blocks that hold the arguments' rows, is what the reference leaves in these rows. -/
theorem tile (hold : Holds 8 4 (val_main_v60 (F := Ideal) X4) X3 X4 X5 X6 H) (i : Cert.Kernel2Ideal.grid0.Coords) (b : Fin 4) (n : Fin 256 → Fin 2048)
    (hn : ∀ r, (n r).val = 256 * (i 1).val + r.val)
    (x0 : Vec Ideal S4 .f32) (x1 x2 : Vec Ideal S1x768 .f32) (x3 : Vec Ideal S1x1x2048 .f32) (x4 : Vec Ideal S1x2048x768 .f32)
    (x5 x6 : Vec Ideal S1x2048x768 .bf16) (x7 : Vec Ideal S1x256x768 .f32)
    (h0 : ∀ a, x0 (ix1 a) = X0 (ix1 a)) (h1 : ∀ k, x1 (ix2 0 k) = X1 (ix2 0 k)) (h2 : ∀ k, x2 (ix2 0 k) = X2 (ix2 0 k))
    (h3 : ∀ j, x3 (ix3 0 0 j) = X3 (ix3 b 0 j)) (h4 : ∀ j k, x4 (ix3 0 j k) = X4 (ix3 b j k))
    (h5 : ∀ j k, x5 (ix3 0 j k) = X5 (ix3 b j k)) (h6 : ∀ j k, x6 (ix3 0 j k) = X6 (ix3 b j k))
    (h7 : ∀ r k, x7 (ix3 0 r k) = X4 (ix3 b (n r) k)) (r : Fin 256) (k : Fin 768) :
    (Cert.Kernel2Ideal.Hand.tail (F := Ideal) x0 x1 x2 x7 (Cert.Kernel2Ideal.Hand.near i (Cert.KernelIdeal.Hand.scores i x3 x4 x7) x5 x6)
        (Cert.Kernel2Ideal.Hand.apart i (Cert.KernelIdeal.Hand.scores i x3 x4 x7) x4) (ix3 0 r k) : EReal)
      = val_main_v134 (F := Ideal) X0 X1 X2 X4 (ix3 b (n r) k) := by
  have hs : ∀ r j, Cert.KernelIdeal.Hand.scores (F := Ideal) i x3 x4 x7 (ix2 r j) = _ := Cert.KernelIdeal.Hand.scores_value i x3 x4 x7 (H b) n hn
    (fun j k => (h4 j k).trans (hold.finite b j k)) (fun r k => (h7 r k).trans (hold.finite b (n r) k)) (fun j => (h3 j).trans (hold.inverse b j))
  rw [result_at, near_said hold, far_said hold]
  refine (Cert.Kernel2Ideal.Hand.tail_at _ _ _ _ _ _ r k).trans ?_
  rw [h0, h0, h0, h1, h2, h7,
    Cert.Kernel2Ideal.Hand.near_tile i _ (H b) (n r) r (hn r) (fun j => hs r j) _ _ (hold.sorted b (n r)) (fun j h => first_from hold b (n r) j h) x5 x6
      (fun j k => by rw [h5, h6]; exact (hold.halves _).trans (hold.finite b j k)) k,
    Cert.Kernel2Ideal.Hand.apart_tile i _ (H b) (n r) r (hn r) (fun j => hs r j) _ _ (hold.sorted b (n r)) (fun j h => first_from hold b (n r) j h) x4
      (fun j k => (h4 j k).trans (hold.finite b j k)) _ _ (hold.rest b (n r)) (fun j h h' => second_from hold b (n r) j h h') k]
  rfl

/-- The array of states the kernel leaves is the reference's result of the same arguments. -/
theorem array (m : (ℓ : Loc Cert.Kernel2Ideal.nD Cert.Kernel2Ideal.τ Cert.Kernel2Ideal.sig) → Buf (Elt Ideal) ℓ) (c : Dev Cert.Kernel2Ideal.nD)
    {H : Fin 4 → Fin 2048 → Fin 768 → ℝ}
    (hold : Holds 8 4 (val_main_v60 (F := Ideal) (m (c.tc.loc Cert.Kernel2Ideal.main_arg4))) (m (c.tc.loc Cert.Kernel2Ideal.main_arg3))
      (m (c.tc.loc Cert.Kernel2Ideal.main_arg4)) (m (c.tc.loc Cert.Kernel2Ideal.main_arg5)) (m (c.tc.loc Cert.Kernel2Ideal.main_arg6)) H) :
    (Cert.Kernel2Ideal.Hand.dats (F := Ideal) m 0 c).arrAt 8 Cert.Kernel2Ideal.cfg0.N
      = val_main_v134 (F := Ideal) (m (c.tc.loc Cert.Kernel2Ideal.main_arg0)) (m (c.tc.loc Cert.Kernel2Ideal.main_arg1)) (m (c.tc.loc Cert.Kernel2Ideal.main_arg2))
          (m (c.tc.loc Cert.Kernel2Ideal.main_arg4)) :=
  Cert.Kernel2Ideal.Hand.whole m c _ fun t r k => tile hold _ (Cert.Kernel2Ideal.Hand.batch t) (Cert.Kernel2Ideal.Hand.arrayRow t) (fun _ => rfl) _ _ _ _ _ _ _ _
    (Cert.Kernel2Ideal.Hand.block0 m c t) (Cert.Kernel2Ideal.Hand.block1 m c t) (Cert.Kernel2Ideal.Hand.block2 m c t)
    (Cert.Kernel2Ideal.Hand.block3 m c t) (Cert.Kernel2Ideal.Hand.block4 m c t) (Cert.Kernel2Ideal.Hand.block5 m c t)
    (Cert.Kernel2Ideal.Hand.block6 m c t) (Cert.Kernel2Ideal.Hand.block7 m c t) r k

end Cert.AgreeMiddle
-- ==== Proof.Kernel2.Point.lean ====
module

public import proofs.«01_k».proof.Proof.Gen.Kernel2.Frame
public import proofs.«01_k».proof.Proof.Gen.Kernel2.Loops
public import proofs.«01_k».proof.Proof.Gen.Kernel2.Points
public import Idealize.ShloMosaic.Lib.Pipeline.ValueKit.Basic
public import Idealize.ShloMosaic.Lib.WholeRead
public import Idealize.ShloMosaic.Lib.ValueIdx
public import Idealize.ShloMosaic.Lib.Tactic
public import Idealize.ShloMosaic.Lib.Claim

@[expose] public section

set_option maxRecDepth 16384

noncomputable section

namespace Cert.Kernel2.Hand

open Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A row tile takes one of five branches. -/
theorem branches (i : grid0.Coords) : (k0_cond1 i = 1#1 ∧ ¬ k0_cond2 i = 1#1 ∧ ¬ k0_cond3 i = 1#1 ∧ ¬ k0_cond4 i = 1#1 ∧ ¬ (Scalar.cmpi .ne (Scalar.extui (Scalar.cmpi .eq (BitVec.ofNat 32 (i 1).val) 7#32)) 0#32) = 1#1)
    ∨ (¬ k0_cond1 i = 1#1 ∧ k0_cond2 i = 1#1 ∧ ¬ k0_cond3 i = 1#1 ∧ ¬ k0_cond4 i = 1#1 ∧ ¬ (Scalar.cmpi .ne (Scalar.extui (Scalar.cmpi .eq (BitVec.ofNat 32 (i 1).val) 7#32)) 0#32) = 1#1)
    ∨ (¬ k0_cond1 i = 1#1 ∧ ¬ k0_cond2 i = 1#1 ∧ k0_cond3 i = 1#1 ∧ ¬ k0_cond4 i = 1#1 ∧ ¬ (Scalar.cmpi .ne (Scalar.extui (Scalar.cmpi .eq (BitVec.ofNat 32 (i 1).val) 7#32)) 0#32) = 1#1)
    ∨ (¬ k0_cond1 i = 1#1 ∧ ¬ k0_cond2 i = 1#1 ∧ ¬ k0_cond3 i = 1#1 ∧ k0_cond4 i = 1#1 ∧ ¬ (Scalar.cmpi .ne (Scalar.extui (Scalar.cmpi .eq (BitVec.ofNat 32 (i 1).val) 7#32)) 0#32) = 1#1)
    ∨ (¬ k0_cond1 i = 1#1 ∧ ¬ k0_cond2 i = 1#1 ∧ ¬ k0_cond3 i = 1#1 ∧ k0_cond4 i = 1#1 ∧ (Scalar.cmpi .ne (Scalar.extui (Scalar.cmpi .eq (BitVec.ofNat 32 (i 1).val) 7#32)) 0#32) = 1#1) := by
  have hd : ∀ n : Fin 8, (Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ ¬ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ ¬ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ Scalar.cmpi .ne (Scalar.extui (Scalar.andi (Scalar.cmpi .sge (BitVec.ofNat 32 n.val) 4#32) (Scalar.cmpi .slt (BitVec.ofNat 32 n.val) 6#32))) 0#32 = 1#1 ∧ ¬ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ Scalar.cmpi .ne (Scalar.extui (Scalar.andi (Scalar.cmpi .sge (BitVec.ofNat 32 n.val) 6#32) (Scalar.cmpi .slt (BitVec.ofNat 32 n.val) 8#32))) 0#32 = 1#1 ∧ (Scalar.cmpi .ne (Scalar.extui (Scalar.cmpi .eq (BitVec.ofNat 32 n.val) 7#32)) 0#32) = 1#1) := by
    decide +kernel
  exact hd (i 1)

set_option maxHeartbeats 8000000 in
/-- One grid point: from any memrefs holding the eight blocks, the body ends and leaves them as they were. -/
theorem point (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__round_body_eq_skeleton]; unfold cc0__round_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  rcases branches i with ⟨hc1, hc2, hc3, hc4, hc5⟩ | ⟨hc1, hc2, hc3, hc4, hc5⟩ | ⟨hc1, hc2, hc3, hc4, hc5⟩ | ⟨hc1, hc2, hc3, hc4, hc5⟩ | ⟨hc1, hc2, hc3, hc4, hc5⟩
  all_goals
    sl_exec (disch := first | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel2.Hand
-- ==== Proof.Kernel2.Frame.lean ====
module

public import proofs.«01_k».proof.Proof.Kernel2.Point
public import Idealize.ShloMosaic.Lib.Pipeline.ValueKit.Basic
public import Idealize.ShloMosaic.Lib.WholeRead
public import Idealize.ShloMosaic.Lib.ValueIdx
public import Idealize.ShloMosaic.Lib.Tactic
public import Idealize.ShloMosaic.Lib.Claim

@[expose] public section

set_option maxRecDepth 16384

noncomputable section

namespace Cert.Kernel2.Hand

open Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The pipeline's proof data: the body leaves every input block as it is; of the output tiles nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q w := Pipeline.shareOf spec0 w
  owed _ := 0

theorem A_eq (c : Dev nD) (w) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = iblk m c 5 t := by dsimp only [dats]
theorem after_6 (c : Dev nD) (t) : (dats m 0 c).after 6 t = iblk m c 6 t := by dsimp only [dats]
theorem after_7 (c : Dev nD) (t) : (dats m 0 c).after 7 t = iblk m c 7 t := by dsimp only [dats]
theorem before_0 (c : Dev nD) (t) (d) : (dats m 0 c).before 0 t d = iblk m c 0 t := before0_0_of m (dats m 0 c) (A_eq m c 0) (after_0 m c) t d
theorem before_1 (c : Dev nD) (t) (d) : (dats m 0 c).before 1 t d = iblk m c 1 t := before0_1_of m (dats m 0 c) (A_eq m c 1) (after_1 m c) t d
theorem before_2 (c : Dev nD) (t) (d) : (dats m 0 c).before 2 t d = iblk m c 2 t := before0_2_of m (dats m 0 c) (A_eq m c 2) (after_2 m c) t d
theorem before_3 (c : Dev nD) (t) (d) : (dats m 0 c).before 3 t d = iblk m c 3 t := before0_3_of m (dats m 0 c) (A_eq m c 3) (after_3 m c) t d
theorem before_4 (c : Dev nD) (t) (d) : (dats m 0 c).before 4 t d = iblk m c 4 t := before0_4_of m (dats m 0 c) (A_eq m c 4) (after_4 m c) t d
theorem before_5 (c : Dev nD) (t) (d) : (dats m 0 c).before 5 t d = iblk m c 5 t := before0_5_of m (dats m 0 c) (A_eq m c 5) (after_5 m c) t d
theorem before_6 (c : Dev nD) (t) (d) : (dats m 0 c).before 6 t d = iblk m c 6 t := before0_6_of m (dats m 0 c) (A_eq m c 6) (after_6 m c) t d
theorem before_7 (c : Dev nD) (t) (d) : (dats m 0 c).before 7 t d = iblk m c 7 t := before0_7_of m (dats m 0 c) (A_eq m c 7) (after_7 m c) t d

/-- The scratch the launch keeps for the body: three buffers at some contents, and the generator's register. -/
theorem kept_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, window by window. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 1000000 in
theorem sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, kept_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (point c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iexists _; iexact H11
  isplitl [HS0]
  · iexact HS0
  isplitl [HS1]
  · iexact HS1
  isplitl [HS2]
  · iexact HS2
  iintro ⟨H0, H1, H2, H3, H4, H5, H6, H7, H8, H9, H10, H11, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  iexact H11

theorem row (t : Fin cfg0.N) :
    defs₀ (F := F) .tc cfg0.body (cfg0.bodyArgs t (cfg0.slots t)) = bodyAt0 t := by
  unfold defs₀; rw [Defs.onTc_tc]

/-- The outputs are the four windows whose contents the frame does not state. -/
def unsaid : Fin cfg0.W → Bool := fun | ⟨8, _⟩ => true | ⟨9, _⟩ => true | ⟨10, _⟩ => true | ⟨11, _⟩ => true | _ => false

theorem obligation (c : Dev nD) : BodyObligation (dats (F := F) m 0 c) (defs₀ (F := F)) Variants.none () Set.univ unsaid := fun t => by
  rw [bigSep_W0, bigSep_W0, row]
  exact triple_restated (sound m c t) rfl .rfl fun _ => .rfl

set_option backward.isDefEq.respectTransparency.types false in
/-- Every fair run of the program ends, the inputs as they were and the semaphores at zero. -/
theorem run_ends : θ_run defs (onTc (τ := τ) (main (F := F))) (s₀ m ρ) (fun r => (Pipeline.RDat.FramePost cfg0 (fun c => (dats m 0 c).toRForget unsaid) (V m)) r ∧ r.2.sem = fun _ => 0) :=
  Pipeline.θ_run_frame_forget_shared (Q' := _) cfgs (dats m) (0 : Fin 1) launch₀0 defs₀ Variants.none unsaid m ρ main
    (hbody := fun c => (obligation m c).loose) (hq := fun _ _ _ => rfl)
    (howed := fun _ _ => rfl) (V := V m) (hmain := hmain m Variants.none) (hA := A_eq m) (hΦ := fun _ _ => rfl)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1.arr_in c 0 rfl).trans ((A_eq m c 0).trans (V_main_arg0 m c)),
    (h.1.arr_in c 1 rfl).trans ((A_eq m c 1).trans (V_main_arg1 m c)),
    (h.1.arr_in c 2 rfl).trans ((A_eq m c 2).trans (V_main_arg2 m c)),
    (h.1.arr_in c 3 rfl).trans ((A_eq m c 3).trans (V_main_arg3 m c)),
    (h.1.arr_in c 7 rfl).trans ((A_eq m c 7).trans (V_main_arg4 m c)),
    (h.1.arr_in c 5 rfl).trans ((A_eq m c 5).trans (V_main_arg5 m c)),
    (h.1.arr_in c 6 rfl).trans ((A_eq m c 6).trans (V_main_arg6 m c))⟩) (run_ends m ρ)

/-- The program ends, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (kept m ρ) ((θ_run defs _ _).mono (fun _ h => h.2) (run_ends m ρ))

end Cert.Kernel2.Hand
-- ==== Proof.Kernel3Ideal.RunA.lean ====
module

public import proofs.«01_k».proof.Proof.Gen.Kernel3Ideal.Frame
public import proofs.«01_k».proof.Proof.Gen.Kernel3Ideal.Loops
public import proofs.«01_k».proof.Proof.Gen.Kernel3Ideal.Points
public import Idealize.ShloMosaic.Lib.Tactic

@[expose] public section

set_option maxRecDepth 16384

noncomputable section

namespace Cert.Kernel3Ideal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runA (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (hc1 : k0_cond1 i = 1#1) (hc2 : ¬ k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    { L : List (View.Piece (Elt F) S1x256x768 .f32) × List (View.Piece (Elt F) S1x256x768 .bf16) × List (View.Piece (Elt F) S1x256x768 .bf16) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun E K => ?run⟩
  case run =>
    simp only [cc0__round_body_eq_skeleton]; unfold cc0__round_body_skel
    simp only [k0_part6_eq_skeleton, k0_part7_eq_skeleton, k0_part8_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.Kernel3Ideal.Hand
-- ==== Proof.Kernel3Ideal.RunB.lean ====
module

public import proofs.«01_k».proof.Proof.Gen.Kernel3Ideal.Frame
public import proofs.«01_k».proof.Proof.Gen.Kernel3Ideal.Loops
public import proofs.«01_k».proof.Proof.Gen.Kernel3Ideal.Points
public import Idealize.ShloMosaic.Lib.Tactic

@[expose] public section

set_option maxRecDepth 16384

noncomputable section

namespace Cert.Kernel3Ideal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runB (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (hc1 : ¬ k0_cond1 i = 1#1) (hc2 : k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    { L : List (View.Piece (Elt F) S1x256x768 .f32) × List (View.Piece (Elt F) S1x256x768 .bf16) × List (View.Piece (Elt F) S1x256x768 .bf16) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun E K => ?run⟩
  case run =>
    simp only [cc0__round_body_eq_skeleton]; unfold cc0__round_body_skel
    simp only [k0_part6_eq_skeleton, k0_part7_eq_skeleton, k0_part8_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.Kernel3Ideal.Hand
-- ==== Proof.Kernel3Ideal.RunC.lean ====
module

public import proofs.«01_k».proof.Proof.Gen.Kernel3Ideal.Frame
public import proofs.«01_k».proof.Proof.Gen.Kernel3Ideal.Loops
public import proofs.«01_k».proof.Proof.Gen.Kernel3Ideal.Points
public import Idealize.ShloMosaic.Lib.Tactic

@[expose] public section

set_option maxRecDepth 16384

noncomputable section

namespace Cert.Kernel3Ideal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runC (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (hc1 : ¬ k0_cond1 i = 1#1) (hc2 : ¬ k0_cond2 i = 1#1) (hc3 : k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    { L : List (View.Piece (Elt F) S1x256x768 .f32) × List (View.Piece (Elt F) S1x256x768 .bf16) × List (View.Piece (Elt F) S1x256x768 .bf16) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun E K => ?run⟩
  case run =>
    simp only [cc0__round_body_eq_skeleton]; unfold cc0__round_body_skel
    simp only [k0_part6_eq_skeleton, k0_part7_eq_skeleton, k0_part8_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.Kernel3Ideal.Hand
-- ==== Proof.Kernel3Ideal.RunD.lean ====
module

public import proofs.«01_k».proof.Proof.Gen.Kernel3Ideal.Frame
public import proofs.«01_k».proof.Proof.Gen.Kernel3Ideal.Loops
public import proofs.«01_k».proof.Proof.Gen.Kernel3Ideal.Points
public import Idealize.ShloMosaic.Lib.Tactic

@[expose] public section

set_option maxRecDepth 16384

noncomputable section

namespace Cert.Kernel3Ideal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runD (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (hc1 : ¬ k0_cond1 i = 1#1) (hc2 : ¬ k0_cond2 i = 1#1) (hc3 : ¬ k0_cond3 i = 1#1) (hc4 : k0_cond4 i = 1#1) (hc5 : ¬ (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    { L : List (View.Piece (Elt F) S1x256x768 .f32) × List (View.Piece (Elt F) S1x256x768 .bf16) × List (View.Piece (Elt F) S1x256x768 .bf16) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun E K => ?run⟩
  case run =>
    simp only [cc0__round_body_eq_skeleton]; unfold cc0__round_body_skel
    simp only [k0_part6_eq_skeleton, k0_part7_eq_skeleton, k0_part8_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.Kernel3Ideal.Hand
-- ==== Proof.Kernel3Ideal.RunE.lean ====
module

public import proofs.«01_k».proof.Proof.Gen.Kernel3Ideal.Frame
public import proofs.«01_k».proof.Proof.Gen.Kernel3Ideal.Loops
public import proofs.«01_k».proof.Proof.Gen.Kernel3Ideal.Points
public import Idealize.ShloMosaic.Lib.Tactic

@[expose] public section

set_option maxRecDepth 16384

noncomputable section

namespace Cert.Kernel3Ideal.Hand

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
def runE (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (hc1 : ¬ k0_cond1 i = 1#1) (hc2 : ¬ k0_cond2 i = 1#1) (hc3 : ¬ k0_cond3 i = 1#1) (hc4 : k0_cond4 i = 1#1) (hc5 : (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    { L : List (View.Piece (Elt F) S1x256x768 .f32) × List (View.Piece (Elt F) S1x256x768 .bf16) × List (View.Piece (Elt F) S1x256x768 .bf16) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_⟩, fun E K => ?run⟩
  case run =>
    simp only [cc0__round_body_eq_skeleton]; unfold cc0__round_body_skel
    simp only [k0_part6_eq_skeleton, k0_part7_eq_skeleton, k0_part8_eq_skeleton, k0_part5_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HS0, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.Kernel3Ideal.Hand
-- ==== Proof.Kernel3Ideal.Body.lean ====
module

public import proofs.«01_k».proof.Proof.Kernel3Ideal.RunA
public import proofs.«01_k».proof.Proof.Kernel3Ideal.RunB
public import proofs.«01_k».proof.Proof.Kernel3Ideal.RunC
public import proofs.«01_k».proof.Proof.Kernel3Ideal.RunD
public import proofs.«01_k».proof.Proof.Kernel3Ideal.RunE
public import proofs.«01_k».proof.Proof.Kernel2Ideal.Point
public import Idealize.ShloMosaic.Lib.Pipeline.ValueKit.Basic
public import Idealize.ShloMosaic.Lib.WholeRead
public import Idealize.ShloMosaic.Lib.Tactic

@[expose] public section

set_option maxRecDepth 16384

noncomputable section

namespace Cert.Kernel3Ideal.Hand

open Gen
open Cert.Kernel2Ideal.Hand (blended momentum tail tailHigh tailLow tailInv stored)
open Cert.KernelIdeal.Hand (scores loaded trips1 trips2 trips3 trips4 trips5 trips6 trips7 trips8 trips9 trips10 off7_eq off9_eq off11_eq off13_eq lt8 cond1_iff cond2_iff cond3_iff cond4_iff last_iff cols512 cols1024 cols1536 cols2048)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The message from the most similar earlier rows, the scores `s` kept to a width of 512. -/
def msg512 (i : grid0.Coords) (s : Vec F S256x512 .f32) (x5 x6 : Vec F S1x2048x768 .bf16) : Vec F S256x768 .f32 :=
  k0_pay22 i (k0_pay3 (Scalar.muli (BitVec.ofNat 32 (i 1).val) 256#32) s) (Scalar.ofBits .f32 0x3F800000#32) (Scalar.ofBits .f32 0x00000000#32)
    (View.ld x5 (Rect.unit (s := S1x2048x768) ![0, 0, 0] S1x512x768.size inb_S1x2048x768_S1x512x768_0_0_0))
    (View.ld x6 (Rect.unit (s := S1x2048x768) ![0, 0, 0] S1x512x768.size inb_S1x2048x768_S1x512x768_0_0_0))

/-- The message from the most similar earlier rows, the scores `s` kept to a width of 1024. -/
def msg1024 (i : grid0.Coords) (s : Vec F S256x1024 .f32) (x5 x6 : Vec F S1x2048x768 .bf16) : Vec F S256x768 .f32 :=
  k0_pay23 (k0_pay20 i) (k0_pay6 (Scalar.muli (BitVec.ofNat 32 (i 1).val) 256#32) s) (Scalar.ofBits .f32 0x3F800000#32) (Scalar.ofBits .f32 0x00000000#32)
    (View.ld x5 (Rect.unit (s := S1x2048x768) ![0, 0, 0] S1x1024x768.size inb_S1x2048x768_S1x1024x768_0_0_0))
    (View.ld x6 (Rect.unit (s := S1x2048x768) ![0, 0, 0] S1x1024x768.size inb_S1x2048x768_S1x1024x768_0_0_0))

/-- The message from the most similar earlier rows, the scores `s` kept to a width of 1536. -/
def msg1536 (i : grid0.Coords) (s : Vec F S256x1536 .f32) (x5 x6 : Vec F S1x2048x768 .bf16) : Vec F S256x768 .f32 :=
  k0_pay24 (k0_pay20 i) (k0_pay9 (Scalar.muli (BitVec.ofNat 32 (i 1).val) 256#32) s) (Scalar.ofBits .f32 0x3F800000#32) (Scalar.ofBits .f32 0x00000000#32)
    (View.ld x5 (Rect.unit (s := S1x2048x768) ![0, 0, 0] S1x1536x768.size inb_S1x2048x768_S1x1536x768_0_0_0))
    (View.ld x6 (Rect.unit (s := S1x2048x768) ![0, 0, 0] S1x1536x768.size inb_S1x2048x768_S1x1536x768_0_0_0))

/-- The message from the most similar earlier rows, the scores `s` kept to a width of 2048. -/
def msg2048 (i : grid0.Coords) (s : Vec F S256x2048 .f32) (x5 x6 : Vec F S1x2048x768 .bf16) : Vec F S256x768 .f32 :=
  k0_pay25 (k0_pay20 i) (k0_pay14 (Scalar.muli (BitVec.ofNat 32 (i 1).val) 256#32) s) (Scalar.ofBits .f32 0x3F800000#32) (Scalar.ofBits .f32 0x00000000#32)
    (View.ld x5 (Rect.unit (s := S1x2048x768) ![0, 0, 0] S1x2048x768.size inb_S1x2048x768_S1x2048x768_0_0_0))
    (View.ld x6 (Rect.unit (s := S1x2048x768) ![0, 0, 0] S1x2048x768.size inb_S1x2048x768_S1x2048x768_0_0_0))

/-- The scores left after the most similar rows of the widest tiles are struck out. -/
def struck (s : Vec F S256x2048 .f32) : Vec F S256x2048 .f32 := k0_pay13 s

/-- The message from the least similar rows, for the tile of the last rows, over the scores `s` left after the first selection. -/
def far (i : grid0.Coords) (x4 : Vec F S1x2048x768 .f32) (s : Vec F S256x2048 .f32) : Vec F S256x768 .f32 :=
  k0_pay10 (k0_pay16 x4) (k0_pay19 i) s

variable (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole)

/-- What the body leaves in the output tiles, case A. -/
theorem runA_eq (hc1 : k0_cond1 i = 1#1) (hc2 : ¬ k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 x0 x1 x2 x3 x4 x5 x6 x7 G).1 =
      stored x0 x1 x2 x7 (msg512 i (runA.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 x3 x4 x7 G) x5 x6) k0_pay21 := by
  unfold runA
  dsimp only
  simp only [runA.sl.r, runA.sl.r_1, runA.sl.r_2, runA.sl.r_3, runA.sl.r_4, runA.sl.r_5, runA.sl.r_6, runA.sl.v43, runA.sl.v50, runA.sl.HS1_1, runA.sl.HS2_1, View.readAt_eq_ld,
    harg2.read_unread, harg3.read_unread, harg4.read_unread, harg6.read_unread, harg7.read_unread, harg8.read_unread, harg9.read_unread]
  rw [View.ld_unit_lit inb_S1x256x768_S1x256x768_0_0_0 x7 (by decide),
    View.ld_unit_lit inb_S1x768_S1x768_0_0 x1 (by decide), View.ld_unit_lit inb_S1x768_S1x768_0_0 x2 (by decide),
    View.readCov_unit_lit arg15.view inb_S256x768_S256x768_0_0 _ (by decide), View.readCov_unit_lit arg16.view inb_S256x768_S256x768_0_0 _ (by decide)]
  rfl

/-- What the body leaves in the output tiles, case B. -/
theorem runB_eq (hc1 : ¬ k0_cond1 i = 1#1) (hc2 : k0_cond2 i = 1#1) (hc3 : ¬ k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 x0 x1 x2 x3 x4 x5 x6 x7 G).1 =
      stored x0 x1 x2 x7 (msg1024 i (runB.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 x3 x4 x7 G) x5 x6) k0_pay21 := by
  unfold runB
  dsimp only
  simp only [runB.sl.r, runB.sl.r_1, runB.sl.r_2, runB.sl.r_3, runB.sl.r_4, runB.sl.r_5, runB.sl.r_6, runB.sl.v43, runB.sl.v50, runB.sl.HS1_1, runB.sl.HS2_1, View.readAt_eq_ld,
    harg2.read_unread, harg3.read_unread, harg4.read_unread, harg6.read_unread, harg7.read_unread, harg8.read_unread, harg9.read_unread]
  rw [View.ld_unit_lit inb_S1x256x768_S1x256x768_0_0_0 x7 (by decide),
    View.ld_unit_lit inb_S1x768_S1x768_0_0 x1 (by decide), View.ld_unit_lit inb_S1x768_S1x768_0_0 x2 (by decide),
    View.readCov_unit_lit arg15.view inb_S256x768_S256x768_0_0 _ (by decide), View.readCov_unit_lit arg16.view inb_S256x768_S256x768_0_0 _ (by decide)]
  rfl

/-- What the body leaves in the output tiles, case C. -/
theorem runC_eq (hc1 : ¬ k0_cond1 i = 1#1) (hc2 : ¬ k0_cond2 i = 1#1) (hc3 : k0_cond3 i = 1#1) (hc4 : ¬ k0_cond4 i = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 x0 x1 x2 x3 x4 x5 x6 x7 G).1 =
      stored x0 x1 x2 x7 (msg1536 i (runC.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc3 x3 x4 x7 G) x5 x6) k0_pay21 := by
  unfold runC
  dsimp only
  simp only [runC.sl.r, runC.sl.r_1, runC.sl.r_2, runC.sl.r_3, runC.sl.r_4, runC.sl.r_5, runC.sl.r_6, runC.sl.v43, runC.sl.v50, runC.sl.HS1_1, runC.sl.HS2_1, View.readAt_eq_ld,
    harg2.read_unread, harg3.read_unread, harg4.read_unread, harg6.read_unread, harg7.read_unread, harg8.read_unread, harg9.read_unread]
  rw [View.ld_unit_lit inb_S1x256x768_S1x256x768_0_0_0 x7 (by decide),
    View.ld_unit_lit inb_S1x768_S1x768_0_0 x1 (by decide), View.ld_unit_lit inb_S1x768_S1x768_0_0 x2 (by decide),
    View.readCov_unit_lit arg15.view inb_S256x768_S256x768_0_0 _ (by decide), View.readCov_unit_lit arg16.view inb_S256x768_S256x768_0_0 _ (by decide)]
  rfl

/-- What the body leaves in the output tiles, case D. -/
theorem runD_eq (hc1 : ¬ k0_cond1 i = 1#1) (hc2 : ¬ k0_cond2 i = 1#1) (hc3 : ¬ k0_cond3 i = 1#1) (hc4 : k0_cond4 i = 1#1) (hc5 : ¬ (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 x4 x5 x6 x7 G).1 =
      stored x0 x1 x2 x7 (msg2048 i (runD.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc4 x3 x4 x7 G) x5 x6) k0_pay21 := by
  unfold runD
  dsimp only
  simp only [runD.sl.r, runD.sl.r_1, runD.sl.r_2, runD.sl.r_3, runD.sl.r_4, runD.sl.r_5, runD.sl.r_6, runD.sl.r_7, runD.sl.v43, runD.sl.v50, runD.sl.HS1_1, runD.sl.HS2_1, View.readAt_eq_ld,
    harg2.read_unread, harg3.read_unread, harg4.read_unread, harg6.read_unread, harg7.read_unread, harg8.read_unread, harg9.read_unread]
  rw [View.ld_unit_lit inb_S1x256x768_S1x256x768_0_0_0 x7 (by decide),
    View.ld_unit_lit inb_S1x768_S1x768_0_0 x1 (by decide), View.ld_unit_lit inb_S1x768_S1x768_0_0 x2 (by decide),
    View.readCov_unit_lit arg15.view inb_S256x768_S256x768_0_0 _ (by decide), View.readCov_unit_lit arg16.view inb_S256x768_S256x768_0_0 _ (by decide)]
  rfl

/-- What the body leaves in the output tiles, case E. -/
theorem runE_eq (hc1 : ¬ k0_cond1 i = 1#1) (hc2 : ¬ k0_cond2 i = 1#1) (hc3 : ¬ k0_cond3 i = 1#1) (hc4 : k0_cond4 i = 1#1) (hc5 : (Scalar.cmpi .ne (Scalar.extui (Scalar.cmpi .eq (BitVec.ofNat 32 (i 1).val) 7#32)) 0#32) = 1#1)
    (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (G : BufTy.Contents (Elt F) arg14.view.ty) :
    (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 x0 x1 x2 x3 x4 x5 x6 x7 G).1 =
      stored x0 x1 x2 x7 (msg2048 i (runE.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc4 x3 x4 x7 G) x5 x6) (far i x4 (struck (runE.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc4 x3 x4 x7 G))) := by
  unfold runE
  dsimp only
  simp only [runE.sl.r, runE.sl.r_1, runE.sl.r_2, runE.sl.r_3, runE.sl.r_4, runE.sl.r_5, runE.sl.r_6, runE.sl.r_7, runE.sl.v43, runE.sl.v50, runE.sl.HS1_1, runE.sl.HS2_1, runE.sl.HS2_2, View.readAt_eq_ld,
    harg2.read_unread, harg3.read_unread, harg4.read_unread, harg6.read_unread, harg7.read_unread, harg8.read_unread, harg9.read_unread]
  rw [View.ld_unit_lit inb_S1x256x768_S1x256x768_0_0_0 x7 (by decide),
    View.ld_unit_lit inb_S1x768_S1x768_0_0 x1 (by decide), View.ld_unit_lit inb_S1x768_S1x768_0_0 x2 (by decide),
    View.readCov_unit_lit arg15.view inb_S256x768_S256x768_0_0 _ (by decide), View.readCov_cons_toLoadRect, View.ld_unit_lit inb_S1x2048x768_S1x2048x768_0_0_0 x4 (by decide)]
  rfl

end Cert.Kernel3Ideal.Hand
-- ==== Proof.Kernel3Ideal.Loaded.lean ====
module

public import proofs.«01_k».proof.Proof.Kernel3Ideal.Body
public import Idealize.ShloMosaic.Lib.Pipeline.ValueKit.Basic
public import Idealize.ShloMosaic.Lib.WholeRead
public import Idealize.ShloMosaic.Lib.ValueIdx
public import Idealize.ShloMosaic.Lib.Tactic

@[expose] public section

set_option maxRecDepth 16384

noncomputable section

namespace Cert.Kernel3Ideal.Hand

open Gen
open Cert.Kernel2Ideal.Hand (blended momentum tail tailHigh tailLow tailInv stored)
open Cert.KernelIdeal.Hand (scores loaded trips1 trips2 trips3 trips4 trips5 trips6 trips7 trips8 trips9 trips10 off7_eq off9_eq off11_eq off13_eq lt8 cond1_iff cond2_iff cond3_iff cond4_iff last_iff cols512 cols1024 cols1536 cols2048)
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole)

theorem piece1 (x3 : Vec F S1x1x2048 .f32) (x4 : Vec F S1x2048x768 .f32) (x7 : Vec F S1x256x768 .f32) (k : Fin (k0_t1_loop i).trips) :
    tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (View.readAt (Elt F) arg9.view (Rect.unit ![0, 0, 0] S1x256x768.size inb_S1x256x768_S1x256x768_0_0_0).toLoadRect (harg9.unread x7)) (harg5.unread x3) (harg6.unread x4) k
      = [⟨Rect.unit (s := S256x2048) (k0_off3 i k) S256x256.size (k0_off3_inb i k),
          k0_pay17 i x7 k (View.ld x4 (Rect.unit (s := S1x2048x768) (k0_off1 i k) S1x256x768.size (k0_off1_inb i k))) (View.ld x3 (Rect.unit (s := S1x1x2048) (k0_off2 i k) S1x1x256.size (k0_off2_inb i k)))⟩] := by
  unfold tripL_k0_t1 trip_k0_t1
  dsimp only
  simp only [View.readAt_eq_ld, harg5.read_unread, harg6.read_unread, harg9.read_unread]
  rw [View.ld_unit_lit inb_S1x256x768_S1x256x768_0_0_0 x7 (by decide)]

theorem piece3 (w w' : BitVec 32) (h : k0_cond1 i = 1#1) (k : Fin (k0_t3_loop i).trips) :
    tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w w' h k
      = [⟨Rect.unit (s := S256x2048) (k0_off7 i k) S256x256.size (k0_off7_inb i k h), k0_pay1⟩] := by
  unfold tripL_k0_t3 trip_k0_t3
  rfl

theorem piece5 (w w' : BitVec 32) (h : k0_cond2 i = 1#1) (k : Fin (k0_t5_loop i).trips) :
    tripL_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w w' h k
      = [⟨Rect.unit (s := S256x2048) (k0_off9 i k) S256x256.size (k0_off9_inb i k h), k0_pay1⟩] := by
  unfold tripL_k0_t5 trip_k0_t5
  rfl

theorem piece7 (w w' : BitVec 32) (h : k0_cond3 i = 1#1) (k : Fin (k0_t7_loop i).trips) :
    tripL_k0_t7 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w w' h k
      = [⟨Rect.unit (s := S256x2048) (k0_off11 i k) S256x256.size (k0_off11_inb i k h), k0_pay1⟩] := by
  unfold tripL_k0_t7 trip_k0_t7
  rfl

theorem piece9 (w w' : BitVec 32) (h : k0_cond4 i = 1#1) (k : Fin (k0_t9_loop i).trips) :
    tripL_k0_t9 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 w w' h k
      = [⟨Rect.unit (s := S256x2048) (k0_off13 i k) S256x256.size (k0_off13_inb i k h), k0_pay1⟩] := by
  unfold tripL_k0_t9 trip_k0_t9
  rfl

set_option maxHeartbeats 400000 in
theorem scoresA (h : k0_cond1 i = 1#1) (x3 : Vec F S1x1x2048 .f32) (x4 : Vec F S1x2048x768 .f32) (x7 : Vec F S1x256x768 .f32) (G : BufTy.Contents (Elt F) arg14.view.ty) :
    runA.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x7 G = View.ld (scores i x3 x4 x7) (Rect.unit (s := S256x2048) ![0, 0] S256x512.size inb_S256x2048_S256x512_0_0) := by
  unfold runA.sl.v110
  rw [show Scf.trips (k0_t4_loop i).lb (k0_t4_loop i).ub (k0_t4_loop i).st = 0 from trips4 i h, show Scf.trips (k0_t2_loop i).lb (k0_t2_loop i).ub (k0_t2_loop i).st = 0 from trips2 i, pb_k0_t4.eq_1, pb_k0_t2.eq_1]
  rw [show Scf.trips (k0_t1_loop i).lb (k0_t1_loop i).ub (k0_t1_loop i).st = (k0_t1_loop i).trips from rfl,
    show Scf.trips (k0_t3_loop i).lb (k0_t3_loop i).ub (k0_t3_loop i).st = (k0_t3_loop i).trips from rfl]
  refine loaded i x3 x4 x7 (u := 2) arg14.view G (Rect.unit (s := S256x2048) ![0, 0] S256x512.size inb_S256x2048_S256x512_0_0) _ _ _ _
    (pb_k0_t1.eq_1 ..) (fun _ => pb_k0_t1_succ ..) (pb_k0_t3.eq_1 ..) (fun _ => pb_k0_t3_succ ..) (fun _ => piece1 ..) (k0_off7 i) (off7_eq i h) (fun k => k0_off7_inb i k h) (fun _ => piece3 ..) (trips3 i h) ?_
  intro x
  have h : (x 1).val < 512 := (x 1).isLt
  show 0 + 1 * (x 1).val < 256 * 2
  omega

set_option maxHeartbeats 400000 in
theorem scoresB (h : k0_cond2 i = 1#1) (x3 : Vec F S1x1x2048 .f32) (x4 : Vec F S1x2048x768 .f32) (x7 : Vec F S1x256x768 .f32) (G : BufTy.Contents (Elt F) arg14.view.ty) :
    runB.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x7 G = View.ld (scores i x3 x4 x7) (Rect.unit (s := S256x2048) ![0, 0] S256x1024.size inb_S256x2048_S256x1024_0_0) := by
  unfold runB.sl.v110
  rw [show Scf.trips (k0_t6_loop i).lb (k0_t6_loop i).ub (k0_t6_loop i).st = 0 from trips6 i h, show Scf.trips (k0_t2_loop i).lb (k0_t2_loop i).ub (k0_t2_loop i).st = 0 from trips2 i, pb_k0_t6.eq_1, pb_k0_t2.eq_1]
  rw [show Scf.trips (k0_t1_loop i).lb (k0_t1_loop i).ub (k0_t1_loop i).st = (k0_t1_loop i).trips from rfl,
    show Scf.trips (k0_t5_loop i).lb (k0_t5_loop i).ub (k0_t5_loop i).st = (k0_t5_loop i).trips from rfl]
  refine loaded i x3 x4 x7 (u := 4) arg14.view G (Rect.unit (s := S256x2048) ![0, 0] S256x1024.size inb_S256x2048_S256x1024_0_0) _ _ _ _
    (pb_k0_t1.eq_1 ..) (fun _ => pb_k0_t1_succ ..) (pb_k0_t5.eq_1 ..) (fun _ => pb_k0_t5_succ ..) (fun _ => piece1 ..) (k0_off9 i) (off9_eq i h) (fun k => k0_off9_inb i k h) (fun _ => piece5 ..) (trips5 i h) ?_
  intro x
  have h : (x 1).val < 1024 := (x 1).isLt
  show 0 + 1 * (x 1).val < 256 * 4
  omega

set_option maxHeartbeats 400000 in
theorem scoresC (h : k0_cond3 i = 1#1) (x3 : Vec F S1x1x2048 .f32) (x4 : Vec F S1x2048x768 .f32) (x7 : Vec F S1x256x768 .f32) (G : BufTy.Contents (Elt F) arg14.view.ty) :
    runC.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x7 G = View.ld (scores i x3 x4 x7) (Rect.unit (s := S256x2048) ![0, 0] S256x1536.size inb_S256x2048_S256x1536_0_0) := by
  unfold runC.sl.v110
  rw [show Scf.trips (k0_t8_loop i).lb (k0_t8_loop i).ub (k0_t8_loop i).st = 0 from trips8 i h, show Scf.trips (k0_t2_loop i).lb (k0_t2_loop i).ub (k0_t2_loop i).st = 0 from trips2 i, pb_k0_t8.eq_1, pb_k0_t2.eq_1]
  rw [show Scf.trips (k0_t1_loop i).lb (k0_t1_loop i).ub (k0_t1_loop i).st = (k0_t1_loop i).trips from rfl,
    show Scf.trips (k0_t7_loop i).lb (k0_t7_loop i).ub (k0_t7_loop i).st = (k0_t7_loop i).trips from rfl]
  refine loaded i x3 x4 x7 (u := 6) arg14.view G (Rect.unit (s := S256x2048) ![0, 0] S256x1536.size inb_S256x2048_S256x1536_0_0) _ _ _ _
    (pb_k0_t1.eq_1 ..) (fun _ => pb_k0_t1_succ ..) (pb_k0_t7.eq_1 ..) (fun _ => pb_k0_t7_succ ..) (fun _ => piece1 ..) (k0_off11 i) (off11_eq i h) (fun k => k0_off11_inb i k h) (fun _ => piece7 ..) (trips7 i h) ?_
  intro x
  have h : (x 1).val < 1536 := (x 1).isLt
  show 0 + 1 * (x 1).val < 256 * 6
  omega

set_option maxHeartbeats 400000 in
theorem scoresD (h : k0_cond4 i = 1#1) (x3 : Vec F S1x1x2048 .f32) (x4 : Vec F S1x2048x768 .f32) (x7 : Vec F S1x256x768 .f32) (G : BufTy.Contents (Elt F) arg14.view.ty) :
    runD.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x7 G = View.ld (scores i x3 x4 x7) (Rect.unit (s := S256x2048) ![0, 0] S256x2048.size inb_S256x2048_S256x2048_0_0) := by
  unfold runD.sl.v110
  rw [show Scf.trips (k0_t10_loop i).lb (k0_t10_loop i).ub (k0_t10_loop i).st = 0 from trips10 i h, show Scf.trips (k0_t2_loop i).lb (k0_t2_loop i).ub (k0_t2_loop i).st = 0 from trips2 i, pb_k0_t10.eq_1, pb_k0_t2.eq_1]
  rw [show Scf.trips (k0_t1_loop i).lb (k0_t1_loop i).ub (k0_t1_loop i).st = (k0_t1_loop i).trips from rfl,
    show Scf.trips (k0_t9_loop i).lb (k0_t9_loop i).ub (k0_t9_loop i).st = (k0_t9_loop i).trips from rfl]
  refine loaded i x3 x4 x7 (u := 8) arg14.view G (Rect.unit (s := S256x2048) ![0, 0] S256x2048.size inb_S256x2048_S256x2048_0_0) _ _ _ _
    (pb_k0_t1.eq_1 ..) (fun _ => pb_k0_t1_succ ..) (pb_k0_t9.eq_1 ..) (fun _ => pb_k0_t9_succ ..) (fun _ => piece1 ..) (k0_off13 i) (off13_eq i h) (fun k => k0_off13_inb i k h) (fun _ => piece9 ..) (trips9 i h) ?_
  intro x
  have h : (x 1).val < 2048 := (x 1).isLt
  show 0 + 1 * (x 1).val < 256 * 8
  omega

set_option maxHeartbeats 400000 in
theorem scoresE (h : k0_cond4 i = 1#1) (x3 : Vec F S1x1x2048 .f32) (x4 : Vec F S1x2048x768 .f32) (x7 : Vec F S1x256x768 .f32) (G : BufTy.Contents (Elt F) arg14.view.ty) :
    runE.sl.v110 c i arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x7 G = View.ld (scores i x3 x4 x7) (Rect.unit (s := S256x2048) ![0, 0] S256x2048.size inb_S256x2048_S256x2048_0_0) := by
  unfold runE.sl.v110
  rw [show Scf.trips (k0_t10_loop i).lb (k0_t10_loop i).ub (k0_t10_loop i).st = 0 from trips10 i h, show Scf.trips (k0_t2_loop i).lb (k0_t2_loop i).ub (k0_t2_loop i).st = 0 from trips2 i, pb_k0_t10.eq_1, pb_k0_t2.eq_1]
  rw [show Scf.trips (k0_t1_loop i).lb (k0_t1_loop i).ub (k0_t1_loop i).st = (k0_t1_loop i).trips from rfl,
    show Scf.trips (k0_t9_loop i).lb (k0_t9_loop i).ub (k0_t9_loop i).st = (k0_t9_loop i).trips from rfl]
  refine loaded i x3 x4 x7 (u := 8) arg14.view G (Rect.unit (s := S256x2048) ![0, 0] S256x2048.size inb_S256x2048_S256x2048_0_0) _ _ _ _
    (pb_k0_t1.eq_1 ..) (fun _ => pb_k0_t1_succ ..) (pb_k0_t9.eq_1 ..) (fun _ => pb_k0_t9_succ ..) (fun _ => piece1 ..) (k0_off13 i) (off13_eq i h) (fun k => k0_off13_inb i k h) (fun _ => piece9 ..) (trips9 i h) ?_
  intro x
  have h : (x 1).val < 2048 := (x 1).isLt
  show 0 + 1 * (x 1).val < 256 * 8
  omega

end Cert.Kernel3Ideal.Hand
-- ==== Proof.Kernel3Ideal.Point.lean ====
module

public import proofs.«01_k».proof.Proof.Kernel3Ideal.Loaded
public import Idealize.ShloMosaic.Lib.Pipeline.ValueKit.Basic
public import Idealize.ShloMosaic.Lib.WholeRead
public import Idealize.ShloMosaic.Lib.ValueIdx
public import Idealize.ShloMosaic.Lib.Tactic

@[expose] public section

set_option maxRecDepth 16384

noncomputable section

namespace Cert.Kernel3Ideal.Hand

open Gen
open Cert.Kernel2Ideal.Hand (blended momentum tail tailHigh tailLow tailInv stored)
open Cert.KernelIdeal.Hand (scores loaded trips1 trips2 trips3 trips4 trips5 trips6 trips7 trips8 trips9 trips10 off7_eq off9_eq off11_eq off13_eq lt8 cond1_iff cond2_iff cond3_iff cond4_iff last_iff cols512 cols1024 cols1536 cols2048)
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The message of the most similar rows, by the tile's branch. -/
def near (i : grid0.Coords) (s : Vec F S256x2048 .f32) (x5 x6 : Vec F S1x2048x768 .bf16) : Vec F S256x768 .f32 :=
  if (i 1).val < 2 then msg512 i (cols512 s) x5 x6
  else if (i 1).val < 4 then msg1024 i (cols1024 s) x5 x6
  else if (i 1).val < 6 then msg1536 i (cols1536 s) x5 x6
  else msg2048 i (cols2048 s) x5 x6

/-- The message of the least similar rows: nought but in the last tile. -/
def apart (i : grid0.Coords) (s : Vec F S256x2048 .f32) (x4 : Vec F S1x2048x768 .f32) : Vec F S256x768 .f32 :=
  if (i 1).val = 7 then far i x4 (struck (cols2048 s)) else k0_pay21

variable (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole)

set_option maxHeartbeats 2000000 in
/-- A point's run, its four stores given, restated with every memref owned at a value. -/
theorem restated (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (mp mn : Vec F S256x768 .f32)
    (run : ∀ G : BufTy.Contents (Elt F) arg14.view.ty, ∃ L : List (View.Piece (Elt F) S1x256x768 .f32) × List (View.Piece (Elt F) S1x256x768 .bf16) × List (View.Piece (Elt F) S1x256x768 .bf16) × List (View.Piece (Elt F) S1x1x256 .f32),
      L = stored x0 x1 x2 x7 mp mn ∧
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} G) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
          ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tail x0 x1 x2 x7 mp mn) ∗ owns (c : Thread nD τ) arg11 fullShare (tailHigh x0 x1 x2 x7 mp mn) ∗ owns (c : Thread nD τ) arg12 fullShare (tailLow x0 x1 x2 x7 mp mn) ∗ owns (c : Thread nD τ) arg13 fullShare (tailInv x0 x1 x2 x7 mp mn) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, ⟨%d, HS0⟩, HS1, HS2, HK⟩
  unfold owns
  icases HS0 with ⟨%G, %hG, HS0⟩
  obtain ⟨L, hL, hrun⟩ := run G
  subst hL
  iapply (hrun E K)
  isplitl [H0]
  · unfold owns; iexact H0
  isplitl [H1]
  · unfold owns; iexact H1
  isplitl [H2]
  · unfold owns; iexact H2
  isplitl [H3]
  · unfold owns; iexact H3
  isplitl [H4]
  · unfold owns; iexact H4
  isplitl [H5]
  · unfold owns; iexact H5
  isplitl [H6]
  · unfold owns; iexact H6
  isplitl [H7]
  · unfold owns; iexact H7
  isplitl [H8]
  · unfold owns; iexact H8
  isplitl [H9]
  · unfold owns; iexact H9
  isplitl [H10]
  · unfold owns; iexact H10
  isplitl [H11]
  · unfold owns; iexact H11
  isplitl [HS0]
  · iexact HS0
  isplitl [HS1]
  · unfold owns; iexact HS1
  isplitl [HS2]
  · unfold owns; iexact HS2
  iintro ⟨H0, H1, H2, H3, H4, H5, H6, H7, ⟨%e8, H8⟩, ⟨%e9, H9⟩, ⟨%e10, H10⟩, ⟨%e11, H11⟩, ⟨%f0, HS0⟩, ⟨%f1, HS1⟩, ⟨%f2, HS2⟩⟩
  iapply HK
  isplitl [H0]
  · unfold owns; iexact H0
  isplitl [H1]
  · unfold owns; iexact H1
  isplitl [H2]
  · unfold owns; iexact H2
  isplitl [H3]
  · unfold owns; iexact H3
  isplitl [H4]
  · unfold owns; iexact H4
  isplitl [H5]
  · unfold owns; iexact H5
  isplitl [H6]
  · unfold owns; iexact H6
  isplitl [H7]
  · unfold owns; iexact H7
  isplitl [H8]
  · iexists _; isplitr; swap; · iexact H8
    ipureintro
    dsimp only [stored]
    rw [View.read_writes_eq_canon _ _ _ (fun y => ⟨_, List.mem_singleton.2 rfl, View.mem_set_unit_zero (funext (by decide)) inb_S1x256x768_S1x256x768_0_0_0 y⟩),
      View.canon_cons_unit_lit inb_S1x256x768_S1x256x768_0_0_0 _ _ (by decide)]
  isplitl [H9]
  · iexists _; isplitr; swap; · iexact H9
    ipureintro
    dsimp only [stored]
    rw [View.read_writes_eq_canon _ _ _ (fun y => ⟨_, List.mem_singleton.2 rfl, View.mem_set_unit_zero (funext (by decide)) inb_S1x256x768_S1x256x768_0_0_0 y⟩),
      View.canon_cons_unit_lit inb_S1x256x768_S1x256x768_0_0_0 _ _ (by decide)]
  isplitl [H10]
  · iexists _; isplitr; swap; · iexact H10
    ipureintro
    dsimp only [stored]
    rw [View.read_writes_eq_canon _ _ _ (fun y => ⟨_, List.mem_singleton.2 rfl, View.mem_set_unit_zero (funext (by decide)) inb_S1x256x768_S1x256x768_0_0_0 y⟩),
      View.canon_cons_unit_lit inb_S1x256x768_S1x256x768_0_0_0 _ _ (by decide)]
  isplitl [H11]
  · iexists _; isplitr; swap; · iexact H11
    ipureintro
    dsimp only [stored]
    rw [View.read_writes_eq_canon _ _ _ (fun y => ⟨_, List.mem_singleton.2 rfl, View.mem_set_unit_zero (funext (by decide)) inb_S1x1x256_S1x1x256_0_0_0 y⟩),
      View.canon_cons_unit_lit inb_S1x1x256_S1x1x256_0_0_0 _ _ (by decide)]
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-- One grid point: from any memrefs holding the eight blocks, the body leaves them as they were and the four output tiles at the update. -/
theorem point (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tail x0 x1 x2 x7 (near i (scores i x3 x4 x7) x5 x6) (apart i (scores i x3 x4 x7) x4)) ∗ owns (c : Thread nD τ) arg11 fullShare (tailHigh x0 x1 x2 x7 (near i (scores i x3 x4 x7) x5 x6) (apart i (scores i x3 x4 x7) x4)) ∗ owns (c : Thread nD τ) arg12 fullShare (tailLow x0 x1 x2 x7 (near i (scores i x3 x4 x7) x5 x6) (apart i (scores i x3 x4 x7) x4)) ∗ owns (c : Thread nD τ) arg13 fullShare (tailInv x0 x1 x2 x7 (near i (scores i x3 x4 x7) x5 x6) (apart i (scores i x3 x4 x7) x4)) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine restated _ _ _ _ _ _ _ _ _ _ _ _ _ _ _ _ _ _ _ _ _ _ _ _ _ _ _ _ _ _ _ _ x0 x1 x2 x3 x4 x5 x6 x7 _ _ (fun G => ?_) E K
  have b : (i 1).val < 8 := (i 1).isLt
  have g1 : k0_cond1 i = 1#1 ↔ (i 1).val < 2 := cond1_iff i
  have g2 : k0_cond2 i = 1#1 ↔ 2 ≤ (i 1).val ∧ (i 1).val < 4 := cond2_iff i
  have g3 : k0_cond3 i = 1#1 ↔ 4 ≤ (i 1).val ∧ (i 1).val < 6 := cond3_iff i
  have g4 : k0_cond4 i = 1#1 ↔ 6 ≤ (i 1).val := cond4_iff i
  unfold near apart
  by_cases h1 : (i 1).val < 2
  · rw [if_pos h1, if_neg (show ¬ (i 1).val = 7 by omega)]
    refine ⟨_, ?_, (runA (hc1 := g1.2 (by omega)) (hc2 := mt g2.1 (by omega)) (hc3 := mt g3.1 (by omega)) (hc4 := mt g4.1 (by omega)) ..).2⟩
    rw [runA_eq, scoresA]; rfl
  rw [if_neg h1]
  by_cases h2 : (i 1).val < 4
  · rw [if_pos h2, if_neg (show ¬ (i 1).val = 7 by omega)]
    refine ⟨_, ?_, (runB (hc1 := mt g1.1 (by omega)) (hc2 := g2.2 (by omega)) (hc3 := mt g3.1 (by omega)) (hc4 := mt g4.1 (by omega)) ..).2⟩
    rw [runB_eq, scoresB]; rfl
  rw [if_neg h2]
  by_cases h3 : (i 1).val < 6
  · rw [if_pos h3, if_neg (show ¬ (i 1).val = 7 by omega)]
    refine ⟨_, ?_, (runC (hc1 := mt g1.1 (by omega)) (hc2 := mt g2.1 (by omega)) (hc3 := g3.2 (by omega)) (hc4 := mt g4.1 (by omega)) ..).2⟩
    rw [runC_eq, scoresC]; rfl
  rw [if_neg h3]
  by_cases h4 : (i 1).val = 7
  · rw [if_pos h4]
    refine ⟨_, ?_, (runE (hc1 := mt g1.1 (by omega)) (hc2 := mt g2.1 (by omega)) (hc3 := mt g3.1 (by omega)) (hc4 := g4.2 (by omega)) (hc5 := (last_iff i).2 (by omega)) ..).2⟩
    rw [runE_eq, scoresE]; rfl
  · rw [if_neg h4]
    refine ⟨_, ?_, (runD (hc1 := mt g1.1 (by omega)) (hc2 := mt g2.1 (by omega)) (hc3 := mt g3.1 (by omega)) (hc4 := g4.2 (by omega)) (hc5 := mt (last_iff i).1 (by omega)) ..).2⟩
    rw [runD_eq, scoresD]; rfl

end Cert.Kernel3Ideal.Hand
-- ==== Proof.Kernel3Ideal.Tiles.lean ====
module

public import proofs.«01_k».proof.Proof.Kernel3Ideal.Point
public import proofs.«01_k».proof.Proof.KernelIdeal.Tiles

@[expose] public section

noncomputable section

/-! # The first round's two messages of a row tile

The steps, the counts and the means are those of the last round, with four rows in place of sixteen and two in place of eight. -/

namespace Cert.Kernel3Ideal.Hand

open Gen Idealize.ShloMosaic Idealize.ShloMosaic.TcCoe Idealize.ShloMosaic.ValueIdx
open Cert.KernelIdeal.Hand (strikeRows one_more tops weights mean width_tile last_tile none_tile others dropAll drop_more raised taken oge_congr count_word lt8)

theorem msg512_eq (i : grid0.Coords) (s : Vec Ideal S256x512 .f32) (x5 x6 : Vec Ideal S1x2048x768 .bf16) :
    msg512 i s x5 x6 = mean (k0_pay20 i) shapeCasts_S1x512x768_S512x768
      (weights (BitVec.ofNat 32 (i 1).val * 256#32) iota_S256x512_d0_w32 iota_S256x512_d1_w32 ((strikeRows reduces_S256x512_S256 broadcasts_S256x1_S256x512)^[4] s))
      (View.ld x5 (Rect.unit (s := S1x2048x768) ![0, 0, 0] S1x512x768.size inb_S1x2048x768_S1x512x768_0_0_0))
      (View.ld x6 (Rect.unit (s := S1x2048x768) ![0, 0, 0] S1x512x768.size inb_S1x2048x768_S1x512x768_0_0_0)) := by
  unfold msg512
  exact shapeCast_self _ _

theorem msg1024_eq (i : grid0.Coords) (s : Vec Ideal S256x1024 .f32) (x5 x6 : Vec Ideal S1x2048x768 .bf16) :
    msg1024 i s x5 x6 = mean (k0_pay20 i) shapeCasts_S1x1024x768_S1024x768
      (weights (BitVec.ofNat 32 (i 1).val * 256#32) iota_S256x1024_d0_w32 iota_S256x1024_d1_w32 ((strikeRows reduces_S256x1024_S256 broadcasts_S256x1_S256x1024)^[4] s))
      (View.ld x5 (Rect.unit (s := S1x2048x768) ![0, 0, 0] S1x1024x768.size inb_S1x2048x768_S1x1024x768_0_0_0))
      (View.ld x6 (Rect.unit (s := S1x2048x768) ![0, 0, 0] S1x1024x768.size inb_S1x2048x768_S1x1024x768_0_0_0)) := by
  unfold msg1024
  exact shapeCast_self _ _

theorem msg1536_eq (i : grid0.Coords) (s : Vec Ideal S256x1536 .f32) (x5 x6 : Vec Ideal S1x2048x768 .bf16) :
    msg1536 i s x5 x6 = mean (k0_pay20 i) shapeCasts_S1x1536x768_S1536x768
      (weights (BitVec.ofNat 32 (i 1).val * 256#32) iota_S256x1536_d0_w32 iota_S256x1536_d1_w32 ((strikeRows reduces_S256x1536_S256 broadcasts_S256x1_S256x1536)^[4] s))
      (View.ld x5 (Rect.unit (s := S1x2048x768) ![0, 0, 0] S1x1536x768.size inb_S1x2048x768_S1x1536x768_0_0_0))
      (View.ld x6 (Rect.unit (s := S1x2048x768) ![0, 0, 0] S1x1536x768.size inb_S1x2048x768_S1x1536x768_0_0_0)) := by
  unfold msg1536
  exact shapeCast_self _ _

theorem msg2048_eq (i : grid0.Coords) (s : Vec Ideal S256x2048 .f32) (x5 x6 : Vec Ideal S1x2048x768 .bf16) :
    msg2048 i s x5 x6 = mean (k0_pay20 i) shapeCasts_S1x2048x768_S2048x768
      (weights (BitVec.ofNat 32 (i 1).val * 256#32) iota_S256x2048_d0_w32 iota_S256x2048_d1_w32 ((strikeRows reduces_S256x2048_S256 broadcasts_S256x1_S256x2048)^[4] s))
      (View.ld x5 (Rect.unit (s := S1x2048x768) ![0, 0, 0] S1x2048x768.size inb_S1x2048x768_S1x2048x768_0_0_0))
      (View.ld x6 (Rect.unit (s := S1x2048x768) ![0, 0, 0] S1x2048x768.size inb_S1x2048x768_S1x2048x768_0_0_0)) := by
  unfold msg2048
  exact shapeCast_self _ _

theorem struck_eq (s : Vec Ideal S256x2048 .f32) : struck s = (strikeRows reduces_S256x2048_S256 broadcasts_S256x1_S256x2048)^[4] s := rfl

theorem far_eq (i : grid0.Coords) (x4 : FVec Ideal S1x2048x768 .f32) (s : FVec Ideal S256x2048 .f32) :
    far (F := Ideal) i x4 s = others 2046 2 (Cert.KernelIdeal.Gen.k0_pay45 i) x4 s := by
  have h : dropAll 2046 (k0_pay19 i) (raised s) 2 = _ := drop_more (k0_pay19 i) rfl (drop_more (k0_pay19 i) rfl rfl)
  unfold far k0_pay10
  beta_reduce
  exact shapeCast_self _ _

section

variable (i : grid0.Coords) (s : Vec Ideal S256x2048 .f32) (H : Fin 2048 → Fin 768 → ℝ) (n : Fin 2048) (r : Fin 256) (hn : n.val = 256 * (i 1).val + r.val)
  (hs : ∀ j : Fin 2048, s (ix2 r j) = if j.val < n.val then ((Similar.len H n * Similar.cosine H n j : ℝ) : EReal) else ⊥)
  {L : EReal} (u : Fin 2048 → EReal) (σ : Equiv.Perm (Fin 2048)) (S : Select.Sorted 2048 n.val 4 L u σ)
  (hu : ∀ j : Fin 2048, j.val < n.val → u j = (Similar.cosine H n j : EReal))

include hn hs S hu

/-- The first message of a tile. -/
theorem near_tile (x5 x6 : Vec Ideal S1x2048x768 .bf16) (h56 : ∀ j k, (x5 (ix3 0 j k) : EReal) + x6 (ix3 0 j k) = (H j k : EReal)) (k : Fin 768) :
    (near i s x5 x6 (ix2 r k) : EReal) = Round.mean (fun j : Fin 2048 => j.val < n.val ∧ (σ.symm j).val < 4) fun j => (H j k : EReal) := by
  have hi := lt8 i
  have hr := r.isLt
  have hdeg : (k0_pay20 (F := Ideal) i (ix2 r 0) : EReal) = ((max (min (256 * (i 1).val + r.val) 4) 1 : ℕ) : ℝ) := count_word 4 (by decide) i r
  unfold near
  split_ifs with h2 h4 h6
  · rw [msg512_eq]
    exact width_tile i s H n r hn hs u σ S hu (by decide) (by omega) _ hdeg _ _ _ _ _ _ _ x5 x6 h56 k
  · rw [msg1024_eq]
    exact width_tile i s H n r hn hs u σ S hu (by decide) (by omega) _ hdeg _ _ _ _ _ _ _ x5 x6 h56 k
  · rw [msg1536_eq]
    exact width_tile i s H n r hn hs u σ S hu (by decide) (by omega) _ hdeg _ _ _ _ _ _ _ x5 x6 h56 k
  · rw [msg2048_eq]
    exact width_tile i s H n r hn hs u σ S hu le_rfl (by omega) _ hdeg _ _ _ _ _ _ _ x5 x6 h56 k

/-- The second message of a tile. -/
theorem apart_tile (x4 : Vec Ideal S1x2048x768 .f32) (h4 : ∀ j k, (x4 (ix3 0 j k) : EReal) = (H j k : EReal))
    {M : EReal} (q : Fin 2048 → EReal) (τ : Equiv.Perm (Fin 2048)) (R : Select.Rest 2048 n.val 2 4 M (fun j => j.val < n.val ∧ (σ.symm j).val < 4) q τ)
    (hq : ∀ j : Fin 2048, j.val < n.val → ¬ (j.val < n.val ∧ (σ.symm j).val < 4) → q j = ((-Similar.cosine H n j : ℝ) : EReal)) (k : Fin 768) :
    (apart i s x4 (ix2 r k) : EReal)
      = Round.mean (fun j : Fin 2048 => j.val < n.val ∧ ¬ (j.val < n.val ∧ (σ.symm j).val < 4) ∧ (τ.symm j).val < 2) fun j => (H j k : EReal) := by
  have hi := lt8 i
  have hr := r.isLt
  unfold apart
  split_ifs with h7
  · rw [far_eq, struck_eq]
    exact last_tile i s H n r hn hs u σ S hu rfl (by decide) (by decide) _ _ x4 h4 q τ R hq k
  · refine Eq.trans ?_ (none_tile n H _ q τ R (by omega) k)
    unfold k0_pay21
    beta_reduce
    rw [shapeCast_self]
    exact Ideal.ofBits_zero_f32

end

end Cert.Kernel3Ideal.Hand

end

end
-- ==== Proof.Kernel3Ideal.Frame.lean ====
module

public import proofs.«01_k».proof.Proof.Kernel3Ideal.Point
public import Idealize.ShloMosaic.Lib.Pipeline.ValueKit.Basic
public import Idealize.ShloMosaic.Lib.WholeRead
public import Idealize.ShloMosaic.Lib.ValueIdx
public import Idealize.ShloMosaic.Lib.Tactic
public import Idealize.ShloMosaic.Lib.Claim

@[expose] public section

set_option maxRecDepth 16384

noncomputable section

namespace Cert.Kernel3Ideal.Hand

open Gen
open Cert.Kernel2Ideal.Hand (tail tailHigh tailLow tailInv)
open Cert.KernelIdeal.Hand (scores)
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- The two messages of point `t`, from the blocks of the input arrays there. -/
def nearAt (c : Dev nD) (t : Fin cfg0.N) : Vec F S256x768 .f32 :=
  near (grid0.coords t) (scores (grid0.coords t) (iblk m c 3 t) (iblk m c 4 t) (iblk m c 7 t)) (iblk m c 5 t) (iblk m c 6 t)
def apartAt (c : Dev nD) (t : Fin cfg0.N) : Vec F S256x768 .f32 :=
  apart (grid0.coords t) (scores (grid0.coords t) (iblk m c 3 t) (iblk m c 4 t) (iblk m c 7 t)) (iblk m c 4 t)

/-- The state's output tile of point `t`. -/
def outAt (c : Dev nD) (t : Fin cfg0.N) : Vec F S1x256x768 .f32 :=
  tail (iblk m c 0 t) (iblk m c 1 t) (iblk m c 2 t) (iblk m c 7 t) (nearAt m c t) (apartAt m c t)

/-- The pipeline's proof data: the body leaves every input block as it is and the output tiles at the update. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => tailHigh (iblk m c 0 t) (iblk m c 1 t) (iblk m c 2 t) (iblk m c 7 t) (nearAt m c t) (apartAt m c t)
    | ⟨10, _⟩ => tailLow (iblk m c 0 t) (iblk m c 1 t) (iblk m c 2 t) (iblk m c 7 t) (nearAt m c t) (apartAt m c t)
    | ⟨11, _⟩ => tailInv (iblk m c 0 t) (iblk m c 1 t) (iblk m c 2 t) (iblk m c 7 t) (nearAt m c t) (apartAt m c t)
  Φ _ := Pipeline.ΦA spec0 c
  q w := Pipeline.shareOf spec0 w
  owed _ := 0

theorem A_eq (c : Dev nD) (w) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = iblk m c 5 t := by dsimp only [dats]
theorem after_6 (c : Dev nD) (t) : (dats m 0 c).after 6 t = iblk m c 6 t := by dsimp only [dats]
theorem after_7 (c : Dev nD) (t) : (dats m 0 c).after 7 t = iblk m c 7 t := by dsimp only [dats]
theorem after_8 (c : Dev nD) (t) : (dats m 0 c).after 8 t = outAt m c t := by dsimp only [dats]
theorem after_9 (c : Dev nD) (t) : (dats m 0 c).after 9 t = tailHigh (iblk m c 0 t) (iblk m c 1 t) (iblk m c 2 t) (iblk m c 7 t) (nearAt m c t) (apartAt m c t) := by dsimp only [dats]
theorem after_10 (c : Dev nD) (t) : (dats m 0 c).after 10 t = tailLow (iblk m c 0 t) (iblk m c 1 t) (iblk m c 2 t) (iblk m c 7 t) (nearAt m c t) (apartAt m c t) := by dsimp only [dats]
theorem after_11 (c : Dev nD) (t) : (dats m 0 c).after 11 t = tailInv (iblk m c 0 t) (iblk m c 1 t) (iblk m c 2 t) (iblk m c 7 t) (nearAt m c t) (apartAt m c t) := by dsimp only [dats]
theorem before_0 (c : Dev nD) (t) (d) : (dats m 0 c).before 0 t d = iblk m c 0 t := before0_0_of m (dats m 0 c) (A_eq m c 0) (after_0 m c) t d
theorem before_1 (c : Dev nD) (t) (d) : (dats m 0 c).before 1 t d = iblk m c 1 t := before0_1_of m (dats m 0 c) (A_eq m c 1) (after_1 m c) t d
theorem before_2 (c : Dev nD) (t) (d) : (dats m 0 c).before 2 t d = iblk m c 2 t := before0_2_of m (dats m 0 c) (A_eq m c 2) (after_2 m c) t d
theorem before_3 (c : Dev nD) (t) (d) : (dats m 0 c).before 3 t d = iblk m c 3 t := before0_3_of m (dats m 0 c) (A_eq m c 3) (after_3 m c) t d
theorem before_4 (c : Dev nD) (t) (d) : (dats m 0 c).before 4 t d = iblk m c 4 t := before0_4_of m (dats m 0 c) (A_eq m c 4) (after_4 m c) t d
theorem before_5 (c : Dev nD) (t) (d) : (dats m 0 c).before 5 t d = iblk m c 5 t := before0_5_of m (dats m 0 c) (A_eq m c 5) (after_5 m c) t d
theorem before_6 (c : Dev nD) (t) (d) : (dats m 0 c).before 6 t d = iblk m c 6 t := before0_6_of m (dats m 0 c) (A_eq m c 6) (after_6 m c) t d
theorem before_7 (c : Dev nD) (t) (d) : (dats m 0 c).before 7 t d = iblk m c 7 t := before0_7_of m (dats m 0 c) (A_eq m c 7) (after_7 m c) t d

/-- The scratch the launch keeps for the body: three buffers at some contents, and the generator's register. -/
theorem kept_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, window by window. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
theorem sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  rw [show (dats m 0 c).Φ t.castSucc = Pipeline.ΦA spec0 c from rfl, kept_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (point c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iexists _; iexact H11
  isplitl [HS0]
  · iexact HS0
  isplitl [HS1]
  · iexact HS1
  isplitl [HS2]
  · iexact HS2
  iintro ⟨H0, H1, H2, H3, H4, H5, H6, H7, H8, H9, H10, H11, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  iexact H11

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- Every fair run of the program ends, the arrays at what the proof data say and the semaphores at zero. -/
theorem run_ends : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_ends m ρ)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_post m ρ)

/-- The program ends, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (kept m ρ) ((θ_run defs _ _).mono (fun _ h => h.2) (run_ends m ρ))

end Cert.Kernel3Ideal.Hand
-- ==== Proof.Kernel3Ideal.Blocks.lean ====
module

public import proofs.«01_k».proof.Proof.Kernel3Ideal.Frame
public import Idealize.ShloMosaic.Lib.Pipeline.ValueKit

@[expose] public section

set_option maxRecDepth 16384

noncomputable section

/-! # The first round: a point's blocks, element by element, and the array of states the tiles make up -/

namespace Cert.Kernel3Ideal.Hand

open Gen
open Idealize.ShloMosaic.ValueIdx
open Idealize.ShloMosaic hiding ix1 ix2 ix3
open Idealize.ShloMosaic.TcCoe Idealize.ShloMosaic.Tactic
open Idealize.ShloMosaic.Pipeline (Dat Cfg Window cellOf)

variable {F : FTy → Type} [FloatOps F] [Named F]
variable (m : (ℓ : Loc nD τ sig) → Buf (Elt F) ℓ)

theorem places : ∀ t : Fin cfg0.N,
    win0_0.index t = ![0] ∧ win0_1.index t = ![0, 0] ∧ win0_2.index t = ![0, 0]
    ∧ win0_3.index t = ![(grid0.coords t 0).val, 0, 0] ∧ win0_4.index t = ![(grid0.coords t 0).val, 0, 0]
    ∧ win0_5.index t = ![(grid0.coords t 0).val, 0, 0] ∧ win0_6.index t = ![(grid0.coords t 0).val, 0, 0]
    ∧ win0_7.index t = ![(grid0.coords t 0).val, (grid0.coords t 1).val, 0]
    ∧ win0_8.index t = ![(grid0.coords t 0).val, (grid0.coords t 1).val, 0] := by
  decide +kernel

/-- The batch of a point. -/
def batch (t : Fin cfg0.N) : Fin 4 := ⟨(grid0.coords t 0).val, (grid0.coords t 0).isLt⟩

/-- The row of the array that is row `r` of the point's tile. -/
def arrayRow (t : Fin cfg0.N) (r : Fin 256) : Fin 2048 :=
  ⟨256 * (grid0.coords t 1).val + r.val, by have : (grid0.coords t 1).val < 8 := (grid0.coords t 1).isLt; omega⟩

variable (c : Dev nD) (t : Fin cfg0.N)

theorem block0 (a : Fin 4) : iblk m c 0 t (ix1 a) = m (c.tc.loc main_arg0) (ix1 a) := by
  obtain ⟨e, -⟩ := places t
  show V m c (Pipeline.arrRef spec0 0) (((cfg0.win 0).blk t).view.emb (ix1 a)) = _
  refine congrArg _ (funext fun j => match j with | ⟨0, _⟩ => Fin.ext ?_)
  blk_simp [e]

theorem block1 (k : Fin 768) : iblk m c 1 t (ix2 0 k) = m (c.tc.loc main_arg1) (ix2 0 k) := by
  obtain ⟨-, e, -⟩ := places t
  show V m c (Pipeline.arrRef spec0 1) (((cfg0.win 1).blk t).view.emb (ix2 0 k)) = _
  refine congrArg _ (funext fun j => match j with | ⟨0, _⟩ => Fin.ext ?_ | ⟨1, _⟩ => Fin.ext ?_) <;> blk_simp [e]

theorem block2 (k : Fin 768) : iblk m c 2 t (ix2 0 k) = m (c.tc.loc main_arg2) (ix2 0 k) := by
  obtain ⟨-, -, e, -⟩ := places t
  show V m c (Pipeline.arrRef spec0 2) (((cfg0.win 2).blk t).view.emb (ix2 0 k)) = _
  refine congrArg _ (funext fun j => match j with | ⟨0, _⟩ => Fin.ext ?_ | ⟨1, _⟩ => Fin.ext ?_) <;> blk_simp [e]

theorem block3 (k : Fin 2048) : iblk m c 3 t (ix3 0 0 k) = m (c.tc.loc main_arg3) (ix3 (batch t) 0 k) := by
  obtain ⟨-, -, -, e, -⟩ := places t
  show V m c (Pipeline.arrRef spec0 3) (((cfg0.win 3).blk t).view.emb (ix3 0 0 k)) = _
  refine congrArg _ (funext fun j => match j with | ⟨0, _⟩ => Fin.ext ?_ | ⟨1, _⟩ => Fin.ext ?_ | ⟨2, _⟩ => Fin.ext ?_) <;> blk_simp [e, batch]

theorem block4 (j : Fin 2048) (k : Fin 768) : iblk m c 4 t (ix3 0 j k) = m (c.tc.loc main_arg4) (ix3 (batch t) j k) := by
  obtain ⟨-, -, -, -, e, -⟩ := places t
  show V m c (Pipeline.arrRef spec0 4) (((cfg0.win 4).blk t).view.emb (ix3 0 j k)) = _
  refine congrArg _ (funext fun j => match j with | ⟨0, _⟩ => Fin.ext ?_ | ⟨1, _⟩ => Fin.ext ?_ | ⟨2, _⟩ => Fin.ext ?_) <;> blk_simp [e, batch]

theorem block5 (j : Fin 2048) (k : Fin 768) : iblk m c 5 t (ix3 0 j k) = m (c.tc.loc main_arg5) (ix3 (batch t) j k) := by
  obtain ⟨-, -, -, -, -, e, -⟩ := places t
  show V m c (Pipeline.arrRef spec0 5) (((cfg0.win 5).blk t).view.emb (ix3 0 j k)) = _
  refine congrArg _ (funext fun j => match j with | ⟨0, _⟩ => Fin.ext ?_ | ⟨1, _⟩ => Fin.ext ?_ | ⟨2, _⟩ => Fin.ext ?_) <;> blk_simp [e, batch]

theorem block6 (j : Fin 2048) (k : Fin 768) : iblk m c 6 t (ix3 0 j k) = m (c.tc.loc main_arg6) (ix3 (batch t) j k) := by
  obtain ⟨-, -, -, -, -, -, e, -⟩ := places t
  show V m c (Pipeline.arrRef spec0 6) (((cfg0.win 6).blk t).view.emb (ix3 0 j k)) = _
  refine congrArg _ (funext fun j => match j with | ⟨0, _⟩ => Fin.ext ?_ | ⟨1, _⟩ => Fin.ext ?_ | ⟨2, _⟩ => Fin.ext ?_) <;> blk_simp [e, batch]

theorem block7 (r : Fin 256) (k : Fin 768) : iblk m c 7 t (ix3 0 r k) = m (c.tc.loc main_arg4) (ix3 (batch t) (arrayRow t r) k) := by
  obtain ⟨-, -, -, -, -, -, -, e, -⟩ := places t
  show V m c (Pipeline.arrRef spec0 7) (((cfg0.win 7).blk t).view.emb (ix3 0 r k)) = _
  refine congrArg _ (funext fun j => match j with | ⟨0, _⟩ => Fin.ext ?_ | ⟨1, _⟩ => Fin.ext ?_ | ⟨2, _⟩ => Fin.ext ?_) <;>
    blk_simp [e, batch, arrayRow, Nat.mul_comm]

/-- The array the tiles make up: any array the tiles agree with. -/
theorem whole (G : Vec F S4x2048x768 .f32) (h : ∀ (t : Fin cfg0.N) (r : Fin 256) (k : Fin 768), outAt m c t (ix3 0 r k) = G (ix3 (batch t) (arrayRow t r) k)) :
    (dats m 0 c).arrAt 8 cfg0.N = G := by
  refine (dats m 0 c).arrAt_eq_of_covers 8 _ (by decide +kernel) fun t hf y => ?_
  obtain ⟨-, -, -, -, -, -, -, -, e⟩ := places t
  have hy : y = ix3 (0 : Fin 1) (y 1 : Fin 256) (y 2 : Fin 768) := by
    funext j
    match j with
    | ⟨0, _⟩ => exact Fin.ext (Nat.lt_one_iff.mp (y 0).isLt)
    | ⟨1, _⟩ => rfl
    | ⟨2, _⟩ => rfl
  blk_simp [e]
  rw [after_8]
  refine (congrArg (outAt m c t) hy).trans ((h t _ _).trans (congrArg G ?_))
  funext j
  match j with
  | ⟨0, _⟩ => exact Fin.ext (Eq.symm (by blk_simp [e, batch, arrayRow, Nat.mul_comm]))
  | ⟨1, _⟩ => exact Fin.ext (Eq.symm (by blk_simp [e, batch, arrayRow, Nat.mul_comm]; rfl))
  | ⟨2, _⟩ => exact Fin.ext (Eq.symm (by blk_simp [e, batch, arrayRow, Nat.mul_comm]; rfl))

end Cert.Kernel3Ideal.Hand
-- ==== Proof.Reference3.Neighbours.lean ====
module

public import proofs.«01_k».proof.Proof.Gen.Reference3Ideal
public import proofs.«01_k».proof.Proof.Gen.Reference3Ideal.Run
public import proofs.«01_k».proof.Proof.Gen.Reference3Ideal.Read
public import proofs.«01_k».proof.Proof.Reference.Neighbours

@[expose] public section

noncomputable section

/-! # The first round's two adjacency matrices, read at an index

The similarities and their mask are those of the last round's reference; four similar neighbours are chosen and two contrasting ones. -/

namespace Cert.Reference3Ideal.Hand

open Cert.Reference3Ideal Cert.Reference3Ideal.Gen Cert.Reference3Ideal.Read Idealize.ShloMosaic Idealize.ShloMosaic.TcCoe ValueIdx
open Cert.ReferenceIdeal.Hand (nearOrder among small sum_ones select_ofBool)

variable (x4 : (⟨S4x2048x768, .f32⟩ : BufTy).Contents (Elt Ideal))

/-- The masked similarities are the last round's. -/
theorem same : val_main_v24 (F := Ideal) x4 = Cert.ReferenceIdeal.Read.val_main_v26 (F := Ideal) x4 := rfl

/-- The order of what the second choice is made from. -/
def farOrder (b : Fin 4) (i : Fin 2048) : Equiv.Perm (Fin 2048) := Topk.perm (Topk.row (val_main_v60 (F := Ideal) x4) b i)

/-- A row's similar neighbours. -/
abbrev Near (b : Fin 4) (i j : Fin 2048) : Prop := j.val < i.val ∧ ((nearOrder x4 b i).symm j).val < 4

/-- A row's contrasting neighbours. -/
abbrev Far (b : Fin 4) (i j : Fin 2048) : Prop := j.val < i.val ∧ ¬ Near x4 b i j ∧ ((farOrder x4 b i).symm j).val < 2

theorem v55_at (b : Fin 4) (i j : Fin 2048) : val_main_v55 (F := Ideal) (ix3 b i j) = if j.val < i.val then 1 else 0 := Cert.ReferenceIdeal.Hand.v57_at b i j

theorem v85_at (b : Fin 4) (i j : Fin 2048) : val_main_v85 (F := Ideal) (ix3 b i j) = if j.val < i.val then 1 else 0 := Cert.ReferenceIdeal.Hand.v87_at b i j

theorem batch35 (i : S4x1x1.Idx) : val_main_v35 (F := Ideal) i = BitVec.ofNat 32 (i 0).val := Cert.ReferenceIdeal.Hand.batch37 i

theorem row40 (i : S1x2048x1.Idx) : val_main_v40 (F := Ideal) i = BitVec.ofNat 32 (i 1).val := Cert.ReferenceIdeal.Hand.row42 i

theorem col45 (b : Fin 4) (i : Fin 2048) (r : Fin 4) :
    val_main_v45 (F := Ideal) x4 (ix3 b i r) = BitVec.ofNat 32 (nearOrder x4 b i (r.castLE (by decide))).val := by
  have e : val_main_indices (F := Ideal) x4 (ix3 b i r) = BitVec.ofNat 32 (nearOrder x4 b i (r.castLE (by decide))).val :=
    Topk.indices_apply (val_main_v24 (F := Ideal) x4) sliceFits_S4x2048x2048_S4x2048x4 (by decide) b i r
  rw [val_main_v45_apply, val_main_v42_apply, val_main_v41_apply, val_main_c_8_apply, e]
  exact Lands.unwrapped _ (lt_trans (Fin.isLt _) (by decide)) _

theorem batch65 (i : S4x1x1.Idx) : val_main_v65 (F := Ideal) i = BitVec.ofNat 32 (i 0).val := Cert.ReferenceIdeal.Hand.batch67 i

theorem row70 (i : S1x2048x1.Idx) : val_main_v70 (F := Ideal) i = BitVec.ofNat 32 (i 1).val := Cert.ReferenceIdeal.Hand.row72 i

theorem col75 (b : Fin 4) (i : Fin 2048) (r : Fin 2) :
    val_main_v75 (F := Ideal) x4 (ix3 b i r) = BitVec.ofNat 32 (farOrder x4 b i (r.castLE (by decide))).val := by
  have e : val_main_indices_14 (F := Ideal) x4 (ix3 b i r) = BitVec.ofNat 32 (farOrder x4 b i (r.castLE (by decide))).val :=
    Topk.indices_apply (val_main_v60 (F := Ideal) x4) sliceFits_S4x2048x2048_S4x2048x2 (by decide) b i r
  rw [val_main_v75_apply, val_main_v72_apply, val_main_v71_apply, val_main_c_19_apply, e]
  exact Lands.unwrapped _ (lt_trans (Fin.isLt _) (by decide)) _

open Classical in
theorem scattered4 (b : Fin 4) (i j : Fin 2048) :
    val_main_v53 (F := Ideal) x4 (ix3 b i j) = if ((nearOrder x4 b i).symm j).val < 4 then 1 else 0 := by
  have h := fun p q r => Lands.beside (val_main_v48 (F := Ideal)) (val_main_v49 (F := Ideal)) (val_main_v50 (F := Ideal) x4)
    concatenates_S4x2048x4x1_S4x2048x4x1_S4x2048x4x1_S4x2048x4x3_d3 p q r
  unfold val_main_v53 val_main_v51
  refine (Lands.scatter_apply scatter_S4x2048x2048_S4x2048x4x3_S4x2048x4_n_012_012_3_wf _ _ _ (0 : EReal) (1 : EReal) (fun i => ?_) (fun i => ?_)
    (fun p q r => nearOrder x4 p q (r.castLE (by decide))) (fun p q r => ?_) (fun p q r => ?_) (fun p q r => ?_) b i j).trans ?_
  · rw [val_main_v25_apply, val_main_cst_3_apply, Ideal.ofBits_def, Ideal.ofBits_zero_f32]
  · rw [val_main_v52_apply, val_main_cst_10_apply, Ideal.ofBits_def, Ideal.ofBits_one_f32]
  · rw [(h p q r).1, val_main_v48_apply, val_main_v46_apply, batch35]
    exact small p.val (by omega)
  · rw [(h p q r).2.1, val_main_v49_apply, val_main_v47_apply, row40]
    exact small q.val q.isLt
  · rw [(h p q r).2.2, val_main_v50_apply]
    have e : idx_main_v50 (ix4 p q r 0) = ix3 p q r := funext fun a => match a with | ⟨0, _⟩ => rfl | ⟨1, _⟩ => rfl | ⟨2, _⟩ => rfl
    rw [e, col45]
    exact small _ (Fin.isLt _)
  · simp only [among]

open Classical in
theorem scattered2 (b : Fin 4) (i j : Fin 2048) :
    val_main_v83 (F := Ideal) x4 (ix3 b i j) = if ((farOrder x4 b i).symm j).val < 2 then 1 else 0 := by
  have h := fun p q r => Lands.beside (val_main_v78 (F := Ideal)) (val_main_v79 (F := Ideal)) (val_main_v80 (F := Ideal) x4)
    concatenates_S4x2048x2x1_S4x2048x2x1_S4x2048x2x1_S4x2048x2x3_d3 p q r
  unfold val_main_v83 val_main_v81
  refine (Lands.scatter_apply scatter_S4x2048x2048_S4x2048x2x3_S4x2048x2_n_012_012_3_wf _ _ _ (0 : EReal) (1 : EReal) (fun i => ?_) (fun i => ?_)
    (fun p q r => farOrder x4 p q (r.castLE (by decide))) (fun p q r => ?_) (fun p q r => ?_) (fun p q r => ?_) b i j).trans ?_
  · rw [val_main_v26_apply, val_main_cst_4_apply, Ideal.ofBits_def, Ideal.ofBits_zero_f32]
  · rw [val_main_v82_apply, val_main_cst_21_apply, Ideal.ofBits_def, Ideal.ofBits_one_f32]
  · rw [(h p q r).1, val_main_v78_apply, val_main_v76_apply, batch65]
    exact small p.val (by omega)
  · rw [(h p q r).2.1, val_main_v79_apply, val_main_v77_apply, row70]
    exact small q.val q.isLt
  · rw [(h p q r).2.2, val_main_v80_apply]
    have e : idx_main_v80 (ix4 p q r 0) = ix3 p q r := funext fun a => match a with | ⟨0, _⟩ => rfl | ⟨1, _⟩ => rfl | ⟨2, _⟩ => rfl
    rw [e, col75]
    exact small _ (Fin.isLt _)
  · simp only [among]

/-- The similar neighbours' matrix. -/
theorem near_at (b : Fin 4) (i j : Fin 2048) :
    val_main_v56 (F := Ideal) x4 (ix3 b i j) = if Near x4 b i j then 1 else 0 := by
  rw [val_main_v56_apply, scattered4, v55_at]
  show (_ : EReal) * _ = _
  by_cases h1 : ((nearOrder x4 b i).symm j).val < 4 <;> by_cases h2 : j.val < i.val <;> simp [Near, h1, h2]

/-- What the second choice is made from. -/
theorem left_at (b : Fin 4) (i j : Fin 2048) :
    val_main_v60 (F := Ideal) x4 (ix3 b i j)
      = -(if Near x4 b i j then ((1000000000 : ℝ) : EReal) else val_main_v24 (F := Ideal) x4 (ix3 b i j)) := by
  rw [val_main_v60_apply, val_main_v59_apply, val_main_v58_apply, near_at, val_main_v57_apply, val_main_cst_11_apply,
    val_main_call2_v1_apply, val_main_call2_v0_apply, val_main_cst_12_apply, Ideal.ofBits_def, Ideal.ofBits_def, Ideal.ofBits_zero_f32,
    Similar.ofBits_far]
  show -(Scalar.select (BitVec.ofBool (decide ((0 : EReal) < if Near x4 b i j then 1 else 0))) _ _) = _
  rw [select_ofBool]
  by_cases h : Near x4 b i j
  · rw [if_pos h, if_pos zero_lt_one, if_pos h]
  · rw [if_neg h, if_neg (lt_irrefl _), if_neg h]

/-- The contrasting neighbours' matrix. -/
theorem far_at (b : Fin 4) (i j : Fin 2048) :
    val_main_v89 (F := Ideal) x4 (ix3 b i j) = if Far x4 b i j then 1 else 0 := by
  rw [val_main_v89_apply, val_main_v86_apply, scattered2, v85_at, val_main_v88_apply, near_at, val_main_v87_apply,
    val_main_cst_22_apply, Ideal.ofBits_def, Ideal.ofBits_one_f32]
  show (_ : EReal) * _ * (_ - _) = _
  have h0 : (1 : EReal) - 1 = 0 := by rw [← EReal.coe_one, ← EReal.coe_sub, sub_self, EReal.coe_zero]
  by_cases h3 : Near x4 b i j
  · rw [if_pos h3, h0, mul_zero, if_neg fun h : Far x4 b i j => h.2.1 h3]
  · rw [if_neg h3, sub_zero, mul_one]
    have e : Far x4 b i j ↔ j.val < i.val ∧ ((farOrder x4 b i).symm j).val < 2 := ⟨fun h => ⟨h.1, h.2.2⟩, fun h => ⟨h.1, h3, h.2⟩⟩
    rw [if_congr e rfl rfl]
    by_cases h1 : ((farOrder x4 b i).symm j).val < 2 <;> by_cases h2 : j.val < i.val <;> simp [h1, h2]

/-- What the similar neighbours say: the sum of their rows over their number. -/
theorem near_mean (b : Fin 4) (i : Fin 2048) (k : Fin 768) :
    val_main_v95 (F := Ideal) x4 (ix3 b i k)
      = Ideal.div (∑ j, (if Near x4 b i j then 1 else 0) * x4 (ix3 b j k))
          (max 1 (((Finset.univ.filter fun j => Near x4 b i j).card : ℝ) : EReal)) := by
  rw [val_main_v95_apply, val_main_v93_apply, val_main_v94_apply, val_main_v92_apply, val_main_v91_apply, val_main_v90_apply,
    val_main_call3_v1_apply, val_main_call3_v0_apply, val_main_cst_24_apply, val_main_cst_23_apply, Ideal.ofBits_def,
    Ideal.ofBits_def, Ideal.ofBits_zero_f32, Ideal.ofBits_one_f32, Ideal.hostDivf_def, ← sum_ones, zero_add]
  refine congrArg₂ Ideal.div (Finset.sum_congr rfl fun j _ => ?_) (congrArg (max 1) (Finset.sum_congr rfl fun j _ => ?_))
  · rw [← near_at]
    refine congrArg₂ (· * ·) (congrArg _ ?_) (congrArg _ ?_)
    · exact funext fun a => match a with | ⟨0, _⟩ => rfl | ⟨1, _⟩ => rfl | ⟨2, _⟩ => rfl
    · exact funext fun a => match a with | ⟨0, _⟩ => rfl | ⟨1, _⟩ => rfl | ⟨2, _⟩ => rfl
  · rw [← near_at]
    exact congrArg _ (funext fun a => match a with | ⟨0, _⟩ => rfl | ⟨1, _⟩ => rfl | ⟨2, _⟩ => rfl)

/-- What the contrasting neighbours say. -/
theorem far_mean (b : Fin 4) (i : Fin 2048) (k : Fin 768) :
    val_main_v101 (F := Ideal) x4 (ix3 b i k)
      = Ideal.div (∑ j, (if Far x4 b i j then 1 else 0) * x4 (ix3 b j k))
          (max 1 (((Finset.univ.filter fun j => Far x4 b i j).card : ℝ) : EReal)) := by
  rw [val_main_v101_apply, val_main_v99_apply, val_main_v100_apply, val_main_v98_apply, val_main_v97_apply, val_main_v96_apply,
    val_main_call4_v1_apply, val_main_call4_v0_apply, val_main_cst_26_apply, val_main_cst_25_apply, Ideal.ofBits_def,
    Ideal.ofBits_def, Ideal.ofBits_zero_f32, Ideal.ofBits_one_f32, Ideal.hostDivf_def, ← sum_ones, zero_add]
  refine congrArg₂ Ideal.div (Finset.sum_congr rfl fun j _ => ?_) (congrArg (max 1) (Finset.sum_congr rfl fun j _ => ?_))
  · rw [← far_at]
    refine congrArg₂ (· * ·) (congrArg _ ?_) (congrArg _ ?_)
    · exact funext fun a => match a with | ⟨0, _⟩ => rfl | ⟨1, _⟩ => rfl | ⟨2, _⟩ => rfl
    · exact funext fun a => match a with | ⟨0, _⟩ => rfl | ⟨1, _⟩ => rfl | ⟨2, _⟩ => rfl
  · rw [← far_at]
    exact congrArg _ (funext fun a => match a with | ⟨0, _⟩ => rfl | ⟨1, _⟩ => rfl | ⟨2, _⟩ => rfl)

end Cert.Reference3Ideal.Hand

end

end
-- ==== Proof.Reference3.Result.lean ====
module

public import proofs.«01_k».proof.Proof.Reference3.Neighbours
public import proofs.«01_k».proof.Proof.Reference.Result

@[expose] public section

noncomputable section

/-! # The first round's result at an index, from its two messages -/

namespace Cert.Reference3Ideal.Hand

open Cert.Reference3Ideal Cert.Reference3Ideal.Gen Cert.Reference3Ideal.Read Idealize.ShloMosaic Idealize.ShloMosaic.TcCoe ValueIdx

variable (x0 : (⟨S4, .f32⟩ : BufTy).Contents (Elt Ideal)) (x1 x2 : (⟨S1x768, .f32⟩ : BufTy).Contents (Elt Ideal))
  (x4 : (⟨S4x2048x768, .f32⟩ : BufTy).Contents (Elt Ideal))

theorem param0 (i : S_.Idx) : val_main_v1 (F := Ideal) x0 i = x0 (ix1 0) := Cert.ReferenceIdeal.Hand.param0 x0 i
theorem param1 (i : S_.Idx) : val_main_v3 (F := Ideal) x0 i = x0 (ix1 1) := Cert.ReferenceIdeal.Hand.param1 x0 i
theorem param2 (i : S_.Idx) : val_main_v5 (F := Ideal) x0 i = x0 (ix1 2) := Cert.ReferenceIdeal.Hand.param2 x0 i
theorem gain_at (b : Fin 4) (i : Fin 2048) (k : Fin 768) : val_main_v116 (F := Ideal) x1 (ix3 b i k) = x1 (ix2 0 k) := Cert.ReferenceIdeal.Hand.gain_at x1 b i k
theorem bias_at (b : Fin 4) (i : Fin 2048) (k : Fin 768) : val_main_v120 (F := Ideal) x2 (ix3 b i k) = x2 (ix2 0 k) := Cert.ReferenceIdeal.Hand.bias_at x2 b i k

/-- What the activation is applied to. -/
theorem pre_at (b : Fin 4) (i : Fin 2048) (k : Fin 768) :
    (val_main_v121 (F := Ideal) x0 x1 x2 x4 (ix3 b i k) : EReal)
      = Round.blend (x0 (ix1 0)) (x0 (ix1 1)) (x4 (ix3 b i k)) (val_main_v95 (F := Ideal) x4 (ix3 b i k)) (val_main_v101 (F := Ideal) x4 (ix3 b i k)) (x1 (ix2 0 k)) (x2 (ix2 0 k)) := by
  rw [val_main_v121_apply, val_main_v117_apply, val_main_v113_apply, val_main_v109_apply, val_main_v108_apply, param0, val_main_v112_apply, val_main_v111_apply,
    val_main_v110_apply, param0, val_main_v107_apply, val_main_v103_apply, val_main_v102_apply, param1, val_main_v106_apply, val_main_v105_apply, val_main_v104_apply, param1,
    gain_at, bias_at]
  rfl

/-- The result at an index. -/
theorem result_at (b : Fin 4) (i : Fin 2048) (k : Fin 768) :
    (val_main_v134 (F := Ideal) x0 x1 x2 x4 (ix3 b i k) : EReal)
      = Round.state (x0 (ix1 0)) (x0 (ix1 1)) (x0 (ix1 2)) (x4 (ix3 b i k)) (val_main_v95 (F := Ideal) x4 (ix3 b i k)) (val_main_v101 (F := Ideal) x4 (ix3 b i k))
        (x1 (ix2 0 k)) (x2 (ix2 0 k)) := by
  unfold Round.state
  rw [← pre_at x0 x1 x2 x4 b i k, ← Round.act_erfc, val_main_v134_apply, val_main_v130_apply, val_main_v129_apply, param2,
    val_main_v133_apply, val_main_v132_apply, val_main_v131_apply, param2, val_main_v128_apply, val_main_v123_apply, val_main_v122_apply, val_main_v127_apply, val_main_v126_apply,
    val_main_v124_apply, val_main_v125_apply]
  rfl

end Cert.Reference3Ideal.Hand

end

end
-- ==== Proof.DecidedFirst.lean ====
module

public import proofs.«01_k».proof.Pre_decided_first
public import proofs.«01_k».proof.Proof.Reference3.Neighbours
public import proofs.«01_k».proof.Proof.Choice

@[expose] public section

noncomputable section

/-! # What the first round's precondition says, element by element -/

namespace Cert.Pre_decided_first.Hand

open Cert.Pre_decided_first Cert.Choice Idealize.ShloMosaic Idealize.ShloMosaic.TcCoe ValueIdx

variable [Cert.Pre_decided_first.Facts]

/-- The part that compares: which of a row's leading entries fall. -/
theorem part1 (x4 : FVec Ideal S4x2048x768 .f32) (x5 x6 : FVec Ideal S4x2048x768 .bf16) (v12 : IVec S4x2048x2048 1)
    (v14 : FVec Ideal S4x2048x2048 .f32) (v17 : IVec S4x2048x768 1) (v18 v19 : FVec Ideal S4x2048 .f32) (j : S_.Idx)
    (h : fn_part1 (F := Ideal) x4 x5 x6 v12 v14 v17 v18 v19 j = 1#1) :
    (∀ i, v17 i = 1#1) ∧ (∀ i, x5 i + x6 i = x4 i) ∧ (∀ i, v18 i = Ideal.div 1 (v19 i))
      ∧ (∀ (p : Fin 4) (q : Fin 2048) (r s : Fin 2048), r.val < 4 → s.val = r.val + 1 →
          Topk.row v14 p q (Topk.perm (Topk.row v14 p q) s) < Topk.row v14 p q (Topk.perm (Topk.row v14 p q) r)
          ∨ Topk.row v14 p q (Topk.perm (Topk.row v14 p q) r) ≤ ((-1000000000 : ℝ) : EReal))
      ∧ ∃ w : FVec Ideal S4x2048x2048 .f32,
        (∀ (p : Fin 4) (q j : Fin 2048), w (ix3 p q j)
          = -(if v12 (ix3 p q j) = 1#1 ∧ Topk.row v14 p q (Topk.perm (Topk.row v14 p q) ⟨3, by decide⟩) ≤ v14 (ix3 p q j)
            then ((1000000000 : ℝ) : EReal) else v14 (ix3 p q j)))
        ∧ (∀ (p : Fin 4) (q : Fin 2048) (r s : Fin 2048), r.val < 2 → s.val = r.val + 1 →
          Topk.row w p q (Topk.perm (Topk.row w p q) s) < Topk.row w p q (Topk.perm (Topk.row w p q) r)
          ∨ ((1000000000 : ℝ) : EReal) ≤ Topk.row w p q (Topk.perm (Topk.row w p q) r)) := by
  haveI : Subsingleton S_.Idx := ⟨fun a b => funext fun i => i.elim0⟩
  unfold fn_part1 at h
  unfold fn_part2 at h
  unfold fn_part3 at h
  beta_reduce at h
  obtain ⟨h12, h3⟩ := IntOp.andi_eq_one.1 h
  obtain ⟨h1, h2⟩ := IntOp.andi_eq_one.1 h12
  obtain ⟨h3, h45⟩ := IntOp.andi_eq_one.1 h3
  obtain ⟨h4, h5⟩ := IntOp.andi_eq_one.1 h45
  replace h1 := Host.reduce_andi_all _ _ _ _ _ h1
  replace h2 := Host.reduce_andi_all _ _ _ _ _ h2
  replace h3 := Host.reduce_andi_all _ _ _ _ _ h3
  replace h4 := Host.reduce_andi_all _ _ _ _ _ h4
  replace h5 := Host.reduce_andi_all _ _ _ _ _ h5
  exact ⟨h1, fun i => (ofBool_one _).1 (h2 i),
    fun i => ((ofBool_one _).1 (h3 i)).trans (congrArg (fun z => Ideal.div z _) Ideal.ofBits_one_f32),
    near_falls (n := 5) (k := 4) rfl (by decide) v14 _ _ _ _ h4, _,
    aside (n := 5) (o := 3) (by decide) (by decide) v12 v14 Facts.sliceFits_S4x2048x2048_S4x2048x5 Facts.bcast_S4x2048x1_S4x2048x2048_0_1_2
      Facts.bcast_S_S4x2048x2048 Facts.slices_S4x2048x5_S4x2048x1_0_0_3,
    far_falls (n := 3) (k := 2) rfl (by decide) _ _ _ _ _ h5⟩

open Cert.ReferenceIdeal.Read Cert.ReferenceIdeal.Hand in
theorem holds (x0 : FVec Ideal S4 .f32) (x1 x2 : FVec Ideal S1x768 .f32) (x3 : FVec Ideal S4x1x2048 .f32) (x4 : FVec Ideal S4x2048x768 .f32)
    (x5 x6 : FVec Ideal S4x2048x768 .bf16) (j : S_.Idx)
    (h : fn (F := Ideal) x0 x1 x2 x3 x4 x5 x6 j = 1#1) : ∃ H, Holds 4 2 (Cert.Reference3Ideal.Read.val_main_v60 (F := Ideal) x4) x3 x4 x5 x6 H := by
  unfold fn at h
  beta_reduce at h
  obtain ⟨hfin, hhalf, hinv, hnear, w, hw, hfar⟩ := part1 _ _ _ _ _ _ _ _ _ h
  erw [masked_eq x4 _ rfl] at hnear hw
  exact holds_of (o := 3) rfl (by decide) _ x3 x4 x5 x6 (Cert.Reference3Ideal.Hand.left_at x4)
    (fun i => lt_of_lt_of_eq ((ofBool_one _).1 (hfin i)) Similar.ofBits_top) hhalf (inverse_of x3 _ _ _ hinv) hnear w hw hfar

end Cert.Pre_decided_first.Hand

end

end
-- ==== Proof.AgreeFirst.lean ====
module

public import proofs.«01_k».proof.Proof.Agree
public import proofs.«01_k».proof.Proof.Kernel3Ideal.Tiles
public import proofs.«01_k».proof.Proof.Kernel2Ideal.Tail
public import proofs.«01_k».proof.Proof.Kernel3Ideal.Blocks
public import proofs.«01_k».proof.Proof.Reference3.Result
public import proofs.«01_k».proof.Proof.DecidedFirst

@[expose] public section

set_option maxRecDepth 16384

noncomputable section

/-! # The first round: a tile of the kernel and the same rows of the reference -/

namespace Cert.AgreeFirst

open Idealize.ShloMosaic hiding ix1 ix2 ix3
open Idealize.ShloMosaic.TcCoe Idealize.ShloMosaic.ValueIdx
open Cert.Pre_decided_first (S4 S1x768 S4x1x2048 S4x2048x768)
open Cert.Kernel3Ideal (S1x1x2048 S1x2048x768 S1x256x768)
open Cert.Choice (Holds)
open Cert.Agree (first_from)
open Cert.Reference3Ideal.Hand (Near Far near_mean far_mean left_at result_at)
open Cert.Reference3Ideal.Read (val_main_v60 val_main_v95 val_main_v101 val_main_v134)

variable [Cert.ReferenceIdeal.Facts] [Cert.Reference3Ideal.Facts]
variable {X0 : FVec Ideal S4 .f32} {X1 X2 : FVec Ideal S1x768 .f32} {X3 : FVec Ideal S4x1x2048 .f32} {X4 : FVec Ideal S4x2048x768 .f32}
  {X5 X6 : FVec Ideal S4x2048x768 .bf16} {H : Fin 4 → Fin 2048 → Fin 768 → ℝ}

/-- The second choice is made from the negatives of the cosines. -/
theorem second_from (hold : Holds 4 2 (val_main_v60 (F := Ideal) X4) X3 X4 X5 X6 H) (b : Fin 4) (i j : Fin 2048) (h : j.val < i.val) (h' : ¬ Near X4 b i j) :
    val_main_v60 (F := Ideal) X4 (ix3 b i j) = ((-Similar.cosine (H b) i j : ℝ) : EReal) := by
  rw [left_at, if_neg h', EReal.coe_neg]
  exact congrArg _ (first_from hold b i j h)

theorem near_said (hold : Holds 4 2 (val_main_v60 (F := Ideal) X4) X3 X4 X5 X6 H) (b : Fin 4) (i : Fin 2048) (k : Fin 768) :
    (val_main_v95 (F := Ideal) X4 (ix3 b i k) : EReal) = Round.mean (fun j => Near X4 b i j) fun j => (H b j k : EReal) := by
  rw [near_mean]
  exact (Round.mean_eq _ _ _ _).trans (congrArg _ (funext fun j => hold.finite b j k))

theorem far_said (hold : Holds 4 2 (val_main_v60 (F := Ideal) X4) X3 X4 X5 X6 H) (b : Fin 4) (i : Fin 2048) (k : Fin 768) :
    (val_main_v101 (F := Ideal) X4 (ix3 b i k) : EReal) = Round.mean (fun j => Far X4 b i j) fun j => (H b j k : EReal) := by
  rw [far_mean]
  exact (Round.mean_eq _ _ _ _).trans (congrArg _ (funext fun j => hold.finite b j k))

/-- What the kernel leaves in a tile of the next state, from blocks that hold the arguments' rows, is what the reference leaves in these rows. -/
theorem tile (hold : Holds 4 2 (val_main_v60 (F := Ideal) X4) X3 X4 X5 X6 H) (i : Cert.Kernel3Ideal.grid0.Coords) (b : Fin 4) (n : Fin 256 → Fin 2048)
    (hn : ∀ r, (n r).val = 256 * (i 1).val + r.val)
    (x0 : Vec Ideal S4 .f32) (x1 x2 : Vec Ideal S1x768 .f32) (x3 : Vec Ideal S1x1x2048 .f32) (x4 : Vec Ideal S1x2048x768 .f32)
    (x5 x6 : Vec Ideal S1x2048x768 .bf16) (x7 : Vec Ideal S1x256x768 .f32)
    (h0 : ∀ a, x0 (ix1 a) = X0 (ix1 a)) (h1 : ∀ k, x1 (ix2 0 k) = X1 (ix2 0 k)) (h2 : ∀ k, x2 (ix2 0 k) = X2 (ix2 0 k))
    (h3 : ∀ j, x3 (ix3 0 0 j) = X3 (ix3 b 0 j)) (h4 : ∀ j k, x4 (ix3 0 j k) = X4 (ix3 b j k))
    (h5 : ∀ j k, x5 (ix3 0 j k) = X5 (ix3 b j k)) (h6 : ∀ j k, x6 (ix3 0 j k) = X6 (ix3 b j k))
    (h7 : ∀ r k, x7 (ix3 0 r k) = X4 (ix3 b (n r) k)) (r : Fin 256) (k : Fin 768) :
    (Cert.Kernel2Ideal.Hand.tail (F := Ideal) x0 x1 x2 x7 (Cert.Kernel3Ideal.Hand.near i (Cert.KernelIdeal.Hand.scores i x3 x4 x7) x5 x6)
        (Cert.Kernel3Ideal.Hand.apart i (Cert.KernelIdeal.Hand.scores i x3 x4 x7) x4) (ix3 0 r k) : EReal)
      = val_main_v134 (F := Ideal) X0 X1 X2 X4 (ix3 b (n r) k) := by
  have hs : ∀ r j, Cert.KernelIdeal.Hand.scores (F := Ideal) i x3 x4 x7 (ix2 r j) = _ := Cert.KernelIdeal.Hand.scores_value i x3 x4 x7 (H b) n hn
    (fun j k => (h4 j k).trans (hold.finite b j k)) (fun r k => (h7 r k).trans (hold.finite b (n r) k)) (fun j => (h3 j).trans (hold.inverse b j))
  rw [result_at, near_said hold, far_said hold]
  refine (Cert.Kernel2Ideal.Hand.tail_at _ _ _ _ _ _ r k).trans ?_
  rw [h0, h0, h0, h1, h2, h7,
    Cert.Kernel3Ideal.Hand.near_tile i _ (H b) (n r) r (hn r) (fun j => hs r j) _ _ (hold.sorted b (n r)) (fun j h => first_from hold b (n r) j h) x5 x6
      (fun j k => by rw [h5, h6]; exact (hold.halves _).trans (hold.finite b j k)) k,
    Cert.Kernel3Ideal.Hand.apart_tile i _ (H b) (n r) r (hn r) (fun j => hs r j) _ _ (hold.sorted b (n r)) (fun j h => first_from hold b (n r) j h) x4
      (fun j k => (h4 j k).trans (hold.finite b j k)) _ _ (hold.rest b (n r)) (fun j h h' => second_from hold b (n r) j h h') k]
  rfl

/-- The array of states the kernel leaves is the reference's result of the same arguments. -/
theorem array (m : (ℓ : Loc Cert.Kernel3Ideal.nD Cert.Kernel3Ideal.τ Cert.Kernel3Ideal.sig) → Buf (Elt Ideal) ℓ) (c : Dev Cert.Kernel3Ideal.nD)
    {H : Fin 4 → Fin 2048 → Fin 768 → ℝ}
    (hold : Holds 4 2 (val_main_v60 (F := Ideal) (m (c.tc.loc Cert.Kernel3Ideal.main_arg4))) (m (c.tc.loc Cert.Kernel3Ideal.main_arg3))
      (m (c.tc.loc Cert.Kernel3Ideal.main_arg4)) (m (c.tc.loc Cert.Kernel3Ideal.main_arg5)) (m (c.tc.loc Cert.Kernel3Ideal.main_arg6)) H) :
    (Cert.Kernel3Ideal.Hand.dats (F := Ideal) m 0 c).arrAt 8 Cert.Kernel3Ideal.cfg0.N
      = val_main_v134 (F := Ideal) (m (c.tc.loc Cert.Kernel3Ideal.main_arg0)) (m (c.tc.loc Cert.Kernel3Ideal.main_arg1)) (m (c.tc.loc Cert.Kernel3Ideal.main_arg2))
          (m (c.tc.loc Cert.Kernel3Ideal.main_arg4)) :=
  Cert.Kernel3Ideal.Hand.whole m c _ fun t r k => tile hold _ (Cert.Kernel3Ideal.Hand.batch t) (Cert.Kernel3Ideal.Hand.arrayRow t) (fun _ => rfl) _ _ _ _ _ _ _ _
    (Cert.Kernel3Ideal.Hand.block0 m c t) (Cert.Kernel3Ideal.Hand.block1 m c t) (Cert.Kernel3Ideal.Hand.block2 m c t)
    (Cert.Kernel3Ideal.Hand.block3 m c t) (Cert.Kernel3Ideal.Hand.block4 m c t) (Cert.Kernel3Ideal.Hand.block5 m c t)
    (Cert.Kernel3Ideal.Hand.block6 m c t) (Cert.Kernel3Ideal.Hand.block7 m c t) r k

end Cert.AgreeFirst
-- ==== Proof.Kernel3.Point.lean ====
module

public import proofs.«01_k».proof.Proof.Gen.Kernel3.Frame
public import proofs.«01_k».proof.Proof.Gen.Kernel3.Loops
public import proofs.«01_k».proof.Proof.Gen.Kernel3.Points
public import Idealize.ShloMosaic.Lib.Pipeline.ValueKit.Basic
public import Idealize.ShloMosaic.Lib.WholeRead
public import Idealize.ShloMosaic.Lib.ValueIdx
public import Idealize.ShloMosaic.Lib.Tactic
public import Idealize.ShloMosaic.Lib.Claim

@[expose] public section

set_option maxRecDepth 16384

noncomputable section

namespace Cert.Kernel3.Hand

open Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A row tile takes one of five branches. -/
theorem branches (i : grid0.Coords) : (k0_cond1 i = 1#1 ∧ ¬ k0_cond2 i = 1#1 ∧ ¬ k0_cond3 i = 1#1 ∧ ¬ k0_cond4 i = 1#1 ∧ ¬ (Scalar.cmpi .ne (Scalar.extui (Scalar.cmpi .eq (BitVec.ofNat 32 (i 1).val) 7#32)) 0#32) = 1#1)
    ∨ (¬ k0_cond1 i = 1#1 ∧ k0_cond2 i = 1#1 ∧ ¬ k0_cond3 i = 1#1 ∧ ¬ k0_cond4 i = 1#1 ∧ ¬ (Scalar.cmpi .ne (Scalar.extui (Scalar.cmpi .eq (BitVec.ofNat 32 (i 1).val) 7#32)) 0#32) = 1#1)
    ∨ (¬ k0_cond1 i = 1#1 ∧ ¬ k0_cond2 i = 1#1 ∧ k0_cond3 i = 1#1 ∧ ¬ k0_cond4 i = 1#1 ∧ ¬ (Scalar.cmpi .ne (Scalar.extui (Scalar.cmpi .eq (BitVec.ofNat 32 (i 1).val) 7#32)) 0#32) = 1#1)
    ∨ (¬ k0_cond1 i = 1#1 ∧ ¬ k0_cond2 i = 1#1 ∧ ¬ k0_cond3 i = 1#1 ∧ k0_cond4 i = 1#1 ∧ ¬ (Scalar.cmpi .ne (Scalar.extui (Scalar.cmpi .eq (BitVec.ofNat 32 (i 1).val) 7#32)) 0#32) = 1#1)
    ∨ (¬ k0_cond1 i = 1#1 ∧ ¬ k0_cond2 i = 1#1 ∧ ¬ k0_cond3 i = 1#1 ∧ k0_cond4 i = 1#1 ∧ (Scalar.cmpi .ne (Scalar.extui (Scalar.cmpi .eq (BitVec.ofNat 32 (i 1).val) 7#32)) 0#32) = 1#1) := by
  have hd : ∀ n : Fin 8, (Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ ¬ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ ¬ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ Scalar.cmpi .ne (Scalar.extui (Scalar.andi (Scalar.cmpi .sge (BitVec.ofNat 32 n.val) 4#32) (Scalar.cmpi .slt (BitVec.ofNat 32 n.val) 6#32))) 0#32 = 1#1 ∧ ¬ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ Scalar.cmpi .ne (Scalar.extui (Scalar.andi (Scalar.cmpi .sge (BitVec.ofNat 32 n.val) 6#32) (Scalar.cmpi .slt (BitVec.ofNat 32 n.val) 8#32))) 0#32 = 1#1 ∧ ¬ (Scalar.cmpi .ne (Scalar.extui (Scalar.cmpi .eq (BitVec.ofNat 32 n.val) 7#32)) 0#32) = 1#1)
    ∨ (¬ Scalar.cmpi .ne (Scalar.extui (Scalar.andi (Scalar.cmpi .sge (BitVec.ofNat 32 n.val) 0#32) (Scalar.cmpi .slt (BitVec.ofNat 32 n.val) 2#32))) 0#32 = 1#1 ∧ ¬ Scalar.cmpi .ne (Scalar.extui (Scalar.andi (Scalar.cmpi .sge (BitVec.ofNat 32 n.val) 2#32) (Scalar.cmpi .slt (BitVec.ofNat 32 n.val) 4#32))) 0#32 = 1#1 ∧ ¬ Scalar.cmpi .ne (Scalar.extui (Scalar.andi (Scalar.cmpi .sge (BitVec.ofNat 32 n.val) 4#32) (Scalar.cmpi .slt (BitVec.ofNat 32 n.val) 6#32))) 0#32 = 1#1 ∧ Scalar.cmpi .ne (Scalar.extui (Scalar.andi (Scalar.cmpi .sge (BitVec.ofNat 32 n.val) 6#32) (Scalar.cmpi .slt (BitVec.ofNat 32 n.val) 8#32))) 0#32 = 1#1 ∧ (Scalar.cmpi .ne (Scalar.extui (Scalar.cmpi .eq (BitVec.ofNat 32 n.val) 7#32)) 0#32) = 1#1) := by
    decide +kernel
  exact hd (i 1)

set_option maxHeartbeats 8000000 in
/-- One grid point: from any memrefs holding the eight blocks, the body ends and leaves them as they were. -/
theorem point (c : Dev nD) (i : grid0.Coords) (arg2 : Memref sig .tc .smem S4 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x1x2048 .f32) (harg5 : arg5.IsWhole) (arg6 : Memref sig .tc .vmem S1x2048x768 .f32) (harg6 : arg6.IsWhole) (arg7 : Memref sig .tc .vmem S1x2048x768 .bf16) (harg7 : arg7.IsWhole) (arg8 : Memref sig .tc .vmem S1x2048x768 .bf16) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .bf16) (harg11 : arg11.IsWhole) (arg12 : Memref sig .tc .vmem S1x256x768 .bf16) (harg12 : arg12.IsWhole) (arg13 : Memref sig .tc .vmem S1x1x256 .f32) (harg13 : arg13.IsWhole) (arg14 : Memref sig .tc .vmem S256x2048 .f32) (harg14 : arg14.IsWhole) (arg15 : Memref sig .tc .vmem S256x768 .f32) (harg15 : arg15.IsWhole) (arg16 : Memref sig .tc .vmem S256x768 .f32) (harg16 : arg16.IsWhole) (x0 : Vec F S4 .f32) (x1 : Vec F S1x768 .f32) (x2 : Vec F S1x768 .f32) (x3 : Vec F S1x1x2048 .f32) (x4 : Vec F S1x2048x768 .f32) (x5 : Vec F S1x2048x768 .bf16) (x6 : Vec F S1x2048x768 .bf16) (x7 : Vec F S1x256x768 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0__round_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__round_body_eq_skeleton]; unfold cc0__round_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  rcases branches i with ⟨hc1, hc2, hc3, hc4, hc5⟩ | ⟨hc1, hc2, hc3, hc4, hc5⟩ | ⟨hc1, hc2, hc3, hc4, hc5⟩ | ⟨hc1, hc2, hc3, hc4, hc5⟩ | ⟨hc1, hc2, hc3, hc4, hc5⟩
  all_goals
    sl_exec (disch := first | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel3.Hand
-- ==== Proof.Kernel3.Frame.lean ====
module

public import proofs.«01_k».proof.Proof.Kernel3.Point
public import Idealize.ShloMosaic.Lib.Pipeline.ValueKit.Basic
public import Idealize.ShloMosaic.Lib.WholeRead
public import Idealize.ShloMosaic.Lib.ValueIdx
public import Idealize.ShloMosaic.Lib.Tactic
public import Idealize.ShloMosaic.Lib.Claim

@[expose] public section

set_option maxRecDepth 16384

noncomputable section

namespace Cert.Kernel3.Hand

open Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The pipeline's proof data: the body leaves every input block as it is; of the output tiles nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q w := Pipeline.shareOf spec0 w
  owed _ := 0

theorem A_eq (c : Dev nD) (w) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = iblk m c 5 t := by dsimp only [dats]
theorem after_6 (c : Dev nD) (t) : (dats m 0 c).after 6 t = iblk m c 6 t := by dsimp only [dats]
theorem after_7 (c : Dev nD) (t) : (dats m 0 c).after 7 t = iblk m c 7 t := by dsimp only [dats]
theorem before_0 (c : Dev nD) (t) (d) : (dats m 0 c).before 0 t d = iblk m c 0 t := before0_0_of m (dats m 0 c) (A_eq m c 0) (after_0 m c) t d
theorem before_1 (c : Dev nD) (t) (d) : (dats m 0 c).before 1 t d = iblk m c 1 t := before0_1_of m (dats m 0 c) (A_eq m c 1) (after_1 m c) t d
theorem before_2 (c : Dev nD) (t) (d) : (dats m 0 c).before 2 t d = iblk m c 2 t := before0_2_of m (dats m 0 c) (A_eq m c 2) (after_2 m c) t d
theorem before_3 (c : Dev nD) (t) (d) : (dats m 0 c).before 3 t d = iblk m c 3 t := before0_3_of m (dats m 0 c) (A_eq m c 3) (after_3 m c) t d
theorem before_4 (c : Dev nD) (t) (d) : (dats m 0 c).before 4 t d = iblk m c 4 t := before0_4_of m (dats m 0 c) (A_eq m c 4) (after_4 m c) t d
theorem before_5 (c : Dev nD) (t) (d) : (dats m 0 c).before 5 t d = iblk m c 5 t := before0_5_of m (dats m 0 c) (A_eq m c 5) (after_5 m c) t d
theorem before_6 (c : Dev nD) (t) (d) : (dats m 0 c).before 6 t d = iblk m c 6 t := before0_6_of m (dats m 0 c) (A_eq m c 6) (after_6 m c) t d
theorem before_7 (c : Dev nD) (t) (d) : (dats m 0 c).before 7 t d = iblk m c 7 t := before0_7_of m (dats m 0 c) (A_eq m c 7) (after_7 m c) t d

/-- The scratch the launch keeps for the body: three buffers at some contents, and the generator's register. -/
theorem kept_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, window by window. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 1000000 in
theorem sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, kept_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (point c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iexists _; iexact H11
  isplitl [HS0]
  · iexact HS0
  isplitl [HS1]
  · iexact HS1
  isplitl [HS2]
  · iexact HS2
  iintro ⟨H0, H1, H2, H3, H4, H5, H6, H7, H8, H9, H10, H11, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  iexact H11

theorem row (t : Fin cfg0.N) :
    defs₀ (F := F) .tc cfg0.body (cfg0.bodyArgs t (cfg0.slots t)) = bodyAt0 t := by
  unfold defs₀; rw [Defs.onTc_tc]

/-- The outputs are the four windows whose contents the frame does not state. -/
def unsaid : Fin cfg0.W → Bool := fun | ⟨8, _⟩ => true | ⟨9, _⟩ => true | ⟨10, _⟩ => true | ⟨11, _⟩ => true | _ => false

theorem obligation (c : Dev nD) : BodyObligation (dats (F := F) m 0 c) (defs₀ (F := F)) Variants.none () Set.univ unsaid := fun t => by
  rw [bigSep_W0, bigSep_W0, row]
  exact triple_restated (sound m c t) rfl .rfl fun _ => .rfl

set_option backward.isDefEq.respectTransparency.types false in
/-- Every fair run of the program ends, the inputs as they were and the semaphores at zero. -/
theorem run_ends : θ_run defs (onTc (τ := τ) (main (F := F))) (s₀ m ρ) (fun r => (Pipeline.RDat.FramePost cfg0 (fun c => (dats m 0 c).toRForget unsaid) (V m)) r ∧ r.2.sem = fun _ => 0) :=
  Pipeline.θ_run_frame_forget_shared (Q' := _) cfgs (dats m) (0 : Fin 1) launch₀0 defs₀ Variants.none unsaid m ρ main
    (hbody := fun c => (obligation m c).loose) (hq := fun _ _ _ => rfl)
    (howed := fun _ _ => rfl) (V := V m) (hmain := hmain m Variants.none) (hA := A_eq m) (hΦ := fun _ _ => rfl)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1.arr_in c 0 rfl).trans ((A_eq m c 0).trans (V_main_arg0 m c)),
    (h.1.arr_in c 1 rfl).trans ((A_eq m c 1).trans (V_main_arg1 m c)),
    (h.1.arr_in c 2 rfl).trans ((A_eq m c 2).trans (V_main_arg2 m c)),
    (h.1.arr_in c 3 rfl).trans ((A_eq m c 3).trans (V_main_arg3 m c)),
    (h.1.arr_in c 7 rfl).trans ((A_eq m c 7).trans (V_main_arg4 m c)),
    (h.1.arr_in c 5 rfl).trans ((A_eq m c 5).trans (V_main_arg5 m c)),
    (h.1.arr_in c 6 rfl).trans ((A_eq m c 6).trans (V_main_arg6 m c))⟩) (run_ends m ρ)

/-- The program ends, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (kept m ρ) ((θ_run defs _ _).mono (fun _ h => h.2) (run_ends m ρ))

end Cert.Kernel3.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_decided
public import proofs.«01_k».proof.Proof.Kernel.Frame
public import proofs.«01_k».proof.Proof.KernelIdeal.Frame
public import proofs.«01_k».proof.Proof.Agree
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_decided_middle
public import proofs.«01_k».proof.Proof.Gen.Kernel2.Frame
public import proofs.«01_k».proof.Proof.Gen.Kernel2Ideal.Frame
public import proofs.«01_k».proof.Proof.AgreeMiddle
public import proofs.«01_k».proof.Proof.Kernel2.Frame
public import proofs.«01_k».proof.Proof.Kernel2Ideal.Frame
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_decided_first
public import proofs.«01_k».proof.Proof.Gen.Kernel3.Frame
public import proofs.«01_k».proof.Proof.Gen.Kernel3Ideal.Frame
public import proofs.«01_k».proof.Proof.AgreeFirst
public import proofs.«01_k».proof.Proof.Kernel3.Frame
public import proofs.«01_k».proof.Proof.Kernel3Ideal.Frame
public import Idealize.ShloMosaic.Adequacy
public import Idealize.ShloMosaic.Init

@[expose] public section

noncomputable section

namespace Cert.Proof

open Idealize.ShloMosaic Idealize.SL.Sem Cert.Kernel

/-- The reference returns its arguments as they were: what its printed run says beside its result. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The kernel leaves what the reference leaves. -/
theorem equal : Cert.algebraic_KernelIdeal_ReferenceIdeal_pre_decided (hKernelIdeal := Cert.KernelIdeal.Gen.facts)
    (hReferenceIdeal := Cert.ReferenceIdeal.Gen.facts) (hPre_decided := Cert.Pre_decided.Gen.facts) := by
  intro m g m' g' hpre hagree
  refine ⟨fun c => Cert.ReferenceIdeal.Read.val_main_v139 (F := Ideal) (m (c.tc.loc Cert.KernelIdeal.main_arg0)) (m (c.tc.loc Cert.KernelIdeal.main_arg1))
    (m (c.tc.loc Cert.KernelIdeal.main_arg2)) (m (c.tc.loc Cert.KernelIdeal.main_arg4)) (m (c.tc.loc Cert.KernelIdeal.main_arg7)), ?_, ?_⟩
  · refine (θ_run _ _ _).mono (fun r h c => ⟨?_, h.2 c⟩) (θ_run_and (Cert.KernelIdeal.Hand.run_post m g) (Cert.KernelIdeal.Hand.kept m g))
    obtain ⟨H, hold⟩ := Cert.Pre_decided.Hand.holds _ _ _ _ _ _ _ _ (fun a => a.elim0) (congrFun (hpre c) _)
    exact (h.1.out_eq c 9).trans (Cert.Agree.array m c hold)
  · refine (θ_run _ _ _).mono (fun r h c => ⟨?_, (h c).2⟩) (Cert.ReferenceIdeal.Value.run m' g')
    obtain ⟨e0, e1, e2, -, e4, -, -, e7⟩ := hagree c
    refine (h c).1.trans ((Cert.ReferenceIdeal.Read.val_main_v139_eq (StableHlo.launchContents m' c)).trans ?_)
    rw [StableHlo.launchContents_devRef, StableHlo.launchContents_devRef, StableHlo.launchContents_devRef, StableHlo.launchContents_devRef,
      StableHlo.launchContents_devRef, e0, e1, e2, e4, e7]

/-- The middle round's reference returns its arguments as they were. -/
theorem reference_frame_middle : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The middle round's kernel leaves what its reference leaves. -/
theorem equal_middle : Cert.algebraic_Kernel2Ideal_Reference2Ideal_pre_decided_middle (hKernel2Ideal := Cert.Kernel2Ideal.Gen.facts)
    (hReference2Ideal := Cert.Reference2Ideal.Gen.facts) (hPre_decided_middle := Cert.Pre_decided_middle.Gen.facts) := by
  intro m g m' g' hpre hagree
  refine ⟨fun c => Cert.Reference2Ideal.Read.val_main_v134 (F := Ideal) (m (c.tc.loc Cert.Kernel2Ideal.main_arg0)) (m (c.tc.loc Cert.Kernel2Ideal.main_arg1))
    (m (c.tc.loc Cert.Kernel2Ideal.main_arg2)) (m (c.tc.loc Cert.Kernel2Ideal.main_arg4)), ?_, ?_⟩
  · refine (θ_run _ _ _).mono (fun r h c => ⟨?_, h.2 c⟩) (θ_run_and (Cert.Kernel2Ideal.Hand.run_post m g) (Cert.Kernel2Ideal.Hand.kept m g))
    obtain ⟨H, hold⟩ := Cert.Pre_decided_middle.Hand.holds _ _ _ _ _ _ _ (fun a => a.elim0) (congrFun (hpre c) _)
    exact (h.1.out_eq c 8).trans (Cert.AgreeMiddle.array m c hold)
  · refine (θ_run _ _ _).mono (fun r h c => ⟨?_, (h c).2⟩) (Cert.Reference2Ideal.Value.run m' g')
    obtain ⟨e0, e1, e2, -, e4, -, -⟩ := hagree c
    refine (h c).1.trans ((Cert.Reference2Ideal.Read.val_main_v134_eq (StableHlo.launchContents m' c)).trans ?_)
    rw [StableHlo.launchContents_devRef, StableHlo.launchContents_devRef, StableHlo.launchContents_devRef, StableHlo.launchContents_devRef, e0, e1, e2, e4]

/-- The first round's reference returns its arguments as they were. -/
theorem reference_frame_first : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- The first round's kernel leaves what its reference leaves. -/
theorem equal_first : Cert.algebraic_Kernel3Ideal_Reference3Ideal_pre_decided_first (hKernel3Ideal := Cert.Kernel3Ideal.Gen.facts)
    (hReference3Ideal := Cert.Reference3Ideal.Gen.facts) (hPre_decided_first := Cert.Pre_decided_first.Gen.facts) := by
  intro m g m' g' hpre hagree
  refine ⟨fun c => Cert.Reference3Ideal.Read.val_main_v134 (F := Ideal) (m (c.tc.loc Cert.Kernel3Ideal.main_arg0)) (m (c.tc.loc Cert.Kernel3Ideal.main_arg1))
    (m (c.tc.loc Cert.Kernel3Ideal.main_arg2)) (m (c.tc.loc Cert.Kernel3Ideal.main_arg4)), ?_, ?_⟩
  · refine (θ_run _ _ _).mono (fun r h c => ⟨?_, h.2 c⟩) (θ_run_and (Cert.Kernel3Ideal.Hand.run_post m g) (Cert.Kernel3Ideal.Hand.kept m g))
    obtain ⟨H, hold⟩ := Cert.Pre_decided_first.Hand.holds _ _ _ _ _ _ _ (fun a => a.elim0) (congrFun (hpre c) _)
    exact (h.1.out_eq c 8).trans (Cert.AgreeFirst.array m c hold)
  · refine (θ_run _ _ _).mono (fun r h c => ⟨?_, (h c).2⟩) (Cert.Reference3Ideal.Value.run m' g')
    obtain ⟨e0, e1, e2, -, e4, -, -⟩ := hagree c
    refine (h c).1.trans ((Cert.Reference3Ideal.Read.val_main_v134_eq (StableHlo.launchContents m' c)).trans ?_)
    rw [StableHlo.launchContents_devRef, StableHlo.launchContents_devRef, StableHlo.launchContents_devRef, StableHlo.launchContents_devRef, e0, e1, e2, e4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_decided.Gen.facts, Cert.Pre_decided_middle.Gen.facts, Cert.Pre_decided_first.Gen.facts,
  fun m ρ _ => Cert.Kernel.Hand.frame m ρ, fun m ρ _ => Cert.KernelIdeal.Hand.frame m ρ, fun m ρ _ => Cert.KernelIdeal.Hand.frame m ρ, reference_frame, fun m ρ _ => reference_frame m ρ trivial,
  fun m ρ _ => Cert.Kernel2.Hand.frame m ρ, fun m ρ _ => Cert.Kernel2Ideal.Hand.frame m ρ, fun m ρ _ => Cert.Kernel2Ideal.Hand.frame m ρ,
  reference_frame_middle, fun m ρ _ => reference_frame_middle m ρ trivial,
  fun m ρ _ => Cert.Kernel3.Hand.frame m ρ, fun m ρ _ => Cert.Kernel3Ideal.Hand.frame m ρ, fun m ρ _ => Cert.Kernel3Ideal.Hand.frame m ρ,
  reference_frame_first, fun m ρ _ => reference_frame_first m ρ trivial,
  ⟨IdealRules.named_const.statement Cert.KernelIdeal.κ "neg" .f32 0xF149F2CA#32 ⊥ rfl,
    IdealRules.named_const.statement Cert.KernelIdeal.κ "below" .f32 0xEFA18F08#32 ⊥ rfl,
    IdealRules.named_const.statement Cert.KernelIdeal.κ "pos" .f32 0x7149F2CA#32 ⊤ rfl,
    IdealRules.named_const.statement Cert.KernelIdeal.κ "above" .f32 0x6FA18F08#32 ⊤ rfl⟩, equal,
  ⟨IdealRules.named_const.statement Cert.Kernel2Ideal.κ "neg" .f32 0xF149F2CA#32 ⊥ rfl,
    IdealRules.named_const.statement Cert.Kernel2Ideal.κ "below" .f32 0xEFA18F08#32 ⊥ rfl,
    IdealRules.named_const.statement Cert.Kernel2Ideal.κ "pos" .f32 0x7149F2CA#32 ⊤ rfl,
    IdealRules.named_const.statement Cert.Kernel2Ideal.κ "above" .f32 0x6FA18F08#32 ⊤ rfl⟩, equal_middle,
  ⟨IdealRules.named_const.statement Cert.Kernel3Ideal.κ "neg" .f32 0xF149F2CA#32 ⊥ rfl,
    IdealRules.named_const.statement Cert.Kernel3Ideal.κ "below" .f32 0xEFA18F08#32 ⊥ rfl,
    IdealRules.named_const.statement Cert.Kernel3Ideal.κ "pos" .f32 0x7149F2CA#32 ⊤ rfl,
    IdealRules.named_const.statement Cert.Kernel3Ideal.κ "above" .f32 0x6FA18F08#32 ⊤ rfl⟩, equal_first⟩

end Cert.Proof

end
